-- ==== Defs.lean ====
def Pre_GateMul (m : (ℓ : Loc Cert.GateMul.nD Cert.GateMul.τ Cert.GateMul.sig) → Buf (Elt Bits) ℓ) : Prop :=
  True

def Pre_GateMulIdeal (m : (ℓ : Loc Cert.GateMulIdeal.nD Cert.GateMulIdeal.τ Cert.GateMulIdeal.sig) → Buf (Elt Ideal) ℓ) : Prop :=
  True

def Pre_GateMulIdeal_gate_mul_finite [hPre_gate_mul_finite : Cert.Pre_gate_mul_finite.Facts] (m : (ℓ : Loc Cert.GateMulIdeal.nD Cert.GateMulIdeal.τ Cert.GateMulIdeal.sig) → Buf (Elt Ideal) ℓ) : Prop :=
  ∀ c : Dev Cert.GateMulIdeal.nD,
    (Cert.Pre_gate_mul_finite.fn (F := Ideal) (m ((c.tc : Thread Cert.GateMulIdeal.nD Cert.GateMulIdeal.τ).loc Cert.GateMulIdeal.main_arg0)) (m ((c.tc : Thread Cert.GateMulIdeal.nD Cert.GateMulIdeal.τ).loc Cert.GateMulIdeal.main_arg1)) (m ((c.tc : Thread Cert.GateMulIdeal.nD Cert.GateMulIdeal.τ).loc Cert.GateMulIdeal.main_arg2))).1 = (fun _ => 1#1)
    ∧ (Cert.Pre_gate_mul_finite.fn (F := Ideal) (m ((c.tc : Thread Cert.GateMulIdeal.nD Cert.GateMulIdeal.τ).loc Cert.GateMulIdeal.main_arg0)) (m ((c.tc : Thread Cert.GateMulIdeal.nD Cert.GateMulIdeal.τ).loc Cert.GateMulIdeal.main_arg1)) (m ((c.tc : Thread Cert.GateMulIdeal.nD Cert.GateMulIdeal.τ).loc Cert.GateMulIdeal.main_arg2))).2 = (fun _ => 1#1)

def Pre_GateMulRefIdeal (m : (ℓ : Loc Cert.GateMulRefIdeal.nD Cert.GateMulRefIdeal.τ Cert.GateMulRefIdeal.sig) → Buf (Elt Ideal) ℓ) : Prop :=
  True

def Pre_GateMulRefIdeal_gate_mul_finite [hPre_gate_mul_finite : Cert.Pre_gate_mul_finite.Facts] (m : (ℓ : Loc Cert.GateMulRefIdeal.nD Cert.GateMulRefIdeal.τ Cert.GateMulRefIdeal.sig) → Buf (Elt Ideal) ℓ) : Prop :=
  ∀ c : Dev Cert.GateMulRefIdeal.nD,
    (Cert.Pre_gate_mul_finite.fn (F := Ideal) (m ((c.tc : Thread Cert.GateMulRefIdeal.nD Cert.GateMulRefIdeal.τ).loc Cert.GateMulRefIdeal.main_arg0)) (m ((c.tc : Thread Cert.GateMulRefIdeal.nD Cert.GateMulRefIdeal.τ).loc Cert.GateMulRefIdeal.main_arg1)) (m ((c.tc : Thread Cert.GateMulRefIdeal.nD Cert.GateMulRefIdeal.τ).loc Cert.GateMulRefIdeal.main_arg2))).1 = (fun _ => 1#1)
    ∧ (Cert.Pre_gate_mul_finite.fn (F := Ideal) (m ((c.tc : Thread Cert.GateMulRefIdeal.nD Cert.GateMulRefIdeal.τ).loc Cert.GateMulRefIdeal.main_arg0)) (m ((c.tc : Thread Cert.GateMulRefIdeal.nD Cert.GateMulRefIdeal.τ).loc Cert.GateMulRefIdeal.main_arg1)) (m ((c.tc : Thread Cert.GateMulRefIdeal.nD Cert.GateMulRefIdeal.τ).loc Cert.GateMulRefIdeal.main_arg2))).2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_modulate_finite [hPre_modulate_finite : Cert.Pre_modulate_finite.Facts] (m : (ℓ : Loc Cert.ModIdeal.nD Cert.ModIdeal.τ Cert.ModIdeal.sig) → Buf (Elt Ideal) ℓ) : Prop :=
  ∀ c : Dev Cert.ModIdeal.nD,
    (Cert.Pre_modulate_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).1 = (fun _ => 1#1)
    ∧ (Cert.Pre_modulate_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.1 = (fun _ => 1#1)
    ∧ (Cert.Pre_modulate_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.2.1 = (fun _ => 1#1)
    ∧ (Cert.Pre_modulate_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.2.2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_modulate_finite [hPre_modulate_finite : Cert.Pre_modulate_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_modulate_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).1 = (fun _ => 1#1)
    ∧ (Cert.Pre_modulate_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.1 = (fun _ => 1#1)
    ∧ (Cert.Pre_modulate_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.2.1 = (fun _ => 1#1)
    ∧ (Cert.Pre_modulate_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.2.2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_rms_finite [hPre_rms_finite : Cert.Pre_rms_finite.Facts] (m : (ℓ : Loc Cert.RmsIdeal.nD Cert.RmsIdeal.τ Cert.RmsIdeal.sig) → Buf (Elt Ideal) ℓ) : Prop :=
  ∀ c : Dev Cert.RmsIdeal.nD,
    (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2))).1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2))).2.1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2))).2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_finite [hPre_rms_finite : Cert.Pre_rms_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2))).1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2))).2.1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2))).2.2 = (fun _ => 1#1)

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_GateAct (m : (ℓ : Loc Cert.GateAct.nD Cert.GateAct.τ Cert.GateAct.sig) → Buf (Elt Bits) ℓ) : Prop :=
  True

def Pre_GateActIdeal (m : (ℓ : Loc Cert.GateActIdeal.nD Cert.GateActIdeal.τ Cert.GateActIdeal.sig) → Buf (Elt Ideal) ℓ) : Prop :=
  True

def Pre_GateActIdeal_gateact_finite [hPre_gateact_finite : Cert.Pre_gateact_finite.Facts] (m : (ℓ : Loc Cert.GateActIdeal.nD Cert.GateActIdeal.τ Cert.GateActIdeal.sig) → Buf (Elt Ideal) ℓ) : Prop :=
  ∀ c : Dev Cert.GateActIdeal.nD,
    (Cert.Pre_gateact_finite.fn (F := Ideal) (m ((c.tc : Thread Cert.GateActIdeal.nD Cert.GateActIdeal.τ).loc Cert.GateActIdeal.main_arg0)) (m ((c.tc : Thread Cert.GateActIdeal.nD Cert.GateActIdeal.τ).loc Cert.GateActIdeal.main_arg1)) (m ((c.tc : Thread Cert.GateActIdeal.nD Cert.GateActIdeal.τ).loc Cert.GateActIdeal.main_arg2)) (m ((c.tc : Thread Cert.GateActIdeal.nD Cert.GateActIdeal.τ).loc Cert.GateActIdeal.main_arg3))).1 = (fun _ => 1#1)
    ∧ (Cert.Pre_gateact_finite.fn (F := Ideal) (m ((c.tc : Thread Cert.GateActIdeal.nD Cert.GateActIdeal.τ).loc Cert.GateActIdeal.main_arg0)) (m ((c.tc : Thread Cert.GateActIdeal.nD Cert.GateActIdeal.τ).loc Cert.GateActIdeal.main_arg1)) (m ((c.tc : Thread Cert.GateActIdeal.nD Cert.GateActIdeal.τ).loc Cert.GateActIdeal.main_arg2)) (m ((c.tc : Thread Cert.GateActIdeal.nD Cert.GateActIdeal.τ).loc Cert.GateActIdeal.main_arg3))).2.1 = (fun _ => 1#1)
    ∧ (Cert.Pre_gateact_finite.fn (F := Ideal) (m ((c.tc : Thread Cert.GateActIdeal.nD Cert.GateActIdeal.τ).loc Cert.GateActIdeal.main_arg0)) (m ((c.tc : Thread Cert.GateActIdeal.nD Cert.GateActIdeal.τ).loc Cert.GateActIdeal.main_arg1)) (m ((c.tc : Thread Cert.GateActIdeal.nD Cert.GateActIdeal.τ).loc Cert.GateActIdeal.main_arg2)) (m ((c.tc : Thread Cert.GateActIdeal.nD Cert.GateActIdeal.τ).loc Cert.GateActIdeal.main_arg3))).2.2.1 = (fun _ => 1#1)
    ∧ (Cert.Pre_gateact_finite.fn (F := Ideal) (m ((c.tc : Thread Cert.GateActIdeal.nD Cert.GateActIdeal.τ).loc Cert.GateActIdeal.main_arg0)) (m ((c.tc : Thread Cert.GateActIdeal.nD Cert.GateActIdeal.τ).loc Cert.GateActIdeal.main_arg1)) (m ((c.tc : Thread Cert.GateActIdeal.nD Cert.GateActIdeal.τ).loc Cert.GateActIdeal.main_arg2)) (m ((c.tc : Thread Cert.GateActIdeal.nD Cert.GateActIdeal.τ).loc Cert.GateActIdeal.main_arg3))).2.2.2 = (fun _ => 1#1)

def Pre_GateActRefIdeal (m : (ℓ : Loc Cert.GateActRefIdeal.nD Cert.GateActRefIdeal.τ Cert.GateActRefIdeal.sig) → Buf (Elt Ideal) ℓ) : Prop :=
  True

def Pre_GateActRefIdeal_gateact_finite [hPre_gateact_finite : Cert.Pre_gateact_finite.Facts] (m : (ℓ : Loc Cert.GateActRefIdeal.nD Cert.GateActRefIdeal.τ Cert.GateActRefIdeal.sig) → Buf (Elt Ideal) ℓ) : Prop :=
  ∀ c : Dev Cert.GateActRefIdeal.nD,
    (Cert.Pre_gateact_finite.fn (F := Ideal) (m ((c.tc : Thread Cert.GateActRefIdeal.nD Cert.GateActRefIdeal.τ).loc Cert.GateActRefIdeal.main_arg0)) (m ((c.tc : Thread Cert.GateActRefIdeal.nD Cert.GateActRefIdeal.τ).loc Cert.GateActRefIdeal.main_arg1)) (m ((c.tc : Thread Cert.GateActRefIdeal.nD Cert.GateActRefIdeal.τ).loc Cert.GateActRefIdeal.main_arg2)) (m ((c.tc : Thread Cert.GateActRefIdeal.nD Cert.GateActRefIdeal.τ).loc Cert.GateActRefIdeal.main_arg3))).1 = (fun _ => 1#1)
    ∧ (Cert.Pre_gateact_finite.fn (F := Ideal) (m ((c.tc : Thread Cert.GateActRefIdeal.nD Cert.GateActRefIdeal.τ).loc Cert.GateActRefIdeal.main_arg0)) (m ((c.tc : Thread Cert.GateActRefIdeal.nD Cert.GateActRefIdeal.τ).loc Cert.GateActRefIdeal.main_arg1)) (m ((c.tc : Thread Cert.GateActRefIdeal.nD Cert.GateActRefIdeal.τ).loc Cert.GateActRefIdeal.main_arg2)) (m ((c.tc : Thread Cert.GateActRefIdeal.nD Cert.GateActRefIdeal.τ).loc Cert.GateActRefIdeal.main_arg3))).2.1 = (fun _ => 1#1)
    ∧ (Cert.Pre_gateact_finite.fn (F := Ideal) (m ((c.tc : Thread Cert.GateActRefIdeal.nD Cert.GateActRefIdeal.τ).loc Cert.GateActRefIdeal.main_arg0)) (m ((c.tc : Thread Cert.GateActRefIdeal.nD Cert.GateActRefIdeal.τ).loc Cert.GateActRefIdeal.main_arg1)) (m ((c.tc : Thread Cert.GateActRefIdeal.nD Cert.GateActRefIdeal.τ).loc Cert.GateActRefIdeal.main_arg2)) (m ((c.tc : Thread Cert.GateActRefIdeal.nD Cert.GateActRefIdeal.τ).loc Cert.GateActRefIdeal.main_arg3))).2.2.1 = (fun _ => 1#1)
    ∧ (Cert.Pre_gateact_finite.fn (F := Ideal) (m ((c.tc : Thread Cert.GateActRefIdeal.nD Cert.GateActRefIdeal.τ).loc Cert.GateActRefIdeal.main_arg0)) (m ((c.tc : Thread Cert.GateActRefIdeal.nD Cert.GateActRefIdeal.τ).loc Cert.GateActRefIdeal.main_arg1)) (m ((c.tc : Thread Cert.GateActRefIdeal.nD Cert.GateActRefIdeal.τ).loc Cert.GateActRefIdeal.main_arg2)) (m ((c.tc : Thread Cert.GateActRefIdeal.nD Cert.GateActRefIdeal.τ).loc Cert.GateActRefIdeal.main_arg3))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnfwd_finite [hPre_attnfwd_finite : Cert.Pre_attnfwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnfwd_finite [hPre_attnfwd_finite : Cert.Pre_attnfwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.2 = (fun _ => 1#1)

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_GateMulFwd (m : (ℓ : Loc Cert.GateMulFwd.nD Cert.GateMulFwd.τ Cert.GateMulFwd.sig) → Buf (Elt Bits) ℓ) : Prop :=
  True

def Pre_GateMulFwdIdeal (m : (ℓ : Loc Cert.GateMulFwdIdeal.nD Cert.GateMulFwdIdeal.τ Cert.GateMulFwdIdeal.sig) → Buf (Elt Ideal) ℓ) : Prop :=
  True

def Pre_GateMulFwdRefIdeal (m : (ℓ : Loc Cert.GateMulFwdRefIdeal.nD Cert.GateMulFwdRefIdeal.τ Cert.GateMulFwdRefIdeal.sig) → Buf (Elt Ideal) ℓ) : Prop :=
  True

def Pre_GateActFwd (m : (ℓ : Loc Cert.GateActFwd.nD Cert.GateActFwd.τ Cert.GateActFwd.sig) → Buf (Elt Bits) ℓ) : Prop :=
  True

def Pre_GateActFwdIdeal (m : (ℓ : Loc Cert.GateActFwdIdeal.nD Cert.GateActFwdIdeal.τ Cert.GateActFwdIdeal.sig) → Buf (Elt Ideal) ℓ) : Prop :=
  True

def Pre_GateActFwdRefIdeal (m : (ℓ : Loc Cert.GateActFwdRefIdeal.nD Cert.GateActFwdRefIdeal.τ Cert.GateActFwdRefIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdRefIdeal (m : (ℓ : Loc Cert.ResFwdRefIdeal.nD Cert.ResFwdRefIdeal.τ Cert.ResFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_RopeFwd (m : (ℓ : Loc Cert.RopeFwd.nD Cert.RopeFwd.τ Cert.RopeFwd.sig) → Buf (Elt Bits) ℓ) : Prop :=
  True

def Pre_RopeFwdIdeal (m : (ℓ : Loc Cert.RopeFwdIdeal.nD Cert.RopeFwdIdeal.τ Cert.RopeFwdIdeal.sig) → Buf (Elt Ideal) ℓ) : Prop :=
  True

def Pre_RopeFwdRefIdeal (m : (ℓ : Loc Cert.RopeFwdRefIdeal.nD Cert.RopeFwdRefIdeal.τ Cert.RopeFwdRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_MmDw (m : (ℓ : Loc Cert.MmDw.nD Cert.MmDw.τ Cert.MmDw.sig) → Buf (Elt Bits) ℓ) : Prop :=
  True

def Pre_MmDwIdeal (m : (ℓ : Loc Cert.MmDwIdeal.nD Cert.MmDwIdeal.τ Cert.MmDwIdeal.sig) → Buf (Elt Ideal) ℓ) : Prop :=
  True

def Pre_MmDwRefIdeal (m : (ℓ : Loc Cert.MmDwRefIdeal.nD Cert.MmDwRefIdeal.τ Cert.MmDwRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_MmDh (m : (ℓ : Loc Cert.MmDh.nD Cert.MmDh.τ Cert.MmDh.sig) → Buf (Elt Bits) ℓ) : Prop :=
  True

def Pre_MmDhIdeal (m : (ℓ : Loc Cert.MmDhIdeal.nD Cert.MmDhIdeal.τ Cert.MmDhIdeal.sig) → Buf (Elt Ideal) ℓ) : Prop :=
  True

def Pre_MmDhRefIdeal (m : (ℓ : Loc Cert.MmDhRefIdeal.nD Cert.MmDhRefIdeal.τ Cert.MmDhRefIdeal.sig) → Buf (Elt Ideal) ℓ) : Prop :=
  True

def Pre_AddPair (m : (ℓ : Loc Cert.AddPair.nD Cert.AddPair.τ Cert.AddPair.sig) → Buf (Elt Bits) ℓ) : Prop :=
  True

def Pre_AddPairIdeal (m : (ℓ : Loc Cert.AddPairIdeal.nD Cert.AddPairIdeal.τ Cert.AddPairIdeal.sig) → Buf (Elt Ideal) ℓ) : Prop :=
  True

def Pre_AddPairRefIdeal (m : (ℓ : Loc Cert.AddPairRefIdeal.nD Cert.AddPairRefIdeal.τ Cert.AddPairRefIdeal.sig) → Buf (Elt Ideal) ℓ) : Prop :=
  True

def Pre_AddChips (m : (ℓ : Loc Cert.AddChips.nD Cert.AddChips.τ Cert.AddChips.sig) → Buf (Elt Bits) ℓ) : Prop :=
  True

def Pre_AddChipsIdeal (m : (ℓ : Loc Cert.AddChipsIdeal.nD Cert.AddChipsIdeal.τ Cert.AddChipsIdeal.sig) → Buf (Elt Ideal) ℓ) : Prop :=
  True

def Pre_AddChipsRefIdeal (m : (ℓ : Loc Cert.AddChipsRefIdeal.nD Cert.AddChipsRefIdeal.τ Cert.AddChipsRefIdeal.sig) → Buf (Elt Ideal) ℓ) : Prop :=
  True

def quiescent_GateMul [hGateMul : Cert.GateMul.Facts] : Prop :=
  ∀ (m : (ℓ : Loc Cert.GateMul.nD Cert.GateMul.τ Cert.GateMul.sig) → Buf (Elt Bits) ℓ) (g : Dev Cert.GateMul.nD → PrngReg), Pre_GateMul m →
    θ_run (Cert.GateMul.defs (F := Bits)) (onTc (τ := Cert.GateMul.τ) (Cert.GateMul.main (F := Bits))) ⟨m, fun _ => 0, g⟩ (fun r => (∀ c : Dev Cert.GateMul.nD,
      r.2.mem ((c.tc : Thread Cert.GateMul.nD Cert.GateMul.τ).loc Cert.GateMul.main_arg0) = m ((c.tc : Thread Cert.GateMul.nD Cert.GateMul.τ).loc Cert.GateMul.main_arg0)
      ∧ r.2.mem ((c.tc : Thread Cert.GateMul.nD Cert.GateMul.τ).loc Cert.GateMul.main_arg1) = m ((c.tc : Thread Cert.GateMul.nD Cert.GateMul.τ).loc Cert.GateMul.main_arg1)
      ∧ r.2.mem ((c.tc : Thread Cert.GateMul.nD Cert.GateMul.τ).loc Cert.GateMul.main_arg2) = m ((c.tc : Thread Cert.GateMul.nD Cert.GateMul.τ).loc Cert.GateMul.main_arg2))
      ∧ r.2.sem = fun _ => 0)

def quiescent_GateMulIdeal [hGateMulIdeal : Cert.GateMulIdeal.Facts] : Prop :=
  ∀ (m : (ℓ : Loc Cert.GateMulIdeal.nD Cert.GateMulIdeal.τ Cert.GateMulIdeal.sig) → Buf (Elt Ideal) ℓ) (g : Dev Cert.GateMulIdeal.nD → PrngReg), Pre_GateMulIdeal m →
    θ_run (Cert.GateMulIdeal.defs (F := Ideal)) (onTc (τ := Cert.GateMulIdeal.τ) (Cert.GateMulIdeal.main (F := Ideal))) ⟨m, fun _ => 0, g⟩ (fun r => (∀ c : Dev Cert.GateMulIdeal.nD,
      r.2.mem ((c.tc : Thread Cert.GateMulIdeal.nD Cert.GateMulIdeal.τ).loc Cert.GateMulIdeal.main_arg0) = m ((c.tc : Thread Cert.GateMulIdeal.nD Cert.GateMulIdeal.τ).loc Cert.GateMulIdeal.main_arg0)
      ∧ r.2.mem ((c.tc : Thread Cert.GateMulIdeal.nD Cert.GateMulIdeal.τ).loc Cert.GateMulIdeal.main_arg1) = m ((c.tc : Thread Cert.GateMulIdeal.nD Cert.GateMulIdeal.τ).loc Cert.GateMulIdeal.main_arg1)
      ∧ r.2.mem ((c.tc : Thread Cert.GateMulIdeal.nD Cert.GateMulIdeal.τ).loc Cert.GateMulIdeal.main_arg2) = m ((c.tc : Thread Cert.GateMulIdeal.nD Cert.GateMulIdeal.τ).loc Cert.GateMulIdeal.main_arg2))
      ∧ r.2.sem = fun _ => 0)

def quiescent_GateMulIdeal_pre_gate_mul_finite [hGateMulIdeal : Cert.GateMulIdeal.Facts] [hPre_gate_mul_finite : Cert.Pre_gate_mul_finite.Facts] : Prop :=
  ∀ (m : (ℓ : Loc Cert.GateMulIdeal.nD Cert.GateMulIdeal.τ Cert.GateMulIdeal.sig) → Buf (Elt Ideal) ℓ) (g : Dev Cert.GateMulIdeal.nD → PrngReg), Pre_GateMulIdeal_gate_mul_finite m →
    θ_run (Cert.GateMulIdeal.defs (F := Ideal)) (onTc (τ := Cert.GateMulIdeal.τ) (Cert.GateMulIdeal.main (F := Ideal))) ⟨m, fun _ => 0, g⟩ (fun r => (∀ c : Dev Cert.GateMulIdeal.nD,
      r.2.mem ((c.tc : Thread Cert.GateMulIdeal.nD Cert.GateMulIdeal.τ).loc Cert.GateMulIdeal.main_arg0) = m ((c.tc : Thread Cert.GateMulIdeal.nD Cert.GateMulIdeal.τ).loc Cert.GateMulIdeal.main_arg0)
      ∧ r.2.mem ((c.tc : Thread Cert.GateMulIdeal.nD Cert.GateMulIdeal.τ).loc Cert.GateMulIdeal.main_arg1) = m ((c.tc : Thread Cert.GateMulIdeal.nD Cert.GateMulIdeal.τ).loc Cert.GateMulIdeal.main_arg1)
      ∧ r.2.mem ((c.tc : Thread Cert.GateMulIdeal.nD Cert.GateMulIdeal.τ).loc Cert.GateMulIdeal.main_arg2) = m ((c.tc : Thread Cert.GateMulIdeal.nD Cert.GateMulIdeal.τ).loc Cert.GateMulIdeal.main_arg2))
      ∧ r.2.sem = fun _ => 0)

def quiescent_GateMulRefIdeal [hGateMulRefIdeal : Cert.GateMulRefIdeal.Facts] : Prop :=
  ∀ (m : (ℓ : Loc Cert.GateMulRefIdeal.nD Cert.GateMulRefIdeal.τ Cert.GateMulRefIdeal.sig) → Buf (Elt Ideal) ℓ) (g : Dev Cert.GateMulRefIdeal.nD → PrngReg), Pre_GateMulRefIdeal m →
    θ_run (Cert.GateMulRefIdeal.defs (F := Ideal)) (onTc (τ := Cert.GateMulRefIdeal.τ) (Cert.GateMulRefIdeal.main (F := Ideal))) ⟨m, fun _ => 0, g⟩ (fun r => (∀ c : Dev Cert.GateMulRefIdeal.nD,
      r.2.mem ((c.tc : Thread Cert.GateMulRefIdeal.nD Cert.GateMulRefIdeal.τ).loc Cert.GateMulRefIdeal.main_arg0) = m ((c.tc : Thread Cert.GateMulRefIdeal.nD Cert.GateMulRefIdeal.τ).loc Cert.GateMulRefIdeal.main_arg0)
      ∧ r.2.mem ((c.tc : Thread Cert.GateMulRefIdeal.nD Cert.GateMulRefIdeal.τ).loc Cert.GateMulRefIdeal.main_arg1) = m ((c.tc : Thread Cert.GateMulRefIdeal.nD Cert.GateMulRefIdeal.τ).loc Cert.GateMulRefIdeal.main_arg1)
      ∧ r.2.mem ((c.tc : Thread Cert.GateMulRefIdeal.nD Cert.GateMulRefIdeal.τ).loc Cert.GateMulRefIdeal.main_arg2) = m ((c.tc : Thread Cert.GateMulRefIdeal.nD Cert.GateMulRefIdeal.τ).loc Cert.GateMulRefIdeal.main_arg2))
      ∧ r.2.sem = fun _ => 0)

def quiescent_GateMulRefIdeal_pre_gate_mul_finite [hGateMulRefIdeal : Cert.GateMulRefIdeal.Facts] [hPre_gate_mul_finite : Cert.Pre_gate_mul_finite.Facts] : Prop :=
  ∀ (m : (ℓ : Loc Cert.GateMulRefIdeal.nD Cert.GateMulRefIdeal.τ Cert.GateMulRefIdeal.sig) → Buf (Elt Ideal) ℓ) (g : Dev Cert.GateMulRefIdeal.nD → PrngReg), Pre_GateMulRefIdeal_gate_mul_finite m →
    θ_run (Cert.GateMulRefIdeal.defs (F := Ideal)) (onTc (τ := Cert.GateMulRefIdeal.τ) (Cert.GateMulRefIdeal.main (F := Ideal))) ⟨m, fun _ => 0, g⟩ (fun r => (∀ c : Dev Cert.GateMulRefIdeal.nD,
      r.2.mem ((c.tc : Thread Cert.GateMulRefIdeal.nD Cert.GateMulRefIdeal.τ).loc Cert.GateMulRefIdeal.main_arg0) = m ((c.tc : Thread Cert.GateMulRefIdeal.nD Cert.GateMulRefIdeal.τ).loc Cert.GateMulRefIdeal.main_arg0)
      ∧ r.2.mem ((c.tc : Thread Cert.GateMulRefIdeal.nD Cert.GateMulRefIdeal.τ).loc Cert.GateMulRefIdeal.main_arg1) = m ((c.tc : Thread Cert.GateMulRefIdeal.nD Cert.GateMulRefIdeal.τ).loc Cert.GateMulRefIdeal.main_arg1)
      ∧ r.2.mem ((c.tc : Thread Cert.GateMulRefIdeal.nD Cert.GateMulRefIdeal.τ).loc Cert.GateMulRefIdeal.main_arg2) = m ((c.tc : Thread Cert.GateMulRefIdeal.nD Cert.GateMulRefIdeal.τ).loc Cert.GateMulRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModIdeal_pre_modulate_finite [hModIdeal : Cert.ModIdeal.Facts] [hPre_modulate_finite : Cert.Pre_modulate_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_modulate_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_ModRefIdeal_pre_modulate_finite [hModRefIdeal : Cert.ModRefIdeal.Facts] [hPre_modulate_finite : Cert.Pre_modulate_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_modulate_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ r.2.sem = fun _ => 0)

def quiescent_RmsIdeal_pre_rms_finite [hRmsIdeal : Cert.RmsIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_rms_finite m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2))
      ∧ r.2.sem = fun _ => 0)

def quiescent_RmsRefIdeal_pre_rms_finite [hRmsRefIdeal : Cert.RmsRefIdeal.Facts] [hPre_rms_finite : Cert.Pre_rms_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_GateAct [hGateAct : Cert.GateAct.Facts] : Prop :=
  ∀ (m : (ℓ : Loc Cert.GateAct.nD Cert.GateAct.τ Cert.GateAct.sig) → Buf (Elt Bits) ℓ) (g : Dev Cert.GateAct.nD → PrngReg), Pre_GateAct m →
    θ_run (Cert.GateAct.defs (F := Bits)) (onTc (τ := Cert.GateAct.τ) (Cert.GateAct.main (F := Bits))) ⟨m, fun _ => 0, g⟩ (fun r => (∀ c : Dev Cert.GateAct.nD,
      r.2.mem ((c.tc : Thread Cert.GateAct.nD Cert.GateAct.τ).loc Cert.GateAct.main_arg0) = m ((c.tc : Thread Cert.GateAct.nD Cert.GateAct.τ).loc Cert.GateAct.main_arg0)
      ∧ r.2.mem ((c.tc : Thread Cert.GateAct.nD Cert.GateAct.τ).loc Cert.GateAct.main_arg1) = m ((c.tc : Thread Cert.GateAct.nD Cert.GateAct.τ).loc Cert.GateAct.main_arg1)
      ∧ r.2.mem ((c.tc : Thread Cert.GateAct.nD Cert.GateAct.τ).loc Cert.GateAct.main_arg2) = m ((c.tc : Thread Cert.GateAct.nD Cert.GateAct.τ).loc Cert.GateAct.main_arg2)
      ∧ r.2.mem ((c.tc : Thread Cert.GateAct.nD Cert.GateAct.τ).loc Cert.GateAct.main_arg3) = m ((c.tc : Thread Cert.GateAct.nD Cert.GateAct.τ).loc Cert.GateAct.main_arg3))
      ∧ r.2.sem = fun _ => 0)

def quiescent_GateActIdeal [hGateActIdeal : Cert.GateActIdeal.Facts] : Prop :=
  ∀ (m : (ℓ : Loc Cert.GateActIdeal.nD Cert.GateActIdeal.τ Cert.GateActIdeal.sig) → Buf (Elt Ideal) ℓ) (g : Dev Cert.GateActIdeal.nD → PrngReg), Pre_GateActIdeal m →
    θ_run (Cert.GateActIdeal.defs (F := Ideal)) (onTc (τ := Cert.GateActIdeal.τ) (Cert.GateActIdeal.main (F := Ideal))) ⟨m, fun _ => 0, g⟩ (fun r => (∀ c : Dev Cert.GateActIdeal.nD,
      r.2.mem ((c.tc : Thread Cert.GateActIdeal.nD Cert.GateActIdeal.τ).loc Cert.GateActIdeal.main_arg0) = m ((c.tc : Thread Cert.GateActIdeal.nD Cert.GateActIdeal.τ).loc Cert.GateActIdeal.main_arg0)
      ∧ r.2.mem ((c.tc : Thread Cert.GateActIdeal.nD Cert.GateActIdeal.τ).loc Cert.GateActIdeal.main_arg1) = m ((c.tc : Thread Cert.GateActIdeal.nD Cert.GateActIdeal.τ).loc Cert.GateActIdeal.main_arg1)
      ∧ r.2.mem ((c.tc : Thread Cert.GateActIdeal.nD Cert.GateActIdeal.τ).loc Cert.GateActIdeal.main_arg2) = m ((c.tc : Thread Cert.GateActIdeal.nD Cert.GateActIdeal.τ).loc Cert.GateActIdeal.main_arg2)
      ∧ r.2.mem ((c.tc : Thread Cert.GateActIdeal.nD Cert.GateActIdeal.τ).loc Cert.GateActIdeal.main_arg3) = m ((c.tc : Thread Cert.GateActIdeal.nD Cert.GateActIdeal.τ).loc Cert.GateActIdeal.main_arg3))
      ∧ r.2.sem = fun _ => 0)

def quiescent_GateActIdeal_pre_gateact_finite [hGateActIdeal : Cert.GateActIdeal.Facts] [hPre_gateact_finite : Cert.Pre_gateact_finite.Facts] : Prop :=
  ∀ (m : (ℓ : Loc Cert.GateActIdeal.nD Cert.GateActIdeal.τ Cert.GateActIdeal.sig) → Buf (Elt Ideal) ℓ) (g : Dev Cert.GateActIdeal.nD → PrngReg), Pre_GateActIdeal_gateact_finite m →
    θ_run (Cert.GateActIdeal.defs (F := Ideal)) (onTc (τ := Cert.GateActIdeal.τ) (Cert.GateActIdeal.main (F := Ideal))) ⟨m, fun _ => 0, g⟩ (fun r => (∀ c : Dev Cert.GateActIdeal.nD,
      r.2.mem ((c.tc : Thread Cert.GateActIdeal.nD Cert.GateActIdeal.τ).loc Cert.GateActIdeal.main_arg0) = m ((c.tc : Thread Cert.GateActIdeal.nD Cert.GateActIdeal.τ).loc Cert.GateActIdeal.main_arg0)
      ∧ r.2.mem ((c.tc : Thread Cert.GateActIdeal.nD Cert.GateActIdeal.τ).loc Cert.GateActIdeal.main_arg1) = m ((c.tc : Thread Cert.GateActIdeal.nD Cert.GateActIdeal.τ).loc Cert.GateActIdeal.main_arg1)
      ∧ r.2.mem ((c.tc : Thread Cert.GateActIdeal.nD Cert.GateActIdeal.τ).loc Cert.GateActIdeal.main_arg2) = m ((c.tc : Thread Cert.GateActIdeal.nD Cert.GateActIdeal.τ).loc Cert.GateActIdeal.main_arg2)
      ∧ r.2.mem ((c.tc : Thread Cert.GateActIdeal.nD Cert.GateActIdeal.τ).loc Cert.GateActIdeal.main_arg3) = m ((c.tc : Thread Cert.GateActIdeal.nD Cert.GateActIdeal.τ).loc Cert.GateActIdeal.main_arg3))
      ∧ r.2.sem = fun _ => 0)

def quiescent_GateActRefIdeal [hGateActRefIdeal : Cert.GateActRefIdeal.Facts] : Prop :=
  ∀ (m : (ℓ : Loc Cert.GateActRefIdeal.nD Cert.GateActRefIdeal.τ Cert.GateActRefIdeal.sig) → Buf (Elt Ideal) ℓ) (g : Dev Cert.GateActRefIdeal.nD → PrngReg), Pre_GateActRefIdeal m →
    θ_run (Cert.GateActRefIdeal.defs (F := Ideal)) (onTc (τ := Cert.GateActRefIdeal.τ) (Cert.GateActRefIdeal.main (F := Ideal))) ⟨m, fun _ => 0, g⟩ (fun r => (∀ c : Dev Cert.GateActRefIdeal.nD,
      r.2.mem ((c.tc : Thread Cert.GateActRefIdeal.nD Cert.GateActRefIdeal.τ).loc Cert.GateActRefIdeal.main_arg0) = m ((c.tc : Thread Cert.GateActRefIdeal.nD Cert.GateActRefIdeal.τ).loc Cert.GateActRefIdeal.main_arg0)
      ∧ r.2.mem ((c.tc : Thread Cert.GateActRefIdeal.nD Cert.GateActRefIdeal.τ).loc Cert.GateActRefIdeal.main_arg1) = m ((c.tc : Thread Cert.GateActRefIdeal.nD Cert.GateActRefIdeal.τ).loc Cert.GateActRefIdeal.main_arg1)
      ∧ r.2.mem ((c.tc : Thread Cert.GateActRefIdeal.nD Cert.GateActRefIdeal.τ).loc Cert.GateActRefIdeal.main_arg2) = m ((c.tc : Thread Cert.GateActRefIdeal.nD Cert.GateActRefIdeal.τ).loc Cert.GateActRefIdeal.main_arg2)
      ∧ r.2.mem ((c.tc : Thread Cert.GateActRefIdeal.nD Cert.GateActRefIdeal.τ).loc Cert.GateActRefIdeal.main_arg3) = m ((c.tc : Thread Cert.GateActRefIdeal.nD Cert.GateActRefIdeal.τ).loc Cert.GateActRefIdeal.main_arg3))
      ∧ r.2.sem = fun _ => 0)

def quiescent_GateActRefIdeal_pre_gateact_finite [hGateActRefIdeal : Cert.GateActRefIdeal.Facts] [hPre_gateact_finite : Cert.Pre_gateact_finite.Facts] : Prop :=
  ∀ (m : (ℓ : Loc Cert.GateActRefIdeal.nD Cert.GateActRefIdeal.τ Cert.GateActRefIdeal.sig) → Buf (Elt Ideal) ℓ) (g : Dev Cert.GateActRefIdeal.nD → PrngReg), Pre_GateActRefIdeal_gateact_finite m →
    θ_run (Cert.GateActRefIdeal.defs (F := Ideal)) (onTc (τ := Cert.GateActRefIdeal.τ) (Cert.GateActRefIdeal.main (F := Ideal))) ⟨m, fun _ => 0, g⟩ (fun r => (∀ c : Dev Cert.GateActRefIdeal.nD,
      r.2.mem ((c.tc : Thread Cert.GateActRefIdeal.nD Cert.GateActRefIdeal.τ).loc Cert.GateActRefIdeal.main_arg0) = m ((c.tc : Thread Cert.GateActRefIdeal.nD Cert.GateActRefIdeal.τ).loc Cert.GateActRefIdeal.main_arg0)
      ∧ r.2.mem ((c.tc : Thread Cert.GateActRefIdeal.nD Cert.GateActRefIdeal.τ).loc Cert.GateActRefIdeal.main_arg1) = m ((c.tc : Thread Cert.GateActRefIdeal.nD Cert.GateActRefIdeal.τ).loc Cert.GateActRefIdeal.main_arg1)
      ∧ r.2.mem ((c.tc : Thread Cert.GateActRefIdeal.nD Cert.GateActRefIdeal.τ).loc Cert.GateActRefIdeal.main_arg2) = m ((c.tc : Thread Cert.GateActRefIdeal.nD Cert.GateActRefIdeal.τ).loc Cert.GateActRefIdeal.main_arg2)
      ∧ r.2.mem ((c.tc : Thread Cert.GateActRefIdeal.nD Cert.GateActRefIdeal.τ).loc Cert.GateActRefIdeal.main_arg3) = m ((c.tc : Thread Cert.GateActRefIdeal.nD Cert.GateActRefIdeal.τ).loc Cert.GateActRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_attnfwd_finite [hAttnFwdIdeal : Cert.AttnFwdIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnfwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_attnfwd_finite [hAttnFwdRefIdeal : Cert.AttnFwdRefIdeal.Facts] [hPre_attnfwd_finite : Cert.Pre_attnfwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnfwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2)
      ∧ r.2.mem ((c.tc : Thread Cert.ModFwdRefIdeal.nD Cert.ModFwdRefIdeal.τ).loc Cert.ModFwdRefIdeal.main_arg3) = m ((c.tc : Thread Cert.ModFwdRefIdeal.nD Cert.ModFwdRefIdeal.τ).loc Cert.ModFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_GateMulFwd [hGateMulFwd : Cert.GateMulFwd.Facts] : Prop :=
  ∀ (m : (ℓ : Loc Cert.GateMulFwd.nD Cert.GateMulFwd.τ Cert.GateMulFwd.sig) → Buf (Elt Bits) ℓ) (g : Dev Cert.GateMulFwd.nD → PrngReg), Pre_GateMulFwd m →
    θ_run (Cert.GateMulFwd.defs (F := Bits)) (onTc (τ := Cert.GateMulFwd.τ) (Cert.GateMulFwd.main (F := Bits))) ⟨m, fun _ => 0, g⟩ (fun r => (∀ c : Dev Cert.GateMulFwd.nD,
      r.2.mem ((c.tc : Thread Cert.GateMulFwd.nD Cert.GateMulFwd.τ).loc Cert.GateMulFwd.main_arg0) = m ((c.tc : Thread Cert.GateMulFwd.nD Cert.GateMulFwd.τ).loc Cert.GateMulFwd.main_arg0)
      ∧ r.2.mem ((c.tc : Thread Cert.GateMulFwd.nD Cert.GateMulFwd.τ).loc Cert.GateMulFwd.main_arg1) = m ((c.tc : Thread Cert.GateMulFwd.nD Cert.GateMulFwd.τ).loc Cert.GateMulFwd.main_arg1))
      ∧ r.2.sem = fun _ => 0)

def quiescent_GateMulFwdIdeal [hGateMulFwdIdeal : Cert.GateMulFwdIdeal.Facts] : Prop :=
  ∀ (m : (ℓ : Loc Cert.GateMulFwdIdeal.nD Cert.GateMulFwdIdeal.τ Cert.GateMulFwdIdeal.sig) → Buf (Elt Ideal) ℓ) (g : Dev Cert.GateMulFwdIdeal.nD → PrngReg), Pre_GateMulFwdIdeal m →
    θ_run (Cert.GateMulFwdIdeal.defs (F := Ideal)) (onTc (τ := Cert.GateMulFwdIdeal.τ) (Cert.GateMulFwdIdeal.main (F := Ideal))) ⟨m, fun _ => 0, g⟩ (fun r => (∀ c : Dev Cert.GateMulFwdIdeal.nD,
      r.2.mem ((c.tc : Thread Cert.GateMulFwdIdeal.nD Cert.GateMulFwdIdeal.τ).loc Cert.GateMulFwdIdeal.main_arg0) = m ((c.tc : Thread Cert.GateMulFwdIdeal.nD Cert.GateMulFwdIdeal.τ).loc Cert.GateMulFwdIdeal.main_arg0)
      ∧ r.2.mem ((c.tc : Thread Cert.GateMulFwdIdeal.nD Cert.GateMulFwdIdeal.τ).loc Cert.GateMulFwdIdeal.main_arg1) = m ((c.tc : Thread Cert.GateMulFwdIdeal.nD Cert.GateMulFwdIdeal.τ).loc Cert.GateMulFwdIdeal.main_arg1))
      ∧ r.2.sem = fun _ => 0)

def quiescent_GateMulFwdRefIdeal [hGateMulFwdRefIdeal : Cert.GateMulFwdRefIdeal.Facts] : Prop :=
  ∀ (m : (ℓ : Loc Cert.GateMulFwdRefIdeal.nD Cert.GateMulFwdRefIdeal.τ Cert.GateMulFwdRefIdeal.sig) → Buf (Elt Ideal) ℓ) (g : Dev Cert.GateMulFwdRefIdeal.nD → PrngReg), Pre_GateMulFwdRefIdeal m →
    θ_run (Cert.GateMulFwdRefIdeal.defs (F := Ideal)) (onTc (τ := Cert.GateMulFwdRefIdeal.τ) (Cert.GateMulFwdRefIdeal.main (F := Ideal))) ⟨m, fun _ => 0, g⟩ (fun r => (∀ c : Dev Cert.GateMulFwdRefIdeal.nD,
      r.2.mem ((c.tc : Thread Cert.GateMulFwdRefIdeal.nD Cert.GateMulFwdRefIdeal.τ).loc Cert.GateMulFwdRefIdeal.main_arg0) = m ((c.tc : Thread Cert.GateMulFwdRefIdeal.nD Cert.GateMulFwdRefIdeal.τ).loc Cert.GateMulFwdRefIdeal.main_arg0)
      ∧ r.2.mem ((c.tc : Thread Cert.GateMulFwdRefIdeal.nD Cert.GateMulFwdRefIdeal.τ).loc Cert.GateMulFwdRefIdeal.main_arg1) = m ((c.tc : Thread Cert.GateMulFwdRefIdeal.nD Cert.GateMulFwdRefIdeal.τ).loc Cert.GateMulFwdRefIdeal.main_arg1))
      ∧ r.2.sem = fun _ => 0)

def quiescent_GateActFwd [hGateActFwd : Cert.GateActFwd.Facts] : Prop :=
  ∀ (m : (ℓ : Loc Cert.GateActFwd.nD Cert.GateActFwd.τ Cert.GateActFwd.sig) → Buf (Elt Bits) ℓ) (g : Dev Cert.GateActFwd.nD → PrngReg), Pre_GateActFwd m →
    θ_run (Cert.GateActFwd.defs (F := Bits)) (onTc (τ := Cert.GateActFwd.τ) (Cert.GateActFwd.main (F := Bits))) ⟨m, fun _ => 0, g⟩ (fun r => (∀ c : Dev Cert.GateActFwd.nD,
      r.2.mem ((c.tc : Thread Cert.GateActFwd.nD Cert.GateActFwd.τ).loc Cert.GateActFwd.main_arg0) = m ((c.tc : Thread Cert.GateActFwd.nD Cert.GateActFwd.τ).loc Cert.GateActFwd.main_arg0)
      ∧ r.2.mem ((c.tc : Thread Cert.GateActFwd.nD Cert.GateActFwd.τ).loc Cert.GateActFwd.main_arg1) = m ((c.tc : Thread Cert.GateActFwd.nD Cert.GateActFwd.τ).loc Cert.GateActFwd.main_arg1)
      ∧ r.2.mem ((c.tc : Thread Cert.GateActFwd.nD Cert.GateActFwd.τ).loc Cert.GateActFwd.main_arg2) = m ((c.tc : Thread Cert.GateActFwd.nD Cert.GateActFwd.τ).loc Cert.GateActFwd.main_arg2))
      ∧ r.2.sem = fun _ => 0)

def quiescent_GateActFwdIdeal [hGateActFwdIdeal : Cert.GateActFwdIdeal.Facts] : Prop :=
  ∀ (m : (ℓ : Loc Cert.GateActFwdIdeal.nD Cert.GateActFwdIdeal.τ Cert.GateActFwdIdeal.sig) → Buf (Elt Ideal) ℓ) (g : Dev Cert.GateActFwdIdeal.nD → PrngReg), Pre_GateActFwdIdeal m →
    θ_run (Cert.GateActFwdIdeal.defs (F := Ideal)) (onTc (τ := Cert.GateActFwdIdeal.τ) (Cert.GateActFwdIdeal.main (F := Ideal))) ⟨m, fun _ => 0, g⟩ (fun r => (∀ c : Dev Cert.GateActFwdIdeal.nD,
      r.2.mem ((c.tc : Thread Cert.GateActFwdIdeal.nD Cert.GateActFwdIdeal.τ).loc Cert.GateActFwdIdeal.main_arg0) = m ((c.tc : Thread Cert.GateActFwdIdeal.nD Cert.GateActFwdIdeal.τ).loc Cert.GateActFwdIdeal.main_arg0)
      ∧ r.2.mem ((c.tc : Thread Cert.GateActFwdIdeal.nD Cert.GateActFwdIdeal.τ).loc Cert.GateActFwdIdeal.main_arg1) = m ((c.tc : Thread Cert.GateActFwdIdeal.nD Cert.GateActFwdIdeal.τ).loc Cert.GateActFwdIdeal.main_arg1)
      ∧ r.2.mem ((c.tc : Thread Cert.GateActFwdIdeal.nD Cert.GateActFwdIdeal.τ).loc Cert.GateActFwdIdeal.main_arg2) = m ((c.tc : Thread Cert.GateActFwdIdeal.nD Cert.GateActFwdIdeal.τ).loc Cert.GateActFwdIdeal.main_arg2))
      ∧ r.2.sem = fun _ => 0)

def quiescent_GateActFwdRefIdeal [hGateActFwdRefIdeal : Cert.GateActFwdRefIdeal.Facts] : Prop :=
  ∀ (m : (ℓ : Loc Cert.GateActFwdRefIdeal.nD Cert.GateActFwdRefIdeal.τ Cert.GateActFwdRefIdeal.sig) → Buf (Elt Ideal) ℓ) (g : Dev Cert.GateActFwdRefIdeal.nD → PrngReg), Pre_GateActFwdRefIdeal m →
    θ_run (Cert.GateActFwdRefIdeal.defs (F := Ideal)) (onTc (τ := Cert.GateActFwdRefIdeal.τ) (Cert.GateActFwdRefIdeal.main (F := Ideal))) ⟨m, fun _ => 0, g⟩ (fun r => (∀ c : Dev Cert.GateActFwdRefIdeal.nD,
      r.2.mem ((c.tc : Thread Cert.GateActFwdRefIdeal.nD Cert.GateActFwdRefIdeal.τ).loc Cert.GateActFwdRefIdeal.main_arg0) = m ((c.tc : Thread Cert.GateActFwdRefIdeal.nD Cert.GateActFwdRefIdeal.τ).loc Cert.GateActFwdRefIdeal.main_arg0)
      ∧ r.2.mem ((c.tc : Thread Cert.GateActFwdRefIdeal.nD Cert.GateActFwdRefIdeal.τ).loc Cert.GateActFwdRefIdeal.main_arg1) = m ((c.tc : Thread Cert.GateActFwdRefIdeal.nD Cert.GateActFwdRefIdeal.τ).loc Cert.GateActFwdRefIdeal.main_arg1)
      ∧ r.2.mem ((c.tc : Thread Cert.GateActFwdRefIdeal.nD Cert.GateActFwdRefIdeal.τ).loc Cert.GateActFwdRefIdeal.main_arg2) = m ((c.tc : Thread Cert.GateActFwdRefIdeal.nD Cert.GateActFwdRefIdeal.τ).loc Cert.GateActFwdRefIdeal.main_arg2))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ r.2.sem = fun _ => 0)

def quiescent_ResFwdRefIdeal [hResFwdRefIdeal : Cert.ResFwdRefIdeal.Facts] : Prop :=
  ∀ (m : (ℓ : Loc Cert.ResFwdRefIdeal.nD Cert.ResFwdRefIdeal.τ Cert.ResFwdRefIdeal.sig) → Buf (Elt Ideal) ℓ) (g : Dev Cert.ResFwdRefIdeal.nD → PrngReg), Pre_ResFwdRefIdeal m →
    θ_run (Cert.ResFwdRefIdeal.defs (F := Ideal)) (onTc (τ := Cert.ResFwdRefIdeal.τ) (Cert.ResFwdRefIdeal.main (F := Ideal))) ⟨m, fun _ => 0, g⟩ (fun r => (∀ c : Dev Cert.ResFwdRefIdeal.nD,
      r.2.mem ((c.tc : Thread Cert.ResFwdRefIdeal.nD Cert.ResFwdRefIdeal.τ).loc Cert.ResFwdRefIdeal.main_arg0) = m ((c.tc : Thread Cert.ResFwdRefIdeal.nD Cert.ResFwdRefIdeal.τ).loc Cert.ResFwdRefIdeal.main_arg0)
      ∧ r.2.mem ((c.tc : Thread Cert.ResFwdRefIdeal.nD Cert.ResFwdRefIdeal.τ).loc Cert.ResFwdRefIdeal.main_arg1) = m ((c.tc : Thread Cert.ResFwdRefIdeal.nD Cert.ResFwdRefIdeal.τ).loc Cert.ResFwdRefIdeal.main_arg1)
      ∧ r.2.mem ((c.tc : Thread Cert.ResFwdRefIdeal.nD Cert.ResFwdRefIdeal.τ).loc Cert.ResFwdRefIdeal.main_arg2) = m ((c.tc : Thread Cert.ResFwdRefIdeal.nD Cert.ResFwdRefIdeal.τ).loc Cert.ResFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3))
      ∧ r.2.sem = fun _ => 0)

def quiescent_RopeFwd [hRopeFwd : Cert.RopeFwd.Facts] : Prop :=
  ∀ (m : (ℓ : Loc Cert.RopeFwd.nD Cert.RopeFwd.τ Cert.RopeFwd.sig) → Buf (Elt Bits) ℓ) (g : Dev Cert.RopeFwd.nD → PrngReg), Pre_RopeFwd m →
    θ_run (Cert.RopeFwd.defs (F := Bits)) (onTc (τ := Cert.RopeFwd.τ) (Cert.RopeFwd.main (F := Bits))) ⟨m, fun _ => 0, g⟩ (fun r => (∀ c : Dev Cert.RopeFwd.nD,
      r.2.mem ((c.tc : Thread Cert.RopeFwd.nD Cert.RopeFwd.τ).loc Cert.RopeFwd.main_arg0) = m ((c.tc : Thread Cert.RopeFwd.nD Cert.RopeFwd.τ).loc Cert.RopeFwd.main_arg0)
      ∧ r.2.mem ((c.tc : Thread Cert.RopeFwd.nD Cert.RopeFwd.τ).loc Cert.RopeFwd.main_arg1) = m ((c.tc : Thread Cert.RopeFwd.nD Cert.RopeFwd.τ).loc Cert.RopeFwd.main_arg1)
      ∧ r.2.mem ((c.tc : Thread Cert.RopeFwd.nD Cert.RopeFwd.τ).loc Cert.RopeFwd.main_arg2) = m ((c.tc : Thread Cert.RopeFwd.nD Cert.RopeFwd.τ).loc Cert.RopeFwd.main_arg2))
      ∧ r.2.sem = fun _ => 0)

def quiescent_RopeFwdIdeal [hRopeFwdIdeal : Cert.RopeFwdIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg), Pre_RopeFwdIdeal m →
    θ_run (Cert.RopeFwdIdeal.defs (F := Ideal)) (onTc (τ := Cert.RopeFwdIdeal.τ) (Cert.RopeFwdIdeal.main (F := Ideal))) ⟨m, fun _ => 0, g⟩ (fun r => (∀ c : Dev Cert.RopeFwdIdeal.nD,
      r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
      ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
      ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ r.2.sem = fun _ => 0)

def quiescent_RopeFwdRefIdeal [hRopeFwdRefIdeal : Cert.RopeFwdRefIdeal.Facts] : Prop :=
  ∀ (m : (ℓ : Loc Cert.RopeFwdRefIdeal.nD Cert.RopeFwdRefIdeal.τ Cert.RopeFwdRefIdeal.sig) → Buf (Elt Ideal) ℓ) (g : Dev Cert.RopeFwdRefIdeal.nD → PrngReg), Pre_RopeFwdRefIdeal m →
    θ_run (Cert.RopeFwdRefIdeal.defs (F := Ideal)) (onTc (τ := Cert.RopeFwdRefIdeal.τ) (Cert.RopeFwdRefIdeal.main (F := Ideal))) ⟨m, fun _ => 0, g⟩ (fun r => (∀ c : Dev Cert.RopeFwdRefIdeal.nD,
      r.2.mem ((c.tc : Thread Cert.RopeFwdRefIdeal.nD Cert.RopeFwdRefIdeal.τ).loc Cert.RopeFwdRefIdeal.main_arg0) = m ((c.tc : Thread Cert.RopeFwdRefIdeal.nD Cert.RopeFwdRefIdeal.τ).loc Cert.RopeFwdRefIdeal.main_arg0)
      ∧ r.2.mem ((c.tc : Thread Cert.RopeFwdRefIdeal.nD Cert.RopeFwdRefIdeal.τ).loc Cert.RopeFwdRefIdeal.main_arg1) = m ((c.tc : Thread Cert.RopeFwdRefIdeal.nD Cert.RopeFwdRefIdeal.τ).loc Cert.RopeFwdRefIdeal.main_arg1)
      ∧ r.2.mem ((c.tc : Thread Cert.RopeFwdRefIdeal.nD Cert.RopeFwdRefIdeal.τ).loc Cert.RopeFwdRefIdeal.main_arg2) = m ((c.tc : Thread Cert.RopeFwdRefIdeal.nD Cert.RopeFwdRefIdeal.τ).loc Cert.RopeFwdRefIdeal.main_arg2))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def quiescent_MmDw [hMmDw : Cert.MmDw.Facts] : Prop :=
  ∀ (m : (ℓ : Loc Cert.MmDw.nD Cert.MmDw.τ Cert.MmDw.sig) → Buf (Elt Bits) ℓ) (g : Dev Cert.MmDw.nD → PrngReg), Pre_MmDw m →
    θ_run (Cert.MmDw.defs (F := Bits)) (onTc (τ := Cert.MmDw.τ) (Cert.MmDw.main (F := Bits))) ⟨m, fun _ => 0, g⟩ (fun r => (∀ c : Dev Cert.MmDw.nD,
      r.2.mem ((c.tc : Thread Cert.MmDw.nD Cert.MmDw.τ).loc Cert.MmDw.main_arg0) = m ((c.tc : Thread Cert.MmDw.nD Cert.MmDw.τ).loc Cert.MmDw.main_arg0)
      ∧ r.2.mem ((c.tc : Thread Cert.MmDw.nD Cert.MmDw.τ).loc Cert.MmDw.main_arg1) = m ((c.tc : Thread Cert.MmDw.nD Cert.MmDw.τ).loc Cert.MmDw.main_arg1))
      ∧ r.2.sem = fun _ => 0)

def quiescent_MmDwIdeal [hMmDwIdeal : Cert.MmDwIdeal.Facts] : Prop :=
  ∀ (m : (ℓ : Loc Cert.MmDwIdeal.nD Cert.MmDwIdeal.τ Cert.MmDwIdeal.sig) → Buf (Elt Ideal) ℓ) (g : Dev Cert.MmDwIdeal.nD → PrngReg), Pre_MmDwIdeal m →
    θ_run (Cert.MmDwIdeal.defs (F := Ideal)) (onTc (τ := Cert.MmDwIdeal.τ) (Cert.MmDwIdeal.main (F := Ideal))) ⟨m, fun _ => 0, g⟩ (fun r => (∀ c : Dev Cert.MmDwIdeal.nD,
      r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
      ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ r.2.sem = fun _ => 0)

def quiescent_MmDwRefIdeal [hMmDwRefIdeal : Cert.MmDwRefIdeal.Facts] : Prop :=
  ∀ (m : (ℓ : Loc Cert.MmDwRefIdeal.nD Cert.MmDwRefIdeal.τ Cert.MmDwRefIdeal.sig) → Buf (Elt Ideal) ℓ) (g : Dev Cert.MmDwRefIdeal.nD → PrngReg), Pre_MmDwRefIdeal m →
    θ_run (Cert.MmDwRefIdeal.defs (F := Ideal)) (onTc (τ := Cert.MmDwRefIdeal.τ) (Cert.MmDwRefIdeal.main (F := Ideal))) ⟨m, fun _ => 0, g⟩ (fun r => (∀ c : Dev Cert.MmDwRefIdeal.nD,
      r.2.mem ((c.tc : Thread Cert.MmDwRefIdeal.nD Cert.MmDwRefIdeal.τ).loc Cert.MmDwRefIdeal.main_arg0) = m ((c.tc : Thread Cert.MmDwRefIdeal.nD Cert.MmDwRefIdeal.τ).loc Cert.MmDwRefIdeal.main_arg0)
      ∧ r.2.mem ((c.tc : Thread Cert.MmDwRefIdeal.nD Cert.MmDwRefIdeal.τ).loc Cert.MmDwRefIdeal.main_arg1) = m ((c.tc : Thread Cert.MmDwRefIdeal.nD Cert.MmDwRefIdeal.τ).loc Cert.MmDwRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_MmDh [hMmDh : Cert.MmDh.Facts] : Prop :=
  ∀ (m : (ℓ : Loc Cert.MmDh.nD Cert.MmDh.τ Cert.MmDh.sig) → Buf (Elt Bits) ℓ) (g : Dev Cert.MmDh.nD → PrngReg), Pre_MmDh m →
    θ_run (Cert.MmDh.defs (F := Bits)) (onTc (τ := Cert.MmDh.τ) (Cert.MmDh.main (F := Bits))) ⟨m, fun _ => 0, g⟩ (fun r => (∀ c : Dev Cert.MmDh.nD,
      r.2.mem ((c.tc : Thread Cert.MmDh.nD Cert.MmDh.τ).loc Cert.MmDh.main_arg0) = m ((c.tc : Thread Cert.MmDh.nD Cert.MmDh.τ).loc Cert.MmDh.main_arg0)
      ∧ r.2.mem ((c.tc : Thread Cert.MmDh.nD Cert.MmDh.τ).loc Cert.MmDh.main_arg1) = m ((c.tc : Thread Cert.MmDh.nD Cert.MmDh.τ).loc Cert.MmDh.main_arg1))
      ∧ r.2.sem = fun _ => 0)

def quiescent_MmDhIdeal [hMmDhIdeal : Cert.MmDhIdeal.Facts] : Prop :=
  ∀ (m : (ℓ : Loc Cert.MmDhIdeal.nD Cert.MmDhIdeal.τ Cert.MmDhIdeal.sig) → Buf (Elt Ideal) ℓ) (g : Dev Cert.MmDhIdeal.nD → PrngReg), Pre_MmDhIdeal m →
    θ_run (Cert.MmDhIdeal.defs (F := Ideal)) (onTc (τ := Cert.MmDhIdeal.τ) (Cert.MmDhIdeal.main (F := Ideal))) ⟨m, fun _ => 0, g⟩ (fun r => (∀ c : Dev Cert.MmDhIdeal.nD,
      r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
      ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1))
      ∧ r.2.sem = fun _ => 0)

def quiescent_MmDhRefIdeal [hMmDhRefIdeal : Cert.MmDhRefIdeal.Facts] : Prop :=
  ∀ (m : (ℓ : Loc Cert.MmDhRefIdeal.nD Cert.MmDhRefIdeal.τ Cert.MmDhRefIdeal.sig) → Buf (Elt Ideal) ℓ) (g : Dev Cert.MmDhRefIdeal.nD → PrngReg), Pre_MmDhRefIdeal m →
    θ_run (Cert.MmDhRefIdeal.defs (F := Ideal)) (onTc (τ := Cert.MmDhRefIdeal.τ) (Cert.MmDhRefIdeal.main (F := Ideal))) ⟨m, fun _ => 0, g⟩ (fun r => (∀ c : Dev Cert.MmDhRefIdeal.nD,
      r.2.mem ((c.tc : Thread Cert.MmDhRefIdeal.nD Cert.MmDhRefIdeal.τ).loc Cert.MmDhRefIdeal.main_arg0) = m ((c.tc : Thread Cert.MmDhRefIdeal.nD Cert.MmDhRefIdeal.τ).loc Cert.MmDhRefIdeal.main_arg0)
      ∧ r.2.mem ((c.tc : Thread Cert.MmDhRefIdeal.nD Cert.MmDhRefIdeal.τ).loc Cert.MmDhRefIdeal.main_arg1) = m ((c.tc : Thread Cert.MmDhRefIdeal.nD Cert.MmDhRefIdeal.τ).loc Cert.MmDhRefIdeal.main_arg1))
      ∧ r.2.sem = fun _ => 0)

def quiescent_AddPair [hAddPair : Cert.AddPair.Facts] : Prop :=
  ∀ (m : (ℓ : Loc Cert.AddPair.nD Cert.AddPair.τ Cert.AddPair.sig) → Buf (Elt Bits) ℓ) (g : Dev Cert.AddPair.nD → PrngReg), Pre_AddPair m →
    θ_run (Cert.AddPair.defs (F := Bits)) (onTc (τ := Cert.AddPair.τ) (Cert.AddPair.main (F := Bits))) ⟨m, fun _ => 0, g⟩ (fun r => (∀ c : Dev Cert.AddPair.nD,
      r.2.mem ((c.tc : Thread Cert.AddPair.nD Cert.AddPair.τ).loc Cert.AddPair.main_arg0) = m ((c.tc : Thread Cert.AddPair.nD Cert.AddPair.τ).loc Cert.AddPair.main_arg0)
      ∧ r.2.mem ((c.tc : Thread Cert.AddPair.nD Cert.AddPair.τ).loc Cert.AddPair.main_arg1) = m ((c.tc : Thread Cert.AddPair.nD Cert.AddPair.τ).loc Cert.AddPair.main_arg1)
      ∧ r.2.mem ((c.tc : Thread Cert.AddPair.nD Cert.AddPair.τ).loc Cert.AddPair.main_arg2) = m ((c.tc : Thread Cert.AddPair.nD Cert.AddPair.τ).loc Cert.AddPair.main_arg2))
      ∧ r.2.sem = fun _ => 0)

def quiescent_AddPairIdeal [hAddPairIdeal : Cert.AddPairIdeal.Facts] : Prop :=
  ∀ (m : (ℓ : Loc Cert.AddPairIdeal.nD Cert.AddPairIdeal.τ Cert.AddPairIdeal.sig) → Buf (Elt Ideal) ℓ) (g : Dev Cert.AddPairIdeal.nD → PrngReg), Pre_AddPairIdeal m →
    θ_run (Cert.AddPairIdeal.defs (F := Ideal)) (onTc (τ := Cert.AddPairIdeal.τ) (Cert.AddPairIdeal.main (F := Ideal))) ⟨m, fun _ => 0, g⟩ (fun r => (∀ c : Dev Cert.AddPairIdeal.nD,
      r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
      ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1)
      ∧ r.2.mem ((c.tc : Thread Cert.AddPairIdeal.nD Cert.AddPairIdeal.τ).loc Cert.AddPairIdeal.main_arg2) = m ((c.tc : Thread Cert.AddPairIdeal.nD Cert.AddPairIdeal.τ).loc Cert.AddPairIdeal.main_arg2))
      ∧ r.2.sem = fun _ => 0)

def quiescent_AddPairRefIdeal [hAddPairRefIdeal : Cert.AddPairRefIdeal.Facts] : Prop :=
  ∀ (m : (ℓ : Loc Cert.AddPairRefIdeal.nD Cert.AddPairRefIdeal.τ Cert.AddPairRefIdeal.sig) → Buf (Elt Ideal) ℓ) (g : Dev Cert.AddPairRefIdeal.nD → PrngReg), Pre_AddPairRefIdeal m →
    θ_run (Cert.AddPairRefIdeal.defs (F := Ideal)) (onTc (τ := Cert.AddPairRefIdeal.τ) (Cert.AddPairRefIdeal.main (F := Ideal))) ⟨m, fun _ => 0, g⟩ (fun r => (∀ c : Dev Cert.AddPairRefIdeal.nD,
      r.2.mem ((c.tc : Thread Cert.AddPairRefIdeal.nD Cert.AddPairRefIdeal.τ).loc Cert.AddPairRefIdeal.main_arg0) = m ((c.tc : Thread Cert.AddPairRefIdeal.nD Cert.AddPairRefIdeal.τ).loc Cert.AddPairRefIdeal.main_arg0)
      ∧ r.2.mem ((c.tc : Thread Cert.AddPairRefIdeal.nD Cert.AddPairRefIdeal.τ).loc Cert.AddPairRefIdeal.main_arg1) = m ((c.tc : Thread Cert.AddPairRefIdeal.nD Cert.AddPairRefIdeal.τ).loc Cert.AddPairRefIdeal.main_arg1)
      ∧ r.2.mem ((c.tc : Thread Cert.AddPairRefIdeal.nD Cert.AddPairRefIdeal.τ).loc Cert.AddPairRefIdeal.main_arg2) = m ((c.tc : Thread Cert.AddPairRefIdeal.nD Cert.AddPairRefIdeal.τ).loc Cert.AddPairRefIdeal.main_arg2))
      ∧ r.2.sem = fun _ => 0)

def quiescent_AddChips [hAddChips : Cert.AddChips.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0)
      ∧ r.2.mem ((c.tc : Thread Cert.AddChips.nD Cert.AddChips.τ).loc Cert.AddChips.main_arg1) = m ((c.tc : Thread Cert.AddChips.nD Cert.AddChips.τ).loc Cert.AddChips.main_arg1)
      ∧ r.2.mem ((c.tc : Thread Cert.AddChips.nD Cert.AddChips.τ).loc Cert.AddChips.main_arg2) = m ((c.tc : Thread Cert.AddChips.nD Cert.AddChips.τ).loc Cert.AddChips.main_arg2))
      ∧ r.2.sem = fun _ => 0)

def quiescent_AddChipsIdeal [hAddChipsIdeal : Cert.AddChipsIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
      ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
      ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0)
      ∧ r.2.mem ((c.tc : Thread Cert.AddChipsRefIdeal.nD Cert.AddChipsRefIdeal.τ).loc Cert.AddChipsRefIdeal.main_arg1) = m ((c.tc : Thread Cert.AddChipsRefIdeal.nD Cert.AddChipsRefIdeal.τ).loc Cert.AddChipsRefIdeal.main_arg1)
      ∧ r.2.mem ((c.tc : Thread Cert.AddChipsRefIdeal.nD Cert.AddChipsRefIdeal.τ).loc Cert.AddChipsRefIdeal.main_arg2) = m ((c.tc : Thread Cert.AddChipsRefIdeal.nD Cert.AddChipsRefIdeal.τ).loc Cert.AddChipsRefIdeal.main_arg2))
      ∧ r.2.sem = fun _ => 0)

def preserves_GateMul_GateMulIdeal : Prop :=
  True

def algebraic_GateMulIdeal_GateMulRefIdeal_pre_gate_mul_finite [hGateMulIdeal : Cert.GateMulIdeal.Facts] [hGateMulRefIdeal : Cert.GateMulRefIdeal.Facts] [hPre_gate_mul_finite : Cert.Pre_gate_mul_finite.Facts] : Prop :=
  ∀ (m : (ℓ : Loc Cert.GateMulIdeal.nD Cert.GateMulIdeal.τ Cert.GateMulIdeal.sig) → Buf (Elt Ideal) ℓ) (g : Dev Cert.GateMulIdeal.nD → PrngReg)
    (m' : (ℓ : Loc Cert.GateMulRefIdeal.nD Cert.GateMulRefIdeal.τ Cert.GateMulRefIdeal.sig) → Buf (Elt Ideal) ℓ) (g' : Dev Cert.GateMulRefIdeal.nD → PrngReg), Pre_GateMulIdeal_gate_mul_finite m →
    (∀ c : Dev Cert.GateMulIdeal.nD,
      m' ((c.tc : Thread Cert.GateMulRefIdeal.nD Cert.GateMulRefIdeal.τ).loc Cert.GateMulRefIdeal.main_arg0) = m ((c.tc : Thread Cert.GateMulIdeal.nD Cert.GateMulIdeal.τ).loc Cert.GateMulIdeal.main_arg0)
      ∧ m' ((c.tc : Thread Cert.GateMulRefIdeal.nD Cert.GateMulRefIdeal.τ).loc Cert.GateMulRefIdeal.main_arg1) = m ((c.tc : Thread Cert.GateMulIdeal.nD Cert.GateMulIdeal.τ).loc Cert.GateMulIdeal.main_arg1)
      ∧ m' ((c.tc : Thread Cert.GateMulRefIdeal.nD Cert.GateMulRefIdeal.τ).loc Cert.GateMulRefIdeal.main_arg2) = m ((c.tc : Thread Cert.GateMulIdeal.nD Cert.GateMulIdeal.τ).loc Cert.GateMulIdeal.main_arg2)) →
    ∃ (v0 : (c : Dev Cert.GateMulIdeal.nD) → Buf (Elt Ideal) ((c.tc : Thread Cert.GateMulIdeal.nD Cert.GateMulIdeal.τ).loc Cert.GateMulIdeal.main_v3_0)) (v1 : (c : Dev Cert.GateMulIdeal.nD) → Buf (Elt Ideal) ((c.tc : Thread Cert.GateMulIdeal.nD Cert.GateMulIdeal.τ).loc Cert.GateMulIdeal.main_v3_1)),
      θ_run (Cert.GateMulIdeal.defs (F := Ideal)) (onTc (τ := Cert.GateMulIdeal.τ) (Cert.GateMulIdeal.main (F := Ideal))) ⟨m, fun _ => 0, g⟩ (fun r => ∀ c : Dev Cert.GateMulIdeal.nD,
          r.2.mem ((c.tc : Thread Cert.GateMulIdeal.nD Cert.GateMulIdeal.τ).loc Cert.GateMulIdeal.main_v3_0) = v0 c
          ∧ r.2.mem ((c.tc : Thread Cert.GateMulIdeal.nD Cert.GateMulIdeal.τ).loc Cert.GateMulIdeal.main_v3_1) = v1 c
          ∧ r.2.mem ((c.tc : Thread Cert.GateMulIdeal.nD Cert.GateMulIdeal.τ).loc Cert.GateMulIdeal.main_arg0) = m ((c.tc : Thread Cert.GateMulIdeal.nD Cert.GateMulIdeal.τ).loc Cert.GateMulIdeal.main_arg0)
          ∧ r.2.mem ((c.tc : Thread Cert.GateMulIdeal.nD Cert.GateMulIdeal.τ).loc Cert.GateMulIdeal.main_arg1) = m ((c.tc : Thread Cert.GateMulIdeal.nD Cert.GateMulIdeal.τ).loc Cert.GateMulIdeal.main_arg1)
          ∧ r.2.mem ((c.tc : Thread Cert.GateMulIdeal.nD Cert.GateMulIdeal.τ).loc Cert.GateMulIdeal.main_arg2) = m ((c.tc : Thread Cert.GateMulIdeal.nD Cert.GateMulIdeal.τ).loc Cert.GateMulIdeal.main_arg2))
      ∧ θ_run (Cert.GateMulRefIdeal.defs (F := Ideal)) (onTc (τ := Cert.GateMulRefIdeal.τ) (Cert.GateMulRefIdeal.main (F := Ideal))) ⟨m', fun _ => 0, g'⟩ (fun r => ∀ c : Dev Cert.GateMulRefIdeal.nD,
          r.2.mem ((c.tc : Thread Cert.GateMulRefIdeal.nD Cert.GateMulRefIdeal.τ).loc Cert.GateMulRefIdeal.main_v5) = v0 c
          ∧ r.2.mem ((c.tc : Thread Cert.GateMulRefIdeal.nD Cert.GateMulRefIdeal.τ).loc Cert.GateMulRefIdeal.main_v6) = v1 c
          ∧ r.2.mem ((c.tc : Thread Cert.GateMulRefIdeal.nD Cert.GateMulRefIdeal.τ).loc Cert.GateMulRefIdeal.main_arg0) = m' ((c.tc : Thread Cert.GateMulRefIdeal.nD Cert.GateMulRefIdeal.τ).loc Cert.GateMulRefIdeal.main_arg0)
          ∧ r.2.mem ((c.tc : Thread Cert.GateMulRefIdeal.nD Cert.GateMulRefIdeal.τ).loc Cert.GateMulRefIdeal.main_arg1) = m' ((c.tc : Thread Cert.GateMulRefIdeal.nD Cert.GateMulRefIdeal.τ).loc Cert.GateMulRefIdeal.main_arg1)
          ∧ r.2.mem ((c.tc : Thread Cert.GateMulRefIdeal.nD Cert.GateMulRefIdeal.τ).loc Cert.GateMulRefIdeal.main_arg2) = m' ((c.tc : Thread Cert.GateMulRefIdeal.nD Cert.GateMulRefIdeal.τ).loc Cert.GateMulRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v51_0)) (v1 : (c : Dev Cert.AttnIdeal.nD) → Buf (Elt Ideal) ((c.tc : Thread Cert.AttnIdeal.nD Cert.AttnIdeal.τ).loc Cert.AttnIdeal.main_v51_1)) (v2 : (c : Dev Cert.AttnIdeal.nD) → Buf (Elt Ideal) ((c.tc : Thread Cert.AttnIdeal.nD Cert.AttnIdeal.τ).loc Cert.AttnIdeal.main_v51_2)) (v3 : (c : Dev Cert.AttnIdeal.nD) → Buf (Elt Ideal) ((c.tc : Thread Cert.AttnIdeal.nD Cert.AttnIdeal.τ).loc Cert.AttnIdeal.main_v51_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v51_0) = v0 c
          ∧ r.2.mem ((c.tc : Thread Cert.AttnIdeal.nD Cert.AttnIdeal.τ).loc Cert.AttnIdeal.main_v51_1) = v1 c
          ∧ r.2.mem ((c.tc : Thread Cert.AttnIdeal.nD Cert.AttnIdeal.τ).loc Cert.AttnIdeal.main_v51_2) = v2 c
          ∧ r.2.mem ((c.tc : Thread Cert.AttnIdeal.nD Cert.AttnIdeal.τ).loc Cert.AttnIdeal.main_v51_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_v71) = v2 c
          ∧ r.2.mem ((c.tc : Thread Cert.AttnRefIdeal.nD Cert.AttnRefIdeal.τ).loc Cert.AttnRefIdeal.main_v72) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Mod_ModIdeal : Prop :=
  True

def algebraic_ModIdeal_ModRefIdeal_pre_modulate_finite [hModIdeal : Cert.ModIdeal.Facts] [hModRefIdeal : Cert.ModRefIdeal.Facts] [hPre_modulate_finite : Cert.Pre_modulate_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_modulate_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)) →
    ∃ (v0 : (c : Dev Cert.ModIdeal.nD) → Buf (Elt Ideal) ((c.tc : Thread Cert.ModIdeal.nD Cert.ModIdeal.τ).loc Cert.ModIdeal.main_v3_0)) (v1 : (c : Dev Cert.ModIdeal.nD) → Buf (Elt Ideal) ((c.tc : Thread Cert.ModIdeal.nD Cert.ModIdeal.τ).loc Cert.ModIdeal.main_v3_1)) (v2 : (c : Dev Cert.ModIdeal.nD) → Buf (Elt Ideal) ((c.tc : Thread Cert.ModIdeal.nD Cert.ModIdeal.τ).loc Cert.ModIdeal.main_v3_2)) (v3 : (c : Dev Cert.ModIdeal.nD) → Buf (Elt Ideal) ((c.tc : Thread Cert.ModIdeal.nD Cert.ModIdeal.τ).loc Cert.ModIdeal.main_v3_3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3_0) = v0 c
          ∧ r.2.mem ((c.tc : Thread Cert.ModIdeal.nD Cert.ModIdeal.τ).loc Cert.ModIdeal.main_v3_1) = v1 c
          ∧ r.2.mem ((c.tc : Thread Cert.ModIdeal.nD Cert.ModIdeal.τ).loc Cert.ModIdeal.main_v3_2) = v2 c
          ∧ r.2.mem ((c.tc : Thread Cert.ModIdeal.nD Cert.ModIdeal.τ).loc Cert.ModIdeal.main_v3_3) = v3 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v57) = v0 c
          ∧ r.2.mem ((c.tc : Thread Cert.ModRefIdeal.nD Cert.ModRefIdeal.τ).loc Cert.ModRefIdeal.main_v58) = v1 c
          ∧ r.2.mem ((c.tc : Thread Cert.ModRefIdeal.nD Cert.ModRefIdeal.τ).loc Cert.ModRefIdeal.main_v35) = v2 c
          ∧ r.2.mem ((c.tc : Thread Cert.ModRefIdeal.nD Cert.ModRefIdeal.τ).loc Cert.ModRefIdeal.main_v28) = v3 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4))

def preserves_Rms_RmsIdeal : Prop :=
  True

def algebraic_RmsIdeal_RmsRefIdeal_pre_rms_finite [hRmsIdeal : Cert.RmsIdeal.Facts] [hRmsRefIdeal : Cert.RmsRefIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_rms_finite m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)) →
    ∃ (v0 : (c : Dev Cert.RmsIdeal.nD) → Buf (Elt Ideal) ((c.tc : Thread Cert.RmsIdeal.nD Cert.RmsIdeal.τ).loc Cert.RmsIdeal.main_v5_0)) (v1 : (c : Dev Cert.RmsIdeal.nD) → Buf (Elt Ideal) ((c.tc : Thread Cert.RmsIdeal.nD Cert.RmsIdeal.τ).loc Cert.RmsIdeal.main_v5_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v5_0) = v0 c
          ∧ r.2.mem ((c.tc : Thread Cert.RmsIdeal.nD Cert.RmsIdeal.τ).loc Cert.RmsIdeal.main_v5_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v37) = v0 c
          ∧ r.2.mem ((c.tc : Thread Cert.RmsRefIdeal.nD Cert.RmsRefIdeal.τ).loc Cert.RmsRefIdeal.main_v38) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v2_0)) (v1 : (c : Dev Cert.ResIdeal.nD) → Buf (Elt Ideal) ((c.tc : Thread Cert.ResIdeal.nD Cert.ResIdeal.τ).loc Cert.ResIdeal.main_v2_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v2_0) = v0 c
          ∧ r.2.mem ((c.tc : Thread Cert.ResIdeal.nD Cert.ResIdeal.τ).loc Cert.ResIdeal.main_v2_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v12) = v0 c
          ∧ r.2.mem ((c.tc : Thread Cert.ResRefIdeal.nD Cert.ResRefIdeal.τ).loc Cert.ResRefIdeal.main_v10) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_GateAct_GateActIdeal : Prop :=
  True

def algebraic_GateActIdeal_GateActRefIdeal_pre_gateact_finite [hGateActIdeal : Cert.GateActIdeal.Facts] [hGateActRefIdeal : Cert.GateActRefIdeal.Facts] [hPre_gateact_finite : Cert.Pre_gateact_finite.Facts] : Prop :=
  ∀ (m : (ℓ : Loc Cert.GateActIdeal.nD Cert.GateActIdeal.τ Cert.GateActIdeal.sig) → Buf (Elt Ideal) ℓ) (g : Dev Cert.GateActIdeal.nD → PrngReg)
    (m' : (ℓ : Loc Cert.GateActRefIdeal.nD Cert.GateActRefIdeal.τ Cert.GateActRefIdeal.sig) → Buf (Elt Ideal) ℓ) (g' : Dev Cert.GateActRefIdeal.nD → PrngReg), Pre_GateActIdeal_gateact_finite m →
    (∀ c : Dev Cert.GateActIdeal.nD,
      m' ((c.tc : Thread Cert.GateActRefIdeal.nD Cert.GateActRefIdeal.τ).loc Cert.GateActRefIdeal.main_arg0) = m ((c.tc : Thread Cert.GateActIdeal.nD Cert.GateActIdeal.τ).loc Cert.GateActIdeal.main_arg0)
      ∧ m' ((c.tc : Thread Cert.GateActRefIdeal.nD Cert.GateActRefIdeal.τ).loc Cert.GateActRefIdeal.main_arg1) = m ((c.tc : Thread Cert.GateActIdeal.nD Cert.GateActIdeal.τ).loc Cert.GateActIdeal.main_arg1)
      ∧ m' ((c.tc : Thread Cert.GateActRefIdeal.nD Cert.GateActRefIdeal.τ).loc Cert.GateActRefIdeal.main_arg2) = m ((c.tc : Thread Cert.GateActIdeal.nD Cert.GateActIdeal.τ).loc Cert.GateActIdeal.main_arg2)
      ∧ m' ((c.tc : Thread Cert.GateActRefIdeal.nD Cert.GateActRefIdeal.τ).loc Cert.GateActRefIdeal.main_arg3) = m ((c.tc : Thread Cert.GateActIdeal.nD Cert.GateActIdeal.τ).loc Cert.GateActIdeal.main_arg3)) →
    ∃ (v0 : (c : Dev Cert.GateActIdeal.nD) → Buf (Elt Ideal) ((c.tc : Thread Cert.GateActIdeal.nD Cert.GateActIdeal.τ).loc Cert.GateActIdeal.main_v2_0)) (v1 : (c : Dev Cert.GateActIdeal.nD) → Buf (Elt Ideal) ((c.tc : Thread Cert.GateActIdeal.nD Cert.GateActIdeal.τ).loc Cert.GateActIdeal.main_v2_1)),
      θ_run (Cert.GateActIdeal.defs (F := Ideal)) (onTc (τ := Cert.GateActIdeal.τ) (Cert.GateActIdeal.main (F := Ideal))) ⟨m, fun _ => 0, g⟩ (fun r => ∀ c : Dev Cert.GateActIdeal.nD,
          r.2.mem ((c.tc : Thread Cert.GateActIdeal.nD Cert.GateActIdeal.τ).loc Cert.GateActIdeal.main_v2_0) = v0 c
          ∧ r.2.mem ((c.tc : Thread Cert.GateActIdeal.nD Cert.GateActIdeal.τ).loc Cert.GateActIdeal.main_v2_1) = v1 c
          ∧ r.2.mem ((c.tc : Thread Cert.GateActIdeal.nD Cert.GateActIdeal.τ).loc Cert.GateActIdeal.main_arg0) = m ((c.tc : Thread Cert.GateActIdeal.nD Cert.GateActIdeal.τ).loc Cert.GateActIdeal.main_arg0)
          ∧ r.2.mem ((c.tc : Thread Cert.GateActIdeal.nD Cert.GateActIdeal.τ).loc Cert.GateActIdeal.main_arg1) = m ((c.tc : Thread Cert.GateActIdeal.nD Cert.GateActIdeal.τ).loc Cert.GateActIdeal.main_arg1)
          ∧ r.2.mem ((c.tc : Thread Cert.GateActIdeal.nD Cert.GateActIdeal.τ).loc Cert.GateActIdeal.main_arg2) = m ((c.tc : Thread Cert.GateActIdeal.nD Cert.GateActIdeal.τ).loc Cert.GateActIdeal.main_arg2)
          ∧ r.2.mem ((c.tc : Thread Cert.GateActIdeal.nD Cert.GateActIdeal.τ).loc Cert.GateActIdeal.main_arg3) = m ((c.tc : Thread Cert.GateActIdeal.nD Cert.GateActIdeal.τ).loc Cert.GateActIdeal.main_arg3))
      ∧ θ_run (Cert.GateActRefIdeal.defs (F := Ideal)) (onTc (τ := Cert.GateActRefIdeal.τ) (Cert.GateActRefIdeal.main (F := Ideal))) ⟨m', fun _ => 0, g'⟩ (fun r => ∀ c : Dev Cert.GateActRefIdeal.nD,
          r.2.mem ((c.tc : Thread Cert.GateActRefIdeal.nD Cert.GateActRefIdeal.τ).loc Cert.GateActRefIdeal.main_v29) = v0 c
          ∧ r.2.mem ((c.tc : Thread Cert.GateActRefIdeal.nD Cert.GateActRefIdeal.τ).loc Cert.GateActRefIdeal.main_v31) = v1 c
          ∧ r.2.mem ((c.tc : Thread Cert.GateActRefIdeal.nD Cert.GateActRefIdeal.τ).loc Cert.GateActRefIdeal.main_arg0) = m' ((c.tc : Thread Cert.GateActRefIdeal.nD Cert.GateActRefIdeal.τ).loc Cert.GateActRefIdeal.main_arg0)
          ∧ r.2.mem ((c.tc : Thread Cert.GateActRefIdeal.nD Cert.GateActRefIdeal.τ).loc Cert.GateActRefIdeal.main_arg1) = m' ((c.tc : Thread Cert.GateActRefIdeal.nD Cert.GateActRefIdeal.τ).loc Cert.GateActRefIdeal.main_arg1)
          ∧ r.2.mem ((c.tc : Thread Cert.GateActRefIdeal.nD Cert.GateActRefIdeal.τ).loc Cert.GateActRefIdeal.main_arg2) = m' ((c.tc : Thread Cert.GateActRefIdeal.nD Cert.GateActRefIdeal.τ).loc Cert.GateActRefIdeal.main_arg2)
          ∧ r.2.mem ((c.tc : Thread Cert.GateActRefIdeal.nD Cert.GateActRefIdeal.τ).loc Cert.GateActRefIdeal.main_arg3) = m' ((c.tc : Thread Cert.GateActRefIdeal.nD Cert.GateActRefIdeal.τ).loc Cert.GateActRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2_1)) (v1 : (c : Dev Cert.LossIdeal.nD) → Buf (Elt Ideal) ((c.tc : Thread Cert.LossIdeal.nD Cert.LossIdeal.τ).loc Cert.LossIdeal.main_v2_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_1) = v0 c
          ∧ r.2.mem ((c.tc : Thread Cert.LossIdeal.nD Cert.LossIdeal.τ).loc Cert.LossIdeal.main_v2_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v6_0)) (v1 : (c : Dev Cert.ConvIdeal.nD) → Buf (Elt Ideal) ((c.tc : Thread Cert.ConvIdeal.nD Cert.ConvIdeal.τ).loc Cert.ConvIdeal.main_v6_1)) (v2 : (c : Dev Cert.ConvIdeal.nD) → Buf (Elt Ideal) ((c.tc : Thread Cert.ConvIdeal.nD Cert.ConvIdeal.τ).loc Cert.ConvIdeal.main_v6_2)) (v3 : (c : Dev Cert.ConvIdeal.nD) → Buf (Elt Ideal) ((c.tc : Thread Cert.ConvIdeal.nD Cert.ConvIdeal.τ).loc Cert.ConvIdeal.main_v6_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_0) = v0 c
          ∧ r.2.mem ((c.tc : Thread Cert.ConvIdeal.nD Cert.ConvIdeal.τ).loc Cert.ConvIdeal.main_v6_1) = v1 c
          ∧ r.2.mem ((c.tc : Thread Cert.ConvIdeal.nD Cert.ConvIdeal.τ).loc Cert.ConvIdeal.main_v6_2) = v2 c
          ∧ r.2.mem ((c.tc : Thread Cert.ConvIdeal.nD Cert.ConvIdeal.τ).loc Cert.ConvIdeal.main_v6_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v64) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_v66) = v2 c
          ∧ r.2.mem ((c.tc : Thread Cert.ConvRefIdeal.nD Cert.ConvRefIdeal.τ).loc Cert.ConvRefIdeal.main_v67) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v23)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v23) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v29) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_AttnFwd_AttnFwdIdeal : Prop :=
  True

def algebraic_AttnFwdIdeal_AttnFwdRefIdeal_pre_attnfwd_finite [hAttnFwdIdeal : Cert.AttnFwdIdeal.Facts] [hAttnFwdRefIdeal : Cert.AttnFwdRefIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnfwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v15_0)) (v1 : (c : Dev Cert.AttnFwdIdeal.nD) → Buf (Elt Ideal) ((c.tc : Thread Cert.AttnFwdIdeal.nD Cert.AttnFwdIdeal.τ).loc Cert.AttnFwdIdeal.main_v15_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v15_0) = v0 c
          ∧ r.2.mem ((c.tc : Thread Cert.AttnFwdIdeal.nD Cert.AttnFwdIdeal.τ).loc Cert.AttnFwdIdeal.main_v15_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v19) = v0 c
          ∧ r.2.mem ((c.tc : Thread Cert.AttnFwdRefIdeal.nD Cert.AttnFwdRefIdeal.τ).loc Cert.AttnFwdRefIdeal.main_v34) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)
      ∧ m' ((c.tc : Thread Cert.ModFwdRefIdeal.nD Cert.ModFwdRefIdeal.τ).loc Cert.ModFwdRefIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v2)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v2) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v22) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2)
          ∧ r.2.mem ((c.tc : Thread Cert.ModFwdRefIdeal.nD Cert.ModFwdRefIdeal.τ).loc Cert.ModFwdRefIdeal.main_arg3) = m' ((c.tc : Thread Cert.ModFwdRefIdeal.nD Cert.ModFwdRefIdeal.τ).loc Cert.ModFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v3)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v3) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_GateMulFwd_GateMulFwdIdeal : Prop :=
  True

def algebraic_GateMulFwdIdeal_GateMulFwdRefIdeal [hGateMulFwdIdeal : Cert.GateMulFwdIdeal.Facts] [hGateMulFwdRefIdeal : Cert.GateMulFwdRefIdeal.Facts] : Prop :=
  ∀ (m : (ℓ : Loc Cert.GateMulFwdIdeal.nD Cert.GateMulFwdIdeal.τ Cert.GateMulFwdIdeal.sig) → Buf (Elt Ideal) ℓ) (g : Dev Cert.GateMulFwdIdeal.nD → PrngReg)
    (m' : (ℓ : Loc Cert.GateMulFwdRefIdeal.nD Cert.GateMulFwdRefIdeal.τ Cert.GateMulFwdRefIdeal.sig) → Buf (Elt Ideal) ℓ) (g' : Dev Cert.GateMulFwdRefIdeal.nD → PrngReg), Pre_GateMulFwdIdeal m →
    (∀ c : Dev Cert.GateMulFwdIdeal.nD,
      m' ((c.tc : Thread Cert.GateMulFwdRefIdeal.nD Cert.GateMulFwdRefIdeal.τ).loc Cert.GateMulFwdRefIdeal.main_arg0) = m ((c.tc : Thread Cert.GateMulFwdIdeal.nD Cert.GateMulFwdIdeal.τ).loc Cert.GateMulFwdIdeal.main_arg0)
      ∧ m' ((c.tc : Thread Cert.GateMulFwdRefIdeal.nD Cert.GateMulFwdRefIdeal.τ).loc Cert.GateMulFwdRefIdeal.main_arg1) = m ((c.tc : Thread Cert.GateMulFwdIdeal.nD Cert.GateMulFwdIdeal.τ).loc Cert.GateMulFwdIdeal.main_arg1)) →
    ∃ (v0 : (c : Dev Cert.GateMulFwdIdeal.nD) → Buf (Elt Ideal) ((c.tc : Thread Cert.GateMulFwdIdeal.nD Cert.GateMulFwdIdeal.τ).loc Cert.GateMulFwdIdeal.main_v2)),
      θ_run (Cert.GateMulFwdIdeal.defs (F := Ideal)) (onTc (τ := Cert.GateMulFwdIdeal.τ) (Cert.GateMulFwdIdeal.main (F := Ideal))) ⟨m, fun _ => 0, g⟩ (fun r => ∀ c : Dev Cert.GateMulFwdIdeal.nD,
          r.2.mem ((c.tc : Thread Cert.GateMulFwdIdeal.nD Cert.GateMulFwdIdeal.τ).loc Cert.GateMulFwdIdeal.main_v2) = v0 c
          ∧ r.2.mem ((c.tc : Thread Cert.GateMulFwdIdeal.nD Cert.GateMulFwdIdeal.τ).loc Cert.GateMulFwdIdeal.main_arg0) = m ((c.tc : Thread Cert.GateMulFwdIdeal.nD Cert.GateMulFwdIdeal.τ).loc Cert.GateMulFwdIdeal.main_arg0)
          ∧ r.2.mem ((c.tc : Thread Cert.GateMulFwdIdeal.nD Cert.GateMulFwdIdeal.τ).loc Cert.GateMulFwdIdeal.main_arg1) = m ((c.tc : Thread Cert.GateMulFwdIdeal.nD Cert.GateMulFwdIdeal.τ).loc Cert.GateMulFwdIdeal.main_arg1))
      ∧ θ_run (Cert.GateMulFwdRefIdeal.defs (F := Ideal)) (onTc (τ := Cert.GateMulFwdRefIdeal.τ) (Cert.GateMulFwdRefIdeal.main (F := Ideal))) ⟨m', fun _ => 0, g'⟩ (fun r => ∀ c : Dev Cert.GateMulFwdRefIdeal.nD,
          r.2.mem ((c.tc : Thread Cert.GateMulFwdRefIdeal.nD Cert.GateMulFwdRefIdeal.τ).loc Cert.GateMulFwdRefIdeal.main_v3) = v0 c
          ∧ r.2.mem ((c.tc : Thread Cert.GateMulFwdRefIdeal.nD Cert.GateMulFwdRefIdeal.τ).loc Cert.GateMulFwdRefIdeal.main_arg0) = m' ((c.tc : Thread Cert.GateMulFwdRefIdeal.nD Cert.GateMulFwdRefIdeal.τ).loc Cert.GateMulFwdRefIdeal.main_arg0)
          ∧ r.2.mem ((c.tc : Thread Cert.GateMulFwdRefIdeal.nD Cert.GateMulFwdRefIdeal.τ).loc Cert.GateMulFwdRefIdeal.main_arg1) = m' ((c.tc : Thread Cert.GateMulFwdRefIdeal.nD Cert.GateMulFwdRefIdeal.τ).loc Cert.GateMulFwdRefIdeal.main_arg1))

def preserves_GateActFwd_GateActFwdIdeal : Prop :=
  True

def algebraic_GateActFwdIdeal_GateActFwdRefIdeal [hGateActFwdIdeal : Cert.GateActFwdIdeal.Facts] [hGateActFwdRefIdeal : Cert.GateActFwdRefIdeal.Facts] : Prop :=
  ∀ (m : (ℓ : Loc Cert.GateActFwdIdeal.nD Cert.GateActFwdIdeal.τ Cert.GateActFwdIdeal.sig) → Buf (Elt Ideal) ℓ) (g : Dev Cert.GateActFwdIdeal.nD → PrngReg)
    (m' : (ℓ : Loc Cert.GateActFwdRefIdeal.nD Cert.GateActFwdRefIdeal.τ Cert.GateActFwdRefIdeal.sig) → Buf (Elt Ideal) ℓ) (g' : Dev Cert.GateActFwdRefIdeal.nD → PrngReg), Pre_GateActFwdIdeal m →
    (∀ c : Dev Cert.GateActFwdIdeal.nD,
      m' ((c.tc : Thread Cert.GateActFwdRefIdeal.nD Cert.GateActFwdRefIdeal.τ).loc Cert.GateActFwdRefIdeal.main_arg0) = m ((c.tc : Thread Cert.GateActFwdIdeal.nD Cert.GateActFwdIdeal.τ).loc Cert.GateActFwdIdeal.main_arg0)
      ∧ m' ((c.tc : Thread Cert.GateActFwdRefIdeal.nD Cert.GateActFwdRefIdeal.τ).loc Cert.GateActFwdRefIdeal.main_arg1) = m ((c.tc : Thread Cert.GateActFwdIdeal.nD Cert.GateActFwdIdeal.τ).loc Cert.GateActFwdIdeal.main_arg1)
      ∧ m' ((c.tc : Thread Cert.GateActFwdRefIdeal.nD Cert.GateActFwdRefIdeal.τ).loc Cert.GateActFwdRefIdeal.main_arg2) = m ((c.tc : Thread Cert.GateActFwdIdeal.nD Cert.GateActFwdIdeal.τ).loc Cert.GateActFwdIdeal.main_arg2)) →
    ∃ (v0 : (c : Dev Cert.GateActFwdIdeal.nD) → Buf (Elt Ideal) ((c.tc : Thread Cert.GateActFwdIdeal.nD Cert.GateActFwdIdeal.τ).loc Cert.GateActFwdIdeal.main_v2)),
      θ_run (Cert.GateActFwdIdeal.defs (F := Ideal)) (onTc (τ := Cert.GateActFwdIdeal.τ) (Cert.GateActFwdIdeal.main (F := Ideal))) ⟨m, fun _ => 0, g⟩ (fun r => ∀ c : Dev Cert.GateActFwdIdeal.nD,
          r.2.mem ((c.tc : Thread Cert.GateActFwdIdeal.nD Cert.GateActFwdIdeal.τ).loc Cert.GateActFwdIdeal.main_v2) = v0 c
          ∧ r.2.mem ((c.tc : Thread Cert.GateActFwdIdeal.nD Cert.GateActFwdIdeal.τ).loc Cert.GateActFwdIdeal.main_arg0) = m ((c.tc : Thread Cert.GateActFwdIdeal.nD Cert.GateActFwdIdeal.τ).loc Cert.GateActFwdIdeal.main_arg0)
          ∧ r.2.mem ((c.tc : Thread Cert.GateActFwdIdeal.nD Cert.GateActFwdIdeal.τ).loc Cert.GateActFwdIdeal.main_arg1) = m ((c.tc : Thread Cert.GateActFwdIdeal.nD Cert.GateActFwdIdeal.τ).loc Cert.GateActFwdIdeal.main_arg1)
          ∧ r.2.mem ((c.tc : Thread Cert.GateActFwdIdeal.nD Cert.GateActFwdIdeal.τ).loc Cert.GateActFwdIdeal.main_arg2) = m ((c.tc : Thread Cert.GateActFwdIdeal.nD Cert.GateActFwdIdeal.τ).loc Cert.GateActFwdIdeal.main_arg2))
      ∧ θ_run (Cert.GateActFwdRefIdeal.defs (F := Ideal)) (onTc (τ := Cert.GateActFwdRefIdeal.τ) (Cert.GateActFwdRefIdeal.main (F := Ideal))) ⟨m', fun _ => 0, g'⟩ (fun r => ∀ c : Dev Cert.GateActFwdRefIdeal.nD,
          r.2.mem ((c.tc : Thread Cert.GateActFwdRefIdeal.nD Cert.GateActFwdRefIdeal.τ).loc Cert.GateActFwdRefIdeal.main_v14) = v0 c
          ∧ r.2.mem ((c.tc : Thread Cert.GateActFwdRefIdeal.nD Cert.GateActFwdRefIdeal.τ).loc Cert.GateActFwdRefIdeal.main_arg0) = m' ((c.tc : Thread Cert.GateActFwdRefIdeal.nD Cert.GateActFwdRefIdeal.τ).loc Cert.GateActFwdRefIdeal.main_arg0)
          ∧ r.2.mem ((c.tc : Thread Cert.GateActFwdRefIdeal.nD Cert.GateActFwdRefIdeal.τ).loc Cert.GateActFwdRefIdeal.main_arg1) = m' ((c.tc : Thread Cert.GateActFwdRefIdeal.nD Cert.GateActFwdRefIdeal.τ).loc Cert.GateActFwdRefIdeal.main_arg1)
          ∧ r.2.mem ((c.tc : Thread Cert.GateActFwdRefIdeal.nD Cert.GateActFwdRefIdeal.τ).loc Cert.GateActFwdRefIdeal.main_arg2) = m' ((c.tc : Thread Cert.GateActFwdRefIdeal.nD Cert.GateActFwdRefIdeal.τ).loc Cert.GateActFwdRefIdeal.main_arg2))

def preserves_ResFwd_ResFwdIdeal : Prop :=
  True

def algebraic_ResFwdIdeal_ResFwdRefIdeal [hResFwdIdeal : Cert.ResFwdIdeal.Facts] [hResFwdRefIdeal : Cert.ResFwdRefIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdRefIdeal.nD Cert.ResFwdRefIdeal.τ Cert.ResFwdRefIdeal.sig) → Buf (Elt Ideal) ℓ) (g' : Dev Cert.ResFwdRefIdeal.nD → PrngReg), Pre_ResFwdIdeal m →
    (∀ c : Dev Cert.ResFwdIdeal.nD,
      m' ((c.tc : Thread Cert.ResFwdRefIdeal.nD Cert.ResFwdRefIdeal.τ).loc Cert.ResFwdRefIdeal.main_arg0) = m ((c.tc : Thread Cert.ResFwdIdeal.nD Cert.ResFwdIdeal.τ).loc Cert.ResFwdIdeal.main_arg0)
      ∧ m' ((c.tc : Thread Cert.ResFwdRefIdeal.nD Cert.ResFwdRefIdeal.τ).loc Cert.ResFwdRefIdeal.main_arg1) = m ((c.tc : Thread Cert.ResFwdIdeal.nD Cert.ResFwdIdeal.τ).loc Cert.ResFwdIdeal.main_arg1)
      ∧ m' ((c.tc : Thread Cert.ResFwdRefIdeal.nD Cert.ResFwdRefIdeal.τ).loc Cert.ResFwdRefIdeal.main_arg2) = m ((c.tc : Thread Cert.ResFwdIdeal.nD Cert.ResFwdIdeal.τ).loc Cert.ResFwdIdeal.main_arg2)) →
    ∃ (v0 : (c : Dev Cert.ResFwdIdeal.nD) → Buf (Elt Ideal) ((c.tc : Thread Cert.ResFwdIdeal.nD Cert.ResFwdIdeal.τ).loc Cert.ResFwdIdeal.main_v2)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v2) = v0 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ θ_run (Cert.ResFwdRefIdeal.defs (F := Ideal)) (onTc (τ := Cert.ResFwdRefIdeal.τ) (Cert.ResFwdRefIdeal.main (F := Ideal))) ⟨m', fun _ => 0, g'⟩ (fun r => ∀ c : Dev Cert.ResFwdRefIdeal.nD,
          r.2.mem ((c.tc : Thread Cert.ResFwdRefIdeal.nD Cert.ResFwdRefIdeal.τ).loc Cert.ResFwdRefIdeal.main_v4) = v0 c
          ∧ r.2.mem ((c.tc : Thread Cert.ResFwdRefIdeal.nD Cert.ResFwdRefIdeal.τ).loc Cert.ResFwdRefIdeal.main_arg0) = m' ((c.tc : Thread Cert.ResFwdRefIdeal.nD Cert.ResFwdRefIdeal.τ).loc Cert.ResFwdRefIdeal.main_arg0)
          ∧ r.2.mem ((c.tc : Thread Cert.ResFwdRefIdeal.nD Cert.ResFwdRefIdeal.τ).loc Cert.ResFwdRefIdeal.main_arg1) = m' ((c.tc : Thread Cert.ResFwdRefIdeal.nD Cert.ResFwdRefIdeal.τ).loc Cert.ResFwdRefIdeal.main_arg1)
          ∧ r.2.mem ((c.tc : Thread Cert.ResFwdRefIdeal.nD Cert.ResFwdRefIdeal.τ).loc Cert.ResFwdRefIdeal.main_arg2) = m' ((c.tc : Thread Cert.ResFwdRefIdeal.nD Cert.ResFwdRefIdeal.τ).loc Cert.ResFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)) →
    ∃ (v0 : (c : Dev Cert.ConvFwdIdeal.nD) → Buf (Elt Ideal) ((c.tc : Thread Cert.ConvFwdIdeal.nD Cert.ConvFwdIdeal.τ).loc Cert.ConvFwdIdeal.main_v5)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v5) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v24) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3))

def preserves_RopeFwd_RopeFwdIdeal : Prop :=
  True

def algebraic_RopeFwdIdeal_RopeFwdRefIdeal [hRopeFwdIdeal : Cert.RopeFwdIdeal.Facts] [hRopeFwdRefIdeal : Cert.RopeFwdRefIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg)
    (m' : (ℓ : Loc Cert.RopeFwdRefIdeal.nD Cert.RopeFwdRefIdeal.τ Cert.RopeFwdRefIdeal.sig) → Buf (Elt Ideal) ℓ) (g' : Dev Cert.RopeFwdRefIdeal.nD → PrngReg), Pre_RopeFwdIdeal m →
    (∀ c : Dev Cert.RopeFwdIdeal.nD,
      m' ((c.tc : Thread Cert.RopeFwdRefIdeal.nD Cert.RopeFwdRefIdeal.τ).loc Cert.RopeFwdRefIdeal.main_arg0) = m ((c.tc : Thread Cert.RopeFwdIdeal.nD Cert.RopeFwdIdeal.τ).loc Cert.RopeFwdIdeal.main_arg0)
      ∧ m' ((c.tc : Thread Cert.RopeFwdRefIdeal.nD Cert.RopeFwdRefIdeal.τ).loc Cert.RopeFwdRefIdeal.main_arg1) = m ((c.tc : Thread Cert.RopeFwdIdeal.nD Cert.RopeFwdIdeal.τ).loc Cert.RopeFwdIdeal.main_arg1)
      ∧ m' ((c.tc : Thread Cert.RopeFwdRefIdeal.nD Cert.RopeFwdRefIdeal.τ).loc Cert.RopeFwdRefIdeal.main_arg2) = m ((c.tc : Thread Cert.RopeFwdIdeal.nD Cert.RopeFwdIdeal.τ).loc Cert.RopeFwdIdeal.main_arg2)) →
    ∃ (v0 : (c : Dev Cert.RopeFwdIdeal.nD) → Buf (Elt Ideal) ((c.tc : Thread Cert.RopeFwdIdeal.nD Cert.RopeFwdIdeal.τ).loc Cert.RopeFwdIdeal.main_v19)),
      θ_run (Cert.RopeFwdIdeal.defs (F := Ideal)) (onTc (τ := Cert.RopeFwdIdeal.τ) (Cert.RopeFwdIdeal.main (F := Ideal))) ⟨m, fun _ => 0, g⟩ (fun r => ∀ c : Dev Cert.RopeFwdIdeal.nD,
          r.2.mem ((c.tc : Thread Cert.RopeFwdIdeal.nD Cert.RopeFwdIdeal.τ).loc Cert.RopeFwdIdeal.main_v19) = v0 c
          ∧ r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
          ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
          ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ θ_run (Cert.RopeFwdRefIdeal.defs (F := Ideal)) (onTc (τ := Cert.RopeFwdRefIdeal.τ) (Cert.RopeFwdRefIdeal.main (F := Ideal))) ⟨m', fun _ => 0, g'⟩ (fun r => ∀ c : Dev Cert.RopeFwdRefIdeal.nD,
          r.2.mem ((c.tc : Thread Cert.RopeFwdRefIdeal.nD Cert.RopeFwdRefIdeal.τ).loc Cert.RopeFwdRefIdeal.main_v15) = v0 c
          ∧ r.2.mem ((c.tc : Thread Cert.RopeFwdRefIdeal.nD Cert.RopeFwdRefIdeal.τ).loc Cert.RopeFwdRefIdeal.main_arg0) = m' ((c.tc : Thread Cert.RopeFwdRefIdeal.nD Cert.RopeFwdRefIdeal.τ).loc Cert.RopeFwdRefIdeal.main_arg0)
          ∧ r.2.mem ((c.tc : Thread Cert.RopeFwdRefIdeal.nD Cert.RopeFwdRefIdeal.τ).loc Cert.RopeFwdRefIdeal.main_arg1) = m' ((c.tc : Thread Cert.RopeFwdRefIdeal.nD Cert.RopeFwdRefIdeal.τ).loc Cert.RopeFwdRefIdeal.main_arg1)
          ∧ r.2.mem ((c.tc : Thread Cert.RopeFwdRefIdeal.nD Cert.RopeFwdRefIdeal.τ).loc Cert.RopeFwdRefIdeal.main_arg2) = m' ((c.tc : Thread Cert.RopeFwdRefIdeal.nD Cert.RopeFwdRefIdeal.τ).loc Cert.RopeFwdRefIdeal.main_arg2))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v0) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v4)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v4) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v1) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0_0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0_0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def preserves_MmDw_MmDwIdeal : Prop :=
  True

def algebraic_MmDwIdeal_MmDwRefIdeal [hMmDwIdeal : Cert.MmDwIdeal.Facts] [hMmDwRefIdeal : Cert.MmDwRefIdeal.Facts] : Prop :=
  ∀ (m : (ℓ : Loc Cert.MmDwIdeal.nD Cert.MmDwIdeal.τ Cert.MmDwIdeal.sig) → Buf (Elt Ideal) ℓ) (g : Dev Cert.MmDwIdeal.nD → PrngReg)
    (m' : (ℓ : Loc Cert.MmDwRefIdeal.nD Cert.MmDwRefIdeal.τ Cert.MmDwRefIdeal.sig) → Buf (Elt Ideal) ℓ) (g' : Dev Cert.MmDwRefIdeal.nD → PrngReg), Pre_MmDwIdeal m →
    (∀ c : Dev Cert.MmDwIdeal.nD,
      m' ((c.tc : Thread Cert.MmDwRefIdeal.nD Cert.MmDwRefIdeal.τ).loc Cert.MmDwRefIdeal.main_arg0) = m ((c.tc : Thread Cert.MmDwIdeal.nD Cert.MmDwIdeal.τ).loc Cert.MmDwIdeal.main_arg0)
      ∧ m' ((c.tc : Thread Cert.MmDwRefIdeal.nD Cert.MmDwRefIdeal.τ).loc Cert.MmDwRefIdeal.main_arg1) = m ((c.tc : Thread Cert.MmDwIdeal.nD Cert.MmDwIdeal.τ).loc Cert.MmDwIdeal.main_arg1)) →
    ∃ (v0 : (c : Dev Cert.MmDwIdeal.nD) → Buf (Elt Ideal) ((c.tc : Thread Cert.MmDwIdeal.nD Cert.MmDwIdeal.τ).loc Cert.MmDwIdeal.main_v4)),
      θ_run (Cert.MmDwIdeal.defs (F := Ideal)) (onTc (τ := Cert.MmDwIdeal.τ) (Cert.MmDwIdeal.main (F := Ideal))) ⟨m, fun _ => 0, g⟩ (fun r => ∀ c : Dev Cert.MmDwIdeal.nD,
          r.2.mem ((c.tc : Thread Cert.MmDwIdeal.nD Cert.MmDwIdeal.τ).loc Cert.MmDwIdeal.main_v4) = v0 c
          ∧ r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
          ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ θ_run (Cert.MmDwRefIdeal.defs (F := Ideal)) (onTc (τ := Cert.MmDwRefIdeal.τ) (Cert.MmDwRefIdeal.main (F := Ideal))) ⟨m', fun _ => 0, g'⟩ (fun r => ∀ c : Dev Cert.MmDwRefIdeal.nD,
          r.2.mem ((c.tc : Thread Cert.MmDwRefIdeal.nD Cert.MmDwRefIdeal.τ).loc Cert.MmDwRefIdeal.main_v4) = v0 c
          ∧ r.2.mem ((c.tc : Thread Cert.MmDwRefIdeal.nD Cert.MmDwRefIdeal.τ).loc Cert.MmDwRefIdeal.main_arg0) = m' ((c.tc : Thread Cert.MmDwRefIdeal.nD Cert.MmDwRefIdeal.τ).loc Cert.MmDwRefIdeal.main_arg0)
          ∧ r.2.mem ((c.tc : Thread Cert.MmDwRefIdeal.nD Cert.MmDwRefIdeal.τ).loc Cert.MmDwRefIdeal.main_arg1) = m' ((c.tc : Thread Cert.MmDwRefIdeal.nD Cert.MmDwRefIdeal.τ).loc Cert.MmDwRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_MmDh_MmDhIdeal : Prop :=
  True

def algebraic_MmDhIdeal_MmDhRefIdeal [hMmDhIdeal : Cert.MmDhIdeal.Facts] [hMmDhRefIdeal : Cert.MmDhRefIdeal.Facts] : Prop :=
  ∀ (m : (ℓ : Loc Cert.MmDhIdeal.nD Cert.MmDhIdeal.τ Cert.MmDhIdeal.sig) → Buf (Elt Ideal) ℓ) (g : Dev Cert.MmDhIdeal.nD → PrngReg)
    (m' : (ℓ : Loc Cert.MmDhRefIdeal.nD Cert.MmDhRefIdeal.τ Cert.MmDhRefIdeal.sig) → Buf (Elt Ideal) ℓ) (g' : Dev Cert.MmDhRefIdeal.nD → PrngReg), Pre_MmDhIdeal m →
    (∀ c : Dev Cert.MmDhIdeal.nD,
      m' ((c.tc : Thread Cert.MmDhRefIdeal.nD Cert.MmDhRefIdeal.τ).loc Cert.MmDhRefIdeal.main_arg0) = m ((c.tc : Thread Cert.MmDhIdeal.nD Cert.MmDhIdeal.τ).loc Cert.MmDhIdeal.main_arg0)
      ∧ m' ((c.tc : Thread Cert.MmDhRefIdeal.nD Cert.MmDhRefIdeal.τ).loc Cert.MmDhRefIdeal.main_arg1) = m ((c.tc : Thread Cert.MmDhIdeal.nD Cert.MmDhIdeal.τ).loc Cert.MmDhIdeal.main_arg1)) →
    ∃ (v0 : (c : Dev Cert.MmDhIdeal.nD) → Buf (Elt Ideal) ((c.tc : Thread Cert.MmDhIdeal.nD Cert.MmDhIdeal.τ).loc Cert.MmDhIdeal.main_v4)),
      θ_run (Cert.MmDhIdeal.defs (F := Ideal)) (onTc (τ := Cert.MmDhIdeal.τ) (Cert.MmDhIdeal.main (F := Ideal))) ⟨m, fun _ => 0, g⟩ (fun r => ∀ c : Dev Cert.MmDhIdeal.nD,
          r.2.mem ((c.tc : Thread Cert.MmDhIdeal.nD Cert.MmDhIdeal.τ).loc Cert.MmDhIdeal.main_v4) = v0 c
          ∧ r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
          ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1))
      ∧ θ_run (Cert.MmDhRefIdeal.defs (F := Ideal)) (onTc (τ := Cert.MmDhRefIdeal.τ) (Cert.MmDhRefIdeal.main (F := Ideal))) ⟨m', fun _ => 0, g'⟩ (fun r => ∀ c : Dev Cert.MmDhRefIdeal.nD,
          r.2.mem ((c.tc : Thread Cert.MmDhRefIdeal.nD Cert.MmDhRefIdeal.τ).loc Cert.MmDhRefIdeal.main_v3) = v0 c
          ∧ r.2.mem ((c.tc : Thread Cert.MmDhRefIdeal.nD Cert.MmDhRefIdeal.τ).loc Cert.MmDhRefIdeal.main_arg0) = m' ((c.tc : Thread Cert.MmDhRefIdeal.nD Cert.MmDhRefIdeal.τ).loc Cert.MmDhRefIdeal.main_arg0)
          ∧ r.2.mem ((c.tc : Thread Cert.MmDhRefIdeal.nD Cert.MmDhRefIdeal.τ).loc Cert.MmDhRefIdeal.main_arg1) = m' ((c.tc : Thread Cert.MmDhRefIdeal.nD Cert.MmDhRefIdeal.τ).loc Cert.MmDhRefIdeal.main_arg1))

def preserves_AddPair_AddPairIdeal : Prop :=
  True

def algebraic_AddPairIdeal_AddPairRefIdeal [hAddPairIdeal : Cert.AddPairIdeal.Facts] [hAddPairRefIdeal : Cert.AddPairRefIdeal.Facts] : Prop :=
  ∀ (m : (ℓ : Loc Cert.AddPairIdeal.nD Cert.AddPairIdeal.τ Cert.AddPairIdeal.sig) → Buf (Elt Ideal) ℓ) (g : Dev Cert.AddPairIdeal.nD → PrngReg)
    (m' : (ℓ : Loc Cert.AddPairRefIdeal.nD Cert.AddPairRefIdeal.τ Cert.AddPairRefIdeal.sig) → Buf (Elt Ideal) ℓ) (g' : Dev Cert.AddPairRefIdeal.nD → PrngReg), Pre_AddPairIdeal m →
    (∀ c : Dev Cert.AddPairIdeal.nD,
      m' ((c.tc : Thread Cert.AddPairRefIdeal.nD Cert.AddPairRefIdeal.τ).loc Cert.AddPairRefIdeal.main_arg0) = m ((c.tc : Thread Cert.AddPairIdeal.nD Cert.AddPairIdeal.τ).loc Cert.AddPairIdeal.main_arg0)
      ∧ m' ((c.tc : Thread Cert.AddPairRefIdeal.nD Cert.AddPairRefIdeal.τ).loc Cert.AddPairRefIdeal.main_arg1) = m ((c.tc : Thread Cert.AddPairIdeal.nD Cert.AddPairIdeal.τ).loc Cert.AddPairIdeal.main_arg1)
      ∧ m' ((c.tc : Thread Cert.AddPairRefIdeal.nD Cert.AddPairRefIdeal.τ).loc Cert.AddPairRefIdeal.main_arg2) = m ((c.tc : Thread Cert.AddPairIdeal.nD Cert.AddPairIdeal.τ).loc Cert.AddPairIdeal.main_arg2)) →
    ∃ (v0 : (c : Dev Cert.AddPairIdeal.nD) → Buf (Elt Ideal) ((c.tc : Thread Cert.AddPairIdeal.nD Cert.AddPairIdeal.τ).loc Cert.AddPairIdeal.main_v1)),
      θ_run (Cert.AddPairIdeal.defs (F := Ideal)) (onTc (τ := Cert.AddPairIdeal.τ) (Cert.AddPairIdeal.main (F := Ideal))) ⟨m, fun _ => 0, g⟩ (fun r => ∀ c : Dev Cert.AddPairIdeal.nD,
          r.2.mem ((c.tc : Thread Cert.AddPairIdeal.nD Cert.AddPairIdeal.τ).loc Cert.AddPairIdeal.main_v1) = v0 c
          ∧ r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
          ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1)
          ∧ r.2.mem ((c.tc : Thread Cert.AddPairIdeal.nD Cert.AddPairIdeal.τ).loc Cert.AddPairIdeal.main_arg2) = m ((c.tc : Thread Cert.AddPairIdeal.nD Cert.AddPairIdeal.τ).loc Cert.AddPairIdeal.main_arg2))
      ∧ θ_run (Cert.AddPairRefIdeal.defs (F := Ideal)) (onTc (τ := Cert.AddPairRefIdeal.τ) (Cert.AddPairRefIdeal.main (F := Ideal))) ⟨m', fun _ => 0, g'⟩ (fun r => ∀ c : Dev Cert.AddPairRefIdeal.nD,
          r.2.mem ((c.tc : Thread Cert.AddPairRefIdeal.nD Cert.AddPairRefIdeal.τ).loc Cert.AddPairRefIdeal.main_v10) = v0 c
          ∧ r.2.mem ((c.tc : Thread Cert.AddPairRefIdeal.nD Cert.AddPairRefIdeal.τ).loc Cert.AddPairRefIdeal.main_arg0) = m' ((c.tc : Thread Cert.AddPairRefIdeal.nD Cert.AddPairRefIdeal.τ).loc Cert.AddPairRefIdeal.main_arg0)
          ∧ r.2.mem ((c.tc : Thread Cert.AddPairRefIdeal.nD Cert.AddPairRefIdeal.τ).loc Cert.AddPairRefIdeal.main_arg1) = m' ((c.tc : Thread Cert.AddPairRefIdeal.nD Cert.AddPairRefIdeal.τ).loc Cert.AddPairRefIdeal.main_arg1)
          ∧ r.2.mem ((c.tc : Thread Cert.AddPairRefIdeal.nD Cert.AddPairRefIdeal.τ).loc Cert.AddPairRefIdeal.main_arg2) = m' ((c.tc : Thread Cert.AddPairRefIdeal.nD Cert.AddPairRefIdeal.τ).loc Cert.AddPairRefIdeal.main_arg2))

def preserves_AddChips_AddChipsIdeal : Prop :=
  True

def algebraic_AddChipsIdeal_AddChipsRefIdeal [hAddChipsIdeal : Cert.AddChipsIdeal.Facts] [hAddChipsRefIdeal : Cert.AddChipsRefIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)
      ∧ m' ((c.tc : Thread Cert.AddChipsRefIdeal.nD Cert.AddChipsRefIdeal.τ).loc Cert.AddChipsRefIdeal.main_arg1) = m ((c.tc : Thread Cert.AddChipsIdeal.nD Cert.AddChipsIdeal.τ).loc Cert.AddChipsIdeal.main_arg1)
      ∧ m' ((c.tc : Thread Cert.AddChipsRefIdeal.nD Cert.AddChipsRefIdeal.τ).loc Cert.AddChipsRefIdeal.main_arg2) = m ((c.tc : Thread Cert.AddChipsIdeal.nD Cert.AddChipsIdeal.τ).loc Cert.AddChipsIdeal.main_arg2)) →
    ∃ (v0 : (c : Dev Cert.AddChipsIdeal.nD) → Buf (Elt Ideal) ((c.tc : Thread Cert.AddChipsIdeal.nD Cert.AddChipsIdeal.τ).loc Cert.AddChipsIdeal.main_v1)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v1) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
          ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
          ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v18) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0)
          ∧ r.2.mem ((c.tc : Thread Cert.AddChipsRefIdeal.nD Cert.AddChipsRefIdeal.τ).loc Cert.AddChipsRefIdeal.main_arg1) = m' ((c.tc : Thread Cert.AddChipsRefIdeal.nD Cert.AddChipsRefIdeal.τ).loc Cert.AddChipsRefIdeal.main_arg1)
          ∧ r.2.mem ((c.tc : Thread Cert.AddChipsRefIdeal.nD Cert.AddChipsRefIdeal.τ).loc Cert.AddChipsRefIdeal.main_arg2) = m' ((c.tc : Thread Cert.AddChipsRefIdeal.nD Cert.AddChipsRefIdeal.τ).loc Cert.AddChipsRefIdeal.main_arg2))

def Claim : Prop :=
  ∃ (hGateMul : Cert.GateMul.Facts) (hGateMulIdeal : Cert.GateMulIdeal.Facts) (hGateMulRefIdeal : Cert.GateMulRefIdeal.Facts) (hAttn : Cert.Attn.Facts) (hAttnIdeal : Cert.AttnIdeal.Facts) (hAttnRefIdeal : Cert.AttnRefIdeal.Facts) (hMod : Cert.Mod.Facts) (hModIdeal : Cert.ModIdeal.Facts) (hModRefIdeal : Cert.ModRefIdeal.Facts) (hRms : Cert.Rms.Facts) (hRmsIdeal : Cert.RmsIdeal.Facts) (hRmsRefIdeal : Cert.RmsRefIdeal.Facts) (hRes : Cert.Res.Facts) (hResIdeal : Cert.ResIdeal.Facts) (hResRefIdeal : Cert.ResRefIdeal.Facts) (hGateAct : Cert.GateAct.Facts) (hGateActIdeal : Cert.GateActIdeal.Facts) (hGateActRefIdeal : Cert.GateActRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hRope : Cert.Rope.Facts) (hRopeIdeal : Cert.RopeIdeal.Facts) (hRopeRefIdeal : Cert.RopeRefIdeal.Facts) (hAttnFwd : Cert.AttnFwd.Facts) (hAttnFwdIdeal : Cert.AttnFwdIdeal.Facts) (hAttnFwdRefIdeal : Cert.AttnFwdRefIdeal.Facts) (hModFwd : Cert.ModFwd.Facts) (hModFwdIdeal : Cert.ModFwdIdeal.Facts) (hModFwdRefIdeal : Cert.ModFwdRefIdeal.Facts) (hRmsFwd : Cert.RmsFwd.Facts) (hRmsFwdIdeal : Cert.RmsFwdIdeal.Facts) (hRmsFwdRefIdeal : Cert.RmsFwdRefIdeal.Facts) (hGateMulFwd : Cert.GateMulFwd.Facts) (hGateMulFwdIdeal : Cert.GateMulFwdIdeal.Facts) (hGateMulFwdRefIdeal : Cert.GateMulFwdRefIdeal.Facts) (hGateActFwd : Cert.GateActFwd.Facts) (hGateActFwdIdeal : Cert.GateActFwdIdeal.Facts) (hGateActFwdRefIdeal : Cert.GateActFwdRefIdeal.Facts) (hResFwd : Cert.ResFwd.Facts) (hResFwdIdeal : Cert.ResFwdIdeal.Facts) (hResFwdRefIdeal : Cert.ResFwdRefIdeal.Facts) (hConvFwd : Cert.ConvFwd.Facts) (hConvFwdIdeal : Cert.ConvFwdIdeal.Facts) (hConvFwdRefIdeal : Cert.ConvFwdRefIdeal.Facts) (hRopeFwd : Cert.RopeFwd.Facts) (hRopeFwdIdeal : Cert.RopeFwdIdeal.Facts) (hRopeFwdRefIdeal : Cert.RopeFwdRefIdeal.Facts) (hSilu : Cert.Silu.Facts) (hSiluIdeal : Cert.SiluIdeal.Facts) (hSiluRefIdeal : Cert.SiluRefIdeal.Facts) (hMm : Cert.Mm.Facts) (hMmIdeal : Cert.MmIdeal.Facts) (hMmRefIdeal : Cert.MmRefIdeal.Facts) (hAdamw : Cert.Adamw.Facts) (hAdamwIdeal : Cert.AdamwIdeal.Facts) (hAdamwRefIdeal : Cert.AdamwRefIdeal.Facts) (hSumDev : Cert.SumDev.Facts) (hSumDevIdeal : Cert.SumDevIdeal.Facts) (hSumDevRefIdeal : Cert.SumDevRefIdeal.Facts) (hMmDw : Cert.MmDw.Facts) (hMmDwIdeal : Cert.MmDwIdeal.Facts) (hMmDwRefIdeal : Cert.MmDwRefIdeal.Facts) (hAda : Cert.Ada.Facts) (hAdaIdeal : Cert.AdaIdeal.Facts) (hAdaRefIdeal : Cert.AdaRefIdeal.Facts) (hMmDh : Cert.MmDh.Facts) (hMmDhIdeal : Cert.MmDhIdeal.Facts) (hMmDhRefIdeal : Cert.MmDhRefIdeal.Facts) (hAddPair : Cert.AddPair.Facts) (hAddPairIdeal : Cert.AddPairIdeal.Facts) (hAddPairRefIdeal : Cert.AddPairRefIdeal.Facts) (hAddChips : Cert.AddChips.Facts) (hAddChipsIdeal : Cert.AddChipsIdeal.Facts) (hAddChipsRefIdeal : Cert.AddChipsRefIdeal.Facts) (hPre_gate_mul_finite : Cert.Pre_gate_mul_finite.Facts) (hPre_attn_finite : Cert.Pre_attn_finite.Facts) (hPre_modulate_finite : Cert.Pre_modulate_finite.Facts) (hPre_rms_finite : Cert.Pre_rms_finite.Facts) (hPre_gateact_finite : Cert.Pre_gateact_finite.Facts) (hPre_attnfwd_finite : Cert.Pre_attnfwd_finite.Facts),
    quiescent_GateMul (hGateMul := hGateMul)
    ∧ quiescent_GateMulIdeal (hGateMulIdeal := hGateMulIdeal)
    ∧ quiescent_GateMulIdeal_pre_gate_mul_finite (hGateMulIdeal := hGateMulIdeal) (hPre_gate_mul_finite := hPre_gate_mul_finite)
    ∧ quiescent_GateMulRefIdeal (hGateMulRefIdeal := hGateMulRefIdeal)
    ∧ quiescent_GateMulRefIdeal_pre_gate_mul_finite (hGateMulRefIdeal := hGateMulRefIdeal) (hPre_gate_mul_finite := hPre_gate_mul_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mod (hMod := hMod)
    ∧ quiescent_ModIdeal (hModIdeal := hModIdeal)
    ∧ quiescent_ModIdeal_pre_modulate_finite (hModIdeal := hModIdeal) (hPre_modulate_finite := hPre_modulate_finite)
    ∧ quiescent_ModRefIdeal (hModRefIdeal := hModRefIdeal)
    ∧ quiescent_ModRefIdeal_pre_modulate_finite (hModRefIdeal := hModRefIdeal) (hPre_modulate_finite := hPre_modulate_finite)
    ∧ quiescent_Rms (hRms := hRms)
    ∧ quiescent_RmsIdeal (hRmsIdeal := hRmsIdeal)
    ∧ quiescent_RmsIdeal_pre_rms_finite (hRmsIdeal := hRmsIdeal) (hPre_rms_finite := hPre_rms_finite)
    ∧ quiescent_RmsRefIdeal (hRmsRefIdeal := hRmsRefIdeal)
    ∧ quiescent_RmsRefIdeal_pre_rms_finite (hRmsRefIdeal := hRmsRefIdeal) (hPre_rms_finite := hPre_rms_finite)
    ∧ quiescent_Res (hRes := hRes)
    ∧ quiescent_ResIdeal (hResIdeal := hResIdeal)
    ∧ quiescent_ResRefIdeal (hResRefIdeal := hResRefIdeal)
    ∧ quiescent_GateAct (hGateAct := hGateAct)
    ∧ quiescent_GateActIdeal (hGateActIdeal := hGateActIdeal)
    ∧ quiescent_GateActIdeal_pre_gateact_finite (hGateActIdeal := hGateActIdeal) (hPre_gateact_finite := hPre_gateact_finite)
    ∧ quiescent_GateActRefIdeal (hGateActRefIdeal := hGateActRefIdeal)
    ∧ quiescent_GateActRefIdeal_pre_gateact_finite (hGateActRefIdeal := hGateActRefIdeal) (hPre_gateact_finite := hPre_gateact_finite)
    ∧ quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvRefIdeal (hConvRefIdeal := hConvRefIdeal)
    ∧ quiescent_Rope (hRope := hRope)
    ∧ quiescent_RopeIdeal (hRopeIdeal := hRopeIdeal)
    ∧ quiescent_RopeRefIdeal (hRopeRefIdeal := hRopeRefIdeal)
    ∧ quiescent_AttnFwd (hAttnFwd := hAttnFwd)
    ∧ quiescent_AttnFwdIdeal (hAttnFwdIdeal := hAttnFwdIdeal)
    ∧ quiescent_AttnFwdIdeal_pre_attnfwd_finite (hAttnFwdIdeal := hAttnFwdIdeal) (hPre_attnfwd_finite := hPre_attnfwd_finite)
    ∧ quiescent_AttnFwdRefIdeal (hAttnFwdRefIdeal := hAttnFwdRefIdeal)
    ∧ quiescent_AttnFwdRefIdeal_pre_attnfwd_finite (hAttnFwdRefIdeal := hAttnFwdRefIdeal) (hPre_attnfwd_finite := hPre_attnfwd_finite)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_GateMulFwd (hGateMulFwd := hGateMulFwd)
    ∧ quiescent_GateMulFwdIdeal (hGateMulFwdIdeal := hGateMulFwdIdeal)
    ∧ quiescent_GateMulFwdRefIdeal (hGateMulFwdRefIdeal := hGateMulFwdRefIdeal)
    ∧ quiescent_GateActFwd (hGateActFwd := hGateActFwd)
    ∧ quiescent_GateActFwdIdeal (hGateActFwdIdeal := hGateActFwdIdeal)
    ∧ quiescent_GateActFwdRefIdeal (hGateActFwdRefIdeal := hGateActFwdRefIdeal)
    ∧ quiescent_ResFwd (hResFwd := hResFwd)
    ∧ quiescent_ResFwdIdeal (hResFwdIdeal := hResFwdIdeal)
    ∧ quiescent_ResFwdRefIdeal (hResFwdRefIdeal := hResFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_RopeFwd (hRopeFwd := hRopeFwd)
    ∧ quiescent_RopeFwdIdeal (hRopeFwdIdeal := hRopeFwdIdeal)
    ∧ quiescent_RopeFwdRefIdeal (hRopeFwdRefIdeal := hRopeFwdRefIdeal)
    ∧ quiescent_Silu (hSilu := hSilu)
    ∧ quiescent_SiluIdeal (hSiluIdeal := hSiluIdeal)
    ∧ quiescent_SiluRefIdeal (hSiluRefIdeal := hSiluRefIdeal)
    ∧ quiescent_Mm (hMm := hMm)
    ∧ quiescent_MmIdeal (hMmIdeal := hMmIdeal)
    ∧ quiescent_MmRefIdeal (hMmRefIdeal := hMmRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_MmDw (hMmDw := hMmDw)
    ∧ quiescent_MmDwIdeal (hMmDwIdeal := hMmDwIdeal)
    ∧ quiescent_MmDwRefIdeal (hMmDwRefIdeal := hMmDwRefIdeal)
    ∧ quiescent_Ada (hAda := hAda)
    ∧ quiescent_AdaIdeal (hAdaIdeal := hAdaIdeal)
    ∧ quiescent_AdaRefIdeal (hAdaRefIdeal := hAdaRefIdeal)
    ∧ quiescent_MmDh (hMmDh := hMmDh)
    ∧ quiescent_MmDhIdeal (hMmDhIdeal := hMmDhIdeal)
    ∧ quiescent_MmDhRefIdeal (hMmDhRefIdeal := hMmDhRefIdeal)
    ∧ quiescent_AddPair (hAddPair := hAddPair)
    ∧ quiescent_AddPairIdeal (hAddPairIdeal := hAddPairIdeal)
    ∧ quiescent_AddPairRefIdeal (hAddPairRefIdeal := hAddPairRefIdeal)
    ∧ quiescent_AddChips (hAddChips := hAddChips)
    ∧ quiescent_AddChipsIdeal (hAddChipsIdeal := hAddChipsIdeal)
    ∧ quiescent_AddChipsRefIdeal (hAddChipsRefIdeal := hAddChipsRefIdeal)
    ∧ preserves_GateMul_GateMulIdeal
    ∧ algebraic_GateMulIdeal_GateMulRefIdeal_pre_gate_mul_finite (hGateMulIdeal := hGateMulIdeal) (hGateMulRefIdeal := hGateMulRefIdeal) (hPre_gate_mul_finite := hPre_gate_mul_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mod_ModIdeal
    ∧ algebraic_ModIdeal_ModRefIdeal_pre_modulate_finite (hModIdeal := hModIdeal) (hModRefIdeal := hModRefIdeal) (hPre_modulate_finite := hPre_modulate_finite)
    ∧ preserves_Rms_RmsIdeal
    ∧ algebraic_RmsIdeal_RmsRefIdeal_pre_rms_finite (hRmsIdeal := hRmsIdeal) (hRmsRefIdeal := hRmsRefIdeal) (hPre_rms_finite := hPre_rms_finite)
    ∧ preserves_Res_ResIdeal
    ∧ algebraic_ResIdeal_ResRefIdeal (hResIdeal := hResIdeal) (hResRefIdeal := hResRefIdeal)
    ∧ preserves_GateAct_GateActIdeal
    ∧ algebraic_GateActIdeal_GateActRefIdeal_pre_gateact_finite (hGateActIdeal := hGateActIdeal) (hGateActRefIdeal := hGateActRefIdeal) (hPre_gateact_finite := hPre_gateact_finite)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal (hConvIdeal := hConvIdeal) (hConvRefIdeal := hConvRefIdeal)
    ∧ preserves_Rope_RopeIdeal
    ∧ algebraic_RopeIdeal_RopeRefIdeal (hRopeIdeal := hRopeIdeal) (hRopeRefIdeal := hRopeRefIdeal)
    ∧ preserves_AttnFwd_AttnFwdIdeal
    ∧ algebraic_AttnFwdIdeal_AttnFwdRefIdeal_pre_attnfwd_finite (hAttnFwdIdeal := hAttnFwdIdeal) (hAttnFwdRefIdeal := hAttnFwdRefIdeal) (hPre_attnfwd_finite := hPre_attnfwd_finite)
    ∧ preserves_ModFwd_ModFwdIdeal
    ∧ algebraic_ModFwdIdeal_ModFwdRefIdeal (hModFwdIdeal := hModFwdIdeal) (hModFwdRefIdeal := hModFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_GateMulFwd_GateMulFwdIdeal
    ∧ algebraic_GateMulFwdIdeal_GateMulFwdRefIdeal (hGateMulFwdIdeal := hGateMulFwdIdeal) (hGateMulFwdRefIdeal := hGateMulFwdRefIdeal)
    ∧ preserves_GateActFwd_GateActFwdIdeal
    ∧ algebraic_GateActFwdIdeal_GateActFwdRefIdeal (hGateActFwdIdeal := hGateActFwdIdeal) (hGateActFwdRefIdeal := hGateActFwdRefIdeal)
    ∧ preserves_ResFwd_ResFwdIdeal
    ∧ algebraic_ResFwdIdeal_ResFwdRefIdeal (hResFwdIdeal := hResFwdIdeal) (hResFwdRefIdeal := hResFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_RopeFwd_RopeFwdIdeal
    ∧ algebraic_RopeFwdIdeal_RopeFwdRefIdeal (hRopeFwdIdeal := hRopeFwdIdeal) (hRopeFwdRefIdeal := hRopeFwdRefIdeal)
    ∧ preserves_Silu_SiluIdeal
    ∧ algebraic_SiluIdeal_SiluRefIdeal (hSiluIdeal := hSiluIdeal) (hSiluRefIdeal := hSiluRefIdeal)
    ∧ preserves_Mm_MmIdeal
    ∧ algebraic_MmIdeal_MmRefIdeal (hMmIdeal := hMmIdeal) (hMmRefIdeal := hMmRefIdeal)
    ∧ preserves_Adamw_AdamwIdeal
    ∧ algebraic_AdamwIdeal_AdamwRefIdeal (hAdamwIdeal := hAdamwIdeal) (hAdamwRefIdeal := hAdamwRefIdeal)
    ∧ preserves_SumDev_SumDevIdeal
    ∧ algebraic_SumDevIdeal_SumDevRefIdeal (hSumDevIdeal := hSumDevIdeal) (hSumDevRefIdeal := hSumDevRefIdeal)
    ∧ preserves_MmDw_MmDwIdeal
    ∧ algebraic_MmDwIdeal_MmDwRefIdeal (hMmDwIdeal := hMmDwIdeal) (hMmDwRefIdeal := hMmDwRefIdeal)
    ∧ preserves_Ada_AdaIdeal
    ∧ algebraic_AdaIdeal_AdaRefIdeal (hAdaIdeal := hAdaIdeal) (hAdaRefIdeal := hAdaRefIdeal)
    ∧ preserves_MmDh_MmDhIdeal
    ∧ algebraic_MmDhIdeal_MmDhRefIdeal (hMmDhIdeal := hMmDhIdeal) (hMmDhRefIdeal := hMmDhRefIdeal)
    ∧ preserves_AddPair_AddPairIdeal
    ∧ algebraic_AddPairIdeal_AddPairRefIdeal (hAddPairIdeal := hAddPairIdeal) (hAddPairRefIdeal := hAddPairRefIdeal)
    ∧ preserves_AddChips_AddChipsIdeal
    ∧ algebraic_AddChipsIdeal_AddChipsRefIdeal (hAddChipsIdeal := hAddChipsIdeal) (hAddChipsRefIdeal := hAddChipsRefIdeal)
-- ==== Pre_attn_finite.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S_ : Shape := ⟨0, ![]⟩

class Facts : Prop where
  bcast_S_S1x2048x6x128 : S_.BroadcastsInDim S1x2048x6x128 (![] : Fin 0 → Fin S1x2048x6x128.rank)
  bcast_S_S1x2048x6x64 : S_.BroadcastsInDim S1x2048x6x64 (![] : Fin 0 → Fin S1x2048x6x64.rank)
  bcast_S_S1x2048x64 : S_.BroadcastsInDim S1x2048x64 (![] : Fin 0 → Fin S1x2048x64.rank)

variable [Facts]

def fn {F : FTy → Type} [FloatOps F] (main_arg0 : FVec F S1x2048x6x128 .f32) (main_arg1 : FVec F S1x2048x6x64 .f32) (main_arg2 : FVec F S1x2048x6x128 .f32) (main_arg3 : FVec F S1x2048x64 .f32) (main_arg4 : FVec F S1x2048x6x128 .f32) (main_arg5 : FVec F S1x2048x6x128 .f32) : IVec S1x2048x6x128 1 × IVec S1x2048x6x64 1 × IVec S1x2048x6x128 1 × IVec S1x2048x64 1 × IVec S1x2048x6x128 1 × IVec S1x2048x6x128 1 :=
  let main_v0 : FVec F S1x2048x6x128 .f32 := Host.absf main_arg0
  let main_cst : FVec F S_ .f32 := constant S_ .f32 0x7F800000#32
  let main_v1 : FVec F S1x2048x6x128 .f32 := broadcastInDim S1x2048x6x128 ![] bcast_S_S1x2048x6x128 main_cst
  let main_v2 : IVec S1x2048x6x128 1 := cmpf .olt main_v0 main_v1
  let main_v3 : FVec F S1x2048x6x64 .f32 := Host.absf main_arg1
  let main_cst_0 : FVec F S_ .f32 := constant S_ .f32 0x7F800000#32
  let main_v4 : FVec F S1x2048x6x64 .f32 := broadcastInDim S1x2048x6x64 ![] bcast_S_S1x2048x6x64 main_cst_0
  let main_v5 : IVec S1x2048x6x64 1 := cmpf .olt main_v3 main_v4
  let main_v6 : FVec F S1x2048x6x128 .f32 := Host.absf main_arg2
  let main_cst_1 : FVec F S_ .f32 := constant S_ .f32 0x7F800000#32
  let main_v7 : FVec F S1x2048x6x128 .f32 := broadcastInDim S1x2048x6x128 ![] bcast_S_S1x2048x6x128 main_cst_1
  let main_v8 : IVec S1x2048x6x128 1 := cmpf .olt main_v6 main_v7
  let main_v9 : FVec F S1x2048x64 .f32 := Host.absf main_arg3
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_v12 : FVec F S1x2048x6x128 .f32 := Host.absf main_arg4
  let main_cst_3 : FVec F S_ .f32 := constant S_ .f32 0x7F800000#32
  let main_v13 : FVec F S1x2048x6x128 .f32 := broadcastInDim S1x2048x6x128 ![] bcast_S_S1x2048x6x128 main_cst_3
  let main_v14 : IVec S1x2048x6x128 1 := cmpf .olt main_v12 main_v13
  let main_v15 : FVec F S1x2048x6x128 .f32 := Host.absf main_arg5
  let main_cst_4 : FVec F S_ .f32 := constant S_ .f32 0x7F800000#32
  let main_v16 : FVec F S1x2048x6x128 .f32 := broadcastInDim S1x2048x6x128 ![] bcast_S_S1x2048x6x128 main_cst_4
  let main_v17 : IVec S1x2048x6x128 1 := cmpf .olt main_v15 main_v16
  (main_v2, main_v5, main_v8, main_v11, main_v14, main_v17)
-- ==== Pre_attnfwd_finite.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S_ : Shape := ⟨0, ![]⟩

class Facts : Prop where
  bcast_S_S1x2048x6x128 : S_.BroadcastsInDim S1x2048x6x128 (![] : Fin 0 → Fin S1x2048x6x128.rank)
  bcast_S_S1x2048x6x64 : S_.BroadcastsInDim S1x2048x6x64 (![] : Fin 0 → Fin S1x2048x6x64.rank)
  bcast_S_S1x2048x64 : S_.BroadcastsInDim S1x2048x64 (![] : Fin 0 → Fin S1x2048x64.rank)

variable [Facts]

def fn {F : FTy → Type} [FloatOps F] (main_arg0 : FVec F S1x2048x6x128 .f32) (main_arg1 : FVec F S1x2048x6x64 .f32) (main_arg2 : FVec F S1x2048x6x128 .f32) (main_arg3 : FVec F S1x2048x64 .f32) (main_arg4 : FVec F S1x2048x6x128 .f32) : IVec S1x2048x6x128 1 × IVec S1x2048x6x64 1 × IVec S1x2048x6x128 1 × IVec S1x2048x64 1 × IVec S1x2048x6x128 1 :=
  let main_v0 : FVec F S1x2048x6x128 .f32 := Host.absf main_arg0
  let main_cst : FVec F S_ .f32 := constant S_ .f32 0x7F800000#32
  let main_v1 : FVec F S1x2048x6x128 .f32 := broadcastInDim S1x2048x6x128 ![] bcast_S_S1x2048x6x128 main_cst
  let main_v2 : IVec S1x2048x6x128 1 := cmpf .olt main_v0 main_v1
  let main_v3 : FVec F S1x2048x6x64 .f32 := Host.absf main_arg1
  let main_cst_0 : FVec F S_ .f32 := constant S_ .f32 0x7F800000#32
  let main_v4 : FVec F S1x2048x6x64 .f32 := broadcastInDim S1x2048x6x64 ![] bcast_S_S1x2048x6x64 main_cst_0
  let main_v5 : IVec S1x2048x6x64 1 := cmpf .olt main_v3 main_v4
  let main_v6 : FVec F S1x2048x6x128 .f32 := Host.absf main_arg2
  let main_cst_1 : FVec F S_ .f32 := constant S_ .f32 0x7F800000#32
  let main_v7 : FVec F S1x2048x6x128 .f32 := broadcastInDim S1x2048x6x128 ![] bcast_S_S1x2048x6x128 main_cst_1
  let main_v8 : IVec S1x2048x6x128 1 := cmpf .olt main_v6 main_v7
  let main_v9 : FVec F S1x2048x64 .f32 := Host.absf main_arg3
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_v12 : FVec F S1x2048x6x128 .f32 := Host.absf main_arg4
  let main_cst_3 : FVec F S_ .f32 := constant S_ .f32 0x7F800000#32
  let main_v13 : FVec F S1x2048x6x128 .f32 := broadcastInDim S1x2048x6x128 ![] bcast_S_S1x2048x6x128 main_cst_3
  let main_v14 : IVec S1x2048x6x128 1 := cmpf .olt main_v12 main_v13
  (main_v2, main_v5, main_v8, main_v11, main_v14)
-- ==== Pre_gate_mul_finite.lean ====
abbrev S1x2048x2048 : Shape := ⟨3, ![1, 2048, 2048]⟩
abbrev S_ : Shape := ⟨0, ![]⟩

class Facts : Prop where
  bcast_S_S1x2048x2048 : S_.BroadcastsInDim S1x2048x2048 (![] : Fin 0 → Fin S1x2048x2048.rank)

variable [Facts]

def fn {F : FTy → Type} [FloatOps F] (main_arg0 : FVec F S1x2048x2048 .f32) (main_arg1 : FVec F S1x2048x2048 .f32) (main_arg2 : FVec F S1x2048x2048 .f32) : IVec S1x2048x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg2
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  (main_v2, main_v5)
-- ==== Pre_gateact_finite.lean ====
abbrev S2048x768 : Shape := ⟨2, ![2048, 768]⟩
abbrev S384 : Shape := ⟨1, ![384]⟩
abbrev S_ : Shape := ⟨0, ![]⟩

class Facts : Prop where
  bcast_S_S2048x768 : S_.BroadcastsInDim S2048x768 (![] : Fin 0 → Fin S2048x768.rank)
  bcast_S_S384 : S_.BroadcastsInDim S384 (![] : Fin 0 → Fin S384.rank)

variable [Facts]

def fn {F : FTy → Type} [FloatOps F] (main_arg0 : FVec F S2048x768 .f32) (main_arg1 : FVec F S384 .f32) (main_arg2 : FVec F S384 .f32) (main_arg3 : FVec F S2048x768 .f32) : IVec S2048x768 1 × IVec S384 1 × IVec S384 1 × IVec S2048x768 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S2048x768 .f32 := Host.absf main_arg3
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  (main_v2, main_v5, main_v8, main_v11)
-- ==== Pre_modulate_finite.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S2048 : S_.BroadcastsInDim S2048 (![] : Fin 0 → Fin S2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S2048 .f32) (main_arg2 : FVec F S1x2048 .f32) (main_arg3 : FVec F S1x2048 .f32) (main_arg4 : FVec F S1x2048x2048 .f32) : IVec S1x2048x2048 1 × IVec S2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x2048 .f32 := Host.absf main_arg4
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_rms_finite.lean ====
abbrev S1x2048x6x128 : Shape := ⟨4, ![1, 2048, 6, 128]⟩
abbrev S128 : Shape := ⟨1, ![128]⟩
abbrev S_ : Shape := ⟨0, ![]⟩

class Facts : Prop where
  bcast_S_S1x2048x6x128 : S_.BroadcastsInDim S1x2048x6x128 (![] : Fin 0 → Fin S1x2048x6x128.rank)
  bcast_S_S128 : S_.BroadcastsInDim S128 (![] : Fin 0 → Fin S128.rank)

variable [Facts]

def fn {F : FTy → Type} [FloatOps F] (main_arg0 : FVec F S1x2048x6x128 .f32) (main_arg1 : FVec F S128 .f32) (main_arg2 : FVec F S1x2048x6x128 .f32) : IVec S1x2048x6x128 1 × IVec S128 1 × IVec S1x2048x6x128 1 :=
  let main_v0 : FVec F S1x2048x6x128 .f32 := Host.absf main_arg0
  let main_cst : FVec F S_ .f32 := constant S_ .f32 0x7F800000#32
  let main_v1 : FVec F S1x2048x6x128 .f32 := broadcastInDim S1x2048x6x128 ![] bcast_S_S1x2048x6x128 main_cst
  let main_v2 : IVec S1x2048x6x128 1 := cmpf .olt main_v0 main_v1
  let main_v3 : FVec F S128 .f32 := Host.absf main_arg1
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S1x2048x6x128 .f32 := Host.absf main_arg2
  let main_cst_1 : FVec F S_ .f32 := constant S_ .f32 0x7F800000#32
  let main_v7 : FVec F S1x2048x6x128 .f32 := broadcastInDim S1x2048x6x128 ![] bcast_S_S1x2048x6x128 main_cst_1
  let main_v8 : IVec S1x2048x6x128 1 := cmpf .olt main_v6 main_v7
  (main_v2, main_v5, main_v8)
-- ==== GateMul.lean ====
abbrev S1x2048x2048 : Shape := ⟨3, ![1, 2048, 2048]⟩
abbrev S2048x2048 : Shape := ⟨2, ![2048, 2048]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateMulRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S_, .f32⟩
  | .hbm, ⟨9, _⟩ => ⟨S1x2048x2048, .f32⟩
  | .hbm, ⟨10, _⟩ => ⟨S1x2048x2048, .f32⟩
  | .hbm, ⟨11, _⟩ => ⟨S_, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S1x2048x2048, .f32⟩
  | .hbm, ⟨22, _⟩ => ⟨S1x2048x2048, .f32⟩
  | .hbm, ⟨23, _⟩ => ⟨S2048x2048, .f32⟩
  | .hbm, ⟨24, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Attn.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S2048x768 : Shape := ⟨2, ![2048, 768]⟩
abbrev S2048x384 : Shape := ⟨2, ![2048, 384]⟩
abbrev S2048x6x64 : Shape := ⟨3, ![2048, 6, 64]⟩
abbrev S_ : Shape := ⟨0, ![]⟩
abbrev S2048x6x128 : Shape := ⟨3, ![2048, 6, 128]⟩
abbrev S1x2048x6x256 : Shape := ⟨4, ![1, 2048, 6, 256]⟩
abbrev S2048x1536 : Shape := ⟨2, ![2048, 1536]⟩
abbrev S2048x64 : Shape := ⟨2, ![2048, 64]⟩
abbrev S2048x1x64 : Shape := ⟨3, ![2048, 1, 64]⟩
abbrev S2048x1x128 : Shape := ⟨3, ![2048, 1, 128]⟩
abbrev S2048x128 : Shape := ⟨2, ![2048, 128]⟩
abbrev S1x6x2048x2048 : Shape := ⟨4, ![1, 6, 2048, 2048]⟩
abbrev S1x2048x2048x6 : Shape := ⟨4, ![1, 2048, 2048, 6]⟩
abbrev S1x6x2048 : Shape := ⟨3, ![1, 6, 2048]⟩
abbrev S1x6x2048x1 : Shape := ⟨4, ![1, 6, 2048, 1]⟩
abbrev S1x6x128x2048 : Shape := ⟨4, ![1, 6, 128, 2048]⟩
abbrev S6x2048x1 : Shape := ⟨3, ![6, 2048, 1]⟩
abbrev S1024x128 : Shape := ⟨2, ![1024, 128]⟩
abbrev S1x1024x1 : Shape := ⟨3, ![1, 1024, 1]⟩
abbrev S2048x256 : Shape := ⟨2, ![2048, 256]⟩
abbrev S1024x256 : Shape := ⟨2, ![1024, 256]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 72
  | .vmem => 25
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x6x64, .f32⟩
  | .hbm, ⟨2, _⟩ => ⟨S1x2048x6x128, .f32⟩
  | .hbm, ⟨3, _⟩ => ⟨S1x2048x64, .f32⟩
  | .hbm, ⟨4, _⟩ => ⟨S1x2048x6x128, .f32⟩
  | .hbm, ⟨5, _⟩ => ⟨S1x2048x6x128, .f32⟩
  | .hbm, ⟨6, _⟩ => ⟨S2048x768, .f32⟩
  | .hbm, ⟨7, _⟩ => ⟨S2048x768, .bf16⟩
  | .hbm, ⟨8, _⟩ => ⟨S2048x384, .f32⟩
  | .hbm, ⟨9, _⟩ => ⟨S2048x6x64, .f32⟩
  | .hbm, ⟨10, _⟩ => ⟨S_, .i32⟩
  | .hbm, ⟨11, _⟩ => ⟨S_, .f32⟩
  | .hbm, ⟨12, _⟩ => ⟨S2048x6x128, .f32⟩
  | .hbm, ⟨13, _⟩ => ⟨S2048x768, .f32⟩
  | .hbm, ⟨14, _⟩ => ⟨S2048x768, .bf16⟩
  | .hbm, ⟨15, _⟩ => ⟨S1x2048x6x256, .f32⟩
  | .hbm, ⟨16, _⟩ => ⟨S2048x1536, .f32⟩
  | .hbm, ⟨17, _⟩ => ⟨S2048x1536, .bf16⟩
  | .hbm, ⟨18, _⟩ => ⟨S2048x64, .f32⟩
  | .hbm, ⟨19, _⟩ => ⟨S2048x1x64, .f32⟩
  | .hbm, ⟨20, _⟩ => ⟨S_, .i32⟩
  | .hbm, ⟨21, _⟩ => ⟨S_, .f32⟩
  | .hbm, ⟨22, _⟩ => ⟨S2048x1x128, .f32⟩
  | .hbm, ⟨23, _⟩ => ⟨S2048x128, .f32⟩
  | .hbm, ⟨24, _⟩ => ⟨S2048x128, .bf16⟩
  | .hbm, ⟨25, _⟩ => ⟨S1x6x2048x2048, .f32⟩
  | .hbm, ⟨26, _⟩ => ⟨S1x2048x2048x6, .f32⟩
  | .hbm, ⟨27, _⟩ => ⟨S1x6x2048x2048, .f32⟩
  | .hbm, ⟨28, _⟩ => ⟨S1x6x2048x2048, .f32⟩
  | .hbm, ⟨29, _⟩ => ⟨S_, .f32⟩
  | .hbm, ⟨30, _⟩ => ⟨S1x6x2048x2048, .f32⟩
  | .hbm, ⟨31, _⟩ => ⟨S1x6x2048x2048, .f32⟩
  | .hbm, ⟨32, _⟩ => ⟨S_, .f32⟩
  | .hbm, ⟨33, _⟩ => ⟨S1x6x2048, .f32⟩
  | .hbm, ⟨34, _⟩ => ⟨S_, .f32⟩
  | .hbm, ⟨35, _⟩ => ⟨S1x6x2048, .f32⟩
  | .hbm, ⟨36, _⟩ => ⟨S1x6x2048, .f32⟩
  | .hbm, ⟨37, _⟩ => ⟨S1x6x2048x1, .f32⟩
  | .hbm, ⟨38, _⟩ => ⟨S1x6x2048x2048, .f32⟩
  | .hbm, ⟨39, _⟩ => ⟨S1x6x2048x2048, .f32⟩
  | .hbm, ⟨40, _⟩ => ⟨S1x6x2048x2048, .f32⟩
  | .hbm, ⟨41, _⟩ => ⟨S_, .f32⟩
  | .hbm, ⟨42, _⟩ => ⟨S1x6x2048, .f32⟩
  | .hbm, ⟨43, _⟩ => ⟨S1x6x2048x1, .f32⟩
  | .hbm, ⟨44, _⟩ => ⟨S1x6x2048x2048, .f32⟩
  | .hbm, ⟨45, _⟩ => ⟨S1x6x2048x2048, .f32⟩
  | .hbm, ⟨46, _⟩ => ⟨S1x6x128x2048, .f32⟩
  | .hbm, ⟨47, _⟩ => ⟨S1x2048x6x128, .f32⟩
  | .hbm, ⟨48, _⟩ => ⟨S2048x768, .f32⟩
  | .hbm, ⟨49, _⟩ => ⟨S1x6x2048x2048, .f32⟩
  | .hbm, ⟨50, _⟩ => ⟨S1x2048x2048x6, .f32⟩
  | .hbm, ⟨51, _⟩ => ⟨S1x6x2048x2048, .f32⟩
  | .hbm, ⟨52, _⟩ => ⟨S1x6x2048x2048, .f32⟩
  | .hbm, ⟨53, _⟩ => ⟨S_, .f32⟩
  | .hbm, ⟨54, _⟩ => ⟨S1x6x2048x2048, .f32⟩
  | .hbm, ⟨55, _⟩ => ⟨S1x6x2048x2048, .f32⟩
  | .hbm, ⟨56, _⟩ => ⟨S_, .f32⟩
  | .hbm, ⟨57, _⟩ => ⟨S1x6x2048, .f32⟩
  | .hbm, ⟨58, _⟩ => ⟨S1x6x2048x1, .f32⟩
  | .hbm, ⟨59, _⟩ => ⟨S1x6x2048x2048, .f32⟩
  | .hbm, ⟨60, _⟩ => ⟨S1x6x2048x2048, .f32⟩
  | .hbm, ⟨61, _⟩ => ⟨S1x6x2048x2048, .f32⟩
  | .hbm, ⟨62, _⟩ => ⟨S_, .f32⟩
  | .hbm, ⟨63, _⟩ => ⟨S1x6x2048, .f32⟩
  | .hbm, ⟨64, _⟩ => ⟨S1x6x2048, .f32⟩
  | .hbm, ⟨65, _⟩ => ⟨S1x6x2048, .f32⟩
  | .hbm, ⟨66, _⟩ => ⟨S6x2048x1, .f32⟩
  | .hbm, ⟨67, _⟩ => ⟨S2048x768, .f32⟩
  | .hbm, ⟨68, _⟩ => ⟨S2048x768, .bf16⟩
  | .hbm, ⟨69, _⟩ => ⟨S2048x768, .bf16⟩
  | .hbm, ⟨70, _⟩ => ⟨S2048x1536, .bf16⟩
  | .hbm, ⟨71, _⟩ => ⟨S2048x128, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | .local _ .vmem, ⟨11, _⟩ => ⟨S1x1024x1, .f32⟩
  | .local _ .vmem, ⟨12, _⟩ => ⟨S1x1024x1, .f32⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S2048x256, .bf16⟩
  | .local _ .vmem, ⟨20, _⟩ => ⟨S2048x256, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | _, _ => ⟨S1x2048x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![6, 2], ![false, false]⟩

def k0_cond7 (i : grid0.Coords) : BitVec 1 :=
  let arg1 : BitVec 32 := BitVec.ofNat 32 (i 1).val
  let c1_i32_41 : BitVec 32 := 1#32
  let v69 : BitVec 1 := Scalar.cmpi .eq arg1 c1_i32_41
  let v70 : BitVec 32 := Scalar.extui v69
  let c0_i32_42 : BitVec 32 := 0#32
  let v71 : BitVec 1 := Scalar.cmpi .ne v70 c0_i32_42
  v71

def k0_cond8 (i : grid0.Coords) : BitVec 1 :=
  let arg0 : BitVec 32 := BitVec.ofNat 32 (i 0).val
  let c5_i32 : BitVec 32 := 5#32
  let v72 : BitVec 1 := Scalar.cmpi .eq arg0 c5_i32
  let arg1 : BitVec 32 := BitVec.ofNat 32 (i 1).val
  let c1_i32_43 : BitVec 32 := 1#32
  let v73 : BitVec 1 := Scalar.cmpi .eq arg1 c1_i32_43
  let v74 : BitVec 1 := Scalar.andi v72 v73
  let v75 : BitVec 32 := Scalar.extui v74
  let c0_i32_44 : BitVec 32 := 0#32
  let v76 : BitVec 1 := Scalar.cmpi .ne v75 c0_i32_44
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== AttnRefIdeal.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S1x6x2048x2048 : Shape := ⟨4, ![1, 6, 2048, 2048]⟩
abbrev S1x2048x2048x6 : Shape := ⟨4, ![1, 2048, 2048, 6]⟩
abbrev S_ : Shape := ⟨0, ![]⟩
abbrev S1x6x2048 : Shape := ⟨3, ![1, 6, 2048]⟩
abbrev S1x6x2048x1 : Shape := ⟨4, ![1, 6, 2048, 1]⟩
abbrev S1x6x128x2048 : Shape := ⟨4, ![1, 6, 128, 2048]⟩
abbrev S6x2048 : Shape := ⟨2, ![6, 2048]⟩
abbrev S1x6x2048x128 : Shape := ⟨4, ![1, 6, 2048, 128]⟩
abbrev S2048x768 : Shape := ⟨2, ![2048, 768]⟩
abbrev S1x2048x6x256 : Shape := ⟨4, ![1, 2048, 6, 256]⟩
abbrev S2048x1536 : Shape := ⟨2, ![2048, 1536]⟩
abbrev S1x2048x128 : Shape := ⟨3, ![1, 2048, 128]⟩
abbrev S2048x128 : Shape := ⟨2, ![2048, 128]⟩

abbrev nBuf : Space → Nat
  | .hbm => 97
  | .vmem => 0
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x6x64, .f32⟩
  | .hbm, ⟨2, _⟩ => ⟨S1x2048x6x128, .f32⟩
  | .hbm, ⟨3, _⟩ => ⟨S1x2048x64, .f32⟩
  | .hbm, ⟨4, _⟩ => ⟨S1x2048x6x128, .f32⟩
  | .hbm, ⟨5, _⟩ => ⟨S1x2048x6x128, .f32⟩
  | .hbm, ⟨6, _⟩ => ⟨S1x6x2048x2048, .f32⟩
  | .hbm, ⟨7, _⟩ => ⟨S1x2048x2048x6, .f32⟩
  | .hbm, ⟨8, _⟩ => ⟨S1x6x2048x2048, .f32⟩
  | .hbm, ⟨9, _⟩ => ⟨S1x6x2048x2048, .f32⟩
  | .hbm, ⟨10, _⟩ => ⟨S_, .f32⟩
  | .hbm, ⟨11, _⟩ => ⟨S1x6x2048x2048, .f32⟩
  | .hbm, ⟨12, _⟩ => ⟨S1x6x2048x2048, .f32⟩
  | .hbm, ⟨13, _⟩ => ⟨S_, .f32⟩
  | .hbm, ⟨14, _⟩ => ⟨S1x6x2048, .f32⟩
  | .hbm, ⟨15, _⟩ => ⟨S1x6x2048x1, .f32⟩
  | .hbm, ⟨16, _⟩ => ⟨S1x6x2048x2048, .f32⟩
  | .hbm, ⟨17, _⟩ => ⟨S1x6x2048x2048, .i1⟩
  | .hbm, ⟨18, _⟩ => ⟨S1x6x2048x2048, .f32⟩
  | .hbm, ⟨19, _⟩ => ⟨S_, .f32⟩
  | .hbm, ⟨20, _⟩ => ⟨S1x6x2048, .f32⟩
  | .hbm, ⟨21, _⟩ => ⟨S_, .f32⟩
  | .hbm, ⟨22, _⟩ => ⟨S1x6x2048, .f32⟩
  | .hbm, ⟨23, _⟩ => ⟨S1x6x2048, .f32⟩
  | .hbm, ⟨24, _⟩ => ⟨S_, .f32⟩
  | .hbm, ⟨25, _⟩ => ⟨S1x6x2048, .f32⟩
  | .hbm, ⟨26, _⟩ => ⟨S1x6x2048, .i1⟩
  | .hbm, ⟨27, _⟩ => ⟨S_, .f32⟩
  | .hbm, ⟨28, _⟩ => ⟨S1x6x2048, .f32⟩
  | .hbm, ⟨29, _⟩ => ⟨S1x6x2048, .i1⟩
  | .hbm, ⟨30, _⟩ => ⟨S_, .f32⟩
  | .hbm, ⟨31, _⟩ => ⟨S1x6x2048, .f32⟩
  | .hbm, ⟨32, _⟩ => ⟨S_, .f32⟩
  | .hbm, ⟨33, _⟩ => ⟨S1x6x2048, .f32⟩
  | .hbm, ⟨34, _⟩ => ⟨S_, .f32⟩
  | .hbm, ⟨35, _⟩ => ⟨S1x6x2048, .f32⟩
  | .hbm, ⟨36, _⟩ => ⟨S1x6x2048, .f32⟩
  | .hbm, ⟨37, _⟩ => ⟨S1x6x2048, .f32⟩
  | .hbm, ⟨38, _⟩ => ⟨S1x6x2048x1, .f32⟩
  | .hbm, ⟨39, _⟩ => ⟨S1x6x2048x2048, .f32⟩
  | .hbm, ⟨40, _⟩ => ⟨S1x6x2048x2048, .f32⟩
  | .hbm, ⟨41, _⟩ => ⟨S1x6x2048x2048, .f32⟩
  | .hbm, ⟨42, _⟩ => ⟨S_, .f32⟩
  | .hbm, ⟨43, _⟩ => ⟨S1x6x2048, .f32⟩
  | .hbm, ⟨44, _⟩ => ⟨S1x6x2048x1, .f32⟩
  | .hbm, ⟨45, _⟩ => ⟨S1x6x2048x2048, .f32⟩
  | .hbm, ⟨46, _⟩ => ⟨S1x6x2048x2048, .f32⟩
  | .hbm, ⟨47, _⟩ => ⟨S1x6x2048x1, .f32⟩
  | .hbm, ⟨48, _⟩ => ⟨S_, .f32⟩
  | .hbm, ⟨49, _⟩ => ⟨S1x6x2048x1, .f32⟩
  | .hbm, ⟨50, _⟩ => ⟨S1x6x2048x1, .f32⟩
  | .hbm, ⟨51, _⟩ => ⟨S1x6x128x2048, .f32⟩
  | .hbm, ⟨52, _⟩ => ⟨S1x2048x6x128, .f32⟩
  | .hbm, ⟨53, _⟩ => ⟨S1x6x128x2048, .f32⟩
  | .hbm, ⟨54, _⟩ => ⟨S1x6x2048x2048, .f32⟩
  | .hbm, ⟨55, _⟩ => ⟨S1x6x128x2048, .f32⟩
  | .hbm, ⟨56, _⟩ => ⟨S1x2048x6x128, .f32⟩
  | .hbm, ⟨57, _⟩ => ⟨S1x6x2048x2048, .f32⟩
  | .hbm, ⟨58, _⟩ => ⟨S1x6x2048x2048, .f32⟩
  | .hbm, ⟨59, _⟩ => ⟨S1x6x2048x2048, .f32⟩
  | .hbm, ⟨60, _⟩ => ⟨S_, .f32⟩
  | .hbm, ⟨61, _⟩ => ⟨S1x6x2048, .f32⟩
  | .hbm, ⟨62, _⟩ => ⟨S1x6x2048x1, .f32⟩
  | .hbm, ⟨63, _⟩ => ⟨S1x6x2048x1, .f32⟩
  | .hbm, ⟨64, _⟩ => ⟨S1x6x2048x2048, .f32⟩
  | .hbm, ⟨65, _⟩ => ⟨S1x6x2048x2048, .f32⟩
  | .hbm, ⟨66, _⟩ => ⟨S_, .f32⟩
  | .hbm, ⟨67, _⟩ => ⟨S6x2048, .f32⟩
  | .hbm, ⟨68, _⟩ => ⟨S1x6x2048, .f32⟩
  | .hbm, ⟨69, _⟩ => ⟨S1x6x2048x2048, .f32⟩
  | .hbm, ⟨70, _⟩ => ⟨S1x6x2048x2048, .f32⟩
  | .hbm, ⟨71, _⟩ => ⟨S1x6x2048x2048, .f32⟩
  | .hbm, ⟨72, _⟩ => ⟨S_, .f32⟩
  | .hbm, ⟨73, _⟩ => ⟨S1x6x2048x2048, .f32⟩
  | .hbm, ⟨74, _⟩ => ⟨S1x6x2048x2048, .f32⟩
  | .hbm, ⟨75, _⟩ => ⟨S1x2048x2048x6, .f32⟩
  | .hbm, ⟨76, _⟩ => ⟨S1x2048x6x64, .f32⟩
  | .hbm, ⟨77, _⟩ => ⟨S1x2048x64, .f32⟩
  | .hbm, ⟨78, _⟩ => ⟨S1x6x2048x128, .f32⟩
  | .hbm, ⟨79, _⟩ => ⟨S1x2048x6x128, .f32⟩
  | .hbm, ⟨80, _⟩ => ⟨S1x6x2048x128, .f32⟩
  | .hbm, ⟨81, _⟩ => ⟨S1x2048x6x128, .f32⟩
  | .hbm, ⟨82, _⟩ => ⟨S2048x768, .f32⟩
  | .hbm, ⟨83, _⟩ => ⟨S_, .i32⟩
  | .hbm, ⟨84, _⟩ => ⟨S_, .f32⟩
  | .hbm, ⟨85, _⟩ => ⟨S1x2048x6x128, .f32⟩
  | .hbm, ⟨86, _⟩ => ⟨S2048x768, .f32⟩
  | .hbm, ⟨87, _⟩ => ⟨S1x2048x6x256, .f32⟩
  | .hbm, ⟨88, _⟩ => ⟨S2048x1536, .f32⟩
  | .hbm, ⟨89, _⟩ => ⟨S_, .i32⟩
  | .hbm, ⟨90, _⟩ => ⟨S_, .f32⟩
  | .hbm, ⟨91, _⟩ => ⟨S1x2048x128, .f32⟩
  | .hbm, ⟨92, _⟩ => ⟨S2048x128, .f32⟩
  | .hbm, ⟨93, _⟩ => ⟨S2048x768, .bf16⟩
  | .hbm, ⟨94, _⟩ => ⟨S2048x768, .bf16⟩
  | .hbm, ⟨95, _⟩ => ⟨S2048x1536, .bf16⟩
  | .hbm, ⟨96, _⟩ => ⟨S2048x128, .bf16⟩
  | _, _ => ⟨S1x2048x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c : Ref sig .tc := ⟨.hbm, 83, rfl⟩
abbrev main_call0_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_call1_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Mod.lean ====
abbrev S1x2048x2048 : Shape := ⟨3, ![1, 2048, 2048]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_15 : BitVec 32 := 0#32
  let v39 : BitVec 1 := Scalar.cmpi .ne v38 c0_i32_15
  v39

def k0_cond2 (i : grid0.Coords) : BitVec 1 :=
  let arg0 : BitVec 32 := BitVec.ofNat 32 (i 0).val
  let c0_i32_16 : BitVec 32 := 0#32
  let v40 : BitVec 1 := Scalar.cmpi .ne arg0 c0_i32_16
  let v41 : BitVec 32 := Scalar.extui v40
  let c0_i32_17 : BitVec 32 := 0#32
  let v42 : BitVec 1 := Scalar.cmpi .ne v41 c0_i32_17
  v42

def k0_cond3 (i : grid0.Coords) : BitVec 1 :=
  let arg0 : BitVec 32 := BitVec.ofNat 32 (i 0).val
  let c0_i32_19 : BitVec 32 := 0#32
  let v48 : BitVec 1 := Scalar.cmpi .eq arg0 c0_i32_19
  let v49 : BitVec 32 := Scalar.extui v48
  let c0_i32_20 : BitVec 32 := 0#32
  let v50 : BitVec 1 := Scalar.cmpi .ne v49 c0_i32_20
  v50

def k0_cond4 (i : grid0.Coords) : BitVec 1 :=
  let arg0 : BitVec 32 := BitVec.ofNat 32 (i 0).val
  let c0_i32_21 : BitVec 32 := 0#32
  let v51 : BitVec 1 := Scalar.cmpi .ne arg0 c0_i32_21
  let v52 : BitVec 32 := Scalar.extui v51
  let c0_i32_22 : BitVec 32 := 0#32
  let v53 : BitVec 1 := Scalar.cmpi .ne v52 c0_i32_22
  v53

def k0_cond5 (i : grid0.Coords) : BitVec 1 :=
  let arg0 : BitVec 32 := BitVec.ofNat 32 (i 0).val
  let c0_i32_24 : BitVec 32 := 0#32
  let v56 : BitVec 1 := Scalar.cmpi .eq arg0 c0_i32_24
  let v57 : BitVec 32 := Scalar.extui v56
  let c0_i32_25 : BitVec 32 := 0#32
  let v58 : BitVec 1 := Scalar.cmpi .ne v57 c0_i32_25
  v58

def k0_cond6 (i : grid0.Coords) : BitVec 1 :=
  let arg0 : BitVec 32 := BitVec.ofNat 32 (i 0).val
  let c0_i32_26 : BitVec 32 := 0#32
  let v59 : BitVec 1 := Scalar.cmpi .ne arg0 c0_i32_26
  let v60 : BitVec 32 := Scalar.extui v59
  let c0_i32_27 : BitVec 32 := 0#32
  let v61 : BitVec 1 := Scalar.cmpi .ne v60 c0_i32_27
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ModRefIdeal.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S1x2048x2048, .f32⟩
  | .hbm, ⟨30, _⟩ => ⟨S1x2048x2048, .f32⟩
  | .hbm, ⟨31, _⟩ => ⟨S1x1x2048, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048, .f32⟩
  | .hbm, ⟨37, _⟩ => ⟨S1x1x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S1x2048x2048, .f32⟩
  | .hbm, ⟨42, _⟩ => ⟨S_, .f32⟩
  | .hbm, ⟨43, _⟩ => ⟨S1x2048, .f32⟩
  | .hbm, ⟨44, _⟩ => ⟨S1x1x2048, .f32⟩
  | .hbm, ⟨45, _⟩ => ⟨S1x2048x2048, .f32⟩
  | .hbm, ⟨46, _⟩ => ⟨S1x2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048x2048, .f32⟩
  | .hbm, ⟨51, _⟩ => ⟨S_, .f32⟩
  | .hbm, ⟨52, _⟩ => ⟨S1x2048, .f32⟩
  | .hbm, ⟨53, _⟩ => ⟨S1x1x2048, .f32⟩
  | .hbm, ⟨54, _⟩ => ⟨S1x2048x2048, .f32⟩
  | .hbm, ⟨55, _⟩ => ⟨S1x2048x2048, .f32⟩
  | .hbm, ⟨56, _⟩ => ⟨S_, .f32⟩
  | .hbm, ⟨57, _⟩ => ⟨S2048, .f32⟩
  | .hbm, ⟨58, _⟩ => ⟨S1x2048x2048, .f32⟩
  | .hbm, ⟨59, _⟩ => ⟨S_, .f32⟩
  | .hbm, ⟨60, _⟩ => ⟨S1x2048, .f32⟩
  | .hbm, ⟨61, _⟩ => ⟨S1x2048x1, .f32⟩
  | .hbm, ⟨62, _⟩ => ⟨S1x2048x2048, .f32⟩
  | .hbm, ⟨63, _⟩ => ⟨S1x2048x2048, .f32⟩
  | .hbm, ⟨64, _⟩ => ⟨S1x2048x1, .f32⟩
  | .hbm, ⟨65, _⟩ => ⟨S_, .f32⟩
  | .hbm, ⟨66, _⟩ => ⟨S1x2048x1, .f32⟩
  | .hbm, ⟨67, _⟩ => ⟨S1x2048x1, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S1x2048x2048, .f32⟩
  | .hbm, ⟨72, _⟩ => ⟨S1x2048x2048, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S2048x2048, .f32⟩
  | .hbm, ⟨77, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Rms.lean ====
abbrev S1x2048x6x128 : Shape := ⟨4, ![1, 2048, 6, 128]⟩
abbrev S128 : Shape := ⟨1, ![128]⟩
abbrev S2048x6x128 : Shape := ⟨3, ![2048, 6, 128]⟩
abbrev S2048x768 : Shape := ⟨2, ![2048, 768]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S1x2048x6x128, .f32⟩
  | .hbm, ⟨1, _⟩ => ⟨S128, .f32⟩
  | .hbm, ⟨2, _⟩ => ⟨S1x2048x6x128, .f32⟩
  | .hbm, ⟨3, _⟩ => ⟨S2048x6x128, .f32⟩
  | .hbm, ⟨4, _⟩ => ⟨S2048x768, .f32⟩
  | .hbm, ⟨5, _⟩ => ⟨S1x128, .f32⟩
  | .hbm, ⟨6, _⟩ => ⟨S2048x6x128, .f32⟩
  | .hbm, ⟨7, _⟩ => ⟨S2048x768, .f32⟩
  | .hbm, ⟨8, _⟩ => ⟨S2048x768, .f32⟩
  | .hbm, ⟨9, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S1x128, .f32⟩
  | _, _ => ⟨S1x2048x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_11 : BitVec 32 := 0#32
  let v30 : BitVec 1 := Scalar.cmpi .eq arg1 c0_i32_11
  let v31 : BitVec 1 := Scalar.andi v29 v30
  let c0_i32_12 : BitVec 32 := 0#32
  let c1_i32 : BitVec 32 := 1#32
  let v32 : BitVec 32 := Scalar.select v31 c0_i32_12 c1_i32
  let c0_i32_14 : BitVec 32 := 0#32
  let v36 : BitVec 1 := Scalar.cmpi .eq v32 c0_i32_14
  let v37 : BitVec 32 := Scalar.extui v36
  let c0_i32_15 : BitVec 32 := 0#32
  let v38 : BitVec 1 := Scalar.cmpi .ne v37 c0_i32_15
  v38

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_11 : BitVec 32 := 0#32
  let v30 : BitVec 1 := Scalar.cmpi .eq arg1 c0_i32_11
  let v31 : BitVec 1 := Scalar.andi v29 v30
  let c0_i32_12 : BitVec 32 := 0#32
  let c1_i32 : BitVec 32 := 1#32
  let v32 : BitVec 32 := Scalar.select v31 c0_i32_12 c1_i32
  let c0_i32_16 : BitVec 32 := 0#32
  let v39 : BitVec 1 := Scalar.cmpi .ne v32 c0_i32_16
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== RmsRefIdeal.lean ====
abbrev S1x2048x6x128 : Shape := ⟨4, ![1, 2048, 6, 128]⟩
abbrev S128 : Shape := ⟨1, ![128]⟩
abbrev S_ : Shape := ⟨0, ![]⟩
abbrev S1x2048x6 : Shape := ⟨3, ![1, 2048, 6]⟩
abbrev S1x2048x6x1 : Shape := ⟨4, ![1, 2048, 6, 1]⟩
abbrev S1x1x1x128 : Shape := ⟨4, ![1, 1, 1, 128]⟩
abbrev S1x128 : Shape := ⟨2, ![1, 128]⟩
abbrev S2048x6 : Shape := ⟨2, ![2048, 6]⟩
abbrev S2048x768 : Shape := ⟨2, ![2048, 768]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x6x128, .f32⟩
  | .hbm, ⟨1, _⟩ => ⟨S128, .f32⟩
  | .hbm, ⟨2, _⟩ => ⟨S1x2048x6x128, .f32⟩
  | .hbm, ⟨3, _⟩ => ⟨S1x2048x6x128, .f32⟩
  | .hbm, ⟨4, _⟩ => ⟨S_, .f32⟩
  | .hbm, ⟨5, _⟩ => ⟨S1x2048x6, .f32⟩
  | .hbm, ⟨6, _⟩ => ⟨S1x2048x6x1, .f32⟩
  | .hbm, ⟨7, _⟩ => ⟨S_, .f32⟩
  | .hbm, ⟨8, _⟩ => ⟨S1x2048x6x1, .f32⟩
  | .hbm, ⟨9, _⟩ => ⟨S1x2048x6x1, .f32⟩
  | .hbm, ⟨10, _⟩ => ⟨S_, .f32⟩
  | .hbm, ⟨11, _⟩ => ⟨S1x2048x6x1, .f32⟩
  | .hbm, ⟨12, _⟩ => ⟨S1x2048x6x1, .f32⟩
  | .hbm, ⟨13, _⟩ => ⟨S1x2048x6x1, .f32⟩
  | .hbm, ⟨14, _⟩ => ⟨S1x2048x6x1, .f32⟩
  | .hbm, ⟨15, _⟩ => ⟨S_, .f32⟩
  | .hbm, ⟨16, _⟩ => ⟨S1x2048x6x1, .f32⟩
  | .hbm, ⟨17, _⟩ => ⟨S1x2048x6x1, .f32⟩
  | .hbm, ⟨18, _⟩ => ⟨S1x2048x6x128, .f32⟩
  | .hbm, ⟨19, _⟩ => ⟨S1x2048x6x128, .f32⟩
  | .hbm, ⟨20, _⟩ => ⟨S1x1x1x128, .f32⟩
  | .hbm, ⟨21, _⟩ => ⟨S1x2048x6x128, .f32⟩
  | .hbm, ⟨22, _⟩ => ⟨S1x2048x6x128, .f32⟩
  | .hbm, ⟨23, _⟩ => ⟨S1x2048x6x128, .f32⟩
  | .hbm, ⟨24, _⟩ => ⟨S_, .f32⟩
  | .hbm, ⟨25, _⟩ => ⟨S1x128, .f32⟩
  | .hbm, ⟨26, _⟩ => ⟨S1x1x1x128, .f32⟩
  | .hbm, ⟨27, _⟩ => ⟨S1x2048x6x128, .f32⟩
  | .hbm, ⟨28, _⟩ => ⟨S1x2048x6x128, .f32⟩
  | .hbm, ⟨29, _⟩ => ⟨S_, .f32⟩
  | .hbm, ⟨30, _⟩ => ⟨S128, .f32⟩
  | .hbm, ⟨31, _⟩ => ⟨S1x2048x6x128, .f32⟩
  | .hbm, ⟨32, _⟩ => ⟨S_, .f32⟩
  | .hbm, ⟨33, _⟩ => ⟨S1x2048x6, .f32⟩
  | .hbm, ⟨34, _⟩ => ⟨S1x2048x6x1, .f32⟩
  | .hbm, ⟨35, _⟩ => ⟨S1x2048x6x128, .f32⟩
  | .hbm, ⟨36, _⟩ => ⟨S1x2048x6x128, .f32⟩
  | .hbm, ⟨37, _⟩ => ⟨S1x2048x6x1, .f32⟩
  | .hbm, ⟨38, _⟩ => ⟨S_, .f32⟩
  | .hbm, ⟨39, _⟩ => ⟨S1x2048x6x1, .f32⟩
  | .hbm, ⟨40, _⟩ => ⟨S1x2048x6x1, .f32⟩
  | .hbm, ⟨41, _⟩ => ⟨S_, .f32⟩
  | .hbm, ⟨42, _⟩ => ⟨S2048x6, .f32⟩
  | .hbm, ⟨43, _⟩ => ⟨S1x2048x6, .f32⟩
  | .hbm, ⟨44, _⟩ => ⟨S1x2048x6x128, .f32⟩
  | .hbm, ⟨45, _⟩ => ⟨S1x2048x6x128, .f32⟩
  | .hbm, ⟨46, _⟩ => ⟨S1x2048x6x128, .f32⟩
  | .hbm, ⟨47, _⟩ => ⟨S1x2048x6x128, .f32⟩
  | .hbm, ⟨48, _⟩ => ⟨S1x2048x6x128, .f32⟩
  | .hbm, ⟨49, _⟩ => ⟨S2048x768, .f32⟩
  | .hbm, ⟨50, _⟩ => ⟨S1x128, .f32⟩
  | _, _ => ⟨S1x2048x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Res.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .ne arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResRefIdeal.lean ====
abbrev S1x2048x2048 : Shape := ⟨3, ![1, 2048, 2048]⟩
abbrev S1x2048 : Shape := ⟨2, ![1, 2048]⟩
abbrev S1x1x2048 : Shape := ⟨3, ![1, 1, 2048]⟩
abbrev S_ : Shape := ⟨0, ![]⟩
abbrev S2048 : Shape := ⟨1, ![2048]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S1x1x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S_, .f32⟩
  | .hbm, ⟨12, _⟩ => ⟨S1x2048, .f32⟩
  | .hbm, ⟨13, _⟩ => ⟨S1x1x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GateAct.lean ====
abbrev S2048x768 : Shape := ⟨2, ![2048, 768]⟩
abbrev S384 : Shape := ⟨1, ![384]⟩
abbrev S768 : Shape := ⟨1, ![768]⟩
abbrev S1x768 : Shape := ⟨2, ![1, 768]⟩
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S384, .f32⟩
  | .hbm, ⟨2, _⟩ => ⟨S384, .f32⟩
  | .hbm, ⟨3, _⟩ => ⟨S2048x768, .f32⟩
  | .hbm, ⟨4, _⟩ => ⟨S768, .f32⟩
  | .hbm, ⟨5, _⟩ => ⟨S1x768, .f32⟩
  | .hbm, ⟨6, _⟩ => ⟨S2048x768, .f32⟩
  | .hbm, ⟨7, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S512x768, .f32⟩
  | .local _ .vmem, ⟨6, _⟩ => ⟨S512x768, .f32⟩
  | .local _ .vmem, ⟨7, _⟩ => ⟨S1x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32_13 : BitVec 32 := 0#32
  let v24 : BitVec 1 := Scalar.cmpi .ne arg0 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateActRefIdeal.lean ====
abbrev S2048x768 : Shape := ⟨2, ![2048, 768]⟩
abbrev S384 : Shape := ⟨1, ![384]⟩
abbrev S2048x384 : Shape := ⟨2, ![2048, 384]⟩
abbrev S1x384 : Shape := ⟨2, ![1, 384]⟩
abbrev S_ : Shape := ⟨0, ![]⟩
abbrev S768 : Shape := ⟨1, ![768]⟩
abbrev S1x768 : Shape := ⟨2, ![1, 768]⟩

abbrev nBuf : Space → Nat
  | .hbm => 142
  | .vmem => 0
  | .smem => 0
  | _ => 0

abbrev hbmTy0_0 (i : Nat) : BufTy := match i % 128 with
  | 0 => ⟨S2048x768, .f32⟩
  | 1 => ⟨S384, .f32⟩
  | 2 => ⟨S384, .f32⟩
  | 3 => ⟨S2048x768, .f32⟩
  | 4 => ⟨S2048x384, .f32⟩
  | 5 => ⟨S2048x384, .f32⟩
  | 6 => ⟨S1x384, .f32⟩
  | 7 => ⟨S2048x384, .f32⟩
  | 8 => ⟨S2048x384, .f32⟩
  | 9 => ⟨S2048x384, .f32⟩
  | 10 => ⟨S_, .f32⟩
  | 11 => ⟨S2048x384, .f32⟩
  | 12 => ⟨S2048x384, .f32⟩
  | 13 => ⟨S2048x384, .f32⟩
  | 14 => ⟨S2048x384, .f32⟩
  | 15 => ⟨S2048x384, .i1⟩
  | 16 => ⟨S2048x384, .f32⟩
  | 17 => ⟨S2048x384, .f32⟩
  | 18 => ⟨S2048x384, .f32⟩
  | 19 => ⟨S2048x384, .f32⟩
  | 20 => ⟨S2048x384, .f32⟩
  | 21 => ⟨S2048x384, .f32⟩
  | 22 => ⟨S2048x384, .f32⟩
  | 23 => ⟨S2048x384, .f32⟩
  | 24 => ⟨S_, .f32⟩
  | 25 => ⟨S2048x384, .f32⟩
  | 26 => ⟨S2048x384, .i1⟩
  | 27 => ⟨S_, .f32⟩
  | 28 => ⟨S2048x384, .f32⟩
  | 29 => ⟨S2048x384, .f32⟩
  | 30 => ⟨S_, .f32⟩
  | 31 => ⟨S2048x384, .f32⟩
  | 32 => ⟨S2048x384, .i1⟩
  | 33 => ⟨S_, .f32⟩
  | 34 => ⟨S2048x384, .f32⟩
  | 35 => ⟨S2048x384, .f32⟩
  | 36 => ⟨S2048x384, .f32⟩
  | 37 => ⟨S2048x384, .f32⟩
  | 38 => ⟨S_, .f32⟩
  | 39 => ⟨S_, .f32⟩
  | 40 => ⟨S_, .i1⟩
  | 41 => ⟨S_, .f32⟩
  | 42 => ⟨S_, .f32⟩
  | 43 => ⟨S_, .f32⟩
  | 44 => ⟨S_, .f32⟩
  | 45 => ⟨S2048x384, .f32⟩
  | 46 => ⟨S2048x384, .i1⟩
  | 47 => ⟨S_, .f32⟩
  | 48 => ⟨S2048x384, .f32⟩
  | 49 => ⟨S2048x384, .f32⟩
  | 50 => ⟨S2048x384, .f32⟩
  | 51 => ⟨S2048x384, .f32⟩
  | 52 => ⟨S2048x384, .f32⟩
  | 53 => ⟨S_, .f32⟩
  | 54 => ⟨S2048x384, .f32⟩
  | 55 => ⟨S2048x384, .f32⟩
  | 56 => ⟨S2048x384, .f32⟩
  | 57 => ⟨S_, .f32⟩
  | 58 => ⟨S2048x384, .f32⟩
  | 59 => ⟨S2048x384, .f32⟩
  | 60 => ⟨S1x384, .f32⟩
  | 61 => ⟨S2048x384, .f32⟩
  | 62 => ⟨S2048x384, .f32⟩
  | 63 => ⟨S2048x384, .f32⟩
  | 64 => ⟨S_, .f32⟩
  | 65 => ⟨S2048x384, .f32⟩
  | 66 => ⟨S2048x384, .f32⟩
  | 67 => ⟨S2048x384, .f32⟩
  | 68 => ⟨S2048x384, .f32⟩
  | 69 => ⟨S2048x384, .i1⟩
  | 70 => ⟨S2048x384, .f32⟩
  | 71 => ⟨S2048x384, .f32⟩
  | 72 => ⟨S2048x384, .f32⟩
  | 73 => ⟨S2048x384, .f32⟩
  | 74 => ⟨S2048x384, .f32⟩
  | 75 => ⟨S2048x384, .f32⟩
  | 76 => ⟨S2048x384, .f32⟩
  | 77 => ⟨S2048x384, .f32⟩
  | 78 => ⟨S_, .f32⟩
  | 79 => ⟨S2048x384, .f32⟩
  | 80 => ⟨S2048x384, .i1⟩
  | 81 => ⟨S_, .f32⟩
  | 82 => ⟨S2048x384, .f32⟩
  | 83 => ⟨S2048x384, .f32⟩
  | 84 => ⟨S_, .f32⟩
  | 85 => ⟨S2048x384, .f32⟩
  | 86 => ⟨S2048x384, .i1⟩
  | 87 => ⟨S_, .f32⟩
  | 88 => ⟨S2048x384, .f32⟩
  | 89 => ⟨S2048x384, .f32⟩
  | 90 => ⟨S2048x384, .f32⟩
  | 91 => ⟨S2048x384, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S2048x384, .f32⟩
  | 100 => ⟨S2048x384, .i1⟩
  | 101 => ⟨S_, .f32⟩
  | 102 => ⟨S2048x384, .f32⟩
  | 103 => ⟨S2048x384, .f32⟩
  | 104 => ⟨S2048x384, .f32⟩
  | 105 => ⟨S2048x384, .f32⟩
  | 106 => ⟨S2048x384, .f32⟩
  | 107 => ⟨S_, .f32⟩
  | 108 => ⟨S2048x384, .f32⟩
  | 109 => ⟨S2048x384, .f32⟩
  | 110 => ⟨S2048x384, .f32⟩
  | 111 => ⟨S_, .f32⟩
  | 112 => ⟨S2048x384, .f32⟩
  | 113 => ⟨S2048x384, .f32⟩
  | 114 => ⟨S2048x768, .f32⟩
  | 115 => ⟨S2048x384, .f32⟩
  | 116 => ⟨S2048x384, .f32⟩
  | 117 => ⟨S_, .f32⟩
  | 118 => ⟨S2048x384, .f32⟩
  | 119 => ⟨S2048x384, .f32⟩
  | 120 => ⟨S2048x384, .f32⟩
  | 121 => ⟨S2048x384, .f32⟩
  | 122 => ⟨S2048x384, .f32⟩
  | 123 => ⟨S_, .f32⟩
  | 124 => ⟨S384, .f32⟩
  | 125 => ⟨S1x384, .f32⟩
  | 126 => ⟨S_, .f32⟩
  | 127 => ⟨S384, .f32⟩
  | _ => ⟨S2048x768, .f32⟩

abbrev hbmTy0_1 (i : Nat) : BufTy := match i % 128 with
  | 0 => ⟨S_, .f32⟩
  | 1 => ⟨S2048x384, .f32⟩
  | 2 => ⟨S2048x384, .f32⟩
  | 3 => ⟨S2048x384, .f32⟩
  | 4 => ⟨S2048x384, .f32⟩
  | 5 => ⟨S2048x384, .f32⟩
  | 6 => ⟨S_, .f32⟩
  | 7 => ⟨S384, .f32⟩
  | 8 => ⟨S1x384, .f32⟩
  | 9 => ⟨S_, .f32⟩
  | 10 => ⟨S384, .f32⟩
  | 11 => ⟨S2048x768, .f32⟩
  | 12 => ⟨S768, .f32⟩
  | 13 => ⟨S1x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v5_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v5_2 : Ref sig .tc := ⟨.hbm, 55, rfl⟩
abbrev main_v5_0 : Ref sig .tc := ⟨.hbm, 56, rfl⟩
abbrev main_cst : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1_0 : Ref sig .tc := ⟨.hbm, 77, rfl⟩
abbrev main_call1_call0_cst_0 : Ref sig .tc := ⟨.hbm, 78, rfl⟩
abbrev main_call1_call0_v13 : Ref sig .tc := ⟨.hbm, 79, rfl⟩
abbrev main_call1_call0_v14 : Ref sig .tc := ⟨.hbm, 80, rfl⟩
abbrev main_call1_call0_cst_1 : Ref sig .tc := ⟨.hbm, 81, rfl⟩
abbrev main_call1_call0_v15 : Ref sig .tc := ⟨.hbm, 82, rfl⟩
abbrev main_call1_call0_v16 : Ref sig .tc := ⟨.hbm, 83, rfl⟩
abbrev main_call1_call0_cst_2 : Ref sig .tc := ⟨.hbm, 84, rfl⟩
abbrev main_call1_call0_v17 : Ref sig .tc := ⟨.hbm, 85, rfl⟩
abbrev main_call1_call0_v18 : Ref sig .tc := ⟨.hbm, 86, rfl⟩
abbrev main_call1_call0_cst_3 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_v21 : Ref sig .tc := ⟨.hbm, 90, rfl⟩
abbrev main_v11_1 : Ref sig .tc := ⟨.hbm, 91, rfl⟩
abbrev main_call1_call0_cst_4 : Ref sig .tc := ⟨.hbm, 92, rfl⟩
abbrev main_call1_call0_cst_5 : Ref sig .tc := ⟨.hbm, 93, rfl⟩
abbrev main_call1_call0_v23 : Ref sig .tc := ⟨.hbm, 94, rfl⟩
abbrev main_call1_call0_cst_6 : Ref sig .tc := ⟨.hbm, 95, rfl⟩
abbrev main_call1_call0_cst_7 : Ref sig .tc := ⟨.hbm, 96, rfl⟩
abbrev main_call1_call0_v24 : Ref sig .tc := ⟨.hbm, 97, rfl⟩
abbrev main_call1_call0_cst_8 : Ref sig .tc := ⟨.hbm, 98, rfl⟩
abbrev main_call1_call0_v25 : Ref sig .tc := ⟨.hbm, 99, rfl⟩
abbrev main_call1_call0_v26 : Ref sig .tc := ⟨.hbm, 100, rfl⟩
abbrev main_call1_call0_cst_9 : Ref sig .tc := ⟨.hbm, 101, rfl⟩
abbrev main_call1_call0_v27 : Ref sig .tc := ⟨.hbm, 102, rfl⟩
abbrev main_call1_call0_v28 : Ref sig .tc := ⟨.hbm, 103, rfl⟩
abbrev main_call1_call0_v29 : Ref sig .tc := ⟨.hbm, 104, rfl⟩
abbrev main_call1_call0_v30 : Ref sig .tc := ⟨.hbm, 105, rfl⟩
abbrev main_call1_call0_v31 : Ref sig .tc := ⟨.hbm, 106, rfl⟩
abbrev main_call1_call0_cst_10 : Ref sig .tc := ⟨.hbm, 107, rfl⟩
abbrev main_call1_call0_v32 : Ref sig .tc := ⟨.hbm, 108, rfl⟩
abbrev main_v11_2 : Ref sig .tc := ⟨.hbm, 109, rfl⟩
abbrev main_v11_0 : Ref sig .tc := ⟨.hbm, 110, rfl⟩
abbrev main_cst_0 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_cst_1 : Ref sig .tc := ⟨.hbm, 117, rfl⟩
abbrev main_v17 : Ref sig .tc := ⟨.hbm, 118, rfl⟩
abbrev main_v18 : Ref sig .tc := ⟨.hbm, 119, rfl⟩
abbrev main_call2_v0 : Ref sig .tc := ⟨.hbm, 120, rfl⟩
abbrev main_call2_v1 : Ref sig .tc := ⟨.hbm, 121, rfl⟩
abbrev main_v19 : Ref sig .tc := ⟨.hbm, 122, rfl⟩
abbrev main_cst_2 : Ref sig .tc := ⟨.hbm, 123, rfl⟩
abbrev main_v20 : Ref sig .tc := ⟨.hbm, 124, rfl⟩
abbrev main_v21 : Ref sig .tc := ⟨.hbm, 125, rfl⟩
abbrev main_cst_3 : Ref sig .tc := ⟨.hbm, 126, rfl⟩
abbrev main_v22 : Ref sig .tc := ⟨.hbm, 127, rfl⟩
abbrev main_cst_4 : Ref sig .tc := ⟨.hbm, 128, rfl⟩
abbrev main_v23 : Ref sig .tc := ⟨.hbm, 129, rfl⟩
abbrev main_v24 : Ref sig .tc := ⟨.hbm, 130, rfl⟩
abbrev main_call3_v0 : Ref sig .tc := ⟨.hbm, 131, rfl⟩
abbrev main_call3_v1 : Ref sig .tc := ⟨.hbm, 132, rfl⟩
abbrev main_v25 : Ref sig .tc := ⟨.hbm, 133, rfl⟩
abbrev main_cst_5 : Ref sig .tc := ⟨.hbm, 134, rfl⟩
abbrev main_v26 : Ref sig .tc := ⟨.hbm, 135, rfl⟩
abbrev main_v27 : Ref sig .tc := ⟨.hbm, 136, rfl⟩
abbrev main_cst_6 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩

abbrev nD : Nat := 1
abbrev τ : Topo := Topo.v7x

variable {F : FTy → Type} [FloatOps F]
-- ==== Loss.lean ====
abbrev S1x2048x2048 : Shape := ⟨3, ![1, 2048, 2048]⟩
abbrev S2048x2048 : Shape := ⟨2, ![2048, 2048]⟩
abbrev S1x1 : Shape := ⟨2, ![1, 1]⟩
abbrev S256x2048 : Shape := ⟨2, ![256, 2048]⟩
abbrev S2048 : Shape := ⟨1, ![2048]⟩
abbrev S1x2048 : Shape := ⟨2, ![1, 2048]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .ne arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x2048x2048 : Shape := ⟨3, ![1, 2048, 2048]⟩
abbrev S_ : Shape := ⟨0, ![]⟩
abbrev S1x2048 : Shape := ⟨2, ![1, 2048]⟩
abbrev S1x1 : Shape := ⟨2, ![1, 1]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S_, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048x2048, .f32⟩
  | .hbm, ⟨24, _⟩ => ⟨S1x2048x2048, .f32⟩
  | .hbm, ⟨25, _⟩ => ⟨S1x1, .f32⟩
  | .hbm, ⟨26, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Conv.lean ====
abbrev S1x2048x512 : Shape := ⟨3, ![1, 2048, 512]⟩
abbrev S3x512 : Shape := ⟨2, ![3, 512]⟩
abbrev S_ : Shape := ⟨0, ![]⟩
abbrev S5x512 : Shape := ⟨2, ![5, 512]⟩
abbrev S8x512 : Shape := ⟨2, ![8, 512]⟩
abbrev S2048x512 : Shape := ⟨2, ![2048, 512]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩

abbrev nBuf : Space → Nat
  | .hbm => 16
  | .vmem => 18
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S3x512, .f32⟩
  | .hbm, ⟨4, _⟩ => ⟨S1x2048x512, .f32⟩
  | .hbm, ⟨5, _⟩ => ⟨S_, .f32⟩
  | .hbm, ⟨6, _⟩ => ⟨S5x512, .f32⟩
  | .hbm, ⟨7, _⟩ => ⟨S8x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S8x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | .local _ .vmem, ⟨9, _⟩ => ⟨S8x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S8x128, .f32⟩
  | .local _ .vmem, ⟨17, _⟩ => ⟨S8x128, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S1x2048x512 : Shape := ⟨3, ![1, 2048, 512]⟩
abbrev S3x512 : Shape := ⟨2, ![3, 512]⟩
abbrev S_ : Shape := ⟨0, ![]⟩
abbrev S1x1x512 : Shape := ⟨3, ![1, 1, 512]⟩
abbrev S1x2050x512 : Shape := ⟨3, ![1, 2050, 512]⟩
abbrev S1x512 : Shape := ⟨2, ![1, 512]⟩
abbrev S512 : Shape := ⟨1, ![512]⟩
abbrev S2048x512 : Shape := ⟨2, ![2048, 512]⟩
abbrev S8x512 : Shape := ⟨2, ![8, 512]⟩

abbrev nBuf : Space → Nat
  | .hbm => 90
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S3x512, .f32⟩
  | .hbm, ⟨4, _⟩ => ⟨S1x2048x512, .f32⟩
  | .hbm, ⟨5, _⟩ => ⟨S1x2048x512, .f32⟩
  | .hbm, ⟨6, _⟩ => ⟨S_, .f32⟩
  | .hbm, ⟨7, _⟩ => ⟨S1x1x512, .f32⟩
  | .hbm, ⟨8, _⟩ => ⟨S1x2050x512, .f32⟩
  | .hbm, ⟨9, _⟩ => ⟨S_, .f32⟩
  | .hbm, ⟨10, _⟩ => ⟨S1x1x512, .f32⟩
  | .hbm, ⟨11, _⟩ => ⟨S_, .f32⟩
  | .hbm, ⟨12, _⟩ => ⟨S1x1x512, .f32⟩
  | .hbm, ⟨13, _⟩ => ⟨S1x2048x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S1x2048x512, .f32⟩
  | .hbm, ⟨18, _⟩ => ⟨S1x2048x512, .f32⟩
  | .hbm, ⟨19, _⟩ => ⟨S1x2048x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S1x2048x512, .f32⟩
  | .hbm, ⟨24, _⟩ => ⟨S1x2048x512, .f32⟩
  | .hbm, ⟨25, _⟩ => ⟨S1x2048x512, .f32⟩
  | .hbm, ⟨26, _⟩ => ⟨S1x2048x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S1x2048x512, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S1x2048x512, .f32⟩
  | .hbm, ⟨36, _⟩ => ⟨S1x2048x512, .f32⟩
  | .hbm, ⟨37, _⟩ => ⟨S_, .f32⟩
  | .hbm, ⟨38, _⟩ => ⟨S1x512, .f32⟩
  | .hbm, ⟨39, _⟩ => ⟨S1x1x512, .f32⟩
  | .hbm, ⟨40, _⟩ => ⟨S1x2048x512, .f32⟩
  | .hbm, ⟨41, _⟩ => ⟨S1x2048x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S1x2050x512, .f32⟩
  | .hbm, ⟨49, _⟩ => ⟨S1x2048x512, .f32⟩
  | .hbm, ⟨50, _⟩ => ⟨S_, .f32⟩
  | .hbm, ⟨51, _⟩ => ⟨S1x512, .f32⟩
  | .hbm, ⟨52, _⟩ => ⟨S1x1x512, .f32⟩
  | .hbm, ⟨53, _⟩ => ⟨S1x2048x512, .f32⟩
  | .hbm, ⟨54, _⟩ => ⟨S1x2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S1x2050x512, .f32⟩
  | .hbm, ⟨63, _⟩ => ⟨S1x2050x512, .f32⟩
  | .hbm, ⟨64, _⟩ => ⟨S1x2048x512, .f32⟩
  | .hbm, ⟨65, _⟩ => ⟨S_, .f32⟩
  | .hbm, ⟨66, _⟩ => ⟨S1x512, .f32⟩
  | .hbm, ⟨67, _⟩ => ⟨S1x1x512, .f32⟩
  | .hbm, ⟨68, _⟩ => ⟨S1x2048x512, .f32⟩
  | .hbm, ⟨69, _⟩ => ⟨S1x2048x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S1x2050x512, .f32⟩
  | .hbm, ⟨78, _⟩ => ⟨S1x2050x512, .f32⟩
  | .hbm, ⟨79, _⟩ => ⟨S1x1x512, .f32⟩
  | .hbm, ⟨80, _⟩ => ⟨S1x2048x512, .f32⟩
  | .hbm, ⟨81, _⟩ => ⟨S1x1x512, .f32⟩
  | .hbm, ⟨82, _⟩ => ⟨S1x2048x512, .f32⟩
  | .hbm, ⟨83, _⟩ => ⟨S1x2048x512, .f32⟩
  | .hbm, ⟨84, _⟩ => ⟨S2048x512, .f32⟩
  | .hbm, ⟨85, _⟩ => ⟨S2048x512, .f32⟩
  | .hbm, ⟨86, _⟩ => ⟨S2048x512, .f32⟩
  | .hbm, ⟨87, _⟩ => ⟨S_, .i32⟩
  | .hbm, ⟨88, _⟩ => ⟨S_, .f32⟩
  | .hbm, ⟨89, _⟩ => ⟨S8x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c : Ref sig .tc := ⟨.hbm, 87, rfl⟩
abbrev main_call0_v0 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Rope.lean ====
abbrev S1x2048x6x64 : Shape := ⟨4, ![1, 2048, 6, 64]⟩
abbrev S1x2048x32 : Shape := ⟨3, ![1, 2048, 32]⟩
abbrev S2048x32 : Shape := ⟨2, ![2048, 32]⟩
abbrev S2048x64 : Shape := ⟨2, ![2048, 64]⟩
abbrev S1x2048x1x64 : Shape := ⟨4, ![1, 2048, 1, 64]⟩
abbrev S2048x384 : Shape := ⟨2, ![2048, 384]⟩
abbrev S2048x6x64 : Shape := ⟨3, ![2048, 6, 64]⟩
abbrev S1024x384 : Shape := ⟨2, ![1024, 384]⟩
abbrev S_ : Shape := ⟨0, ![]⟩
abbrev S2048x6x2x32 : Shape := ⟨4, ![2048, 6, 2, 32]⟩
abbrev S2048x6x1x32 : Shape := ⟨4, ![2048, 6, 1, 32]⟩

abbrev nBuf : Space → Nat
  | .hbm => 31
  | .vmem => 10
  | .smem => 0
  | _ => 0

abbrev bufTy : (tb : Table) → Fin (tcTables nBuf tb) → BufTy
  | .hbm, ⟨0, _⟩ => ⟨S1x2048x6x64, .f32⟩
  | .hbm, ⟨1, _⟩ => ⟨S1x2048x32, .f32⟩
  | .hbm, ⟨2, _⟩ => ⟨S1x2048x32, .f32⟩
  | .hbm, ⟨3, _⟩ => ⟨S1x2048x6x64, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x6x64, .f32⟩
  | .hbm, ⟨13, _⟩ => ⟨S2048x384, .f32⟩
  | .hbm, ⟨14, _⟩ => ⟨S1x2048x1x64, .f32⟩
  | .hbm, ⟨15, _⟩ => ⟨S1x2048x6x64, .f32⟩
  | .hbm, ⟨16, _⟩ => ⟨S2048x384, .f32⟩
  | .hbm, ⟨17, _⟩ => ⟨S2048x6x64, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S_, .f32⟩
  | .hbm, ⟨24, _⟩ => ⟨S2048x384, .f32⟩
  | .hbm, ⟨25, _⟩ => ⟨S2048x6x2x32, .f32⟩
  | .hbm, ⟨26, _⟩ => ⟨S2048x6x1x32, .f32⟩
  | .hbm, ⟨27, _⟩ => ⟨S2048x6x1x32, .f32⟩
  | .hbm, ⟨28, _⟩ => ⟨S2048x6x2x32, .f32⟩
  | .hbm, ⟨29, _⟩ => ⟨S2048x384, .f32⟩
  | .hbm, ⟨30, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | _, _ => ⟨S1x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S1x2048x6x64 : Shape := ⟨4, ![1, 2048, 6, 64]⟩
abbrev S1x2048x32 : Shape := ⟨3, ![1, 2048, 32]⟩
abbrev S1x2048x1x32 : Shape := ⟨4, ![1, 2048, 1, 32]⟩
abbrev S1x2048x6x32 : Shape := ⟨4, ![1, 2048, 6, 32]⟩
abbrev S2048x384 : Shape := ⟨2, ![2048, 384]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x6x64, .f32⟩
  | .hbm, ⟨1, _⟩ => ⟨S1x2048x32, .f32⟩
  | .hbm, ⟨2, _⟩ => ⟨S1x2048x32, .f32⟩
  | .hbm, ⟨3, _⟩ => ⟨S1x2048x6x64, .f32⟩
  | .hbm, ⟨4, _⟩ => ⟨S1x2048x1x32, .f32⟩
  | .hbm, ⟨5, _⟩ => ⟨S1x2048x1x32, .f32⟩
  | .hbm, ⟨6, _⟩ => ⟨S1x2048x6x32, .f32⟩
  | .hbm, ⟨7, _⟩ => ⟨S1x2048x6x32, .f32⟩
  | .hbm, ⟨8, _⟩ => ⟨S1x2048x6x32, .f32⟩
  | .hbm, ⟨9, _⟩ => ⟨S1x2048x6x32, .f32⟩
  | .hbm, ⟨10, _⟩ => ⟨S1x2048x6x32, .f32⟩
  | .hbm, ⟨11, _⟩ => ⟨S1x2048x6x32, .f32⟩
  | .hbm, ⟨12, _⟩ => ⟨S1x2048x6x32, .f32⟩
  | .hbm, ⟨13, _⟩ => ⟨S1x2048x6x32, .f32⟩
  | .hbm, ⟨14, _⟩ => ⟨S1x2048x6x32, .f32⟩
  | .hbm, ⟨15, _⟩ => ⟨S1x2048x6x32, .f32⟩
  | .hbm, ⟨16, _⟩ => ⟨S1x2048x6x32, .f32⟩
  | .hbm, ⟨17, _⟩ => ⟨S1x2048x6x32, .f32⟩
  | .hbm, ⟨18, _⟩ => ⟨S1x2048x6x64, .f32⟩
  | .hbm, ⟨19, _⟩ => ⟨S1x2048x6x32, .f32⟩
  | .hbm, ⟨20, _⟩ => ⟨S1x2048x6x32, .f32⟩
  | .hbm, ⟨21, _⟩ => ⟨S1x2048x6x32, .f32⟩
  | .hbm, ⟨22, _⟩ => ⟨S1x2048x6x32, .f32⟩
  | .hbm, ⟨23, _⟩ => ⟨S1x2048x6x32, .f32⟩
  | .hbm, ⟨24, _⟩ => ⟨S1x2048x6x32, .f32⟩
  | .hbm, ⟨25, _⟩ => ⟨S1x2048x6x32, .f32⟩
  | .hbm, ⟨26, _⟩ => ⟨S1x2048x6x32, .f32⟩
  | .hbm, ⟨27, _⟩ => ⟨S1x2048x6x32, .f32⟩
  | .hbm, ⟨28, _⟩ => ⟨S1x2048x6x32, .f32⟩
  | .hbm, ⟨29, _⟩ => ⟨S1x2048x6x32, .f32⟩
  | .hbm, ⟨30, _⟩ => ⟨S1x2048x6x32, .f32⟩
  | .hbm, ⟨31, _⟩ => ⟨S1x2048x6x32, .f32⟩
  | .hbm, ⟨32, _⟩ => ⟨S1x2048x6x64, .f32⟩
  | .hbm, ⟨33, _⟩ => ⟨S2048x384, .f32⟩
  | _, _ => ⟨S1x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== AttnFwd.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S2048x768 : Shape := ⟨2, ![2048, 768]⟩
abbrev S2048x384 : Shape := ⟨2, ![2048, 384]⟩
abbrev S2048x6x64 : Shape := ⟨3, ![2048, 6, 64]⟩
abbrev S_ : Shape := ⟨0, ![]⟩
abbrev S2048x6x128 : Shape := ⟨3, ![2048, 6, 128]⟩
abbrev S1x2048x6x256 : Shape := ⟨4, ![1, 2048, 6, 256]⟩
abbrev S2048x1536 : Shape := ⟨2, ![2048, 1536]⟩
abbrev S2048x64 : Shape := ⟨2, ![2048, 64]⟩
abbrev S2048x1x64 : Shape := ⟨3, ![2048, 1, 64]⟩
abbrev S2048x1x128 : Shape := ⟨3, ![2048, 1, 128]⟩
abbrev S2048x128 : Shape := ⟨2, ![2048, 128]⟩
abbrev S6x2048x1 : Shape := ⟨3, ![6, 2048, 1]⟩
abbrev S256x128 : Shape := ⟨2, ![256, 128]⟩
abbrev S1x256x1 : Shape := ⟨3, ![1, 256, 1]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x6x64, .f32⟩
  | .hbm, ⟨2, _⟩ => ⟨S1x2048x6x128, .f32⟩
  | .hbm, ⟨3, _⟩ => ⟨S1x2048x64, .f32⟩
  | .hbm, ⟨4, _⟩ => ⟨S1x2048x6x128, .f32⟩
  | .hbm, ⟨5, _⟩ => ⟨S2048x768, .f32⟩
  | .hbm, ⟨6, _⟩ => ⟨S2048x768, .bf16⟩
  | .hbm, ⟨7, _⟩ => ⟨S2048x384, .f32⟩
  | .hbm, ⟨8, _⟩ => ⟨S2048x6x64, .f32⟩
  | .hbm, ⟨9, _⟩ => ⟨S_, .i32⟩
  | .hbm, ⟨10, _⟩ => ⟨S_, .f32⟩
  | .hbm, ⟨11, _⟩ => ⟨S2048x6x128, .f32⟩
  | .hbm, ⟨12, _⟩ => ⟨S2048x768, .f32⟩
  | .hbm, ⟨13, _⟩ => ⟨S2048x768, .bf16⟩
  | .hbm, ⟨14, _⟩ => ⟨S1x2048x6x256, .f32⟩
  | .hbm, ⟨15, _⟩ => ⟨S2048x1536, .f32⟩
  | .hbm, ⟨16, _⟩ => ⟨S2048x1536, .bf16⟩
  | .hbm, ⟨17, _⟩ => ⟨S2048x64, .f32⟩
  | .hbm, ⟨18, _⟩ => ⟨S2048x1x64, .f32⟩
  | .hbm, ⟨19, _⟩ => ⟨S_, .i32⟩
  | .hbm, ⟨20, _⟩ => ⟨S_, .f32⟩
  | .hbm, ⟨21, _⟩ => ⟨S2048x1x128, .f32⟩
  | .hbm, ⟨22, _⟩ => ⟨S2048x128, .f32⟩
  | .hbm, ⟨23, _⟩ => ⟨S2048x128, .bf16⟩
  | .hbm, ⟨24, _⟩ => ⟨S2048x768, .f32⟩
  | .hbm, ⟨25, _⟩ => ⟨S6x2048x1, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S256x128, .f32⟩
  | .local _ .vmem, ⟨10, _⟩ => ⟨S256x128, .f32⟩
  | .local _ .vmem, ⟨11, _⟩ => ⟨S1x256x1, .f32⟩
  | .local _ .vmem, ⟨12, _⟩ => ⟨S1x256x1, .f32⟩
  | _, _ => ⟨S1x2048x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdRefIdeal.lean ====
abbrev S1x2048x6x128 : Shape := ⟨4, ![1, 2048, 6, 128]⟩
abbrev S1x2048x6x64 : Shape := ⟨4, ![1, 2048, 6, 64]⟩
abbrev S1x2048x64 : Shape := ⟨3, ![1, 2048, 64]⟩
abbrev S1x6x2048x2048 : Shape := ⟨4, ![1, 6, 2048, 2048]⟩
abbrev S1x2048x2048x6 : Shape := ⟨4, ![1, 2048, 2048, 6]⟩
abbrev S_ : Shape := ⟨0, ![]⟩
abbrev S1x6x2048 : Shape := ⟨3, ![1, 6, 2048]⟩
abbrev S1x6x2048x1 : Shape := ⟨4, ![1, 6, 2048, 1]⟩
abbrev S1x6x128x2048 : Shape := ⟨4, ![1, 6, 128, 2048]⟩
abbrev S2048x768 : Shape := ⟨2, ![2048, 768]⟩
abbrev S6x2048x1 : Shape := ⟨3, ![6, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x6x64, .f32⟩
  | .hbm, ⟨2, _⟩ => ⟨S1x2048x6x128, .f32⟩
  | .hbm, ⟨3, _⟩ => ⟨S1x2048x64, .f32⟩
  | .hbm, ⟨4, _⟩ => ⟨S1x2048x6x128, .f32⟩
  | .hbm, ⟨5, _⟩ => ⟨S1x6x2048x2048, .f32⟩
  | .hbm, ⟨6, _⟩ => ⟨S1x2048x2048x6, .f32⟩
  | .hbm, ⟨7, _⟩ => ⟨S1x6x2048x2048, .f32⟩
  | .hbm, ⟨8, _⟩ => ⟨S1x6x2048x2048, .f32⟩
  | .hbm, ⟨9, _⟩ => ⟨S_, .f32⟩
  | .hbm, ⟨10, _⟩ => ⟨S1x6x2048x2048, .f32⟩
  | .hbm, ⟨11, _⟩ => ⟨S1x6x2048x2048, .f32⟩
  | .hbm, ⟨12, _⟩ => ⟨S_, .f32⟩
  | .hbm, ⟨13, _⟩ => ⟨S1x6x2048, .f32⟩
  | .hbm, ⟨14, _⟩ => ⟨S_, .f32⟩
  | .hbm, ⟨15, _⟩ => ⟨S1x6x2048, .f32⟩
  | .hbm, ⟨16, _⟩ => ⟨S1x6x2048, .f32⟩
  | .hbm, ⟨17, _⟩ => ⟨S1x6x2048x1, .f32⟩
  | .hbm, ⟨18, _⟩ => ⟨S1x6x2048x2048, .f32⟩
  | .hbm, ⟨19, _⟩ => ⟨S1x6x2048x2048, .f32⟩
  | .hbm, ⟨20, _⟩ => ⟨S1x6x2048x2048, .f32⟩
  | .hbm, ⟨21, _⟩ => ⟨S_, .f32⟩
  | .hbm, ⟨22, _⟩ => ⟨S1x6x2048, .f32⟩
  | .hbm, ⟨23, _⟩ => ⟨S1x6x2048x1, .f32⟩
  | .hbm, ⟨24, _⟩ => ⟨S1x6x2048x2048, .f32⟩
  | .hbm, ⟨25, _⟩ => ⟨S1x6x2048x2048, .f32⟩
  | .hbm, ⟨26, _⟩ => ⟨S1x6x128x2048, .f32⟩
  | .hbm, ⟨27, _⟩ => ⟨S1x2048x6x128, .f32⟩
  | .hbm, ⟨28, _⟩ => ⟨S2048x768, .f32⟩
  | .hbm, ⟨29, _⟩ => ⟨S1x6x2048x2048, .f32⟩
  | .hbm, ⟨30, _⟩ => ⟨S1x2048x2048x6, .f32⟩
  | .hbm, ⟨31, _⟩ => ⟨S1x6x2048x2048, .f32⟩
  | .hbm, ⟨32, _⟩ => ⟨S1x6x2048x2048, .f32⟩
  | .hbm, ⟨33, _⟩ => ⟨S_, .f32⟩
  | .hbm, ⟨34, _⟩ => ⟨S1x6x2048x2048, .f32⟩
  | .hbm, ⟨35, _⟩ => ⟨S1x6x2048x2048, .f32⟩
  | .hbm, ⟨36, _⟩ => ⟨S_, .f32⟩
  | .hbm, ⟨37, _⟩ => ⟨S1x6x2048, .f32⟩
  | .hbm, ⟨38, _⟩ => ⟨S1x6x2048x1, .f32⟩
  | .hbm, ⟨39, _⟩ => ⟨S1x6x2048x2048, .f32⟩
  | .hbm, ⟨40, _⟩ => ⟨S1x6x2048x2048, .f32⟩
  | .hbm, ⟨41, _⟩ => ⟨S1x6x2048x2048, .f32⟩
  | .hbm, ⟨42, _⟩ => ⟨S_, .f32⟩
  | .hbm, ⟨43, _⟩ => ⟨S1x6x2048, .f32⟩
  | .hbm, ⟨44, _⟩ => ⟨S1x6x2048, .f32⟩
  | .hbm, ⟨45, _⟩ => ⟨S1x6x2048, .f32⟩
  | .hbm, ⟨46, _⟩ => ⟨S6x2048x1, .f32⟩
  | _, _ => ⟨S1x2048x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ModFwd.lean ====
abbrev S1x2048x2048 : Shape := ⟨3, ![1, 2048, 2048]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModFwdRefIdeal.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x2048, .f32⟩
  | .hbm, ⟨16, _⟩ => ⟨S1x2048x2048, .f32⟩
  | .hbm, ⟨17, _⟩ => ⟨S1x1x2048, .f32⟩
  | .hbm, ⟨18, _⟩ => ⟨S1x2048x2048, .f32⟩
  | .hbm, ⟨19, _⟩ => ⟨S1x2048x2048, .f32⟩
  | .hbm, ⟨20, _⟩ => ⟨S1x1x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S2048x2048, .f32⟩
  | .hbm, ⟨30, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== RmsFwd.lean ====
abbrev S1x2048x6x128 : Shape := ⟨4, ![1, 2048, 6, 128]⟩
abbrev S128 : Shape := ⟨1, ![128]⟩
abbrev S2048x6x128 : Shape := ⟨3, ![2048, 6, 128]⟩
abbrev S2048x768 : Shape := ⟨2, ![2048, 768]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x6x128, .f32⟩
  | .hbm, ⟨1, _⟩ => ⟨S128, .f32⟩
  | .hbm, ⟨2, _⟩ => ⟨S2048x6x128, .f32⟩
  | .hbm, ⟨3, _⟩ => ⟨S2048x768, .f32⟩
  | .hbm, ⟨4, _⟩ => ⟨S1x128, .f32⟩
  | .hbm, ⟨5, _⟩ => ⟨S2048x768, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | _, _ => ⟨S1x2048x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsFwdRefIdeal.lean ====
abbrev S1x2048x6x128 : Shape := ⟨4, ![1, 2048, 6, 128]⟩
abbrev S128 : Shape := ⟨1, ![128]⟩
abbrev S_ : Shape := ⟨0, ![]⟩
abbrev S1x2048x6 : Shape := ⟨3, ![1, 2048, 6]⟩
abbrev S1x2048x6x1 : Shape := ⟨4, ![1, 2048, 6, 1]⟩
abbrev S1x1x1x128 : Shape := ⟨4, ![1, 1, 1, 128]⟩
abbrev S2048x768 : Shape := ⟨2, ![2048, 768]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x6x128, .f32⟩
  | .hbm, ⟨1, _⟩ => ⟨S128, .f32⟩
  | .hbm, ⟨2, _⟩ => ⟨S1x2048x6x128, .f32⟩
  | .hbm, ⟨3, _⟩ => ⟨S_, .f32⟩
  | .hbm, ⟨4, _⟩ => ⟨S1x2048x6, .f32⟩
  | .hbm, ⟨5, _⟩ => ⟨S1x2048x6x1, .f32⟩
  | .hbm, ⟨6, _⟩ => ⟨S_, .f32⟩
  | .hbm, ⟨7, _⟩ => ⟨S1x2048x6x1, .f32⟩
  | .hbm, ⟨8, _⟩ => ⟨S1x2048x6x1, .f32⟩
  | .hbm, ⟨9, _⟩ => ⟨S_, .f32⟩
  | .hbm, ⟨10, _⟩ => ⟨S1x2048x6x1, .f32⟩
  | .hbm, ⟨11, _⟩ => ⟨S1x2048x6x1, .f32⟩
  | .hbm, ⟨12, _⟩ => ⟨S1x2048x6x1, .f32⟩
  | .hbm, ⟨13, _⟩ => ⟨S1x2048x6x128, .f32⟩
  | .hbm, ⟨14, _⟩ => ⟨S1x2048x6x128, .f32⟩
  | .hbm, ⟨15, _⟩ => ⟨S1x1x1x128, .f32⟩
  | .hbm, ⟨16, _⟩ => ⟨S1x2048x6x128, .f32⟩
  | .hbm, ⟨17, _⟩ => ⟨S1x2048x6x128, .f32⟩
  | .hbm, ⟨18, _⟩ => ⟨S2048x768, .f32⟩
  | _, _ => ⟨S1x2048x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateMulFwd.lean ====
abbrev S1x2048x2048 : Shape := ⟨3, ![1, 2048, 2048]⟩
abbrev S2048x2048 : Shape := ⟨2, ![2048, 2048]⟩
abbrev S256x2048 : Shape := ⟨2, ![256, 2048]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateMulFwdRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S_, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S2048x2048, .f32⟩
  | .hbm, ⟨13, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== GateActFwd.lean ====
abbrev S2048x768 : Shape := ⟨2, ![2048, 768]⟩
abbrev S384 : Shape := ⟨1, ![384]⟩
abbrev S768 : Shape := ⟨1, ![768]⟩
abbrev S1x768 : Shape := ⟨2, ![1, 768]⟩
abbrev S512x768 : Shape := ⟨2, ![512, 768]⟩

abbrev nBuf : Space → Nat
  | .hbm => 6
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S384, .f32⟩
  | .hbm, ⟨2, _⟩ => ⟨S384, .f32⟩
  | .hbm, ⟨3, _⟩ => ⟨S768, .f32⟩
  | .hbm, ⟨4, _⟩ => ⟨S1x768, .f32⟩
  | .hbm, ⟨5, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S512x768, .f32⟩
  | .local _ .vmem, ⟨4, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateActFwdRefIdeal.lean ====
abbrev S2048x768 : Shape := ⟨2, ![2048, 768]⟩
abbrev S384 : Shape := ⟨1, ![384]⟩
abbrev S2048x384 : Shape := ⟨2, ![2048, 384]⟩
abbrev S1x384 : Shape := ⟨2, ![1, 384]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S384, .f32⟩
  | .hbm, ⟨2, _⟩ => ⟨S384, .f32⟩
  | .hbm, ⟨3, _⟩ => ⟨S2048x384, .f32⟩
  | .hbm, ⟨4, _⟩ => ⟨S2048x384, .f32⟩
  | .hbm, ⟨5, _⟩ => ⟨S1x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S2048x384, .i1⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S2048x384, .f32⟩
  | .hbm, ⟨24, _⟩ => ⟨S_, .f32⟩
  | .hbm, ⟨25, _⟩ => ⟨S2048x384, .f32⟩
  | .hbm, ⟨26, _⟩ => ⟨S2048x384, .f32⟩
  | .hbm, ⟨27, _⟩ => ⟨S1x384, .f32⟩
  | .hbm, ⟨28, _⟩ => ⟨S2048x384, .f32⟩
  | .hbm, ⟨29, _⟩ => ⟨S2048x384, .f32⟩
  | .hbm, ⟨30, _⟩ => ⟨S2048x384, .f32⟩
  | .hbm, ⟨31, _⟩ => ⟨S_, .f32⟩
  | .hbm, ⟨32, _⟩ => ⟨S2048x384, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S2048x384, .i1⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S2048x384, .f32⟩
  | .hbm, ⟨41, _⟩ => ⟨S2048x384, .f32⟩
  | .hbm, ⟨42, _⟩ => ⟨S2048x384, .f32⟩
  | .hbm, ⟨43, _⟩ => ⟨S2048x384, .f32⟩
  | .hbm, ⟨44, _⟩ => ⟨S2048x384, .f32⟩
  | .hbm, ⟨45, _⟩ => ⟨S2048x384, .f32⟩
  | .hbm, ⟨46, _⟩ => ⟨S_, .f32⟩
  | .hbm, ⟨47, _⟩ => ⟨S2048x384, .f32⟩
  | .hbm, ⟨48, _⟩ => ⟨S2048x384, .f32⟩
  | .hbm, ⟨49, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_call0_cst : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_v9 : Ref sig .tc := ⟨.hbm, 41, rfl⟩
abbrev main_call1_call0_v10 : Ref sig .tc := ⟨.hbm, 42, rfl⟩
abbrev main_call1_call0_v11 : Ref sig .tc := ⟨.hbm, 43, rfl⟩
abbrev main_call1_v1 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩

abbrev nD : Nat := 1
abbrev τ : Topo := Topo.v7x

variable {F : FTy → Type} [FloatOps F]
-- ==== ResFwd.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResFwdRefIdeal.lean ====
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x1x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvFwd.lean ====
abbrev S1x2048x512 : Shape := ⟨3, ![1, 2048, 512]⟩
abbrev S3x512 : Shape := ⟨2, ![3, 512]⟩
abbrev S_ : Shape := ⟨0, ![]⟩
abbrev S5x512 : Shape := ⟨2, ![5, 512]⟩
abbrev S8x512 : Shape := ⟨2, ![8, 512]⟩
abbrev S2048x512 : Shape := ⟨2, ![2048, 512]⟩
abbrev S2048x128 : Shape := ⟨2, ![2048, 128]⟩
abbrev S8x128 : Shape := ⟨2, ![8, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S3x512, .f32⟩
  | .hbm, ⟨4, _⟩ => ⟨S_, .f32⟩
  | .hbm, ⟨5, _⟩ => ⟨S5x512, .f32⟩
  | .hbm, ⟨6, _⟩ => ⟨S8x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S2048x128, .f32⟩
  | .local _ .vmem, ⟨9, _⟩ => ⟨S2048x128, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S1x2048x512 : Shape := ⟨3, ![1, 2048, 512]⟩
abbrev S3x512 : Shape := ⟨2, ![3, 512]⟩
abbrev S_ : Shape := ⟨0, ![]⟩
abbrev S1x1x512 : Shape := ⟨3, ![1, 1, 512]⟩
abbrev S1x2050x512 : Shape := ⟨3, ![1, 2050, 512]⟩
abbrev S1x512 : Shape := ⟨2, ![1, 512]⟩
abbrev S512 : Shape := ⟨1, ![512]⟩
abbrev S2048x512 : Shape := ⟨2, ![2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S3x512, .f32⟩
  | .hbm, ⟨4, _⟩ => ⟨S1x2048x512, .f32⟩
  | .hbm, ⟨5, _⟩ => ⟨S_, .f32⟩
  | .hbm, ⟨6, _⟩ => ⟨S1x1x512, .f32⟩
  | .hbm, ⟨7, _⟩ => ⟨S1x2050x512, .f32⟩
  | .hbm, ⟨8, _⟩ => ⟨S1x2048x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S1x2048x512, .f32⟩
  | .hbm, ⟨13, _⟩ => ⟨S1x2048x512, .f32⟩
  | .hbm, ⟨14, _⟩ => ⟨S1x2048x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S1x2048x512, .f32⟩
  | .hbm, ⟨19, _⟩ => ⟨S1x2048x512, .f32⟩
  | .hbm, ⟨20, _⟩ => ⟨S1x2048x512, .f32⟩
  | .hbm, ⟨21, _⟩ => ⟨S1x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S1x2048x512, .f32⟩
  | .hbm, ⟨26, _⟩ => ⟨S1x2048x512, .f32⟩
  | .hbm, ⟨27, _⟩ => ⟨S1x2048x512, .f32⟩
  | .hbm, ⟨28, _⟩ => ⟨S1x2048x512, .f32⟩
  | .hbm, ⟨29, _⟩ => ⟨S2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== RopeFwd.lean ====
abbrev S1x2048x6x64 : Shape := ⟨4, ![1, 2048, 6, 64]⟩
abbrev S1x2048x32 : Shape := ⟨3, ![1, 2048, 32]⟩
abbrev S2048x32 : Shape := ⟨2, ![2048, 32]⟩
abbrev S2048x64 : Shape := ⟨2, ![2048, 64]⟩
abbrev S1x2048x1x64 : Shape := ⟨4, ![1, 2048, 1, 64]⟩
abbrev S2048x384 : Shape := ⟨2, ![2048, 384]⟩
abbrev S2048x6x2x32 : Shape := ⟨4, ![2048, 6, 2, 32]⟩
abbrev S2048x6x1x32 : Shape := ⟨4, ![2048, 6, 1, 32]⟩
abbrev S1024x384 : Shape := ⟨2, ![1024, 384]⟩

abbrev nBuf : Space → Nat
  | .hbm => 23
  | .vmem => 10
  | .smem => 0
  | _ => 0

abbrev bufTy : (tb : Table) → Fin (tcTables nBuf tb) → BufTy
  | .hbm, ⟨0, _⟩ => ⟨S1x2048x6x64, .f32⟩
  | .hbm, ⟨1, _⟩ => ⟨S1x2048x32, .f32⟩
  | .hbm, ⟨2, _⟩ => ⟨S1x2048x32, .f32⟩
  | .hbm, ⟨3, _⟩ => ⟨S2048x32, .f32⟩
  | .hbm, ⟨4, _⟩ => ⟨S2048x32, .f32⟩
  | .hbm, ⟨5, _⟩ => ⟨S2048x64, .f32⟩
  | .hbm, ⟨6, _⟩ => ⟨S2048x32, .f32⟩
  | .hbm, ⟨7, _⟩ => ⟨S2048x32, .f32⟩
  | .hbm, ⟨8, _⟩ => ⟨S2048x32, .f32⟩
  | .hbm, ⟨9, _⟩ => ⟨S2048x64, .f32⟩
  | .hbm, ⟨10, _⟩ => ⟨S1x2048x1x64, .f32⟩
  | .hbm, ⟨11, _⟩ => ⟨S1x2048x6x64, .f32⟩
  | .hbm, ⟨12, _⟩ => ⟨S2048x384, .f32⟩
  | .hbm, ⟨13, _⟩ => ⟨S1x2048x1x64, .f32⟩
  | .hbm, ⟨14, _⟩ => ⟨S1x2048x6x64, .f32⟩
  | .hbm, ⟨15, _⟩ => ⟨S2048x384, .f32⟩
  | .hbm, ⟨16, _⟩ => ⟨S2048x384, .f32⟩
  | .hbm, ⟨17, _⟩ => ⟨S2048x6x2x32, .f32⟩
  | .hbm, ⟨18, _⟩ => ⟨S2048x6x1x32, .f32⟩
  | .hbm, ⟨19, _⟩ => ⟨S2048x6x1x32, .f32⟩
  | .hbm, ⟨20, _⟩ => ⟨S2048x6x2x32, .f32⟩
  | .hbm, ⟨21, _⟩ => ⟨S2048x384, .f32⟩
  | .hbm, ⟨22, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | _, _ => ⟨S1x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeFwdRefIdeal.lean ====
abbrev S1x2048x6x64 : Shape := ⟨4, ![1, 2048, 6, 64]⟩
abbrev S1x2048x32 : Shape := ⟨3, ![1, 2048, 32]⟩
abbrev S1x2048x1x32 : Shape := ⟨4, ![1, 2048, 1, 32]⟩
abbrev S1x2048x6x32 : Shape := ⟨4, ![1, 2048, 6, 32]⟩
abbrev S2048x384 : Shape := ⟨2, ![2048, 384]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x6x64, .f32⟩
  | .hbm, ⟨1, _⟩ => ⟨S1x2048x32, .f32⟩
  | .hbm, ⟨2, _⟩ => ⟨S1x2048x32, .f32⟩
  | .hbm, ⟨3, _⟩ => ⟨S1x2048x1x32, .f32⟩
  | .hbm, ⟨4, _⟩ => ⟨S1x2048x1x32, .f32⟩
  | .hbm, ⟨5, _⟩ => ⟨S1x2048x6x32, .f32⟩
  | .hbm, ⟨6, _⟩ => ⟨S1x2048x6x32, .f32⟩
  | .hbm, ⟨7, _⟩ => ⟨S1x2048x6x32, .f32⟩
  | .hbm, ⟨8, _⟩ => ⟨S1x2048x6x32, .f32⟩
  | .hbm, ⟨9, _⟩ => ⟨S1x2048x6x32, .f32⟩
  | .hbm, ⟨10, _⟩ => ⟨S1x2048x6x32, .f32⟩
  | .hbm, ⟨11, _⟩ => ⟨S1x2048x6x32, .f32⟩
  | .hbm, ⟨12, _⟩ => ⟨S1x2048x6x32, .f32⟩
  | .hbm, ⟨13, _⟩ => ⟨S1x2048x6x32, .f32⟩
  | .hbm, ⟨14, _⟩ => ⟨S1x2048x6x32, .f32⟩
  | .hbm, ⟨15, _⟩ => ⟨S1x2048x6x32, .f32⟩
  | .hbm, ⟨16, _⟩ => ⟨S1x2048x6x32, .f32⟩
  | .hbm, ⟨17, _⟩ => ⟨S1x2048x6x64, .f32⟩
  | .hbm, ⟨18, _⟩ => ⟨S2048x384, .f32⟩
  | _, _ => ⟨S1x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Silu.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SiluRefIdeal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Mm.lean ====
abbrev S1x2048x2048 : Shape := ⟨3, ![1, 2048, 2048]⟩
abbrev S2048x6144 : Shape := ⟨2, ![2048, 6144]⟩
abbrev S2048x2048 : Shape := ⟨2, ![2048, 2048]⟩
abbrev S6144x2048 : Shape := ⟨2, ![6144, 2048]⟩
abbrev S512x2048 : Shape := ⟨2, ![512, 2048]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x6144, .f32⟩
  | .hbm, ⟨2, _⟩ => ⟨S2048x2048, .f32⟩
  | .hbm, ⟨3, _⟩ => ⟨S2048x2048, .bf16⟩
  | .hbm, ⟨4, _⟩ => ⟨S6144x2048, .f32⟩
  | .hbm, ⟨5, _⟩ => ⟨S6144x2048, .bf16⟩
  | .hbm, ⟨6, _⟩ => ⟨S2048x6144, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmRefIdeal.lean ====
abbrev S1x2048x2048 : Shape := ⟨3, ![1, 2048, 2048]⟩
abbrev S2048x6144 : Shape := ⟨2, ![2048, 6144]⟩
abbrev S1x2048x6144 : Shape := ⟨3, ![1, 2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x6144, .f32⟩
  | .hbm, ⟨2, _⟩ => ⟨S1x2048x6144, .f32⟩
  | .hbm, ⟨3, _⟩ => ⟨S2048x6144, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adamw.lean ====
abbrev S2x512x2048 : Shape := ⟨3, ![2, 512, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamwRefIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDev.lean ====
abbrev S8x1x32768 : Shape := ⟨3, ![8, 1, 32768]⟩
abbrev S1x32768 : Shape := ⟨2, ![1, 32768]⟩
abbrev S8x128 : Shape := ⟨2, ![8, 128]⟩
abbrev S1x1x32768 : Shape := ⟨3, ![1, 1, 32768]⟩

abbrev nBuf : Space → Nat
  | .hbm => 3
  | .vmem => 3
  | .smem => 0
  | _ => 0

abbrev bufTy : (tb : Table) → Fin (tcTables nBuf tb) → BufTy
  | .hbm, ⟨0, _⟩ => ⟨S8x1x32768, .f32⟩
  | .hbm, ⟨1, _⟩ => ⟨S1x32768, .f32⟩
  | .hbm, ⟨2, _⟩ => ⟨S8x128, .f32⟩
  | .local _ .vmem, ⟨0, _⟩ => ⟨S8x1x32768, .f32⟩
  | .local _ .vmem, ⟨1, _⟩ => ⟨S1x32768, .f32⟩
  | .local _ .vmem, ⟨2, _⟩ => ⟨S8x128, .f32⟩
  | _, _ => ⟨S8x1x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SumDevRefIdeal.lean ====
abbrev S8x1x32768 : Shape := ⟨3, ![8, 1, 32768]⟩
abbrev S_ : Shape := ⟨0, ![]⟩
abbrev S1x32768 : Shape := ⟨2, ![1, 32768]⟩

abbrev nBuf : Space → Nat
  | .hbm => 3
  | .vmem => 0
  | .smem => 0
  | _ => 0

abbrev bufTy : (tb : Table) → Fin (tcTables nBuf tb) → BufTy
  | .hbm, ⟨0, _⟩ => ⟨S8x1x32768, .f32⟩
  | .hbm, ⟨1, _⟩ => ⟨S_, .f32⟩
  | .hbm, ⟨2, _⟩ => ⟨S1x32768, .f32⟩
  | _, _ => ⟨S8x1x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmDw.lean ====
abbrev S1x2048x2048 : Shape := ⟨3, ![1, 2048, 2048]⟩
abbrev S2048x2048 : Shape := ⟨2, ![2048, 2048]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S_, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ada.lean ====
abbrev S16x2048 : Shape := ⟨2, ![16, 2048]⟩
abbrev S2048x1536 : Shape := ⟨2, ![2048, 1536]⟩
abbrev S1536 : Shape := ⟨1, ![1536]⟩
abbrev S1x1536 : Shape := ⟨2, ![1, 1536]⟩
abbrev S16x1536 : Shape := ⟨2, ![16, 1536]⟩
abbrev S2048x512 : Shape := ⟨2, ![2048, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S1536, .f32⟩
  | .hbm, ⟨3, _⟩ => ⟨S1x1536, .f32⟩
  | .hbm, ⟨4, _⟩ => ⟨S16x1536, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaRefIdeal.lean ====
abbrev S16x2048 : Shape := ⟨2, ![16, 2048]⟩
abbrev S2048x1536 : Shape := ⟨2, ![2048, 1536]⟩
abbrev S1536 : Shape := ⟨1, ![1536]⟩
abbrev S16x1536 : Shape := ⟨2, ![16, 1536]⟩
abbrev S1x1536 : Shape := ⟨2, ![1, 1536]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S1536, .f32⟩
  | .hbm, ⟨3, _⟩ => ⟨S16x1536, .f32⟩
  | .hbm, ⟨4, _⟩ => ⟨S1x1536, .f32⟩
  | .hbm, ⟨5, _⟩ => ⟨S16x1536, .f32⟩
  | .hbm, ⟨6, _⟩ => ⟨S16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmDh.lean ====
abbrev S1x2048x6144 : Shape := ⟨3, ![1, 2048, 6144]⟩
abbrev S2048x6144 : Shape := ⟨2, ![2048, 6144]⟩
abbrev S6144x2048 : Shape := ⟨2, ![6144, 2048]⟩
abbrev S2048x2048 : Shape := ⟨2, ![2048, 2048]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x2048x6144, .f32⟩
  | .hbm, ⟨1, _⟩ => ⟨S2048x6144, .f32⟩
  | .hbm, ⟨2, _⟩ => ⟨S2048x6144, .f32⟩
  | .hbm, ⟨3, _⟩ => ⟨S2048x6144, .bf16⟩
  | .hbm, ⟨4, _⟩ => ⟨S6144x2048, .f32⟩
  | .hbm, ⟨5, _⟩ => ⟨S6144x2048, .bf16⟩
  | .hbm, ⟨6, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDhRefIdeal.lean ====
abbrev S1x2048x6144 : Shape := ⟨3, ![1, 2048, 6144]⟩
abbrev S2048x6144 : Shape := ⟨2, ![2048, 6144]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x6144, .f32⟩
  | .hbm, ⟨1, _⟩ => ⟨S2048x6144, .f32⟩
  | .hbm, ⟨2, _⟩ => ⟨S_, .f32⟩
  | .hbm, ⟨3, _⟩ => ⟨S1x2048x2048, .f32⟩
  | .hbm, ⟨4, _⟩ => ⟨S1x2048x6144, .f32⟩
  | .hbm, ⟨5, _⟩ => ⟨S1x2048x2048, .f32⟩
  | .hbm, ⟨6, _⟩ => ⟨S2048x2048, .f32⟩
  | _, _ => ⟨S1x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AddPair.lean ====
abbrev S2x4x512x1024 : Shape := ⟨4, ![2, 4, 512, 1024]⟩
abbrev S4x512x1024 : Shape := ⟨3, ![4, 512, 1024]⟩
abbrev S1 : Shape := ⟨1, ![1]⟩
abbrev S_ : Shape := ⟨0, ![]⟩
abbrev S1x1x512x1024 : Shape := ⟨4, ![1, 1, 512, 1024]⟩
abbrev S1x512x1024 : Shape := ⟨3, ![1, 512, 1024]⟩
abbrev S512x1024 : Shape := ⟨2, ![512, 1024]⟩

abbrev nBuf : Space → Nat
  | .hbm => 11
  | .vmem => 6
  | .smem => 1
  | _ => 0

abbrev bufTy : (tb : Table) → Fin (tcTables nBuf tb) → BufTy
  | .hbm, ⟨0, _⟩ => ⟨S2x4x512x1024, .bf16⟩
  | .hbm, ⟨1, _⟩ => ⟨S4x512x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S4x512x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .smem, ⟨0, _⟩ => ⟨S1, .i32⟩
  | _, _ => ⟨S2x4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AddPairRefIdeal.lean ====
abbrev S2x4x512x1024 : Shape := ⟨4, ![2, 4, 512, 1024]⟩
abbrev S4x512x1024 : Shape := ⟨3, ![4, 512, 1024]⟩
abbrev S1 : Shape := ⟨1, ![1]⟩
abbrev S_ : Shape := ⟨0, ![]⟩
abbrev S1x4x512x1024 : Shape := ⟨4, ![1, 4, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x4x512x1024, .bf16⟩
  | .hbm, ⟨1, _⟩ => ⟨S4x512x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x4x512x1024, .bf16⟩
  | .hbm, ⟨7, _⟩ => ⟨S4x512x1024, .bf16⟩
  | .hbm, ⟨8, _⟩ => ⟨S1x4x512x1024, .bf16⟩
  | .hbm, ⟨9, _⟩ => ⟨S4x512x1024, .bf16⟩
  | .hbm, ⟨10, _⟩ => ⟨S4x512x1024, .bf16⟩
  | .hbm, ⟨11, _⟩ => ⟨S4x512x1024, .f32⟩
  | .hbm, ⟨12, _⟩ => ⟨S4x512x1024, .f32⟩
  | .hbm, ⟨13, _⟩ => ⟨S4x512x1024, .f32⟩
  | .hbm, ⟨14, _⟩ => ⟨S4x512x1024, .bf16⟩
  | _, _ => ⟨S2x4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AddChips.lean ====
abbrev S4x512x1024 : Shape := ⟨3, ![4, 512, 1024]⟩
abbrev S3x512x1024 : Shape := ⟨3, ![3, 512, 1024]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 11
  | .vmem => 5
  | .smem => 1
  | _ => 0

abbrev bufTy : (tb : Table) → Fin (tcTables nBuf tb) → BufTy
  | .hbm, ⟨0, _⟩ => ⟨S4x512x1024, .bf16⟩
  | .hbm, ⟨1, _⟩ => ⟨S3x512x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S512x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .smem, ⟨0, _⟩ => ⟨S1, .i32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== AddChipsRefIdeal.lean ====
abbrev S4x512x1024 : Shape := ⟨3, ![4, 512, 1024]⟩
abbrev S3x512x1024 : Shape := ⟨3, ![3, 512, 1024]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S3x512x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x512x1024, .bf16⟩
  | .hbm, ⟨7, _⟩ => ⟨S512x1024, .bf16⟩
  | .hbm, ⟨8, _⟩ => ⟨S_, .i32⟩
  | .hbm, ⟨9, _⟩ => ⟨S_, .i1⟩
  | .hbm, ⟨10, _⟩ => ⟨S1x512x1024, .bf16⟩
  | .hbm, ⟨11, _⟩ => ⟨S512x1024, .bf16⟩
  | .hbm, ⟨12, _⟩ => ⟨S_, .i32⟩
  | .hbm, ⟨13, _⟩ => ⟨S_, .i1⟩
  | .hbm, ⟨14, _⟩ => ⟨S1x512x1024, .bf16⟩
  | .hbm, ⟨15, _⟩ => ⟨S512x1024, .bf16⟩
  | .hbm, ⟨16, _⟩ => ⟨S1x512x1024, .bf16⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S512x1024, .f32⟩
  | .hbm, ⟨22, _⟩ => ⟨S3x512x1024, .f32⟩
  | .hbm, ⟨23, _⟩ => ⟨S_, .f32⟩
  | .hbm, ⟨24, _⟩ => ⟨S512x1024, .f32⟩
  | .hbm, ⟨25, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Base.lean ====
/- Facts on the extended reals that several of the proofs share: what a finiteness precondition says of one
   element, and the logistic function at each kind of argument. -/
module

public import proofs.«01_k».proof.Defs
public import Idealize.ShloMosaic.PureOps.Ideal
public import Idealize.ShloMosaic.Lib.Pipeline.Value
public import Idealize.ShloMosaic.Lib.StableHlo.Run
public import Idealize.ShloMosaic.Lib.Tactic

@[expose] public section

noncomputable section

namespace Cert.Base

open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

theorem one_f32 : Ideal.ofBits .f32 0x3F800000#32 = 1 := by
  simp [Ideal.ofBits, Ideal.ieee, -EReal.coe_mul]; norm_num
theorem zero_f32 : Ideal.ofBits .f32 0x00000000#32 = 0 := by
  simp [Ideal.ofBits, Ideal.ieee]
theorem inf_f32 : Ideal.ofBits .f32 0x7F800000#32 = ⊤ := by
  simp [Ideal.ofBits, Ideal.ieee]

/-- An element whose absolute value compares below infinity is a real number. -/
theorem real_of_abs_lt {s : Shape} {x : FVec Ideal s .f32} {h : (⟨0, ![]⟩ : Shape).BroadcastsInDim s ![]}
    (hx : cmpf .olt (Host.absf x) (broadcastInDim s ![] h (constant ⟨0, ![]⟩ .f32 0x7F800000#32)) = fun _ => 1#1)
    (i : s.Idx) : ∃ r : ℝ, x i = r := by
  have h1 := congrFun hx i
  have h2 : Ideal.cmp .olt (max (x i) (-(x i))) (Ideal.ofBits .f32 0x7F800000#32) = 1#1 := h1
  rw [inf_f32] at h2
  have h3 : max (x i) (-(x i)) < ⊤ := by
    by_contra hc
    simp [Ideal.cmp, hc] at h2
  generalize x i = e at h3
  induction e using EReal.rec with
  | bot => simp at h3
  | top => simp at h3
  | coe r => exact ⟨r, rfl⟩

/-- `1 / (1 + exp (-z))`. -/
abbrev sgm (z : EReal) : EReal := Ideal.div 1 (1 + Ideal.exp (-z))

theorem exp_bot : Ideal.exp ⊥ = 0 := rfl
theorem exp_top : Ideal.exp ⊤ = ⊤ := rfl
theorem exp_coe (r : ℝ) : Ideal.exp (r : EReal) = (Real.exp r : ℝ) := rfl

/-- A quotient of reals by a nonzero real is the real quotient. -/
theorem div_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem sgm_bot : sgm ⊥ = 0 := by
  rw [sgm, EReal.neg_bot, exp_top, show (1 : EReal) + ⊤ = ⊤ from EReal.coe_add_top 1, Ideal.div, if_neg (by simp)]; simp
theorem sgm_top : sgm ⊤ = 1 := by
  rw [sgm, EReal.neg_top, exp_bot, add_zero, Ideal.div, if_neg (by simp)]; simp
/-- The logistic of a real is the real logistic. -/
theorem sgm_coe (r : ℝ) : sgm r = ((1 / (1 + Real.exp (-r)) : ℝ) : EReal) := by
  rw [sgm, ← EReal.coe_neg, exp_coe, ← EReal.coe_one, ← EReal.coe_add]
  exact div_coe 1 (by positivity)

end Cert.Base

end
-- ==== Proof.GateMul.lean ====
/- The gradient of the SiLU gate `o * silu(z)`: the two arrays the kernel writes are the two cotangents of the
   gate, element by element. -/
module

public import proofs.«01_k».proof.Proof.Base
public import proofs.«01_k».proof.Proof.Gen.GateMulIdeal.Value
public import proofs.«01_k».proof.Proof.Gen.GateMulRefIdeal.Run
public import proofs.«01_k».proof.Proof.Gen.Pre_gate_mul_finite

@[expose] public section

set_option maxRecDepth 16384

noncomputable section

namespace Cert.GateMulIdeal.Proof

open Cert.GateMulIdeal Cert.GateMulIdeal.Gen Idealize.ShloMosaic Idealize.ShloMosaic.TcCoe Idealize.SL.Sem
open Cert.Base

variable (m : (ℓ : Loc nD τ sig) → Buf (Elt Ideal) ℓ) (ρ : Dev nD → PrngReg)

/-- The cotangent of the gated value at one element. -/
abbrev gO (z d : EReal) : EReal := d * (z * sgm z)
/-- The cotangent of the gate at one element. -/
abbrev gZ (o z d : EReal) : EReal := d * o * (sgm z * (1 + z * (1 - sgm z)))

abbrev A0 (c : Dev nD) : FVec Ideal S1x2048x2048 .f32 := m ((c : Thread nD τ).loc main_arg0)
abbrev A1 (c : Dev nD) : FVec Ideal S1x2048x2048 .f32 := m ((c : Thread nD τ).loc main_arg1)
abbrev A2 (c : Dev nD) : FVec Ideal S1x2048x2048 .f32 := m ((c : Thread nD τ).loc main_arg2)

/-- The two results as functions of the arguments. -/
abbrev resO (c : Dev nD) : FVec Ideal S2048x2048 .f32 :=
  shapeCast S2048x2048 (fun i => gO (A1 m c i) (A2 m c i)) shapeCasts_S1x2048x2048_S2048x2048
abbrev resZ (c : Dev nD) : FVec Ideal S2048x2048 .f32 :=
  shapeCast S2048x2048 (fun i => gZ (A0 m c i) (A1 m c i) (A2 m c i)) shapeCasts_S1x2048x2048_S2048x2048

theorem pay4 (v0 v2 : Vec Ideal S256x2048 .f32) : k0_pay4 v0 v2 = fun y => gO (v0 y) (v2 y) := by
  funext y
  simp only [k0_pay4, k0_pay3, k0_pay2, k0_pay1, shapeCast_self]
  show _ * (_ * Ideal.div (Ideal.ofBits .f32 0x3F800000#32) (Ideal.ofBits .f32 0x3F800000#32 + Ideal.exp (Ideal.ofBits .f32 0x00000000#32 - _))) = _
  rw [one_f32, zero_f32, zero_sub]

theorem pay5 (v0 v2 v14 : Vec Ideal S256x2048 .f32) : k0_pay5 v0 v2 v14 = fun y => gZ (v14 y) (v0 y) (v2 y) := by
  funext y
  simp only [k0_pay5, k0_pay3, k0_pay2, k0_pay1, shapeCast_self]
  show _ * _ * (Ideal.div (Ideal.ofBits .f32 0x3F800000#32) (Ideal.ofBits .f32 0x3F800000#32 + Ideal.exp (Ideal.ofBits .f32 0x00000000#32 - _)) *
    (Ideal.ofBits .f32 0x3F800000#32 + _ * (Ideal.ofBits .f32 0x3F800000#32 - Ideal.div (Ideal.ofBits .f32 0x3F800000#32) (Ideal.ofBits .f32 0x3F800000#32 + Ideal.exp (Ideal.ofBits .f32 0x00000000#32 - _))))) = _
  rw [one_f32, zero_f32, zero_sub]

theorem V0 (c : Dev nD) : V m c main_v0 = shapeCast S2048x2048 (A0 m c) shapeCasts_S1x2048x2048_S2048x2048 := by
  dsimp only [V]; after_results; rfl
theorem V1 (c : Dev nD) : V m c main_v1 = shapeCast S2048x2048 (A1 m c) shapeCasts_S1x2048x2048_S2048x2048 := by
  dsimp only [V]; after_results; rfl
theorem V2 (c : Dev nD) : V m c main_v2 = shapeCast S2048x2048 (A2 m c) shapeCasts_S1x2048x2048_S2048x2048 := by
  dsimp only [V]; after_results; rfl

theorem b0 (c : Dev nD) (t : Fin cfg0.N) (y : S256x2048.Idx) :
    iblk m c 0 t y = shapeCast S2048x2048 (A0 m c) shapeCasts_S1x2048x2048_S2048x2048 ((win0_3.rect t).idx y) :=
  congrFun (V0 m c) _
theorem b1 (c : Dev nD) (t : Fin cfg0.N) (y : S256x2048.Idx) :
    iblk m c 1 t y = shapeCast S2048x2048 (A1 m c) shapeCasts_S1x2048x2048_S2048x2048 ((win0_3.rect t).idx y) :=
  congrFun (V1 m c) _
theorem b2 (c : Dev nD) (t : Fin cfg0.N) (y : S256x2048.Idx) :
    iblk m c 2 t y = shapeCast S2048x2048 (A2 m c) shapeCasts_S1x2048x2048_S2048x2048 ((win0_3.rect t).idx y) :=
  congrFun (V2 m c) _

theorem ld_all (x : Vec Ideal S256x2048 .f32) : View.ld x r0_0 = x := View.ld_unit_zero (S := S256x2048) zero2 _ x

theorem flushedO (c : Dev nD) (t : Fin cfg0.N) :
    (dats m 0 c).flushed 3 t = ((cfg0.win 3).blk t).view.read (Elt Ideal) (resO m c) := by
  rw [Value.flushed3]
  funext y
  show out0_3 (iblk m c 0 t) (iblk m c 1 t) (iblk m c 2 t) y = resO m c ((win0_3.rect t).idx y)
  unfold out0_3
  rw [View.canon_unit_zero zero2, pay4]
  rw [ld_all, ld_all]
  dsimp only
  rw [b1, b2]
  rfl

theorem flushedZ (c : Dev nD) (t : Fin cfg0.N) :
    (dats m 0 c).flushed 4 t = ((cfg0.win 4).blk t).view.read (Elt Ideal) (resZ m c) := by
  rw [Value.flushed4]
  funext y
  show out0_4 (iblk m c 0 t) (iblk m c 1 t) (iblk m c 2 t) y = resZ m c ((win0_3.rect t).idx y)
  unfold out0_4
  rw [View.canon_unit_zero zero2, pay5]
  rw [ld_all, ld_all, ld_all]
  dsimp only
  rw [b0, b1, b2]
  rfl

theorem idx_at : ∀ t : Fin cfg0.N, win0_3.index t = ![t.val, 0] := by decide +kernel

theorem cover (i : S2048x2048.Idx) : ∃ t : Fin cfg0.N, i ∈ ((View.whole main_v3_0).slice (win0_3.rect t)).set := by
  have h0 : (i 0 : Nat) < 2048 := (i 0).isLt
  have h1 : (i 1 : Nat) < 2048 := (i 1).isLt
  have hN : cfg0.N = 8 := N_0
  refine ⟨⟨(i 0 : Nat) / 256, by omega⟩, ?_⟩
  rw [View.set_slice_whole, Rect.mem_set_unit]
  have e := idx_at ⟨(i 0 : Nat) / 256, by omega⟩
  intro a
  match a with
  | ⟨0, _⟩ =>
    have e0 := congrFun e 0
    show win0_3.index _ 0 * 256 ≤ (i 0 : Nat) ∧ (i 0 : Nat) < win0_3.index _ 0 * 256 + 256
    rw [e0]; show (i 0 : Nat) / 256 * 256 ≤ _ ∧ _ < (i 0 : Nat) / 256 * 256 + 256; omega
  | ⟨1, _⟩ =>
    have e1 := congrFun e 1
    show win0_3.index _ 1 * 2048 ≤ (i 1 : Nat) ∧ (i 1 : Nat) < win0_3.index _ 1 * 2048 + 2048
    rw [e1]; show 0 * 2048 ≤ _ ∧ _ < 0 * 2048 + 2048; omega

theorem flush_all : ∀ t : Fin cfg0.N, (cfg0.win 3).flush t = true ∧ (cfg0.win 4).flush t = true := by decide +kernel

theorem finalO (c : Dev nD) : (dats m 0 c).arrAt 3 cfg0.N = resO m c :=
  (dats m 0 c).arrAt_eq_of_cover 3 (resO m c) (fun t _ => flushedO m c t) fun i =>
    let ⟨t, h⟩ := cover i; ⟨t, (flush_all t).1, h⟩
theorem finalZ (c : Dev nD) : (dats m 0 c).arrAt 4 cfg0.N = resZ m c :=
  (dats m 0 c).arrAt_eq_of_cover 4 (resZ m c) (fun t _ => flushedZ m c t) fun i =>
    let ⟨t, h⟩ := cover i; ⟨t, (flush_all t).2, h⟩

end Cert.GateMulIdeal.Proof

namespace Cert.GateMulRefIdeal.Proof

open Cert.Base Idealize.ShloMosaic Idealize.ShloMosaic.TcCoe Idealize.SL.Sem Cert.GateMulIdeal.Proof

/-- The product rule for the gate, at one element: what the kernel factors is what the two cotangents add to. -/
theorem gate_rule (o d z : EReal) (ho : ∃ r : ℝ, o = r) (hd : ∃ r : ℝ, d = r) :
    gZ o z d = o * d * sgm z + z * (o * d) * (sgm z * (1 - sgm z)) := by
  obtain ⟨o, rfl⟩ := ho
  obtain ⟨d, rfl⟩ := hd
  unfold gZ
  induction z using EReal.rec with
  | bot => rw [sgm_bot]; simp
  | top =>
    rw [sgm_top]
    have : (1 : EReal) - 1 = 0 := by rw [← EReal.coe_one, ← EReal.coe_sub]; simp
    rw [this]; simp [mul_comm]
  | coe z =>
    rw [sgm_coe]
    norm_cast
    ring

/-- The claim: from arguments that agree and meet the precondition, both programs end with the two cotangents. -/
theorem gate_mul : Cert.algebraic_GateMulIdeal_GateMulRefIdeal_pre_gate_mul_finite
    (hGateMulIdeal := Cert.GateMulIdeal.Gen.facts) (hGateMulRefIdeal := Cert.GateMulRefIdeal.Gen.facts)
    (hPre_gate_mul_finite := Cert.Pre_gate_mul_finite.Gen.facts) := by
  intro m g m' g' hpre hargs
  refine ⟨fun c => resO m c, fun c => resZ m c, ?_, ?_⟩
  · refine (θ_run Cert.GateMulIdeal.defs _ _).mono (fun r h c => ?_) (Cert.GateMulIdeal.Value.run_blocks m g)
    obtain ⟨h3, h4, ha⟩ := h c
    exact ⟨h3.trans (finalO m c), h4.trans (finalZ m c), ha⟩
  · refine (θ_run Cert.GateMulRefIdeal.defs _ _).mono (fun r h c => ?_) (Cert.GateMulRefIdeal.Value.run m' g')
    obtain ⟨h5, h6, ha⟩ := h c
    obtain ⟨e0, e1, e2⟩ := hargs c
    obtain ⟨p0, p2⟩ := hpre c
    refine ⟨h5.trans ?_, h6.trans ?_, ha⟩
    · rw [e1, e2]
      refine congrArg (fun X => shapeCast _ X _) (funext fun i => ?_)
      show _ * (_ * Ideal.div (Ideal.ofBits .f32 0x3F800000#32) (Ideal.ofBits .f32 0x3F800000#32 + Ideal.exp (-_))) = _
      rw [one_f32]
    · rw [e0, e1, e2]
      refine congrArg (fun X => shapeCast _ X _) (funext fun i => ?_)
      refine Eq.trans ?_ (gate_rule _ _ _ (real_of_abs_lt p0 i) (real_of_abs_lt p2 i)).symm
      show _ * _ * Ideal.div (Ideal.ofBits .f32 0x3F800000#32) (Ideal.ofBits .f32 0x3F800000#32 + Ideal.exp (-_))
        + _ * (_ * _) * (Ideal.div (Ideal.ofBits .f32 0x3F800000#32) (Ideal.ofBits .f32 0x3F800000#32 + Ideal.exp (-_))
          * (Ideal.ofBits .f32 0x3F800000#32 - Ideal.div (Ideal.ofBits .f32 0x3F800000#32) (Ideal.ofBits .f32 0x3F800000#32 + Ideal.exp (-_)))) = _
      rw [one_f32]

/-- The reference ends with its arguments unchanged and no counter raised. -/
theorem frame : Cert.quiescent_GateMulRefIdeal (hGateMulRefIdeal := Cert.GateMulRefIdeal.Gen.facts) := fun m ρ _ =>
  (θ_run Cert.GateMulRefIdeal.defs _ _).mono
    (fun r h => ⟨fun c => (h c).2.2, sem_eq_zero_of_no_sems (by decide) r.2⟩)
    (Cert.GateMulRefIdeal.Value.run (F := Ideal) m ρ)

end Cert.GateMulRefIdeal.Proof

end
-- ==== Proof.Real.lean ====
/- Finite values among the extended reals: how sums, exponentials, quotients and logarithms of real numbers are
   read back as real numbers. -/
module

public import proofs.«01_k».proof.Proof.Base
public import Idealize.ShloMosaic.PureOps.Ideal.Laws
public import Idealize.ShloMosaic.PureOps.Reduce

@[expose] public section

noncomputable section

namespace Cert.Base

open Idealize.ShloMosaic Idealize.ShloMosaic.StableHlo

theorem coe_sum {ι : Type*} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

theorem log_coe (r : ℝ) (hr : 0 < r) : Ideal.log (r : EReal) = ((Real.log r : ℝ) : EReal) := by
  show (if r ≤ 0 then (⊥ : EReal) else (Real.log r : EReal)) = _
  rw [if_neg (not_le.mpr hr)]

theorem real_sum {ι : Type*} (s : Finset ι) (f : ι → EReal) (h : ∀ i, ∃ r : ℝ, f i = r) : ∃ r : ℝ, ∑ i ∈ s, f i = r := by
  choose g hg using h
  exact ⟨∑ i ∈ s, g i, by rw [← coe_sum]; exact Finset.sum_congr rfl fun i _ => hg i⟩

theorem sitofp_zero : FloatOps.sitofp (F := Ideal) .f32 (0#32) = (0 : EReal) := by
  show (((BitVec.toInt 0#32 : ℤ) : ℝ) : EReal) = 0
  simp

/-- The greatest of the elements a reduction by maximum collects, started below all of them, is a real number where
    there is an element and each is one. -/
theorem reduce_max_real {s t u : Shape} {axes : List (Fin s.rank)} (x : FVec Ideal s .f32) (init : FVec Ideal u .f32)
    (h : s.ReducesTo axes t) (hu : 0 < u.numel) (j : t.Idx) (hx : ∀ i, h.drop i = j → ∃ r : ℝ, x i = r) (i₀ : s.Idx)
    (h₀ : h.drop i₀ = j) (hi : init (Shape.Idx.first hu) = (⊥ : EReal)) :
    ∃ r : ℝ, Host.reduce FloatOps.maximumf x init h hu j = (r : EReal) := by
  rw [Host.reduce_eq_fold, hi]
  have hsup : (Finset.univ.filter fun i => h.drop i = j).fold max (⊥ : EReal) x = (Finset.univ.filter fun i => h.drop i = j).sup x := rfl
  obtain ⟨i, hm, he⟩ := Finset.exists_mem_eq_sup (Finset.univ.filter fun i => h.drop i = j)
    ⟨i₀, Finset.mem_filter.mpr ⟨Finset.mem_univ _, h₀⟩⟩ x
  obtain ⟨r, hr⟩ := hx i (Finset.mem_filter.mp hm).2
  exact ⟨r, (hsup.trans he).trans hr⟩

/-- The quotient of exponentials does not see a common shift of their exponents. -/
theorem softmax_shift {ι : Type*} [Fintype ι] (x : ι → ℝ) (M : ℝ) (j : ι) :
    Real.exp (x j - M) / ∑ k, Real.exp (x k - M) = Real.exp (x j) / ∑ k, Real.exp (x k) := by
  simp only [Real.exp_sub]
  rw [← Finset.sum_div, div_div_div_cancel_right₀ (Real.exp_pos M).ne']

theorem sum_exp_pos {n : ℕ} (hn : 0 < n) (x : Fin n → ℝ) : 0 < ∑ k, Real.exp (x k) :=
  Finset.sum_pos (fun i _ => Real.exp_pos _) ⟨⟨0, hn⟩, Finset.mem_univ _⟩

/-- The exponential of a score less the logarithm of the row's sum is the softmax. -/
theorem exp_sub_lse {n : ℕ} (hn : 0 < n) (x : Fin n → ℝ) (M : ℝ) (j : Fin n) :
    Real.exp (x j - (M + Real.log (∑ k, Real.exp (x k - M)))) = Real.exp (x j) / ∑ k, Real.exp (x k) := by
  rw [← softmax_shift x M j, ← sub_sub, Real.exp_sub, Real.exp_log (sum_exp_pos hn fun k => x k - M)]

theorem ofBits_inf_neg : Ideal.ofBits .f32 0xFF800000#32 = (⊥ : EReal) := by
  simp [Ideal.ofBits, Ideal.ieee]

end Cert.Base

end
-- ==== Proof.AttnMath.lean ====
/- The gradient of attention over the real numbers: the softmax of the scores, the cotangent of the scores, and the
   four products the backward pass returns. -/
module

public import proofs.«01_k».proof.Proof.Real
public import Idealize.ShloMosaic.Lib.Pointwise.Sums

@[expose] public section

noncomputable section

namespace Cert.AttnMath

open Idealize.ShloMosaic Cert.Base

/-- The arguments of the backward pass, finite: the queries, the keys and the values per position and head, the rotary
    halves, and the cotangent of the output. -/
structure Args where
  qn : Fin 2048 → Fin 6 → Fin 128 → ℝ
  qr : Fin 2048 → Fin 6 → Fin 64 → ℝ
  kn : Fin 2048 → Fin 6 → Fin 128 → ℝ
  kr : Fin 2048 → Fin 64 → ℝ
  v : Fin 2048 → Fin 6 → Fin 128 → ℝ
  g : Fin 2048 → Fin 6 → Fin 128 → ℝ

/-- The scale both programs print. -/
abbrev κ : ℝ := (Ideal.ofBits .f32 0x3D93CD3A#32).toReal

theorem kappa : Ideal.ofBits .f32 0x3D93CD3A#32 = (κ : EReal) := by
  refine (EReal.coe_toReal ?_ ?_).symm <;> simp [Ideal.ofBits, Ideal.ieee, -EReal.coe_mul]

/-- A row of 64 elements followed by 64 zeros. -/
def pad64 (f : Fin 64 → ℝ) (d : Fin 128) : ℝ := if h : d.val < 64 then f ⟨d.val, h⟩ else 0

/-- The lanes padding adds to a product contribute nothing. -/
theorem sum_pad64 (f g : Fin 64 → ℝ) : ∑ d, pad64 f d * pad64 g d = ∑ r, f r * g r := by
  rw [Fin.sum_univ_two_halves 64 64 rfl]
  simp [pad64]

theorem sum_mul_pad64 {ι : Type*} (s : Finset ι) (w : ι → ℝ) (f : ι → Fin 64 → ℝ) (d : Fin 128) :
    ∑ i ∈ s, w i * pad64 (f i) d = pad64 (fun r => ∑ i ∈ s, w i * f i r) d := by
  unfold pad64
  split <;> simp

theorem coe_pad64 (f : Fin 64 → ℝ) (d : Fin 128) :
    (if h : d.val < 64 then ((f ⟨d.val, h⟩ : ℝ) : EReal) else 0) = (pad64 f d : ℝ) := by
  unfold pad64
  split <;> rfl

variable (A : Args)

/-- The scaled score of query `i` against key `j` in head `h`. -/
def x (h : Fin 6) (i j : Fin 2048) : ℝ := (∑ d, A.qn i h d * A.kn j h d + ∑ r, A.kr j r * A.qr i h r) * κ
/-- The softmax of a row of scores. -/
def p (h : Fin 6) (i j : Fin 2048) : ℝ := Real.exp (x A h i j) / ∑ k, Real.exp (x A h i k)
/-- The attention output. -/
def o (i : Fin 2048) (h : Fin 6) (d : Fin 128) : ℝ := ∑ j, A.v j h d * p A h i j
/-- The cotangent of the probabilities. -/
def dp (h : Fin 6) (i j : Fin 2048) : ℝ := ∑ d, A.g i h d * A.v j h d
/-- The cotangent of the scores. -/
def ds (h : Fin 6) (i j : Fin 2048) : ℝ := p A h i j * (dp A h i j - ∑ d, A.g i h d * o A i h d) * κ

def dqn (i : Fin 2048) (h : Fin 6) (d : Fin 128) : ℝ := ∑ j, ds A h i j * A.kn j h d
def dqr (i : Fin 2048) (h : Fin 6) (r : Fin 64) : ℝ := ∑ j, ds A h i j * A.kr j r
def dkn (j : Fin 2048) (h : Fin 6) (d : Fin 128) : ℝ := ∑ i, ds A h i j * A.qn i h d
def dv (j : Fin 2048) (h : Fin 6) (d : Fin 128) : ℝ := ∑ i, A.g i h d * p A h i j
def dkr (j : Fin 2048) (r : Fin 64) : ℝ := ∑ i, ∑ h, ds A h i j * A.qr i h r

/-- The mean of a row's cotangents under its softmax is the product of the output with its cotangent. -/
theorem mean_dp (h : Fin 6) (i : Fin 2048) : ∑ d, A.g i h d * o A i h d = ∑ j, dp A h i j * p A h i j := by
  simp only [o, dp, Finset.mul_sum, Finset.sum_mul]
  rw [Finset.sum_comm]
  exact Finset.sum_congr rfl fun j _ => Finset.sum_congr rfl fun d _ => by ring

/-- The derivative of the softmax as a quotient, shifted by any amount, is `ds`. -/
theorem quotient_rule (h : Fin 6) (i j : Fin 2048) (M : ℝ) :
    (dp A h i j / (∑ k, Real.exp (x A h i k - M))
      + -(∑ l, dp A h i l * (1 / ((∑ k, Real.exp (x A h i k - M)) * ∑ k, Real.exp (x A h i k - M))) * Real.exp (x A h i l - M)))
      * Real.exp (x A h i j - M) * κ = ds A h i j := by
  have hp : ∀ l, p A h i l = Real.exp (x A h i l - M) / ∑ k, Real.exp (x A h i k - M) := fun l =>
    (softmax_shift (x A h i) M l).symm
  have hS := (sum_exp_pos (by decide) fun k => x A h i k - M).ne'
  rw [ds, mean_dp]
  simp only [hp]
  generalize (∑ k, Real.exp (x A h i k - M)) = S at hS
  have e : ∑ l, dp A h i l * (1 / (S * S)) * Real.exp (x A h i l - M)
      = (∑ l, dp A h i l * (Real.exp (x A h i l - M) / S)) / S := by
    rw [Finset.sum_div]
    exact Finset.sum_congr rfl fun l _ => by field_simp
  rw [e]
  field_simp
  ring

end Cert.AttnMath

end
-- ==== Proof.AttnRef.lean ====
/- The reference's gradient of attention, read element by element: each intermediate array of the host program is the
   real array of `AttnMath` of the same meaning. -/
module

public import proofs.«01_k».proof.Proof.AttnMath
public import proofs.«01_k».proof.Proof.Gen.AttnRefIdeal.Run
public import Idealize.ShloMosaic.Lib.Pointwise

@[expose] public section

set_option maxRecDepth 16384

noncomputable section

namespace Cert.AttnRefIdeal.Proof

open Cert.AttnRefIdeal Cert.AttnRefIdeal.Gen Idealize.ShloMosaic Idealize.ShloMosaic.TcCoe Idealize.SL.Sem
open Idealize.ShloMosaic.StableHlo Cert.Base Cert.AttnMath

variable (a0 : FVec Ideal S1x2048x6x128 .f32) (a1 : FVec Ideal S1x2048x6x64 .f32) (a2 : FVec Ideal S1x2048x6x128 .f32)
  (a3 : FVec Ideal S1x2048x64 .f32) (a4 a5 : FVec Ideal S1x2048x6x128 .f32)

/-- The arguments hold the real arrays of `A`. -/
structure Holds (A : Args) : Prop where
  h0 : ∀ i h d, a0 (ix4 0 i h d) = A.qn i h d
  h1 : ∀ i h d, a1 (ix4 0 i h d) = A.qr i h d
  h2 : ∀ i h d, a2 (ix4 0 i h d) = A.kn i h d
  h3 : ∀ i d, a3 (ix3 0 i d) = A.kr i d
  h4 : ∀ i h d, a4 (ix4 0 i h d) = A.v i h d
  h5 : ∀ i h d, a5 (ix4 0 i h d) = A.g i h d

abbrev sc : FVec Ideal S1x6x2048x2048 .f32 :=
  mulf (addf (Host.dotGeneral dot_S1x2048x6x128_S1x2048x6x128_S1x6x2048x2048_3_3_1_1_02_02 none a0 a2)
    (transpose S1x6x2048x2048 [0, 3, 2, 1] (Host.dotGeneral dot_S1x2048x64_S1x2048x6x64_S1x2048x2048x6_2_3_1_12_0_0 none a3 a1)
      transposes_S1x2048x2048x6_S1x6x2048x2048_0_3_2_1))
    (broadcastInDim S1x6x2048x2048 ![] bcast_S_S1x6x2048x2048 (constant S_ .f32 0x3D93CD3A#32))

abbrev top (s : FVec Ideal S1x6x2048x2048 .f32) : FVec Ideal S1x6x2048 .f32 :=
  Host.reduce FloatOps.maximumf s (constant S_ .f32 0xFF800000#32) reducesTo_S1x6x2048x2048_S1x6x2048_d3 h_S_

abbrev mx (s : FVec Ideal S1x6x2048x2048 .f32) : FVec Ideal S1x6x2048 .f32 :=
  maximumf (broadcastInDim S1x6x2048 ![] bcast_S_S1x6x2048 (constant S_ .f32 0xFF800000#32)) (top s)

abbrev ex (s : FVec Ideal S1x6x2048x2048 .f32) (u : FVec Ideal S1x6x2048 .f32) : FVec Ideal S1x6x2048x2048 .f32 :=
  Host.exp (subf s (broadcastInDim S1x6x2048x2048 ![0, 1, 2, 3] bcast_S1x6x2048x1_S1x6x2048x2048_0_1_2_3
    (broadcastInDim S1x6x2048x1 ![0, 1, 2] bcast_S1x6x2048_S1x6x2048x1_0_1_2 u)))

abbrev su (e : FVec Ideal S1x6x2048x2048 .f32) : FVec Ideal S1x6x2048x1 .f32 :=
  broadcastInDim S1x6x2048x1 ![0, 1, 2] bcast_S1x6x2048_S1x6x2048x1_0_1_2
    (Host.reduceAdd e (constant S_ .f32 0x00000000#32) reducesTo_S1x6x2048x2048_S1x6x2048_d3 h_S_)

abbrev wide (s : FVec Ideal S1x6x2048x1 .f32) : FVec Ideal S1x6x2048x2048 .f32 :=
  broadcastInDim S1x6x2048x2048 ![0, 1, 2, 3] bcast_S1x6x2048x1_S1x6x2048x2048_0_1_2_3 s

abbrev prb (e : FVec Ideal S1x6x2048x2048 .f32) (s : FVec Ideal S1x6x2048x1 .f32) : FVec Ideal S1x6x2048x2048 .f32 :=
  Host.divf e (wide s)

abbrev cot : FVec Ideal S1x6x128x2048 .f32 :=
  transpose S1x6x128x2048 [0, 2, 3, 1] a5 transposes_S1x2048x6x128_S1x6x128x2048_0_2_3_1

abbrev dpr : FVec Ideal S1x6x2048x2048 .f32 :=
  Host.dotGeneral dot_S1x6x128x2048_S1x2048x6x128_S1x6x2048x2048_2_3_3_1_01_02 none (cot a5) a4

abbrev rowNeg (q e : FVec Ideal S1x6x2048x2048 .f32) (s : FVec Ideal S1x6x2048x1 .f32) : FVec Ideal S1x6x2048x1 .f32 :=
  Host.negf (shapeCast S1x6x2048x1 (Host.reduceAdd (mulf (mulf q (wide (Host.divf (broadcastInDim S1x6x2048x1 ![] bcast_S_S1x6x2048x1 (constant S_ .f32 0x3F800000#32)) (mulf s s)))) e)
    (constant S_ .f32 0x00000000#32) reducesTo_S1x6x2048x2048_S1x6x2048_d3 h_S_) shapeCasts_S1x6x2048_S1x6x2048x1)

abbrev dsc (q e : FVec Ideal S1x6x2048x2048 .f32) (s n : FVec Ideal S1x6x2048x1 .f32) : FVec Ideal S1x6x2048x2048 .f32 :=
  mulf (mulf (addf (Host.divf q (wide s))
    (broadcastInDim S1x6x2048x2048 ![0, 1, 2] bcast_S1x6x2048_S1x6x2048x2048_0_1_2
      (broadcastInDim S1x6x2048 ![1, 2] bcast_S6x2048_S1x6x2048_1_2
        (Host.reduceAdd n (constant S_ .f32 0x00000000#32) reducesTo_S1x6x2048x1_S6x2048_d0_3 h_S_)))) e)
    (broadcastInDim S1x6x2048x2048 ![] bcast_S_S1x6x2048x2048 (constant S_ .f32 0x3D93CD3A#32))

abbrev outQn (s : FVec Ideal S1x6x2048x2048 .f32) : FVec Ideal S2048x768 .bf16 :=
  truncf .bf16 (shapeCast S2048x768 (transpose S1x2048x6x128 [0, 2, 1, 3]
    (Host.dotGeneral dot_S1x6x2048x2048_S1x2048x6x128_S1x6x2048x128_3_1_2_3_01_02 none s a2)
    transposes_S1x6x2048x128_S1x2048x6x128_0_2_1_3) shapeCasts_S1x2048x6x128_S2048x768) bitsLt_bf16_f32

abbrev turn (s : FVec Ideal S1x6x2048x2048 .f32) : FVec Ideal S1x2048x2048x6 .f32 :=
  transpose S1x2048x2048x6 [0, 3, 2, 1] s transposes_S1x6x2048x2048_S1x2048x2048x6_0_3_2_1

abbrev outQr (s : FVec Ideal S1x6x2048x2048 .f32) : FVec Ideal S2048x768 .bf16 :=
  truncf .bf16 (shapeCast S2048x768 (pad S1x2048x6x128 ![0, 0, 0, 0] ![0, 0, 0, 64] ![0, 0, 0, 0]
    (Host.dotGeneral dot_S1x2048x2048x6_S1x2048x64_S1x2048x6x64_1_1_23_2_0_0 none (turn s) a3)
    (sitofp .f32 (constantI S_ 32 0#32)) pads_S1x2048x6x64_S1x2048x6x128_000_000_000_0640 h_S_) shapeCasts_S1x2048x6x128_S2048x768) bitsLt_bf16_f32

abbrev outKr (s : FVec Ideal S1x6x2048x2048 .f32) : FVec Ideal S2048x128 .bf16 :=
  truncf .bf16 (shapeCast S2048x128 (pad S1x2048x128 ![0, 0, 0] ![0, 0, 64] ![0, 0, 0]
    (Host.dotGeneral dot_S1x2048x2048x6_S1x2048x6x64_S1x2048x64_23_12_1_3_0_0 none (turn s) a1)
    (sitofp .f32 (constantI S_ 32 0#32)) pads_S1x2048x64_S1x2048x128_000_000_0640 h_S_) shapeCasts_S1x2048x128_S2048x128) bitsLt_bf16_f32

abbrev outKv (s pr : FVec Ideal S1x6x2048x2048 .f32) : FVec Ideal S2048x1536 .bf16 :=
  truncf .bf16 (shapeCast S2048x1536 (concatenate S1x2048x6x256 3
    [⟨S1x2048x6x128, (transpose S1x2048x6x128 [0, 2, 1, 3]
      (Host.dotGeneral dot_S1x6x2048x2048_S1x2048x6x128_S1x6x2048x128_2_1_3_3_01_02 none s a0) transposes_S1x6x2048x128_S1x2048x6x128_0_2_1_3)⟩,
     ⟨S1x2048x6x128, (transpose S1x2048x6x128 [0, 3, 1, 2]
      (Host.dotGeneral dot_S1x6x128x2048_S1x6x2048x2048_S1x6x128x2048_3_2_2_3_01_01 none (cot a5) pr) transposes_S1x6x128x2048_S1x2048x6x128_0_3_1_2)⟩]
    concatenates_S1x2048x6x128_S1x2048x6x128_S1x2048x6x256_d3) shapeCasts_S1x2048x6x256_S2048x1536) bitsLt_bf16_f32

variable {a0 a1 a2 a3 a4 a5}

section
variable {A : Args} (H : Holds a0 a1 a2 a3 a4 a5 A)
include H

theorem sc_at (h : Fin 6) (i j : Fin 2048) : sc a0 a1 a2 a3 (ix4 0 h i j) = (x A h i j : ℝ) := by
  pointwise [sc]
  simp only [H.h0, H.h1, H.h2, H.h3, kappa, ← EReal.coe_mul, coe_sum, ← EReal.coe_add]
  rfl

theorem dpr_at (h : Fin 6) (i j : Fin 2048) : dpr a4 a5 (ix4 0 h i j) = (dp A h i j : ℝ) := by
  pointwise [dpr, cot]
  simp only [H.h4, H.h5, ← EReal.coe_mul, coe_sum]
  rfl
end

variable {A : Args}

theorem drop_at (h : Fin 6) (i j : Fin 2048) :
    reducesTo_S1x6x2048x2048_S1x6x2048_d3.drop (ix4 0 h i j) = ix3 0 h i := by
  funext b
  match b with
  | ⟨0, _⟩ => rfl
  | ⟨1, _⟩ => rfl
  | ⟨2, _⟩ => rfl

theorem max_bot_at {r : FVec Ideal S1x6x2048 .f32} {j : S1x6x2048.Idx} {M : ℝ} (h : r j = M) :
    maximumf (broadcastInDim S1x6x2048 ![] bcast_S_S1x6x2048 (constant S_ .f32 0xFF800000#32)) r j = (M : EReal) := by
  refine Eq.trans (congrArg (max (Ideal.ofBits .f32 0xFF800000#32)) h) ?_
  rw [ofBits_inf_neg]
  exact max_eq_right bot_le

theorem top_real {s : FVec Ideal S1x6x2048x2048 .f32} (hs : ∀ h i j, ∃ r : ℝ, s (ix4 0 h i j) = r) (h : Fin 6) (i : Fin 2048) :
    ∃ M : ℝ, top s (ix3 0 h i) = M :=
  reduce_max_real s (constant S_ .f32 0xFF800000#32) reducesTo_S1x6x2048x2048_S1x6x2048_d3 h_S_ (ix3 0 h i)
    (fun y _ => by
      rw [eq_ix4 y, show y 0 = (0 : Fin 1) from Subsingleton.elim (α := Fin 1) _ _]
      exact hs _ _ _) (ix4 0 h i 0) (drop_at h i 0) ofBits_inf_neg

theorem mx_real {s : FVec Ideal S1x6x2048x2048 .f32} (hs : ∀ h i j, ∃ r : ℝ, s (ix4 0 h i j) = r) (h : Fin 6) (i : Fin 2048) :
    ∃ M : ℝ, mx s (ix3 0 h i) = M := by
  obtain ⟨M, hM⟩ := top_real hs h i
  exact ⟨M, max_bot_at hM⟩

/-- The sum over the two unit axes of a column is the column's element. -/
theorem sum_unit (n : FVec Ideal S1x6x2048x1 .f32) (h : Fin 6) (i : Fin 2048) :
    Ideal.hostReduceAdd reducesTo_S1x6x2048x1_S6x2048_d0_3 n 0 (ix2 h i) = n (ix4 0 h i 0) := by
  have hf : ∀ y : S1x6x2048x1.Idx, reducesTo_S1x6x2048x1_S6x2048_d0_3.drop y = ix2 h i ↔ ∃ _ : Fin 1, ix4 0 h i 0 = y := by
    intro y
    constructor
    · intro e
      refine ⟨0, ?_⟩
      rw [eq_ix4 y]
      have e0 : y 1 = h := congrFun e 0
      have e1 : y 2 = i := congrFun e 1
      rw [e0, e1, show y 0 = (0 : Fin 1) from Subsingleton.elim (α := Fin 1) _ _, show y 3 = (0 : Fin 1) from Subsingleton.elim (α := Fin 1) _ _]
    · rintro ⟨-, rfl⟩
      funext b
      match b with
      | ⟨0, _⟩ => rfl
      | ⟨1, _⟩ => rfl
  unfold Ideal.hostReduceAdd
  rw [zero_add, Finset.sum_filter_eq_sum_of_fiber _ (fun _ : Fin 1 => ix4 0 h i 0) (fun _ _ _ => Subsingleton.elim _ _) hf n]
  exact Fin.sum_univ_one _

/-- What a row of exponentials and its sum hold once the row's shift is a real number. -/
structure Row (e : FVec Ideal S1x6x2048x2048 .f32) (s : FVec Ideal S1x6x2048x1 .f32) (A : Args) (h : Fin 6) (i : Fin 2048) (M : ℝ) : Prop where
  e : ∀ j, e (ix4 0 h i j) = (Real.exp (x A h i j - M) : ℝ)
  s : s (ix4 0 h i 0) = (∑ k, Real.exp (x A h i k - M) : ℝ)

theorem row_of {s : FVec Ideal S1x6x2048x2048 .f32} {u : FVec Ideal S1x6x2048 .f32} (hs : ∀ h i j, s (ix4 0 h i j) = (x A h i j : ℝ))
    {h : Fin 6} {i : Fin 2048} {M : ℝ} (hM : u (ix3 0 h i) = M) : Row (ex s u) (su (ex s u)) A h i M := by
  have he : ∀ j, ex s u (ix4 0 h i j) = (Real.exp (x A h i j - M) : ℝ) := fun j => by
    pointwise [ex]
    rw [hs, hM, ← EReal.coe_sub, exp_coe]
  refine ⟨he, ?_⟩
  generalize ex s u = e at he
  pointwise [su]
  simp only [he, coe_sum]

theorem row {s : FVec Ideal S1x6x2048x2048 .f32} (hs : ∀ h i j, s (ix4 0 h i j) = (x A h i j : ℝ)) (h : Fin 6) (i : Fin 2048) :
    ∃ M : ℝ, Row (ex s (mx s)) (su (ex s (mx s))) A h i M := by
  obtain ⟨M, hM⟩ := mx_real (fun h i j => ⟨_, hs h i j⟩) h i
  exact ⟨M, row_of hs hM⟩

theorem prb_at {e : FVec Ideal S1x6x2048x2048 .f32} {s : FVec Ideal S1x6x2048x1 .f32} {h : Fin 6} {i : Fin 2048} {M : ℝ}
    (R : Row e s A h i M) (j : Fin 2048) : prb e s (ix4 0 h i j) = (p A h i j : ℝ) := by
  pointwise [prb, wide]
  rw [R.e, R.s, div_coe _ (sum_exp_pos (by decide) fun k => x A h i k - M).ne', p, softmax_shift]

theorem dsc_at {e q : FVec Ideal S1x6x2048x2048 .f32} {s : FVec Ideal S1x6x2048x1 .f32} {h : Fin 6} {i : Fin 2048} {M : ℝ}
    (R : Row e s A h i M) (hq : ∀ h i j, q (ix4 0 h i j) = (dp A h i j : ℝ)) (j : Fin 2048) :
    dsc q e s (rowNeg q e s) (ix4 0 h i j) = (ds A h i j : ℝ) := by
  have hS := (sum_exp_pos (by decide) fun k => x A h i k - M).ne'
  have hn : rowNeg q e s (ix4 0 h i 0) = (-(∑ l, dp A h i l * (1 / ((∑ k, Real.exp (x A h i k - M)) * ∑ k, Real.exp (x A h i k - M))) * Real.exp (x A h i l - M)) : ℝ) := by
    pointwise [rowNeg, wide]
    simp only [R.e, R.s, hq, ← EReal.coe_mul]
    rw [← EReal.coe_one, div_coe _ (mul_ne_zero hS hS)]
    simp only [← EReal.coe_mul, coe_sum, ← EReal.coe_neg]
  generalize rowNeg q e s = n at hn
  pointwise [dsc, wide]
  rw [sum_unit, hn, hq, R.e, R.s, div_coe _ hS, kappa]
  simp only [← EReal.coe_mul, ← EReal.coe_add]
  rw [quotient_rule]

section
variable {s pr : FVec Ideal S1x6x2048x2048 .f32} (hs : ∀ h i j, s (ix4 0 h i j) = (ds A h i j : ℝ))
  (hp : ∀ h i j, pr (ix4 0 h i j) = (p A h i j : ℝ)) (H : Holds a0 a1 a2 a3 a4 a5 A)
include hs H

theorem outQn_at (i : Fin 2048) (h : Fin 6) (d : Fin 128) :
    outQn a2 s (ix2 i ⟨h.val * 128 + d.val, by omega⟩) = (dqn A i h d : ℝ) := by
  pointwise [outQn]
  simp only [hs, H.h2, ← EReal.coe_mul, coe_sum]
  rfl

theorem outQr_at (i : Fin 2048) (h : Fin 6) (d : Fin 128) :
    outQr a3 s (ix2 i ⟨h.val * 128 + d.val, by omega⟩) = (pad64 (dqr A i h) d : ℝ) := by
  pointwise [outQr, turn]
  simp only [hs, H.h3, ← EReal.coe_mul, coe_sum, sitofp_zero]
  exact coe_pad64 (dqr A i h) d

theorem outKr_at (j : Fin 2048) (d : Fin 128) :
    outKr a1 s (ix2 j d) = (pad64 (dkr A j) d : ℝ) := by
  pointwise [outKr, turn]
  simp only [hs, H.h1, ← EReal.coe_mul, coe_sum, sitofp_zero]
  exact coe_pad64 (dkr A j) d

include hp in
theorem outKv_at (j : Fin 2048) (h : Fin 6) (d : Fin 256) :
    outKv a0 a5 s pr (ix2 j ⟨h.val * 256 + d.val, by omega⟩)
      = if hd : d.val < 128 then ((dkn A j h ⟨d.val, hd⟩ : ℝ) : EReal) else ((dv A j h ⟨d.val - 128, by omega⟩ : ℝ) : EReal) := by
  pointwise [outKv, cot]
  simp only [hs, hp, H.h0, H.h5, ← EReal.coe_mul, coe_sum]
  rfl
end

end Cert.AttnRefIdeal.Proof
-- ==== Proof.AttnPay.lean ====
/- One point of the gradient of attention: what the body computes of a block of 1024 queries and the keys of a head,
   in the real arrays of `AttnMath`. -/
module

public import proofs.«01_k».proof.Proof.AttnMath
public import proofs.«01_k».proof.Proof.Gen.AttnIdeal.Value
public import Idealize.ShloMosaic.Lib.Pointwise

@[expose] public section

set_option maxRecDepth 16384

noncomputable section

namespace Cert.AttnIdeal.Proof

open Cert.AttnIdeal Cert.AttnIdeal.Gen Idealize.ShloMosaic Idealize.ShloMosaic.TcCoe Idealize.SL.Sem
open Cert.Base Cert.AttnMath

/-- The eight blocks a point reads hold the queries `row i` of head `h`, the keys of that head, the output and its
    cotangent, and each query's logarithm of the sum of its exponentials. -/
structure Blk (A : Args) (h : Fin 6) (row : Fin 1024 → Fin 2048) (x0 x1 : Vec Ideal S1024x128 .bf16) (x2 x3 x4 : Vec Ideal S2048x128 .bf16)
    (x5 : Vec Ideal S1024x128 .f32) (x6 : Vec Ideal S1x1024x1 .f32) (x7 : Vec Ideal S1024x128 .f32) : Prop where
  q : ∀ i d, x0 (ix2 i d) = (A.qn (row i) h d : ℝ)
  r : ∀ i d, x1 (ix2 i d) = (pad64 (A.qr (row i) h) d : ℝ)
  k : ∀ j d, x2 (ix2 j d) = (A.kn j h d : ℝ)
  v : ∀ j d, x3 (ix2 j d) = (A.v j h d : ℝ)
  s : ∀ j d, x4 (ix2 j d) = (pad64 (A.kr j) d : ℝ)
  o : ∀ i d, x5 (ix2 i d) = (o A (row i) h d : ℝ)
  l : ∀ i, ∃ M : ℝ, x6 (ix3 0 i 0) = (M + Real.log (∑ k, Real.exp (x A h (row i) k - M)) : ℝ)
  g : ∀ i d, x7 (ix2 i d) = (A.g (row i) h d : ℝ)

section
variable {A : Args} {h : Fin 6} {row : Fin 1024 → Fin 2048} {x0 x1 : Vec Ideal S1024x128 .bf16} {x2 x3 x4 : Vec Ideal S2048x128 .bf16}
  {x5 : Vec Ideal S1024x128 .f32} {x6 : Vec Ideal S1x1024x1 .f32} {x7 : Vec Ideal S1024x128 .f32}

theorem pay9_at (B : Blk A h row x0 x1 x2 x3 x4 x5 x6 x7) (i : Fin 1024) (j : Fin 2048) :
    k0_pay9 x0 x1 x2 x4 x6 (ix2 i j) = (p A h (row i) j : ℝ) := by
  obtain ⟨M, hM⟩ := B.l i
  pointwise [k0_pay9, k0_pay5, k0_pay6]
  simp only [B.q, B.k, B.r, B.s, hM, kappa, ← EReal.coe_mul, coe_sum, ← EReal.coe_add, ← EReal.coe_sub, exp_coe]
  rw [sum_pad64, p, ← exp_sub_lse (by decide) (x A h (row i)) M j]
  simp only [x, mul_comm (A.kr _ _)]

theorem pay10_at (B : Blk A h row x0 x1 x2 x3 x4 x5 x6 x7) (i : Fin 1024) (j : Fin 2048) :
    k0_pay10 x0 x1 x2 x4 x7 x6 x3 x5 (ix2 i j) = (ds A h (row i) j : ℝ) := by
  have hp := pay9_at B i j
  pointwise [k0_pay10, k0_pay8, k0_pay7]
  simp only [hp, B.g, B.v, B.o, kappa, ← EReal.coe_mul, coe_sum, ← EReal.coe_sub]
  rfl

variable {w : FVec Ideal S1024x2048 .bf16} (hw : ∀ i j, w (ix2 i j) = (ds A h (row i) j : ℝ))
include hw

theorem pay12_at (B : Blk A h row x0 x1 x2 x3 x4 x5 x6 x7) (i : Fin 1024) (d : Fin 128) :
    k0_pay12 (k0_pay6 x2 x4) w (constant S1024x256 .f32 0x00000000#32) (ix2 i d) = (dqn A (row i) h d : ℝ) := by
  pointwise [k0_pay12, k0_pay11, k0_pay6]
  simp only [hw, B.k, ← EReal.coe_mul, coe_sum]
  rfl

theorem pay13_at (B : Blk A h row x0 x1 x2 x3 x4 x5 x6 x7) (i : Fin 1024) (d : Fin 128) :
    k0_pay13 (k0_pay6 x2 x4) w (constant S1024x256 .f32 0x00000000#32) (ix2 i d) = (pad64 (dqr A (row i) h) d : ℝ) := by
  pointwise [k0_pay13, k0_pay11, k0_pay6]
  simp only [hw, B.s, ← EReal.coe_mul, coe_sum]
  rw [sum_mul_pad64]
  rfl

theorem pay15_at (B : Blk A h row x0 x1 x2 x3 x4 x5 x6 x7) (j : Fin 2048) (d : Fin 128) :
    k0_pay15 (k0_pay5 x0 x1) w (ix2 j d) = (∑ i, ds A h (row i) j * A.qn (row i) h d : ℝ) := by
  pointwise [k0_pay15, k0_pay14, k0_pay5]
  simp only [hw, B.q, ← EReal.coe_mul, coe_sum]

theorem pay21_at (B : Blk A h row x0 x1 x2 x3 x4 x5 x6 x7) (j : Fin 2048) (d : Fin 128) :
    k0_pay21 (k0_pay5 x0 x1) w (ix2 j d) = (∑ i, ds A h (row i) j * pad64 (A.qr (row i) h) d : ℝ) := by
  pointwise [k0_pay21, k0_pay14, k0_pay5]
  simp only [hw, B.r, ← EReal.coe_mul, coe_sum]

omit hw in
theorem pay18_at (B : Blk A h row x0 x1 x2 x3 x4 x5 x6 x7) (hp : ∀ i j, w (ix2 i j) = (p A h (row i) j : ℝ)) (j : Fin 2048) (d : Fin 128) :
    k0_pay18 (k0_pay8 x7) w (ix2 j d) = (∑ i, p A h (row i) j * A.g (row i) h d : ℝ) := by
  pointwise [k0_pay18, k0_pay8, k0_pay7]
  simp only [hp, B.g, ← EReal.coe_mul, coe_sum]

end

end Cert.AttnIdeal.Proof
-- ==== Proof.AttnArr.lean ====
/- What the kernel's operands hold: the queries, keys and values laid out in columns, the padded rotary parts, the
   attention output and the row sums the forward lines leave, and the block of each a grid point reads. -/
module

public import proofs.«01_k».proof.Proof.AttnRef
public import proofs.«01_k».proof.Proof.AttnPay
public import Idealize.ShloMosaic.Lib.Pipeline.ValueKit

@[expose] public section

set_option maxRecDepth 16384

noncomputable section

namespace Cert.AttnIdeal.Proof

open Cert.AttnIdeal Cert.AttnIdeal.Gen Idealize.ShloMosaic Idealize.ShloMosaic.TcCoe Idealize.SL.Sem
open Idealize.ShloMosaic.StableHlo Cert.Base Cert.AttnMath
open Cert.AttnRefIdeal.Proof (Holds sc sc_at mx top ex su prb Row row row_of top_real prb_at)

variable (m : (ℓ : Loc nD τ sig) → Buf (Elt Ideal) ℓ)

abbrev A0 (c : Dev nD) : FVec Ideal S1x2048x6x128 .f32 := m ((c : Thread nD τ).loc main_arg0)
abbrev A1 (c : Dev nD) : FVec Ideal S1x2048x6x64 .f32 := m ((c : Thread nD τ).loc main_arg1)
abbrev A2 (c : Dev nD) : FVec Ideal S1x2048x6x128 .f32 := m ((c : Thread nD τ).loc main_arg2)
abbrev A3 (c : Dev nD) : FVec Ideal S1x2048x64 .f32 := m ((c : Thread nD τ).loc main_arg3)
abbrev A4 (c : Dev nD) : FVec Ideal S1x2048x6x128 .f32 := m ((c : Thread nD τ).loc main_arg4)
abbrev A5 (c : Dev nD) : FVec Ideal S1x2048x6x128 .f32 := m ((c : Thread nD τ).loc main_arg5)

abbrev zeroF : FVec Ideal S_ .f32 := sitofp .f32 (constantI S_ 32 0#32)

abbrev kQn (a : FVec Ideal S1x2048x6x128 .f32) : FVec Ideal S2048x768 .bf16 :=
  truncf .bf16 (shapeCast S2048x768 a shapeCasts_S1x2048x6x128_S2048x768) bitsLt_bf16_f32
abbrev kQr (a : FVec Ideal S1x2048x6x64 .f32) : FVec Ideal S2048x768 .bf16 :=
  truncf .bf16 (shapeCast S2048x768 (pad S2048x6x128 ![0, 0, 0] ![0, 0, 64] ![0, 0, 0]
    (shapeCast S2048x6x64 (shapeCast S2048x384 a shapeCasts_S1x2048x6x64_S2048x384) shapeCasts_S2048x384_S2048x6x64)
    zeroF pads_S2048x6x64_S2048x6x128_000_000_0640 h_S_) shapeCasts_S2048x6x128_S2048x768) bitsLt_bf16_f32
abbrev kKv (a b : FVec Ideal S1x2048x6x128 .f32) : FVec Ideal S2048x1536 .bf16 :=
  truncf .bf16 (shapeCast S2048x1536 (concatenate S1x2048x6x256 3 [⟨S1x2048x6x128, a⟩, ⟨S1x2048x6x128, b⟩]
    concatenates_S1x2048x6x128_S1x2048x6x128_S1x2048x6x256_d3) shapeCasts_S1x2048x6x256_S2048x1536) bitsLt_bf16_f32
abbrev kKr (a : FVec Ideal S1x2048x64 .f32) : FVec Ideal S2048x128 .bf16 :=
  truncf .bf16 (shapeCast S2048x128 (pad S2048x1x128 ![0, 0, 0] ![0, 0, 64] ![0, 0, 0]
    (shapeCast S2048x1x64 (shapeCast S2048x64 a shapeCasts_S1x2048x64_S2048x64) shapeCasts_S2048x64_S2048x1x64)
    zeroF pads_S2048x1x64_S2048x1x128_000_000_0640 h_S_) shapeCasts_S2048x1x128_S2048x128) bitsLt_bf16_f32
abbrev kO (v : FVec Ideal S1x2048x6x128 .f32) (q : FVec Ideal S1x6x2048x2048 .f32) : FVec Ideal S2048x768 .f32 :=
  shapeCast S2048x768 (transpose S1x2048x6x128 [0, 3, 1, 2]
    (Host.dotGeneral dot_S1x2048x6x128_S1x6x2048x2048_S1x6x128x2048_1_3_3_2_02_01 none v q) transposes_S1x6x128x2048_S1x2048x6x128_0_3_1_2)
    shapeCasts_S1x2048x6x128_S2048x768
abbrev sums (e : FVec Ideal S1x6x2048x2048 .f32) : FVec Ideal S1x6x2048 .f32 :=
  Host.reduceAdd e (constant S_ .f32 0x00000000#32) reducesTo_S1x6x2048x2048_S1x6x2048_d3 h_S_
abbrev kL (u s : FVec Ideal S1x6x2048 .f32) : FVec Ideal S6x2048x1 .f32 :=
  shapeCast S6x2048x1 (addf u (Host.log s)) shapeCasts_S1x6x2048_S6x2048x1

abbrev S0 (c : Dev nD) : FVec Ideal S1x6x2048x2048 .f32 := sc (A0 m c) (A1 m c) (A2 m c) (A3 m c)
abbrev E0 (c : Dev nD) : FVec Ideal S1x6x2048x2048 .f32 := ex (S0 m c) (mx (S0 m c))

theorem V0 (c : Dev nD) : V m c main_v1 = kQn (A0 m c) := by
  simp only [V, List.flatten_cons, List.flatten_nil, List.cons_append, List.nil_append, List.append_nil, TRef.binary, TRef.unary,
    TRef.toBuf, TRef.ofBuf, cast_eq]
  after_results
  rfl
theorem V1 (c : Dev nD) : V m c main_v6 = kQr (A1 m c) := by
  simp only [V, List.flatten_cons, List.flatten_nil, List.cons_append, List.nil_append, List.append_nil, TRef.binary, TRef.unary,
    TRef.toBuf, TRef.ofBuf, cast_eq]
  after_results
  rfl
theorem V2 (c : Dev nD) : V m c main_v9 = kKv (A2 m c) (A4 m c) := by
  simp only [V, List.flatten_cons, List.flatten_nil, List.cons_append, List.nil_append, List.append_nil, TRef.binary, TRef.unary,
    TRef.toBuf, TRef.ofBuf, cast_eq]
  after_results
  rfl
theorem V4 (c : Dev nD) : V m c main_v14 = kKr (A3 m c) := by
  simp only [V, List.flatten_cons, List.flatten_nil, List.cons_append, List.nil_append, List.append_nil, TRef.binary, TRef.unary,
    TRef.toBuf, TRef.ofBuf, cast_eq]
  after_results
  rfl
theorem V5 (c : Dev nD) : V m c main_v34 = kO (A4 m c) (prb (E0 m c) (su (E0 m c))) := by
  simp only [V, List.flatten_cons, List.flatten_nil, List.cons_append, List.nil_append, List.append_nil, TRef.binary, TRef.unary,
    TRef.toBuf, TRef.ofBuf, cast_eq]
  after_results
  rfl
theorem V6 (c : Dev nD) : V m c main_v49 = kL (top (S0 m c)) (sums (ex (S0 m c) (top (S0 m c)))) := by
  simp only [V, List.flatten_cons, List.flatten_nil, List.cons_append, List.nil_append, List.append_nil, TRef.binary, TRef.unary,
    TRef.toBuf, TRef.ofBuf, cast_eq]
  after_results
  rfl
theorem V7 (c : Dev nD) : V m c main_v50 = shapeCast S2048x768 (A5 m c) shapeCasts_S1x2048x6x128_S2048x768 := by
  simp only [V, List.flatten_cons, List.flatten_nil, List.cons_append, List.nil_append, List.append_nil, TRef.binary, TRef.unary,
    TRef.toBuf, TRef.ofBuf, cast_eq]
  after_results
  rfl

/-- Which block of each operand a point reads: the point `t` serves head `t / 2` and query block `t % 2`. -/
theorem idx : ∀ t : Fin cfg0.N, win0_0.index t = ![t.val % 2, t.val / 2] ∧ win0_1.index t = ![t.val % 2, t.val / 2]
    ∧ win0_2.index t = ![0, 2 * (t.val / 2)] ∧ win0_3.index t = ![0, 2 * (t.val / 2) + 1] ∧ win0_4.index t = ![0, 0]
    ∧ win0_5.index t = ![t.val % 2, t.val / 2] ∧ win0_6.index t = ![t.val / 2, t.val % 2, 0]
    ∧ win0_7.index t = ![t.val % 2, t.val / 2] := by decide +kernel

theorem lt12 (t : Fin cfg0.N) : t.val < 12 := lt_of_lt_of_eq t.isLt N_0

abbrev hd (t : Fin cfg0.N) : Fin 6 := ⟨t.val / 2, by have := lt12 t; omega⟩
abbrev qrow (t : Fin cfg0.N) (i : Fin 1024) : Fin 2048 := ⟨t.val % 2 * 1024 + i.val, by omega⟩

theorem kQn_at (a : FVec Ideal S1x2048x6x128 .f32) (i : Fin 2048) (h : Fin 6) (d : Fin 128) :
    kQn a (ix2 i ⟨h.val * 128 + d.val, by omega⟩) = a (ix4 0 i h d) := by
  pointwise [kQn]
theorem kQr_at (a : FVec Ideal S1x2048x6x64 .f32) (f : Fin 64 → ℝ) (i : Fin 2048) (h : Fin 6) (d : Fin 128) (hf : ∀ r, a (ix4 0 i h r) = f r) :
    kQr a (ix2 i ⟨h.val * 128 + d.val, by omega⟩) = (pad64 f d : ℝ) := by
  pointwise [kQr]
  simp only [hf, sitofp_zero]
  exact coe_pad64 f d
theorem kK_at (a b : FVec Ideal S1x2048x6x128 .f32) (i : Fin 2048) (h : Fin 6) (d : Fin 128) :
    kKv a b (ix2 i ⟨h.val * 256 + d.val, by omega⟩) = a (ix4 0 i h d) := by
  have e : (h.val * 256 + d.val) % 256 = d.val := by omega
  pointwise [kKv]
  simp only [e]
  exact dif_pos d.isLt
theorem kV_at (a b : FVec Ideal S1x2048x6x128 .f32) (i : Fin 2048) (h : Fin 6) (d : Fin 128) :
    kKv a b (ix2 i ⟨h.val * 256 + (128 + d.val), by omega⟩) = b (ix4 0 i h d) := by
  have e : (h.val * 256 + (128 + d.val)) % 256 = 128 + d.val := by omega
  pointwise [kKv]
  simp only [e]
  rw [dif_neg (by omega)]
  simp only [Nat.add_sub_cancel_left]
theorem kKr_at (a : FVec Ideal S1x2048x64 .f32) (f : Fin 64 → ℝ) (i : Fin 2048) (d : Fin 128) (hf : ∀ r, a (ix3 0 i r) = f r) :
    kKr a (ix2 i d) = (pad64 f d : ℝ) := by
  pointwise [kKr]
  simp only [hf, sitofp_zero]
  exact coe_pad64 f d
theorem kO_at (v : FVec Ideal S1x2048x6x128 .f32) (q : FVec Ideal S1x6x2048x2048 .f32) (i : Fin 2048) (h : Fin 6) (d : Fin 128) :
    kO v q (ix2 i ⟨h.val * 128 + d.val, by omega⟩) = ∑ j, v (ix4 0 j h d) * q (ix4 0 h i j) := by
  pointwise [kO]
theorem kL_at (u s : FVec Ideal S1x6x2048 .f32) (h : Fin 6) (i : Fin 2048) :
    kL u s (ix3 h i 0) = u (ix3 0 h i) + Ideal.log (s (ix3 0 h i)) := by
  pointwise [kL]
theorem sums_at (e : FVec Ideal S1x6x2048x2048 .f32) (h : Fin 6) (i : Fin 2048) :
    sums e (ix3 0 h i) = ∑ j, e (ix4 0 h i j) := by
  pointwise [sums]
theorem kG_at (a : FVec Ideal S1x2048x6x128 .f32) (i : Fin 2048) (h : Fin 6) (d : Fin 128) :
    shapeCast S2048x768 a shapeCasts_S1x2048x6x128_S2048x768 (ix2 i ⟨h.val * 128 + d.val, by omega⟩) = a (ix4 0 i h d) := by
  pointwise

theorem o_at {A : Args} {v : FVec Ideal S1x2048x6x128 .f32} {q : FVec Ideal S1x6x2048x2048 .f32} {h : Fin 6} {i : Fin 2048}
    (hv : ∀ j h d, v (ix4 0 j h d) = (A.v j h d : ℝ)) (hq : ∀ j, q (ix4 0 h i j) = (p A h i j : ℝ)) (d : Fin 128) :
    kO v q (ix2 i ⟨h.val * 128 + d.val, by omega⟩) = (o A i h d : ℝ) := by
  rw [kO_at]
  simp only [hv, hq, ← EReal.coe_mul, coe_sum]
  rfl
theorem l_at {A : Args} {u : FVec Ideal S1x6x2048 .f32} {e : FVec Ideal S1x6x2048x2048 .f32} {h : Fin 6} {i : Fin 2048} {M : ℝ}
    (hM : u (ix3 0 h i) = M) (he : ∀ j, e (ix4 0 h i j) = (Real.exp (x A h i j - M) : ℝ)) :
    kL u (sums e) (ix3 h i 0) = (M + Real.log (∑ k, Real.exp (x A h i k - M)) : ℝ) := by
  rw [kL_at, sums_at, hM]
  simp only [he, coe_sum]
  rw [log_coe _ (sum_exp_pos (by decide) fun k => x A h i k - M), ← EReal.coe_add]

section
variable (c : Dev nD) (t : Fin cfg0.N)

variable {m c}

theorem b0 {X : FVec Ideal S2048x768 .bf16} (hX : V m c main_v1 = X) (i : Fin 1024) (d : Fin 128) :
    iblk m c 0 t (ix2 i d) = X (ix2 (qrow t i) ⟨(hd t).val * 128 + d.val, by omega⟩) := by
  unfold iblk
  rw [show V m c (Pipeline.arrRef spec0 0) = X from hX]
  exact congrArg X (by blk_ext [idx t])
theorem b1 {X : FVec Ideal S2048x768 .bf16} (hX : V m c main_v6 = X) (i : Fin 1024) (d : Fin 128) :
    iblk m c 1 t (ix2 i d) = X (ix2 (qrow t i) ⟨(hd t).val * 128 + d.val, by omega⟩) := by
  unfold iblk
  rw [show V m c (Pipeline.arrRef spec0 1) = X from hX]
  exact congrArg X (by blk_ext [idx t])
theorem b2 {X : FVec Ideal S2048x1536 .bf16} (hX : V m c main_v9 = X) (j : Fin 2048) (d : Fin 128) :
    iblk m c 2 t (ix2 j d) = X (ix2 j ⟨(hd t).val * 256 + d.val, by omega⟩) := by
  unfold iblk
  rw [show V m c (Pipeline.arrRef spec0 2) = X from hX]
  exact congrArg X (by blk_ext [idx t])
theorem b3 {X : FVec Ideal S2048x1536 .bf16} (hX : V m c main_v9 = X) (j : Fin 2048) (d : Fin 128) :
    iblk m c 3 t (ix2 j d) = X (ix2 j ⟨(hd t).val * 256 + (128 + d.val), by omega⟩) := by
  unfold iblk
  rw [show V m c (Pipeline.arrRef spec0 3) = X from hX]
  exact congrArg X (by blk_ext [idx t])
theorem b4 {X : FVec Ideal S2048x128 .bf16} (hX : V m c main_v14 = X) (j : Fin 2048) (d : Fin 128) :
    iblk m c 4 t (ix2 j d) = X (ix2 j d) := by
  unfold iblk
  rw [show V m c (Pipeline.arrRef spec0 4) = X from hX]
  exact congrArg X (by blk_ext [idx t])
theorem b5 {X : FVec Ideal S2048x768 .f32} (hX : V m c main_v34 = X) (i : Fin 1024) (d : Fin 128) :
    iblk m c 5 t (ix2 i d) = X (ix2 (qrow t i) ⟨(hd t).val * 128 + d.val, by omega⟩) := by
  unfold iblk
  rw [show V m c (Pipeline.arrRef spec0 5) = X from hX]
  exact congrArg X (by blk_ext [idx t])
theorem b6 {X : FVec Ideal S6x2048x1 .f32} (hX : V m c main_v49 = X) (i : Fin 1024) :
    iblk m c 6 t (ix3 0 i 0) = X (ix3 (hd t) (qrow t i) 0) := by
  unfold iblk
  rw [show V m c (Pipeline.arrRef spec0 6) = X from hX]
  exact congrArg X (by blk_ext [idx t])
theorem b7 {X : FVec Ideal S2048x768 .f32} (hX : V m c main_v50 = X) (i : Fin 1024) (d : Fin 128) :
    iblk m c 7 t (ix2 i d) = X (ix2 (qrow t i) ⟨(hd t).val * 128 + d.val, by omega⟩) := by
  unfold iblk
  rw [show V m c (Pipeline.arrRef spec0 7) = X from hX]
  exact congrArg X (by blk_ext [idx t])
end

end Cert.AttnIdeal.Proof
-- ==== Proof.AttnBlk.lean ====
/- The blocks a grid point reads hold the rows and the head the point serves. -/
module

public import proofs.«01_k».proof.Proof.AttnArr
public import Idealize.ShloMosaic.Lib.Pipeline.ValueKit

@[expose] public section

set_option maxRecDepth 16384

noncomputable section

namespace Cert.AttnIdeal.Proof

open Cert.AttnIdeal Cert.AttnIdeal.Gen Idealize.ShloMosaic Idealize.ShloMosaic.TcCoe Idealize.SL.Sem
open Idealize.ShloMosaic.StableHlo Cert.Base Cert.AttnMath
open Cert.AttnRefIdeal.Proof (Holds sc sc_at mx top ex su prb Row row row_of top_real prb_at)

variable (m : (ℓ : Loc nD τ sig) → Buf (Elt Ideal) ℓ)

section
variable (c : Dev nD) (t : Fin cfg0.N)

abbrev x0 : Vec Ideal S1024x128 .bf16 := iblk m c 0 t
abbrev x1 : Vec Ideal S1024x128 .bf16 := iblk m c 1 t
abbrev x2 : Vec Ideal S2048x128 .bf16 := iblk m c 2 t
abbrev x3 : Vec Ideal S2048x128 .bf16 := iblk m c 3 t
abbrev x4 : Vec Ideal S2048x128 .bf16 := iblk m c 4 t
abbrev x5 : Vec Ideal S1024x128 .f32 := iblk m c 5 t
abbrev x6 : Vec Ideal S1x1024x1 .f32 := iblk m c 6 t
abbrev x7 : Vec Ideal S1024x128 .f32 := iblk m c 7 t
end

section
variable {m} {c : Dev nD} (t : Fin cfg0.N) {A : Args} (H : Holds (A0 m c) (A1 m c) (A2 m c) (A3 m c) (A4 m c) (A5 m c) A)
include H

theorem f0 (i d) : x0 m c t (ix2 i d) = (A.qn (qrow t i) (hd t) d : ℝ) := (b0 t (V0 m c) i d).trans ((kQn_at _ _ _ _).trans (H.h0 _ _ _))
theorem f1 (i d) : x1 m c t (ix2 i d) = (pad64 (A.qr (qrow t i) (hd t)) d : ℝ) := (b1 t (V1 m c) i d).trans (kQr_at _ _ _ _ _ fun r => H.h1 _ _ r)
theorem f2 (j d) : x2 m c t (ix2 j d) = (A.kn j (hd t) d : ℝ) := (b2 t (V2 m c) j d).trans ((kK_at _ _ _ _ _).trans (H.h2 _ _ _))
theorem f3 (j d) : x3 m c t (ix2 j d) = (A.v j (hd t) d : ℝ) := (b3 t (V2 m c) j d).trans ((kV_at _ _ _ _ _).trans (H.h4 _ _ _))
theorem f4 (j d) : x4 m c t (ix2 j d) = (pad64 (A.kr j) d : ℝ) := (b4 t (V4 m c) j d).trans (kKr_at _ _ _ _ fun r => H.h3 _ r)
theorem f7 (i d) : x7 m c t (ix2 i d) = (A.g (qrow t i) (hd t) d : ℝ) := (b7 t (V7 m c) i d).trans ((kG_at _ _ _ _).trans (H.h5 _ _ _))
theorem f5 (i d) : x5 m c t (ix2 i d) = (o A (qrow t i) (hd t) d : ℝ) := by
  obtain ⟨M, R⟩ := Cert.AttnRefIdeal.Proof.row (sc_at H) (hd t) (qrow t i)
  exact (b5 t (V5 m c) i d).trans (o_at H.h4 (prb_at R) d)
theorem f6 (i) : ∃ M : ℝ, x6 m c t (ix3 0 i 0) = (M + Real.log (∑ k, Real.exp (x A (hd t) (qrow t i) k - M)) : ℝ) := by
  have h6 := fun i => b6 t (V6 m c) i
  have R := fun M => row_of (M := M) (u := top (S0 m c)) (h := hd t) (i := qrow t i) (sc_at H)
  have hT := top_real (s := S0 m c) (fun h i j => ⟨_, sc_at H h i j⟩) (hd t) (qrow t i)
  generalize top (S0 m c) = u at h6 R hT
  obtain ⟨M, hM⟩ := hT
  exact ⟨M, (h6 i).trans (l_at hM (R M hM).e)⟩

theorem blk : Blk A (hd t) (qrow t) (x0 m c t) (x1 m c t) (x2 m c t) (x3 m c t) (x4 m c t) (x5 m c t) (x6 m c t) (x7 m c t) :=
  ⟨f0 t H, f1 t H, f2 t H, f3 t H, f4 t H, f5 t H, f6 t H, f7 t H⟩
end

end Cert.AttnIdeal.Proof
-- ==== Proof.AttnFold.lean ====
/- The twelve points of the gradient of attention: what each leaves in its output blocks and in the three sums it
   carries on. -/
module

public import proofs.«01_k».proof.Proof.AttnBlk
public import Idealize.ShloMosaic.Lib.Pipeline.ValueKit
public import Idealize.ShloMosaic.Lib.Pipeline.ReadBack

@[expose] public section

set_option maxRecDepth 16384

noncomputable section

namespace Cert.AttnIdeal.Proof

open Cert.AttnIdeal Cert.AttnIdeal.Gen Cert.AttnIdeal.Value Idealize.ShloMosaic Idealize.ShloMosaic.TcCoe Idealize.SL.Sem
open Idealize.ShloMosaic.StableHlo Cert.Base Cert.AttnMath
open Cert.AttnRefIdeal.Proof (Holds sc sc_at mx top ex su prb Row row row_of top_real prb_at)

variable (m : (ℓ : Loc nD τ sig) → Buf (Elt Ideal) ℓ) (c : Dev nD)

abbrev Q (t : Fin cfg0.N) : FVec Ideal S1024x256 .bf16 := k0_pay5 (x0 m c t) (x1 m c t)
abbrev K (t : Fin cfg0.N) : FVec Ideal S2048x256 .bf16 := k0_pay6 (x2 m c t) (x4 m c t)
abbrev P (t : Fin cfg0.N) : FVec Ideal S1024x2048 .f32 := k0_pay9 (x0 m c t) (x1 m c t) (x2 m c t) (x4 m c t) (x6 m c t)
abbrev DS (t : Fin cfg0.N) : FVec Ideal S1024x2048 .bf16 :=
  k0_pay10 (x0 m c t) (x1 m c t) (x2 m c t) (x4 m c t) (x7 m c t) (x6 m c t) (x3 m c t) (x5 m c t)

abbrev St := Vec Ideal S1024x128 .bf16 × Vec Ideal S1024x128 .bf16 × Vec Ideal S2048x256 .bf16 × Vec Ideal S2048x128 .bf16 × Vec Ideal S2048x128 .f32 × Vec Ideal S2048x128 .f32 × Vec Ideal S2048x128 .f32

/-- What the run of the body at point `t` leaves: its two blocks of query gradients, and the three sums. -/
structure Step (t : Fin cfg0.N) (s : St) (dk dv dr : Vec Ideal S2048x128 .f32) : Prop where
  qn : s.1 = k0_pay12 (K m c t) (DS m c t) (constant S1024x256 .f32 0x00000000#32)
  qr : s.2.1 = k0_pay13 (K m c t) (DS m c t) (constant S1024x256 .f32 0x00000000#32)
  k : s.2.2.2.2.1 = dk
  v : s.2.2.2.2.2.1 = dv
  r : s.2.2.2.2.2.2 = dr

abbrev left : Rect S2048x256 := Rect.unit ![0, 0] ![2048, 128] inb_S2048x256_S2048x128_0_0
abbrev right : Rect S2048x256 := Rect.unit ![0, 128] ![2048, 128] inb_S2048x256_S2048x128_0_128

/-- Two halves of 128 columns stored one after the other. -/
abbrev halves (a b : Vec Ideal S2048x128 .bf16) : Vec Ideal S2048x256 .bf16 := View.canon [⟨right, b⟩, ⟨left, a⟩]

abbrev lo (d : Fin 128) : Fin 256 := ⟨d.val, by omega⟩
abbrev hi (d : Fin 128) : Fin 256 := ⟨128 + d.val, by omega⟩

theorem off_right (j : Fin 2048) (d : Fin 128) : (ix2 j (lo d) : S2048x256.Idx) ∉ right.set := by
  mem_blk
  intro h
  have h1 : 128 ≤ d.val := by simpa using (h 1).1
  omega

theorem halves_left (a b : Vec Ideal S2048x128 .bf16) (j : Fin 2048) (d : Fin 128) :
    halves a b (ix2 j (lo d)) = a (ix2 j d) := by
  have e : (ix2 j (lo d) : S2048x256.Idx) = left.emb (ix2 j d) := by blk_ext
  exact (View.canon_cons_of_not_mem (⟨right, b⟩ : View.Piece (Elt Ideal) S2048x256 .bf16) [⟨left, a⟩] (off_right j d)).trans
    ((congrArg _ e).trans (View.canon_cons_emb left a [] (ix2 j d)))

theorem halves_right (a b : Vec Ideal S2048x128 .bf16) (j : Fin 2048) (d : Fin 128) :
    halves a b (ix2 j (hi d)) = b (ix2 j d) := by
  have e : (ix2 j (hi d) : S2048x256.Idx) = right.emb (ix2 j d) := by blk_ext
  rw [halves, e]
  exact View.canon_cons_emb right b _ (ix2 j d)

section
variable (t : Fin cfg0.N) (acc : St)

theorem stepA (h : t.val = 0) : Step m c t (stAt0 m c t.val t.isLt acc) (k0_pay16 (Q m c t) (DS m c t)) (k0_pay19 (k0_pay8 (x7 m c t)) (P m c t))
    (k0_pay22 (Q m c t) (DS m c t)) := by
  rw [stAt0_A m c t acc (by omega) (by omega) (by omega) (by omega) (by omega) (by omega) (by omega) (by omega)]
  constructor <;> (dsimp only; frame_out)

theorem stepC (h : t.val % 2 = 0) (h' : t.val ≠ 0) : Step m c t (stAt0 m c t.val t.isLt acc) (k0_pay16 (Q m c t) (DS m c t))
    (k0_pay19 (k0_pay8 (x7 m c t)) (P m c t)) (k0_pay1 (k0_pay21 (Q m c t) (DS m c t)) acc.2.2.2.2.2.2) := by
  have := lt12 t
  rw [stAt0_C m c t acc (by omega) (by omega) (by omega) (by omega) (by omega) (by omega) (by omega) (by omega)]
  constructor <;> (dsimp only; frame_out) <;> simp only [read_unread_whole]

abbrev dkB : Vec Ideal S2048x128 .f32 := k0_pay17 (Q m c t) (DS m c t) acc.2.2.2.2.1
abbrev dvB : Vec Ideal S2048x128 .f32 := k0_pay20 (k0_pay8 (x7 m c t)) (P m c t) acc.2.2.2.2.2.1
abbrev drB : Vec Ideal S2048x128 .f32 := k0_pay1 (k0_pay21 (Q m c t) (DS m c t)) acc.2.2.2.2.2.2

theorem stepB (h : t.val % 2 = 1) (h' : t.val ≠ 11) : Step m c t (stAt0 m c t.val t.isLt acc) (dkB m c t acc) (dvB m c t acc) (drB m c t acc)
    ∧ (stAt0 m c t.val t.isLt acc).2.2.1 = halves (k0_pay2 (dkB m c t acc)) (k0_pay3 (dvB m c t acc)) := by
  have := lt12 t
  rw [stAt0_B m c t acc (by omega) (by omega) (by omega) (by omega) (by omega) (by omega) (by omega) (by omega)]
  refine ⟨?_, ?_⟩
  · constructor <;> (dsimp only; frame_out) <;> simp only [read_unread_whole]
  · dsimp only; frame_out; simp only [read_unread_whole]

theorem stepD (h : t.val = 11) : Step m c t (stAt0 m c t.val t.isLt acc) (dkB m c t acc) (dvB m c t acc) (drB m c t acc)
    ∧ (stAt0 m c t.val t.isLt acc).2.2.1 = halves (k0_pay2 (dkB m c t acc)) (k0_pay3 (dvB m c t acc))
    ∧ (stAt0 m c t.val t.isLt acc).2.2.2.1 = k0_pay4 (drB m c t acc) := by
  rw [stAt0_D m c t acc (by omega) (by omega) (by omega) (by omega) (by omega) (by omega) (by omega) (by omega)]
  refine ⟨?_, ?_, ?_⟩
  · constructor <;> (dsimp only; frame_out) <;> simp only [read_unread_whole]
  · dsimp only; frame_out; simp only [read_unread_whole]
  · dsimp only; frame_out; simp only [read_unread_whole]
end

/-! ## The sums in real numbers -/

theorem even (n : ℕ) (hn : n < cfg0.N) (h : n % 2 = 0) : ∃ dr, Step m c ⟨n, hn⟩ (outsAt0 m c n hn)
    (k0_pay16 (Q m c ⟨n, hn⟩) (DS m c ⟨n, hn⟩)) (k0_pay19 (k0_pay8 (x7 m c ⟨n, hn⟩)) (P m c ⟨n, hn⟩)) dr := by
  cases n with
  | zero => rw [outsAt0_zero]; generalize (junk0 (F := Ideal)) = acc; exact ⟨_, stepA m c ⟨0, hn⟩ acc rfl⟩
  | succ n =>
    rw [outsAt0_succ]
    generalize outsAt0 m c n _ = acc
    exact ⟨_, stepC m c ⟨n + 1, hn⟩ acc h (Nat.succ_ne_zero n)⟩

theorem odd (n : ℕ) (hn : n + 1 < cfg0.N) (h : (n + 1) % 2 = 1) (acc : St) (e : outsAt0 m c n (Nat.lt_of_succ_lt hn) = acc) :
    Step m c ⟨n + 1, hn⟩ (outsAt0 m c (n + 1) hn) (dkB m c ⟨n + 1, hn⟩ acc) (dvB m c ⟨n + 1, hn⟩ acc) (drB m c ⟨n + 1, hn⟩ acc)
    ∧ (outsAt0 m c (n + 1) hn).2.2.1 = halves (k0_pay2 (dkB m c ⟨n + 1, hn⟩ acc)) (k0_pay3 (dvB m c ⟨n + 1, hn⟩ acc)) := by
  rw [outsAt0_succ, e]
  by_cases h' : n + 1 = 11
  · obtain ⟨a, b, -⟩ := stepD m c ⟨n + 1, hn⟩ acc h'
    exact ⟨a, b⟩
  · exact stepB m c ⟨n + 1, hn⟩ acc h h'

theorem any (t : Fin cfg0.N) : ∃ dk dv dr, Step m c t (outsAt0 m c t.val t.isLt) dk dv dr := by
  rcases Nat.mod_two_eq_zero_or_one t.val with h | h
  · obtain ⟨dr, S⟩ := even m c t.val t.isLt h
    exact ⟨_, _, dr, S⟩
  · obtain ⟨n, hn⟩ := t
    cases n with
    | zero => exact absurd h (by show ¬ 0 % 2 = 1; decide)
    | succ n => exact ⟨_, _, _, (odd m c n hn h _ rfl).1⟩

theorem rope_succ (n : ℕ) (hn : n + 1 < cfg0.N) (acc : St) (e : outsAt0 m c n (Nat.lt_of_succ_lt hn) = acc) :
    (outsAt0 m c (n + 1) hn).2.2.2.2.2.2 = k0_pay1 (k0_pay21 (Q m c ⟨n + 1, hn⟩) (DS m c ⟨n + 1, hn⟩)) acc.2.2.2.2.2.2 := by
  rcases Nat.mod_two_eq_zero_or_one (n + 1) with h | h
  · rw [outsAt0_succ, e]
    exact (stepC m c ⟨n + 1, hn⟩ acc h (Nat.succ_ne_zero n)).r
  · exact (odd m c n hn h acc e).1.r

theorem rope_zero (hn : 0 < cfg0.N) : (outsAt0 m c 0 hn).2.2.2.2.2.2 = k0_pay21 (Q m c ⟨0, hn⟩) (DS m c ⟨0, hn⟩) := by
  rw [outsAt0_zero]
  generalize (junk0 (F := Ideal)) = acc
  exact (stepA m c ⟨0, hn⟩ acc rfl).r.trans (by unfold k0_pay22; exact shapeCast_self ..)

/-- The last point also stores the sum over all heads. -/
theorem last (n : ℕ) (hn : n < cfg0.N) (e : n = 11) : (outsAt0 m c n hn).2.2.2.1 = k0_pay4 (outsAt0 m c n hn).2.2.2.2.2.2 := by
  subst e
  rw [outsAt0_succ]
  generalize outsAt0 m c 10 _ = acc
  obtain ⟨S, -, h⟩ := stepD m c ⟨11, hn⟩ acc rfl
  rw [h, S.r]

attribute [local irreducible] outsAt0

theorem pay1_at (a b : FVec Ideal S2048x128 .f32) (j : Fin 2048) (d : Fin 128) : k0_pay1 a b (ix2 j d) = b (ix2 j d) + a (ix2 j d) := by
  unfold k0_pay1; pointwise

theorem pay2_at (t : Fin cfg0.N) (acc : St) (j : Fin 2048) (d : Fin 128) : k0_pay2 (dkB m c t acc) (ix2 j d)
    = acc.2.2.2.2.1 (ix2 j d) + k0_pay15 (Q m c t) (DS m c t) (ix2 j d) := by
  unfold dkB; generalize Q m c t = q; generalize DS m c t = w; unfold k0_pay2 k0_pay17; pointwise

theorem pay3_at (t : Fin cfg0.N) (acc : St) (j : Fin 2048) (d : Fin 128) : k0_pay3 (dvB m c t acc) (ix2 j d)
    = acc.2.2.2.2.2.1 (ix2 j d) + k0_pay18 (k0_pay8 (x7 m c t)) (P m c t) (ix2 j d) := by
  unfold dvB; generalize k0_pay8 (x7 m c t) = q; generalize P m c t = w; unfold k0_pay3 k0_pay20; pointwise

abbrev hdN (n : ℕ) : Fin 6 := ⟨n / 2 % 6, Nat.mod_lt _ (by decide)⟩
abbrev rowN (n : ℕ) (i : Fin 1024) : Fin 2048 := ⟨n % 2 * 1024 + i.val, by omega⟩

section
variable {m c} {A : Args} (H : Holds (A0 m c) (A1 m c) (A2 m c) (A3 m c) (A4 m c) (A5 m c) A)
include H

theorem DS_at (t : Fin cfg0.N) (i : Fin 1024) (j : Fin 2048) : DS m c t (ix2 i j) = (ds A (hd t) (qrow t i) j : ℝ) := pay10_at (blk t H) i j
theorem P_at (t : Fin cfg0.N) (i : Fin 1024) (j : Fin 2048) : P m c t (ix2 i j) = (p A (hd t) (qrow t i) j : ℝ) := pay9_at (blk t H) i j

theorem qn_at (t : Fin cfg0.N) (i : Fin 1024) (d : Fin 128) : (outsAt0 m c t.val t.isLt).1 (ix2 i d) = (dqn A (qrow t i) (hd t) d : ℝ) := by
  obtain ⟨_, _, _, S⟩ := any m c t
  rw [S.qn]
  exact pay12_at (DS_at H t) (blk t H) i d

theorem qr_at (t : Fin cfg0.N) (i : Fin 1024) (d : Fin 128) : (outsAt0 m c t.val t.isLt).2.1 (ix2 i d) = (pad64 (dqr A (qrow t i) (hd t)) d : ℝ) := by
  obtain ⟨_, _, _, S⟩ := any m c t
  rw [S.qr]
  exact pay13_at (DS_at H t) (blk t H) i d

/-- The share of a sum over the queries that block `n % 2` contributes. -/
abbrev sumRow (n : ℕ) (f : Fin 2048 → ℝ) : ℝ := ∑ i : Fin 1024, f (rowN n i)

omit H in
theorem sum_rows (n : ℕ) (hn : n % 2 = 0) (f : Fin 2048 → ℝ) : sumRow n f + sumRow (n + 1) f = ∑ i, f i := by
  have h0 : ∀ i, rowN n i = ⟨i.val, by omega⟩ := fun i => Fin.ext (by show n % 2 * 1024 + i.val = i.val; omega)
  have h1 : ∀ i, rowN (n + 1) i = ⟨1024 + i.val, by omega⟩ := fun i => Fin.ext (by show (n + 1) % 2 * 1024 + i.val = 1024 + i.val; omega)
  rw [Fin.sum_univ_two_halves 1024 1024 rfl f]
  simp only [sumRow, h0, h1]

theorem kpart_at (t : Fin cfg0.N) (j : Fin 2048) (d : Fin 128) :
    k0_pay15 (Q m c t) (DS m c t) (ix2 j d) = (sumRow t.val fun i => ds A (hd t) i j * A.qn i (hd t) d : ℝ) :=
  pay15_at (DS_at H t) (blk t H) j d

theorem vpart_at (t : Fin cfg0.N) (j : Fin 2048) (d : Fin 128) :
    k0_pay18 (k0_pay8 (x7 m c t)) (P m c t) (ix2 j d) = (sumRow t.val fun i => p A (hd t) i j * A.g i (hd t) d : ℝ) :=
  pay18_at (blk t H) (P_at H t) j d

theorem rpart_at (t : Fin cfg0.N) (j : Fin 2048) (d : Fin 128) :
    k0_pay21 (Q m c t) (DS m c t) (ix2 j d) = (sumRow t.val fun i => ds A (hd t) i j * pad64 (A.qr i (hd t)) d : ℝ) :=
  pay21_at (DS_at H t) (blk t H) j d

omit H in
theorem pay16_eq (q : FVec Ideal S1024x256 .bf16) (w : FVec Ideal S1024x2048 .bf16) : k0_pay16 q w = k0_pay15 q w := by
  unfold k0_pay16; exact shapeCast_self ..

omit H in
theorem pay19_eq (g : FVec Ideal S1024x128 .bf16) (w : FVec Ideal S1024x2048 .f32) : k0_pay19 g w = k0_pay18 g w := by
  unfold k0_pay19; exact shapeCast_self ..

/-- The second block of queries of a head adds to what the first left. -/
theorem dk_sum (t t' : Fin cfg0.N) (e : t'.val % 2 = 0) (e1 : t.val = t'.val + 1) (acc s : St)
    (S : acc.2.2.2.2.1 = k0_pay16 (Q m c t') (DS m c t'))
    (hs : s.2.2.1 = halves (k0_pay2 (dkB m c t acc)) (k0_pay3 (dvB m c t acc))) (j : Fin 2048) (d : Fin 128) :
    s.2.2.1 (ix2 j (lo d)) = (dkn A j (hd t) d : ℝ) := by
  have eh : hd t' = hd t := Fin.ext (by show t'.val / 2 = t.val / 2; omega)
  have h1 := kpart_at H t' j d
  have h2 := kpart_at H t j d
  rw [eh] at h1
  rw [e1] at h2
  rw [hs, halves_left, pay2_at, h2, S, pay16_eq, h1, ← EReal.coe_add, sum_rows _ e]
  rfl

theorem dv_sum (t t' : Fin cfg0.N) (e : t'.val % 2 = 0) (e1 : t.val = t'.val + 1) (acc s : St)
    (S : acc.2.2.2.2.2.1 = k0_pay19 (k0_pay8 (x7 m c t')) (P m c t'))
    (hs : s.2.2.1 = halves (k0_pay2 (dkB m c t acc)) (k0_pay3 (dvB m c t acc))) (j : Fin 2048) (d : Fin 128) :
    s.2.2.1 (ix2 j (hi d)) = (dv A j (hd t) d : ℝ) := by
  have eh : hd t' = hd t := Fin.ext (by show t'.val / 2 = t.val / 2; omega)
  have h1 := vpart_at H t' j d
  have h2 := vpart_at H t j d
  rw [eh] at h1
  rw [e1] at h2
  rw [hs, halves_right, pay3_at, h2, S, pay19_eq, h1, ← EReal.coe_add, sum_rows _ e]
  simp only [dv, mul_comm]

/-- The blocks written at the second block of queries of a head. -/
theorem dkv_at (n : ℕ) (hn : n + 1 < cfg0.N) (h : (n + 1) % 2 = 1) (j : Fin 2048) (d : Fin 128) :
    (outsAt0 m c (n + 1) hn).2.2.1 (ix2 j (lo d)) = (dkn A j (hd ⟨n + 1, hn⟩) d : ℝ)
    ∧ (outsAt0 m c (n + 1) hn).2.2.1 (ix2 j (hi d)) = (dv A j (hd ⟨n + 1, hn⟩) d : ℝ) := by
  have e : n % 2 = 0 := by clear H; clear hn; omega
  obtain ⟨dr, S⟩ := even m c n (Nat.lt_of_succ_lt hn) e
  have hs := (odd m c n hn h _ rfl).2
  generalize outsAt0 m c n (Nat.lt_of_succ_lt hn) = acc at S hs
  generalize outsAt0 m c (n + 1) hn = s at hs ⊢
  exact ⟨dk_sum H ⟨n + 1, hn⟩ ⟨n, Nat.lt_of_succ_lt hn⟩ e rfl acc s S.k hs j d,
    dv_sum H ⟨n + 1, hn⟩ ⟨n, Nat.lt_of_succ_lt hn⟩ e rfl acc s S.v hs j d⟩

omit H in
theorem hd_hdN (t : Fin cfg0.N) : hd t = hdN t.val := Fin.ext (by have := lt12 t; show t.val / 2 = t.val / 2 % 6; omega)

theorem rpart_at' (t : Fin cfg0.N) (j : Fin 2048) (d : Fin 128) :
    k0_pay21 (Q m c t) (DS m c t) (ix2 j d) = (sumRow t.val fun i => ds A (hdN t.val) i j * pad64 (A.qr i (hdN t.val)) d : ℝ) := by
  rw [← hd_hdN]; exact rpart_at H t j d

theorem dr_at (n : ℕ) (hn : n < cfg0.N) (j : Fin 2048) (d : Fin 128) : (outsAt0 m c n hn).2.2.2.2.2.2 (ix2 j d)
    = (∑ k ∈ Finset.range (n + 1), sumRow k fun i => ds A (hdN k) i j * pad64 (A.qr i (hdN k)) d : ℝ) := by
  induction n with
  | zero =>
    rw [Finset.sum_range_one]
    exact (congrFun (rope_zero m c hn) _).trans (rpart_at' H ⟨0, hn⟩ j d)
  | succ n ih =>
    have ih := ih (Nat.lt_of_succ_lt hn)
    have e := rope_succ m c n hn _ rfl
    generalize outsAt0 m c n (Nat.lt_of_succ_lt hn) = acc at e ih
    generalize outsAt0 m c (n + 1) hn = s at e ⊢
    rw [e, pay1_at, ih, rpart_at' H, ← EReal.coe_add, Finset.sum_range_succ _ (n + 1)]

/-- The sum over the twelve points of the grid is the sum over all queries of all heads. -/
theorem all_points (j : Fin 2048) (d : Fin 128) :
    (∑ k ∈ Finset.range 12, sumRow k fun i => ds A (hdN k) i j * pad64 (A.qr i (hdN k)) d) = pad64 (dkr A j) d := by
  have h2 : ∀ f : ℕ → ℝ, ∑ k ∈ Finset.range 12, f k = ∑ h : Fin 6, (f (2 * h.val) + f (2 * h.val + 1)) := fun f => by
    simp [Finset.sum_range_succ, Fin.sum_univ_succ]; ring
  have e : ∀ h : Fin 6, hdN (2 * h.val) = h ∧ hdN (2 * h.val + 1) = h := by decide
  rw [h2]
  simp only [(e _).1, (e _).2]
  simp only [fun (h : Fin 6) f => sum_rows (2 * h.val) (by omega) f]
  rw [Finset.sum_comm]
  simp only [sum_mul_pad64]
  unfold pad64
  split
  · rfl
  · simp
end
end Cert.AttnIdeal.Proof
-- ==== Proof.AttnRes.lean ====
/- The four results of the reference's run as the real gradients of attention. -/
module

public import proofs.«01_k».proof.Proof.AttnRef
public import proofs.«01_k».proof.Proof.Gen.AttnRefIdeal.Run
public import Idealize.ShloMosaic.Lib.Pointwise

@[expose] public section

set_option maxRecDepth 16384

noncomputable section

namespace Cert.AttnRefIdeal.Proof

open Cert.AttnRefIdeal Cert.AttnRefIdeal.Gen Idealize.ShloMosaic Idealize.ShloMosaic.TcCoe Idealize.SL.Sem
open Idealize.ShloMosaic.StableHlo Cert.Base Cert.AttnMath

section
variable (m : (ℓ : Loc nD τ sig) → Buf (Elt Ideal) ℓ) (c : Dev nD)

abbrev X0 : FVec Ideal S1x2048x6x128 .f32 := m ((c.tc : Thread nD τ).loc main_arg0)
abbrev X1 : FVec Ideal S1x2048x6x64 .f32 := m ((c.tc : Thread nD τ).loc main_arg1)
abbrev X2 : FVec Ideal S1x2048x6x128 .f32 := m ((c.tc : Thread nD τ).loc main_arg2)
abbrev X3 : FVec Ideal S1x2048x64 .f32 := m ((c.tc : Thread nD τ).loc main_arg3)
abbrev X4 : FVec Ideal S1x2048x6x128 .f32 := m ((c.tc : Thread nD τ).loc main_arg4)
abbrev X5 : FVec Ideal S1x2048x6x128 .f32 := m ((c.tc : Thread nD τ).loc main_arg5)

abbrev s0 : FVec Ideal S1x6x2048x2048 .f32 := sc (X0 m c) (X1 m c) (X2 m c) (X3 m c)
abbrev e0 : FVec Ideal S1x6x2048x2048 .f32 := ex (s0 m c) (mx (s0 m c))
abbrev q0 : FVec Ideal S1x6x2048x2048 .f32 := dpr (X4 m c) (X5 m c)
abbrev d0 : FVec Ideal S1x6x2048x2048 .f32 := dsc (q0 m c) (e0 m c) (su (e0 m c)) (rowNeg (q0 m c) (e0 m c) (su (e0 m c)))

theorem res69 : Value.res_main_v69 m c = outQn (X2 m c) (d0 m c) := by unfold Value.res_main_v69; rfl
theorem res70 : Value.res_main_v70 m c = outQr (X3 m c) (d0 m c) := by unfold Value.res_main_v70; rfl
theorem res71 : Value.res_main_v71 m c = outKv (X0 m c) (X5 m c) (d0 m c) (prb (e0 m c) (su (e0 m c))) := by unfold Value.res_main_v71; rfl
theorem res72 : Value.res_main_v72 m c = outKr (X1 m c) (d0 m c) := by unfold Value.res_main_v72; rfl

variable {m c} {A : Args} (H : Holds (X0 m c) (X1 m c) (X2 m c) (X3 m c) (X4 m c) (X5 m c) A)
include H

theorem d0_at (h : Fin 6) (i j : Fin 2048) : d0 m c (ix4 0 h i j) = (ds A h i j : ℝ) := by
  obtain ⟨M, R⟩ := row (sc_at H) h i
  exact dsc_at R (dpr_at H) j

theorem p0_at (h : Fin 6) (i j : Fin 2048) : prb (e0 m c) (su (e0 m c)) (ix4 0 h i j) = (p A h i j : ℝ) := by
  obtain ⟨M, R⟩ := row (sc_at H) h i
  exact prb_at R j
end

end Cert.AttnRefIdeal.Proof

end
-- ==== Proof.Attn.lean ====
/- The claim on the gradient of attention: the four arrays the kernel writes are the four gradients of the reference. -/
module

public import proofs.«01_k».proof.Proof.AttnFold
public import proofs.«01_k».proof.Proof.AttnRes
public import proofs.«01_k».proof.Proof.Gen.Pre_attn_finite

@[expose] public section

set_option maxRecDepth 16384

noncomputable section

namespace Cert.AttnIdeal.Proof

open Cert.AttnIdeal Cert.AttnIdeal.Gen Cert.AttnIdeal.Value Idealize.ShloMosaic Idealize.ShloMosaic.TcCoe Idealize.SL.Sem
open Idealize.ShloMosaic.StableHlo Cert.Base Cert.AttnMath
open Cert.AttnRefIdeal.Proof (Holds)

attribute [local irreducible] outsAt0

section
variable {m : (ℓ : Loc nD τ sig) → Buf (Elt Ideal) ℓ} {c : Dev nD}
variable {A : Args} (H : Holds (A0 m c) (A1 m c) (A2 m c) (A3 m c) (A4 m c) (A5 m c) A)

abbrev w8 (m : (ℓ : Loc nD τ sig) → Buf (Elt Ideal) ℓ) (c : Dev nD) : FVec Ideal S2048x768 .bf16 := G8 m c
abbrev w9 (m : (ℓ : Loc nD τ sig) → Buf (Elt Ideal) ℓ) (c : Dev nD) : FVec Ideal S2048x768 .bf16 := G9 m c
abbrev w10 (m : (ℓ : Loc nD τ sig) → Buf (Elt Ideal) ℓ) (c : Dev nD) : FVec Ideal S2048x1536 .bf16 := G10 m c
abbrev w11 (m : (ℓ : Loc nD τ sig) → Buf (Elt Ideal) ℓ) (c : Dev nD) : FVec Ideal S2048x128 .bf16 := G11 m c

abbrev col (h : Fin 6) (d : Fin 128) : Fin 768 := ⟨h.val * 128 + d.val, by omega⟩
abbrev colKv (h : Fin 6) (d : Fin 256) : Fin 1536 := ⟨h.val * 256 + d.val, by omega⟩

theorem split2 {r n : ℕ} (y : (⟨2, ![r, n]⟩ : Shape).Idx) : ∃ (i : Fin r) (k : Fin n), y = ix2 i k :=
  ⟨y 0, y 1, funext fun a => match a with | ⟨0, _⟩ => rfl | ⟨1, _⟩ => rfl⟩

theorem col_eta (y : S2048x768.Idx) : ∃ i h d, y = (ix2 i (col h d) : S2048x768.Idx) := by
  obtain ⟨i, k, rfl⟩ := split2 y
  exact ⟨i, ⟨k.val / 128, by omega⟩, ⟨k.val % 128, by omega⟩, congrArg (ix2 i) (Fin.ext (by show k.val = k.val / 128 * 128 + k.val % 128; omega))⟩

theorem colKv_eta (y : S2048x1536.Idx) : ∃ j h d, y = (ix2 j (colKv h d) : S2048x1536.Idx) := by
  obtain ⟨j, k, rfl⟩ := split2 y
  exact ⟨j, ⟨k.val / 256, by omega⟩, ⟨k.val % 256, by omega⟩, congrArg (ix2 j) (Fin.ext (by show k.val = k.val / 256 * 256 + k.val % 256; omega))⟩

theorem pt8 (i : Fin 2048) (h : Fin 6) (d : Fin 128) : pt8Of (ix2 i (col h d)) = i.val / 1024 + 2 * h.val := by
  show 1 * (i.val / 1024 - 0) + 2 * ((h.val * 128 + d.val) / 128 - 0) = _
  omega

theorem loc8 (i : Fin 2048) (h : Fin 6) (d : Fin 128) :
    loc8Of (ix2 i (col h d)) = (ix2 ⟨i.val % 1024, Nat.mod_lt _ (by decide)⟩ d : S1024x128.Idx) := by
  funext a
  apply Fin.ext
  match a with
  | ⟨0, _⟩ => rfl
  | ⟨1, _⟩ => show (h.val * 128 + d.val) % 128 = d.val; omega

theorem pt10 (j : Fin 2048) (h : Fin 6) (d : Fin 256) : pt10Of (ix2 j (colKv h d)) = 2 * h.val + 1 := by
  show 2 * (6 * (j.val / 2048 - 0) + 1 * ((h.val * 256 + d.val) / 256 - 0)) + 1 = _
  omega

theorem loc10 (j : Fin 2048) (h : Fin 6) (d : Fin 256) : loc10Of (ix2 j (colKv h d)) = (ix2 j d : S2048x256.Idx) := by
  funext a
  apply Fin.ext
  match a with
  | ⟨0, _⟩ => show j.val % 2048 = j.val; omega
  | ⟨1, _⟩ => show (h.val * 256 + d.val) % 256 = d.val; omega

theorem lt_N {n : ℕ} (h : n < 12) : n < cfg0.N := lt_of_lt_of_eq h N_0.symm

theorem row_eq {n : ℕ} (hn : n < cfg0.N) (i : Fin 2048) (h : Fin 6) (e : n = i.val / 1024 + 2 * h.val) :
    qrow ⟨n, hn⟩ ⟨i.val % 1024, Nat.mod_lt _ (by decide)⟩ = i ∧ hd ⟨n, hn⟩ = h := by
  constructor <;> apply Fin.ext
  · show n % 2 * 1024 + i.val % 1024 = i.val
    omega
  · show n / 2 = h.val
    omega

include H

theorem G8_at (i : Fin 2048) (h : Fin 6) (d : Fin 128) : w8 m c (ix2 i (col h d)) = (dqn A i h d : ℝ) := by
  have hN : pt8Of (ix2 i (col h d)) < cfg0.N := lt_N (by rw [pt8]; omega)
  unfold w8 G8
  rw [dif_pos hN, ← outsAt0_sweep m c _ hN, loc8]
  obtain ⟨ei, eh⟩ := row_eq hN i h (pt8 i h d)
  have := qn_at H ⟨_, hN⟩ ⟨i.val % 1024, Nat.mod_lt _ (by decide)⟩ d
  rw [ei, eh] at this
  exact this

theorem G9_at (i : Fin 2048) (h : Fin 6) (d : Fin 128) : w9 m c (ix2 i (col h d)) = (pad64 (dqr A i h) d : ℝ) := by
  have hN : pt8Of (ix2 i (col h d)) < cfg0.N := lt_N (by rw [pt8]; omega)
  unfold w9 G9
  rw [dif_pos hN, ← outsAt0_sweep m c _ hN]
  obtain ⟨ei, eh⟩ := row_eq hN i h (pt8 i h d)
  have := qr_at H ⟨_, hN⟩ ⟨i.val % 1024, Nat.mod_lt _ (by decide)⟩ d
  rw [ei, eh] at this
  exact (congrArg (outsAt0 m c (pt8Of (ix2 i (col h d))) hN).2.1 (loc8 i h d)).trans this

theorem G10_at (j : Fin 2048) (h : Fin 6) (d : Fin 128) : w10 m c (ix2 j (colKv h (lo d))) = (dkn A j h d : ℝ)
    ∧ w10 m c (ix2 j (colKv h (hi d))) = (dv A j h d : ℝ) := by
  have hN : 2 * h.val + 1 < cfg0.N := lt_N (by omega)
  obtain ⟨a, b⟩ := dkv_at H (2 * h.val) hN (by omega) j d
  have eh : hd ⟨2 * h.val + 1, hN⟩ = h := Fin.ext (by show (2 * h.val + 1) / 2 = h.val; omega)
  rw [eh] at a b
  have g : ∀ d' : Fin 256, w10 m c (ix2 j (colKv h d')) = (outsAt0 m c (2 * h.val + 1) hN).2.2.1 (ix2 j d') := fun d' => by
    have hN' : pt10Of (ix2 j (colKv h d')) < cfg0.N := by rw [pt10]; exact hN
    unfold w10 G10
    rw [dif_pos hN', ← outsAt0_sweep m c _ hN', loc10]
    have e := pt10 j h d'
    generalize pt10Of (ix2 j (colKv h d')) = n at e hN'
    subst e
    rfl
  exact ⟨(g _).trans a, (g _).trans b⟩

theorem G11_at (j : Fin 2048) (d : Fin 128) : w11 m c (ix2 j d) = (pad64 (dkr A j) d : ℝ) := by
  have hN : 11 < cfg0.N := lt_N (by decide)
  unfold w11
  rw [G11_last, ← outsAt0_sweep m c 11 hN, last m c 11 hN rfl]
  have h := dr_at H 11 hN j d
  rw [all_points H j d] at h
  exact h
end

/-- The real arrays finite arguments hold. -/
abbrev args (m : (ℓ : Loc nD τ sig) → Buf (Elt Ideal) ℓ) (c : Dev nD) : Args where
  qn i h d := EReal.toReal (A0 m c (ix4 0 i h d))
  qr i h d := EReal.toReal (A1 m c (ix4 0 i h d))
  kn i h d := EReal.toReal (A2 m c (ix4 0 i h d))
  kr i d := EReal.toReal (A3 m c (ix3 0 i d))
  v i h d := EReal.toReal (A4 m c (ix4 0 i h d))
  g i h d := EReal.toReal (A5 m c (ix4 0 i h d))

theorem of_real {x : EReal} (h : ∃ r : ℝ, x = r) : x = (EReal.toReal x : ℝ) := by
  obtain ⟨r, rfl⟩ := h
  rw [EReal.toReal_coe]

end Cert.AttnIdeal.Proof

namespace Cert.AttnRefIdeal.Proof

open Cert.Base Cert.AttnMath Idealize.ShloMosaic Idealize.ShloMosaic.TcCoe Idealize.SL.Sem
open Cert.AttnIdeal.Proof (args of_real lo hi col_eta colKv_eta split2 G8_at G9_at G10_at G11_at)

/-- The claim: from arguments that agree and are finite, both programs end with the gradients of the queries, of the keys and
    values, and of the shared rotary keys. -/
theorem attn : Cert.algebraic_AttnIdeal_AttnRefIdeal_pre_attn_finite
    (hAttnIdeal := Cert.AttnIdeal.Gen.facts) (hAttnRefIdeal := Cert.AttnRefIdeal.Gen.facts)
    (hPre_attn_finite := Cert.Pre_attn_finite.Gen.facts) := by
  intro m g m' g' hpre hargs
  refine ⟨fun c => Cert.AttnIdeal.Value.G8 m c, fun c => Cert.AttnIdeal.Value.G9 m c, fun c => Cert.AttnIdeal.Value.G10 m c,
    fun c => Cert.AttnIdeal.Value.G11 m c, Cert.AttnIdeal.Value.run m g, ?_⟩
  refine (θ_run Cert.AttnRefIdeal.defs _ _).mono (fun r h c => ?_) (Cert.AttnRefIdeal.Value.run m' g')
  obtain ⟨h0, h1, h2, h3, ha⟩ := h c
  obtain ⟨e0, e1, e2, e3, e4, e5⟩ := hargs c
  obtain ⟨p0, p1, p2, p3, p4, p5⟩ := hpre c
  have H : Holds (Cert.AttnIdeal.Proof.A0 m c) (Cert.AttnIdeal.Proof.A1 m c) (Cert.AttnIdeal.Proof.A2 m c)
      (Cert.AttnIdeal.Proof.A3 m c) (Cert.AttnIdeal.Proof.A4 m c) (Cert.AttnIdeal.Proof.A5 m c) (args m c) :=
    ⟨fun i h d => of_real (real_of_abs_lt p0 _), fun i h d => of_real (real_of_abs_lt p1 _),
      fun i h d => of_real (real_of_abs_lt p2 _), fun i d => of_real (real_of_abs_lt p3 _),
      fun i h d => of_real (real_of_abs_lt p4 _), fun i h d => of_real (real_of_abs_lt p5 _)⟩
  have H' : Holds (X0 m' c) (X1 m' c) (X2 m' c) (X3 m' c) (X4 m' c) (X5 m' c) (args m c) := by
    rw [show X0 m' c = Cert.AttnIdeal.Proof.A0 m c from e0, show X1 m' c = Cert.AttnIdeal.Proof.A1 m c from e1,
      show X2 m' c = Cert.AttnIdeal.Proof.A2 m c from e2, show X3 m' c = Cert.AttnIdeal.Proof.A3 m c from e3,
      show X4 m' c = Cert.AttnIdeal.Proof.A4 m c from e4, show X5 m' c = Cert.AttnIdeal.Proof.A5 m c from e5]
    exact H
  refine ⟨h0.trans ((res69 m' c).trans (funext fun y => ?_)), h1.trans ((res70 m' c).trans (funext fun y => ?_)),
    h2.trans ((res71 m' c).trans (funext fun y => ?_)), h3.trans ((res72 m' c).trans (funext fun y => ?_)), ha⟩
  · obtain ⟨i, h, d, rfl⟩ := col_eta y
    exact (outQn_at (d0_at H') H' i h d).trans (G8_at H i h d).symm
  · obtain ⟨i, h, d, rfl⟩ := col_eta y
    exact (outQr_at (d0_at H') H' i h d).trans (G9_at H i h d).symm
  · obtain ⟨j, h, d, rfl⟩ := colKv_eta y
    refine (outKv_at (d0_at H') (p0_at H') H' j h d).trans ?_
    split
    · next hd => exact (G10_at H j h ⟨d.val, hd⟩).1.symm
    · next hd =>
      have e : d = hi ⟨d.val - 128, by omega⟩ := Fin.ext (by show d.val = 128 + (d.val - 128); omega)
      exact ((congrArg (fun z => Cert.AttnIdeal.Value.G10 m c (ix2 j (Cert.AttnIdeal.Proof.colKv h z))) e).trans
        (G10_at H j h ⟨d.val - 128, by omega⟩).2).symm
  · obtain ⟨j, d, rfl⟩ := split2 y
    exact (outKr_at (d0_at H') H' j d).trans (G11_at H j d).symm

/-- The reference ends with its arguments unchanged and no counter raised. -/
theorem frame : Cert.quiescent_AttnRefIdeal (hAttnRefIdeal := Cert.AttnRefIdeal.Gen.facts) := fun m ρ _ =>
  (θ_run Cert.AttnRefIdeal.defs _ _).mono
    (fun r h => ⟨fun c => (h c).2.2.2.2, sem_eq_zero_of_no_sems (by decide) r.2⟩)
    (Cert.AttnRefIdeal.Value.run (F := Ideal) m ρ)

end Cert.AttnRefIdeal.Proof

end
-- ==== Proof.Rows.lean ====
/- What the kernels that go down the rows of an array in blocks share: the sum of the blocks' sums is the sum of all rows,
   and a finite argument as an array of reals. -/
module

public import proofs.«01_k».proof.Proof.Real
public import Idealize.ShloMosaic.Lib.Pipeline.ValueKit
public import Idealize.ShloMosaic.Lib.Pipeline.ReadBack
public import Idealize.ShloMosaic.Lib.Pointwise

@[expose] public section

noncomputable section

namespace Cert.Base

open Idealize.ShloMosaic

theorem sum_range_blocks {M : Type*} [AddCommMonoid M] (n b : ℕ) (f : ℕ → M) :
    ∑ k ∈ Finset.range n, ∑ i : Fin b, f (k * b + i.val) = ∑ r : Fin (n * b), f r.val := by
  rw [Finset.sum_range, ← Fintype.sum_prod_type', ← finProdFinEquiv.sum_comp]
  refine Finset.sum_congr rfl fun p _ => congrArg f ?_
  show p.1.val * b + p.2.val = p.2.val + b * p.1.val
  ring

/-- Row `i` of block `k` of a column of `N` rows in blocks of `b`. -/
abbrev rowAt (N b : ℕ) [NeZero N] (k : ℕ) (i : Fin b) : Fin N := Fin.ofNat N (k * b + i.val)

theorem rowAt_eq {N b : ℕ} [NeZero N] (k : ℕ) (i : Fin b) (h : k * b + i.val < N) : rowAt N b k i = ⟨k * b + i.val, h⟩ :=
  Fin.ext (Nat.mod_eq_of_lt h)

/-- The sum of the blocks' sums is the sum over all rows. -/
theorem sum_rowAt {M : Type*} [AddCommMonoid M] (n b N : ℕ) [NeZero N] (h : n * b = N) (f : Fin N → M) :
    ∑ k ∈ Finset.range n, ∑ i : Fin b, f (rowAt N b k i) = ∑ r, f r := by
  rw [sum_range_blocks n b fun x => f (Fin.ofNat N x)]
  subst h
  exact Finset.sum_congr rfl fun r _ => congrArg f (Fin.ext (Nat.mod_eq_of_lt r.isLt))

theorem split2 {r n : ℕ} (y : (⟨2, ![r, n]⟩ : Shape).Idx) : ∃ (i : Fin r) (k : Fin n), y = ix2 i k :=
  ⟨y 0, y 1, funext fun a => match a with | ⟨0, _⟩ => rfl | ⟨1, _⟩ => rfl⟩

theorem of_real {x : EReal} (h : ∃ r : ℝ, x = r) : x = (EReal.toReal x : ℝ) := by
  obtain ⟨r, rfl⟩ := h
  rw [EReal.toReal_coe]

theorem half_f32 : Ideal.ofBits .f32 0x3F000000#32 = ((1 / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem width_f32 : Ideal.ofBits .f32 0x45000000#32 = ((2048 : ℝ) : EReal) := by
  simp [Ideal.ofBits, Ideal.ieee, -EReal.coe_mul]; norm_num
theorem part_f32 : Ideal.ofBits .f32 0x3A000000#32 = ((1 / 2048 : ℝ) : EReal) := by
  simp [Ideal.ofBits, Ideal.ieee, -EReal.coe_mul]; norm_num
theorem halfpart_f32 : Ideal.ofBits .f32 0x39800000#32 = ((1 / 4096 : ℝ) : EReal) := by
  simp [Ideal.ofBits, Ideal.ieee, -EReal.coe_mul]; norm_num

/-- A factor that is a nonnegative real goes into a sum, whatever the summands. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction with
  | empty => simp
  | insert a s ha ih =>
    rw [Finset.sum_insert ha, Finset.sum_insert ha, EReal.right_distrib_of_nonneg_of_ne_top (by exact_mod_cast hr) (EReal.coe_ne_top r), ih]

/-- The host's sum at a result index is the sum over whatever runs through the source indices that drop to it. -/
theorem reduce_fiber {s t : Shape} {axes : List (Fin s.rank)} (h : s.ReducesTo axes t) (v : s.Idx → EReal) (c : EReal) (j : t.Idx)
    {ι : Type*} [Fintype ι] (p : ι → s.Idx) (inj : Function.Injective p) (fib : ∀ i, h.drop i = j ↔ ∃ k, p k = i) :
    Ideal.hostReduceAdd h v c j = c + ∑ k, v (p k) := by
  classical
  unfold Ideal.hostReduceAdd
  congr 1
  refine Eq.trans ?_ (Finset.sum_map Finset.univ ⟨p, inj⟩ v)
  refine Finset.sum_congr (Finset.ext fun i => ?_) fun _ _ => rfl
  simp [fib]

section

variable {n m l : ℕ} (c : EReal)

@[pointwise] theorem reduce_3_01 (h : (⟨3, ![1, 1, n]⟩ : Shape).ReducesTo [0, 1] ⟨1, ![n]⟩) (v : (⟨3, ![1, 1, n]⟩ : Shape).Idx → EReal)
    (k : Fin n) : Ideal.hostReduceAdd h v c (ix1 k) = c + v (ix3 0 0 k) := by
  rw [reduce_fiber h v c (ix1 k) (fun _ : Unit => ix3 0 0 k) (fun _ _ _ => rfl) fun i => ?_]
  · simp
  constructor
  · intro e
    refine ⟨(), funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
  · rintro ⟨_, rfl⟩
    exact funext fun a => match a with | ⟨0, _⟩ => rfl

@[pointwise] theorem reduce_4_012 (h : (⟨4, ![1, 1, 1, n]⟩ : Shape).ReducesTo [0, 1, 2] ⟨1, ![n]⟩) (v : (⟨4, ![1, 1, 1, n]⟩ : Shape).Idx → EReal)
    (k : Fin n) : Ideal.hostReduceAdd h v c (ix1 k) = c + v (ix4 0 0 0 k) := by
  rw [reduce_fiber h v c (ix1 k) (fun _ : Unit => ix4 0 0 0 k) (fun _ _ _ => rfl) fun i => ?_]
  · simp
  constructor
  · intro e
    refine ⟨(), funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (Nat.lt_one_iff.mp (i 2).isLt).symm
    | ⟨3, _⟩ => exact (congrArg Fin.val (congrFun e 0)).symm
  · rintro ⟨_, rfl⟩
    exact funext fun a => match a with | ⟨0, _⟩ => rfl

@[pointwise] theorem reduce_3_02 (h : (⟨3, ![1, n, 1]⟩ : Shape).ReducesTo [0, 2] ⟨1, ![n]⟩) (v : (⟨3, ![1, n, 1]⟩ : Shape).Idx → EReal)
    (k : Fin n) : Ideal.hostReduceAdd h v c (ix1 k) = c + v (ix3 0 k 0) := by
  rw [reduce_fiber h v c (ix1 k) (fun _ : Unit => ix3 0 k 0) (fun _ _ _ => rfl) fun i => ?_]
  · simp
  constructor
  · intro e
    refine ⟨(), funext fun a => Fin.ext ?_⟩
    match a with
    | ⟨0, _⟩ => exact (Nat.lt_one_iff.mp (i 0).isLt).symm
    | ⟨2, _⟩ => exact (Nat.lt_one_iff.mp (i 2).isLt).symm
    | ⟨1, _⟩ => exact (congrArg Fin.val (congrFun e 0)).symm
  · rintro ⟨_, rfl⟩
    exact funext fun a => match a with | ⟨0, _⟩ => rfl

@[pointwise] theorem reduce_4_03 (h : (⟨4, ![1, n, m, 1]⟩ : Shape).ReducesTo [0, 3] ⟨2, ![n, m]⟩) (v : (⟨4, ![1, n, m, 1]⟩ : Shape).Idx → EReal)
    (k : Fin n) (a : Fin m) : Ideal.hostReduceAdd h v c (ix2 k a) = c + v (ix4 0 k a 0) := by
  rw [reduce_fiber h v c (ix2 k a) (fun _ : Unit => ix4 0 k a 0) (fun _ _ _ => rfl) fun i => ?_]
  · simp
  constructor
  · intro e
    refine ⟨(), funext fun b => Fin.ext ?_⟩
    match b with
    | ⟨0, _⟩ => exact (Nat.lt_one_iff.mp (i 0).isLt).symm
    | ⟨3, _⟩ => exact (Nat.lt_one_iff.mp (i 3).isLt).symm
    | ⟨1, _⟩ => exact (congrArg Fin.val (congrFun e 0)).symm
    | ⟨2, _⟩ => exact (congrArg Fin.val (congrFun e 1)).symm
  · rintro ⟨_, rfl⟩
    exact funext fun b => match b with | ⟨0, _⟩ => rfl | ⟨1, _⟩ => rfl

/-- The sum over rows and heads. -/
@[pointwise] theorem reduce_4_12 (h : (⟨4, ![1, n, m, l]⟩ : Shape).ReducesTo [1, 2] ⟨2, ![1, l]⟩) (v : (⟨4, ![1, n, m, l]⟩ : Shape).Idx → EReal)
    (k : Fin l) : Ideal.hostReduceAdd h v c (ix2 0 k) = c + ∑ r : Fin n, ∑ a : Fin m, v (ix4 0 r a k) := by
  rw [reduce_fiber h v c (ix2 0 k) (fun p : Fin n × Fin m => ix4 0 p.1 p.2 k)
    (fun _ _ e => Prod.ext (congrFun e 1) (congrFun e 2)) fun i => ?_]
  · rw [Fintype.sum_prod_type]
  constructor
  · intro e
    refine ⟨(i 1, i 2), funext fun b => Fin.ext ?_⟩
    match b with
    | ⟨0, _⟩ => exact (Nat.lt_one_iff.mp (i 0).isLt).symm
    | ⟨3, _⟩ => exact (congrArg Fin.val (congrFun e 1)).symm
    | ⟨1, _⟩ => rfl
    | ⟨2, _⟩ => rfl
  · rintro ⟨_, rfl⟩
    exact funext fun b => match b with | ⟨0, _⟩ => rfl | ⟨1, _⟩ => rfl

end

end Cert.Base

end
-- ==== Proof.Norm.lean ====
/- The gradient of a norm by the root of the mean square, over one group of elements: the factored form the kernels use is
   the chain rule through the square, the mean and the root. -/
module

public import proofs.«01_k».proof.Proof.Rows

@[expose] public section

noncomputable section

namespace Cert.Base

open Idealize.ShloMosaic

variable {n : ℕ} (N e : EReal) (x w : Fin n → EReal)

abbrev meanSq : EReal := Ideal.div (∑ k, x k * x k) N + e
abbrev rootInv : EReal := Ideal.rsqrt (meanSq N e x)

/-- The gradient in the input, as the kernels compute it: the projection off the normed row, scaled. -/
abbrev normSlope (k : Fin n) : EReal :=
  rootInv N e x * (w k - x k * rootInv N e x * Ideal.div (∑ j, w j * (x j * rootInv N e x)) N)

/-- What reaches each square, by the chain rule. -/
abbrev squareSlope : EReal :=
  Ideal.div ((∑ j, x j * w j) * (Ideal.ofBits .f32 0xBF000000#32 * Ideal.div (rootInv N e x) (meanSq N e x))) N
abbrev normChain (k : Fin n) : EReal := w k * rootInv N e x + x k * squareSlope N e x w + squareSlope N e x w * x k

theorem neg_half_f32 : Ideal.ofBits .f32 0xBF000000#32 = ((-(1 / 2) : ℝ) : EReal) := by
  simp [Ideal.ofBits, Ideal.ieee, -EReal.coe_mul]; norm_num
theorem eps_f32 : ∃ r : ℝ, 0 < r ∧ Ideal.ofBits .f32 0x358637BD#32 = (r : EReal) := by
  refine ⟨_, ?_, by simp only [Ideal.ofBits, Ideal.ieee]; simp [-EReal.coe_mul]; rfl⟩
  norm_num

theorem rsqrt_coe (r : ℝ) (hr : 0 < r) : Ideal.rsqrt (r : EReal) = (((√r)⁻¹ : ℝ) : EReal) := by
  rw [Ideal.rsqrt_coe, if_neg hr.not_gt, if_neg hr.ne']

theorem norm_rule {M ε : ℝ} (hM : 0 < M) (hε : 0 < ε) (x w : Fin n → ℝ) (k : Fin n) :
    normChain (M : EReal) (ε : EReal) (fun k => (x k : EReal)) (fun k => (w k : EReal)) k
      = normSlope (M : EReal) (ε : EReal) (fun k => (x k : EReal)) (fun k => (w k : EReal)) k := by
  have hv : 0 < (∑ k, x k * x k) / M + ε := add_pos_of_nonneg_of_pos
    (div_nonneg (Finset.sum_nonneg fun i _ => mul_self_nonneg (x i)) hM.le) hε
  have ev : meanSq (M : EReal) (ε : EReal) (fun k => (x k : EReal)) = (((∑ k, x k * x k) / M + ε : ℝ) : EReal) := by
    rw [meanSq, Ideal.div_coe hM.ne']
    simp only [← EReal.coe_mul, coe_sum, ← EReal.coe_add]
    rw [mul_one_div]
  have hs : ∑ j, w j * (x j * (√((∑ k, x k * x k) / M + ε))⁻¹) = (∑ j, x j * w j) * (√((∑ k, x k * x k) / M + ε))⁻¹ := by
    rw [Finset.sum_mul]
    exact Finset.sum_congr rfl fun j _ => by ring
  rw [normChain, normSlope, squareSlope, rootInv, ev, rsqrt_coe _ hv, neg_half_f32]
  generalize (∑ k, x k * x k) / M + ε = v at *
  simp only [Ideal.div_coe hM.ne', Ideal.div_coe hv.ne', ← EReal.coe_mul, coe_sum, ← EReal.coe_add, ← EReal.coe_sub, hs]
  generalize ∑ j, x j * w j = p
  have h2 : (√v)⁻¹ * (√v)⁻¹ = 1 / v := by rw [← mul_inv, Real.mul_self_sqrt hv.le, one_div]
  rw [← h2]
  congr 1
  ring

end Cert.Base

end
-- ==== Proof.Mod.lean ====
/- The gradient of the modulated norm: the input's gradient row by row, and the gain's, the scale's and the shift's
   gradients summed over the rows. -/
module

public import proofs.«01_k».proof.Proof.Norm
public import proofs.«01_k».proof.Proof.Gen.ModIdeal.Value
public import proofs.«01_k».proof.Proof.Gen.ModRefIdeal.Run
public import proofs.«01_k».proof.Proof.Gen.Pre_modulate_finite

@[expose] public section

set_option maxRecDepth 16384

noncomputable section

namespace Cert.ModIdeal.Proof

open Cert.ModIdeal Cert.ModIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S2048 .f32 := m ((c : Thread nD τ).loc main_arg1)
abbrev A2 : FVec Ideal S1x2048 .f32 := m ((c : Thread nD τ).loc main_arg2)
abbrev A4 : FVec Ideal S1x2048x2048 .f32 := m ((c : Thread nD τ).loc main_arg4)

abbrev mN : EReal := Ideal.ofBits .f32 0x45000000#32
abbrev eN : EReal := Ideal.ofBits .f32 0x358637BD#32
abbrev xr (x : FVec Ideal S1x2048x2048 .f32) (r : Fin 2048) : Fin 2048 → EReal := fun k => x (ix3 0 r k)
/-- What reaches the normed row: the cotangent times the modulation and the gain. -/
abbrev wr (x : FVec Ideal S1x2048x2048 .f32) (g : FVec Ideal S2048 .f32) (s : FVec Ideal S1x2048 .f32) (r : Fin 2048) : Fin 2048 → EReal :=
  fun k => x (ix3 0 r k) * (1 + s (ix2 0 k)) * g (ix1 k)
abbrev xh (x : FVec Ideal S1x2048x2048 .f32) (r k : Fin 2048) : EReal := x (ix3 0 r k) * rootInv mN eN (xr x r)
abbrev resX (x d : FVec Ideal S1x2048x2048 .f32) (g : FVec Ideal S2048 .f32) (s : FVec Ideal S1x2048 .f32) : FVec Ideal S2048x2048 .f32 :=
  fun y => normSlope mN eN (xr x (y 0)) (wr d g s (y 0)) (y 1)
abbrev tG (x d : FVec Ideal S1x2048x2048 .f32) (s : FVec Ideal S1x2048 .f32) (r k : Fin 2048) : EReal :=
  d (ix3 0 r k) * (1 + s (ix2 0 k)) * xh x r k
abbrev tS (x d : FVec Ideal S1x2048x2048 .f32) (g : FVec Ideal S2048 .f32) (r k : Fin 2048) : EReal :=
  d (ix3 0 r k) * (xh x r k * g (ix1 k))
abbrev tD (d : FVec Ideal S1x2048x2048 .f32) (r k : Fin 2048) : EReal := d (ix3 0 r k)
/-- The sum over all rows of what a row gives. -/
abbrev sumR (f : Fin 2048 → Fin 2048 → EReal) : FVec Ideal S1x2048 .f32 := fun y => ∑ r, f r (y 1)

theorem V0 : V m c main_v0 = shapeCast S2048x2048 (A0 m c) shapeCasts_S1x2048x2048_S2048x2048 := by
  dsimp only [V]; after_results; rfl
theorem V1 : V m c main_v1 = broadcastInDim S1x2048 ![1] bcast_S2048_S1x2048_1 (A1 m c) := by
  dsimp only [V]; after_results
theorem V2 : V m c main_v2 = shapeCast S2048x2048 (A4 m c) shapeCasts_S1x2048x2048_S2048x2048 := by
  dsimp only [V]; after_results; rfl
theorem V3 : V m c main_arg2 = A2 m c := by
  dsimp only [V]; after_results

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] := by decide +kernel

variable (t : Fin cfg0.N)
theorem lt8 : t.val < 8 := lt_of_lt_of_eq t.isLt N_0
abbrev row (i : Fin 256) : Fin 2048 := ⟨t.val * 256 + i.val, by have := lt8 t; omega⟩
theorem row_eq (i : Fin 256) : rowAt 2048 256 t.val i = row t i := rowAt_eq _ _ _

abbrev x0 : Vec Ideal S256x2048 .f32 := iblk m c 0 t
abbrev x1 : Vec Ideal S256x2048 .f32 := iblk m c 1 t
abbrev x2 : Vec Ideal S1x2048 .f32 := iblk m c 2 t
abbrev x3 : Vec Ideal S1x2048 .f32 := iblk m c 3 t

theorem b0 (i : Fin 256) (k : Fin 2048) : x0 m c t (ix2 i k) = A0 m c (ix3 0 (row t i) k) := by
  have e : x0 m c t (ix2 i k) = shapeCast S2048x2048 (A0 m c) shapeCasts_S1x2048x2048_S2048x2048 (ix2 (row t i) k) := by
    unfold x0 iblk
    rw [show V m c (Pipeline.arrRef spec0 0) = _ from V0 m c]
    exact congrArg (shapeCast S2048x2048 (A0 m c) shapeCasts_S1x2048x2048_S2048x2048) (by blk_ext [idx t])
  rw [e]; pointwise
theorem b1 (i : Fin 256) (k : Fin 2048) : x1 m c t (ix2 i k) = A4 m c (ix3 0 (row t i) k) := by
  have e : x1 m c t (ix2 i k) = shapeCast S2048x2048 (A4 m c) shapeCasts_S1x2048x2048_S2048x2048 (ix2 (row t i) k) := by
    unfold x1 iblk
    rw [show V m c (Pipeline.arrRef spec0 1) = _ from V2 m c]
    exact congrArg (shapeCast S2048x2048 (A4 m c) shapeCasts_S1x2048x2048_S2048x2048) (by blk_ext [idx t])
  rw [e]; pointwise
theorem b2 (k : Fin 2048) : x2 m c t (ix2 0 k) = A1 m c (ix1 k) := by
  have e : x2 m c t (ix2 0 k) = broadcastInDim S1x2048 ![1] bcast_S2048_S1x2048_1 (A1 m c) (ix2 0 k) := by
    unfold x2 iblk
    rw [show V m c (Pipeline.arrRef spec0 2) = _ from V1 m c]
    show broadcastInDim S1x2048 ![1] bcast_S2048_S1x2048_1 (A1 m c) (((cfg0.win 2).blk t).view.emb (ix2 0 k)) = _
    rw [show (((cfg0.win 2).blk t).view.emb (ix2 0 k) : S1x2048.Idx) = ix2 0 k from by blk_ext [idx t]]
  rw [e]; pointwise
theorem b3 (k : Fin 2048) : x3 m c t (ix2 0 k) = A2 m c (ix2 0 k) := by
  unfold x3 iblk
  rw [show V m c (Pipeline.arrRef spec0 3) = _ from V3 m c]
  exact congrArg (A2 m c) (by blk_ext [idx t])

variable (a b : Vec Ideal S256x2048 .f32) (g s v : Vec Ideal S1x2048 .f32) (i : Fin 256) (k : Fin 2048)
abbrev br (i : Fin 256) : Fin 2048 → EReal := fun k => a (ix2 i k)
theorem pay12_at : k0_pay12 a b g s (ix2 i k) = normSlope mN eN (br a i) (fun k => b (ix2 i k) * (1 + s (ix2 0 k)) * g (ix2 0 k)) k := by
  pointwise [k0_pay12, k0_pay11, k0_pay10, k0_pay9, k0_pay8, k0_pay7, k0_pay6]
theorem pay13_at : k0_pay13 a b s (ix2 0 k) = ∑ i : Fin 256, b (ix2 i k) * (1 + s (ix2 0 k)) * (a (ix2 i k) * rootInv mN eN (br a i)) := by
  pointwise [k0_pay13, k0_pay11, k0_pay10, k0_pay9, k0_pay8, k0_pay7, k0_pay6]
theorem pay2_at : k0_pay2 (k0_pay7 b) (k0_pay8 g) (k0_pay10 a) (ix2 0 k)
    = ∑ i : Fin 256, b (ix2 i k) * (a (ix2 i k) * rootInv mN eN (br a i) * g (ix2 0 k)) := by
  pointwise [k0_pay2, k0_pay10, k0_pay9, k0_pay8, k0_pay7, k0_pay6]
theorem pay4_at : k0_pay4 (k0_pay7 b) (ix2 0 k) = ∑ i : Fin 256, b (ix2 i k) := by
  pointwise [k0_pay4, k0_pay7]
theorem pay1_eq (u : FVec Ideal S1x2048 .f32) : k0_pay1 u v = addf v u := by
  unfold k0_pay1; rw [shapeCast_self]
theorem pay3_eq (b' a' : FVec Ideal S256x2048 .f32) (g' : FVec Ideal S1x2048 .f32) : k0_pay3 b' g' a' v = addf v (k0_pay2 b' g' a') := by
  unfold k0_pay3; rw [shapeCast_self]
theorem pay5_eq (b' : FVec Ideal S256x2048 .f32) : k0_pay5 b' v = addf v (k0_pay4 b') := by
  unfold k0_pay5; rw [shapeCast_self]

/-- What a block of rows adds to the three gradients summed over rows. -/
abbrev gB : FVec Ideal S1x2048 .f32 := k0_pay13 (x0 m c t) (x1 m c t) (x3 m c t)
abbrev sB : FVec Ideal S1x2048 .f32 := k0_pay2 (k0_pay7 (x1 m c t)) (k0_pay8 (x2 m c t)) (k0_pay10 (x0 m c t))
abbrev dB : FVec Ideal S1x2048 .f32 := k0_pay4 (k0_pay7 (x1 m c t))
theorem outA (h : t.val % 8 = 0) : outsAt0 m c t.val t.isLt
    = (k0_pay12 (x0 m c t) (x1 m c t) (x2 m c t) (x3 m c t), gB m c t, sB m c t, dB m c t) := by
  have h' : ¬ 1 ≤ t.val := by have := lt8 t; omega
  rw [outsAt0_A m c t h h' h h' h h']
  frame_out
theorem outB (h : ¬ t.val % 8 = 0) (acc : _) (ha : outsAt0 m c (t.val - 1) (Nat.lt_of_le_of_lt (Nat.sub_le _ _) t.isLt) = acc) : outsAt0 m c t.val t.isLt
    = (k0_pay12 (x0 m c t) (x1 m c t) (x2 m c t) (x3 m c t), addf acc.2.1 (gB m c t), addf acc.2.2.1 (sB m c t), addf acc.2.2.2 (dB m c t)) := by
  have h' : 1 ≤ t.val := by omega
  rw [outsAt0_B m c t h h' h h' h h', ← pay1_eq, ← pay3_eq, ← pay5_eq, ← ha]
  frame_out

theorem out4 : (outsAt0 m c t.val t.isLt).1 = k0_pay12 (x0 m c t) (x1 m c t) (x2 m c t) (x3 m c t) := by
  by_cases h : t.val % 8 = 0
  · rw [outA m c t h]
  · rw [outB m c t h _ rfl]

theorem br_eq (i : Fin 256) : br (x0 m c t) i = xr (A0 m c) (row t i) := funext fun k => b0 m c t i k

theorem gB_at : gB m c t (ix2 0 k) = ∑ i : Fin 256, tG (A0 m c) (A4 m c) (A2 m c) (rowAt 2048 256 t.val i) k := by
  rw [gB, pay13_at]; simp only [br_eq, b0, b1, b3, row_eq]
theorem sB_at : sB m c t (ix2 0 k) = ∑ i : Fin 256, tS (A0 m c) (A4 m c) (A1 m c) (rowAt 2048 256 t.val i) k := by
  rw [sB, pay2_at]; simp only [br_eq, b0, b1, b2, row_eq]
theorem dB_at : dB m c t (ix2 0 k) = ∑ i : Fin 256, tD (A4 m c) (rowAt 2048 256 t.val i) k := by
  rw [dB, pay4_at]; simp only [b1, row_eq]

/-- An output cleared at the first point and added to at each later one ends as the sum over all rows. -/
theorem total (f : (n : ℕ) → n < cfg0.N → FVec Ideal S1x2048 .f32) (p : Fin cfg0.N → FVec Ideal S1x2048 .f32) (T : Fin 2048 → Fin 2048 → EReal)
    (hA : ∀ t : Fin cfg0.N, t.val % 8 = 0 → f t.val t.isLt = p t)
    (hB : ∀ t : Fin cfg0.N, ¬ t.val % 8 = 0 → f t.val t.isLt = addf (f (t.val - 1) (Nat.lt_of_le_of_lt (Nat.sub_le _ _) t.isLt)) (p t))
    (hp : ∀ (t : Fin cfg0.N) (k : Fin 2048), p t (ix2 0 k) = ∑ i : Fin 256, T (rowAt 2048 256 t.val i) k)
    (t : Fin cfg0.N) (h : t.val % 8 = 7) (k : Fin 2048) : f t.val t.isLt (ix2 0 k) = ∑ r, T r k := by
  have e := Pipeline.eq_sum_of_reset_step_apply_single_of_mod (M := EReal) (ι := Fin 2048) (fun n h k => f n h (ix2 0 k)) 8
    (fun _ => 0) (fun n k => ∑ i : Fin 256, T (rowAt 2048 256 n i) k)
    (fun t h k => by
      rw [hA t h, hp, zero_add])
    (fun t h k => by
      rw [hB t h, ← hp]; rfl)
    (le_of_eq N_0) t h k
  refine e.trans ?_
  rw [zero_add]
  exact sum_rowAt 8 256 2048 rfl fun r => T r k

theorem accG (h : t.val % 8 = 7) : (outsAt0 m c t.val t.isLt).2.1 (ix2 0 k) = ∑ r, tG (A0 m c) (A4 m c) (A2 m c) r k :=
  total (fun n h => (outsAt0 m c n h).2.1) (gB m c) _ (fun t h => by rw [outA m c t h]) (fun t h => by rw [outB m c t h _ rfl]) (gB_at m c) t h k
theorem accS (h : t.val % 8 = 7) : (outsAt0 m c t.val t.isLt).2.2.1 (ix2 0 k) = ∑ r, tS (A0 m c) (A4 m c) (A1 m c) r k :=
  total (fun n h => (outsAt0 m c n h).2.2.1) (sB m c) _ (fun t h => by rw [outA m c t h]) (fun t h => by rw [outB m c t h _ rfl]) (sB_at m c) t h k
theorem accD (h : t.val % 8 = 7) : (outsAt0 m c t.val t.isLt).2.2.2 (ix2 0 k) = ∑ r, tD (A4 m c) r k :=
  total (fun n h => (outsAt0 m c n h).2.2.2) (dB m c) _ (fun t h => by rw [outA m c t h]) (fun t h => by rw [outB m c t h _ rfl]) (dB_at m c) t h k

theorem flushedX : (dats m 0 c).flushed 4 t = ((cfg0.win 4).blk t).view.read (Elt Ideal) (resX (A0 m c) (A4 m c) (A1 m c) (A2 m c)) := by
  rw [Value.flushed4, out4]
  funext y
  obtain ⟨i, k, rfl⟩ : ∃ (i : Fin 256) (k : Fin 2048), y = ix2 i k := split2 y
  show k0_pay12 (x0 m c t) (x1 m c t) (x2 m c t) (x3 m c t) (ix2 i k)
    = resX (A0 m c) (A4 m c) (A1 m c) (A2 m c) (((cfg0.win 4).blk t).view.emb (ix2 i k))
  rw [show (((cfg0.win 4).blk t).view.emb (ix2 i k) : S2048x2048.Idx) = ix2 (row t i) k from by blk_ext [idx t], pay12_at]
  simp only [br_eq, b1, b2, b3]
  rfl

theorem flushedG (hf : (cfg0.win 5).flush t = true) :
    (dats m 0 c).flushed 5 t = ((cfg0.win 5).blk t).view.read (Elt Ideal) (sumR (tG (A0 m c) (A4 m c) (A2 m c))) := by
  rw [Value.flushed5]
  funext y
  obtain ⟨i, k, rfl⟩ : ∃ (i : Fin 1) (k : Fin 2048), y = ix2 i k := split2 y
  rw [Subsingleton.elim i 0]
  show (outsAt0 m c t.val t.isLt).2.1 (ix2 0 k) = sumR (tG (A0 m c) (A4 m c) (A2 m c)) (((cfg0.win 5).blk t).view.emb (ix2 0 k))
  rw [show (((cfg0.win 5).blk t).view.emb (ix2 0 k) : S1x2048.Idx) = ix2 0 k from by blk_ext [idx t], accG m c t k ((flush0_5 t).mp hf)]
  rfl

theorem flushedS (hf : (cfg0.win 6).flush t = true) :
    (dats m 0 c).flushed 6 t = ((cfg0.win 6).blk t).view.read (Elt Ideal) (sumR (tS (A0 m c) (A4 m c) (A1 m c))) := by
  rw [Value.flushed6]
  funext y
  obtain ⟨i, k, rfl⟩ : ∃ (i : Fin 1) (k : Fin 2048), y = ix2 i k := split2 y
  rw [Subsingleton.elim i 0]
  show (outsAt0 m c t.val t.isLt).2.2.1 (ix2 0 k) = sumR (tS (A0 m c) (A4 m c) (A1 m c)) (((cfg0.win 6).blk t).view.emb (ix2 0 k))
  rw [show (((cfg0.win 6).blk t).view.emb (ix2 0 k) : S1x2048.Idx) = ix2 0 k from by blk_ext [idx t], accS m c t k ((flush0_6 t).mp hf)]
  rfl

theorem flushedD (hf : (cfg0.win 7).flush t = true) :
    (dats m 0 c).flushed 7 t = ((cfg0.win 7).blk t).view.read (Elt Ideal) (sumR (tD (A4 m c))) := by
  rw [Value.flushed7]
  funext y
  obtain ⟨i, k, rfl⟩ : ∃ (i : Fin 1) (k : Fin 2048), y = ix2 i k := split2 y
  rw [Subsingleton.elim i 0]
  show (outsAt0 m c t.val t.isLt).2.2.2 (ix2 0 k) = sumR (tD (A4 m c)) (((cfg0.win 7).blk t).view.emb (ix2 0 k))
  rw [show (((cfg0.win 7).blk t).view.emb (ix2 0 k) : S1x2048.Idx) = ix2 0 k from by blk_ext [idx t], accD m c t k ((flush0_7 t).mp hf)]
  rfl

theorem coverX (i : S2048x2048.Idx) : ∃ t : Fin cfg0.N, (cfg0.win 4).flush t = true ∧ i ∈ ((cfg0.win 4).blk t).view.set := by
  obtain ⟨r, k, rfl⟩ := split2 i
  have hN : r.val / 256 < cfg0.N := lt_of_lt_of_eq (by omega) N_0.symm
  refine ⟨⟨r.val / 256, hN⟩, flush0_4 _, ?_⟩
  have e : (ix2 r k : S2048x2048.Idx)
      = ((cfg0.win 4).blk ⟨r.val / 256, hN⟩).view.emb (ix2 ⟨r.val % 256, Nat.mod_lt _ (by decide)⟩ k) := by
    blk_ext [idx ⟨r.val / 256, hN⟩]
  rw [e]
  exact View.emb_mem_set _ _

theorem coverG (i : S1x2048.Idx) : ∃ t : Fin cfg0.N, (cfg0.win 5).flush t = true ∧ i ∈ ((cfg0.win 5).blk t).view.set := by
  obtain ⟨r, k, rfl⟩ := split2 i
  obtain ⟨t, ht⟩ : ∃ t : Fin cfg0.N, t.val = 7 := ⟨⟨7, lt_of_lt_of_eq (by omega) N_0.symm⟩, rfl⟩
  refine ⟨t, (flush0_5 t).mpr (by rw [ht]), ?_⟩
  have e : (ix2 r k : S1x2048.Idx) = ((cfg0.win 5).blk t).view.emb (ix2 r k) := by blk_ext [idx t]
  rw [e]
  exact View.emb_mem_set _ _

theorem coverS (i : S1x2048.Idx) : ∃ t : Fin cfg0.N, (cfg0.win 6).flush t = true ∧ i ∈ ((cfg0.win 6).blk t).view.set := by
  obtain ⟨r, k, rfl⟩ := split2 i
  obtain ⟨t, ht⟩ : ∃ t : Fin cfg0.N, t.val = 7 := ⟨⟨7, lt_of_lt_of_eq (by omega) N_0.symm⟩, rfl⟩
  refine ⟨t, (flush0_6 t).mpr (by rw [ht]), ?_⟩
  have e : (ix2 r k : S1x2048.Idx) = ((cfg0.win 6).blk t).view.emb (ix2 r k) := by blk_ext [idx t]
  rw [e]
  exact View.emb_mem_set _ _

theorem coverD (i : S1x2048.Idx) : ∃ t : Fin cfg0.N, (cfg0.win 7).flush t = true ∧ i ∈ ((cfg0.win 7).blk t).view.set := by
  obtain ⟨r, k, rfl⟩ := split2 i
  obtain ⟨t, ht⟩ : ∃ t : Fin cfg0.N, t.val = 7 := ⟨⟨7, lt_of_lt_of_eq (by omega) N_0.symm⟩, rfl⟩
  refine ⟨t, (flush0_7 t).mpr (by rw [ht]), ?_⟩
  have e : (ix2 r k : S1x2048.Idx) = ((cfg0.win 7).blk t).view.emb (ix2 r k) := by blk_ext [idx t]
  rw [e]
  exact View.emb_mem_set _ _

end Cert.ModIdeal.Proof

namespace Cert.ModRefIdeal.Proof

open Cert.Base Idealize.ShloMosaic Idealize.ShloMosaic.TcCoe Idealize.SL.Sem Cert.ModIdeal.Proof

theorem slope (x d : FVec Ideal Cert.ModIdeal.S1x2048x2048 .f32) (g : FVec Ideal Cert.ModIdeal.S2048 .f32) (s : FVec Ideal Cert.ModIdeal.S1x2048 .f32)
    (hx : ∀ i, ∃ r : ℝ, x i = r) (hd : ∀ i, ∃ r : ℝ, d i = r) (hg : ∀ i, ∃ r : ℝ, g i = r) (hs : ∀ i, ∃ r : ℝ, s i = r) (r k : Fin 2048) :
    normChain mN eN (xr x r) (wr d g s r) k = normSlope mN eN (xr x r) (wr d g s r) k := by
  obtain ⟨ε, hε, eε⟩ := eps_f32
  rw [show xr x r = fun k => ((x (ix3 0 r k)).toReal : EReal) from funext fun k => of_real (hx _),
    show wr d g s r = fun k => (((d (ix3 0 r k)).toReal * (1 + (s (ix2 0 k)).toReal) * (g (ix1 k)).toReal : ℝ) : EReal) from
      funext fun k => by
        rw [EReal.coe_mul, EReal.coe_mul, EReal.coe_add, ← of_real (hd _), ← of_real (hs _), ← of_real (hg _)]; rfl,
    mN, eN, width_f32, eε]
  exact norm_rule (by norm_num) hε _ _ k

theorem modulate : Cert.algebraic_ModIdeal_ModRefIdeal_pre_modulate_finite
    (hModIdeal := Cert.ModIdeal.Gen.facts) (hModRefIdeal := Cert.ModRefIdeal.Gen.facts)
    (hPre_modulate_finite := Cert.Pre_modulate_finite.Gen.facts) := by
  intro m g m' g' hpre hargs
  refine ⟨fun c => resX (A0 m c) (A4 m c) (A1 m c) (A2 m c), fun c => sumR (tG (A0 m c) (A4 m c) (A2 m c)),
    fun c => sumR (tS (A0 m c) (A4 m c) (A1 m c)), fun c => sumR (tD (A4 m c)), ?_, ?_⟩
  · refine (θ_run Cert.ModIdeal.defs _ _).mono (fun r h c => ?_) (Cert.ModIdeal.Value.run_blocks m g)
    obtain ⟨h0, h1, h2, h3, ha⟩ := h c
    exact ⟨h0.trans ((Cert.ModIdeal.Gen.dats m 0 c).arrAt_eq_of_cover 4 _ (fun t _ => flushedX m c t) coverX),
      h1.trans ((Cert.ModIdeal.Gen.dats m 0 c).arrAt_eq_of_cover 5 _ (fun t h => flushedG m c t h) coverG),
      h2.trans ((Cert.ModIdeal.Gen.dats m 0 c).arrAt_eq_of_cover 6 _ (fun t h => flushedS m c t h) coverS),
      h3.trans ((Cert.ModIdeal.Gen.dats m 0 c).arrAt_eq_of_cover 7 _ (fun t h => flushedD m c t h) coverD), ha⟩
  · refine (θ_run Cert.ModRefIdeal.defs _ _).mono (fun r h c => ?_) (Cert.ModRefIdeal.Value.run m' g')
    obtain ⟨h0, h1, h2, h3, ha⟩ := h c
    obtain ⟨e0, e1, e2, e3, e4⟩ := hargs c
    obtain ⟨p0, p1, p2, p4⟩ := hpre c
    refine ⟨h0.trans ?_, h1.trans ?_, h2.trans ?_, h3.trans ?_, ha⟩ <;> clear h0 h1 h2 h3 ha h
    · unfold Cert.ModRefIdeal.Value.res_main_v57
      rw [e0, e1, e2, e4]
      funext y
      obtain ⟨i, k, rfl⟩ : ∃ (i : Fin 2048) (k : Fin 2048), y = ix2 i k := split2 y
      refine Eq.trans ?_ (slope (A0 m c) (A4 m c) (A1 m c) (A2 m c) (real_of_abs_lt p0) (real_of_abs_lt p4) (real_of_abs_lt p1) (real_of_abs_lt p2) i k)
      pointwise
    · rw [e0, e2, e4]
      funext y
      obtain ⟨i, k, rfl⟩ : ∃ (i : Fin 1) (k : Fin 2048), y = ix2 i k := split2 y
      refine Eq.trans ?_ (Finset.sum_congr rfl fun r _ => mul_comm (xh (A0 m c) r k) _)
      pointwise
    · rw [e0, e1, e4]
      funext y
      obtain ⟨i, k, rfl⟩ : ∃ (i : Fin 1) (k : Fin 2048), y = ix2 i k := split2 y
      refine Eq.trans ?_ (Finset.sum_congr rfl fun r _ => mul_comm (xh (A0 m c) r k * A1 m c (ix1 k)) _)
      pointwise
    · rw [e4]
      funext y
      obtain ⟨i, k, rfl⟩ : ∃ (i : Fin 1) (k : Fin 2048), y = ix2 i k := split2 y
      pointwise
      rfl

/-- The reference ends with its arguments unchanged and no counter raised. -/
theorem frame : Cert.quiescent_ModRefIdeal (hModRefIdeal := Cert.ModRefIdeal.Gen.facts) := fun m ρ _ =>
  (θ_run Cert.ModRefIdeal.defs _ _).mono
    (fun r h => ⟨fun c => (h c).2.2.2.2, sem_eq_zero_of_no_sems (by decide) r.2⟩)
    (Cert.ModRefIdeal.Value.run (F := Ideal) m ρ)

end Cert.ModRefIdeal.Proof

end
-- ==== Proof.Rms.lean ====
/- The gradient of the rmsd norm: the input's gradient row by row, and the gain's, the scale's and the shift's
   gradients summed over the rows. -/
module

public import proofs.«01_k».proof.Proof.Norm
public import proofs.«01_k».proof.Proof.Gen.RmsIdeal.Value
public import proofs.«01_k».proof.Proof.Gen.RmsRefIdeal.Run
public import proofs.«01_k».proof.Proof.Gen.Pre_rms_finite

@[expose] public section

set_option maxRecDepth 16384

noncomputable section

namespace Cert.RmsIdeal.Proof

open Cert.RmsIdeal Cert.RmsIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x6x128 .f32 := m ((c : Thread nD τ).loc main_arg0)
abbrev A1 : FVec Ideal S128 .f32 := m ((c : Thread nD τ).loc main_arg1)
abbrev A2 : FVec Ideal S1x2048x6x128 .f32 := m ((c : Thread nD τ).loc main_arg2)

abbrev mN : EReal := Ideal.ofBits .f32 0x43000000#32
abbrev eN : EReal := Ideal.ofBits .f32 0x358637BD#32
abbrev xr (x : FVec Ideal S1x2048x6x128 .f32) (r : Fin 2048) (h : Fin 6) : Fin 128 → EReal := fun k => x (ix4 0 r h k)
/-- What reaches the normed lanes of a head: the cotangent times the gain. -/
abbrev wr (x : FVec Ideal S1x2048x6x128 .f32) (g : FVec Ideal S128 .f32) (r : Fin 2048) (h : Fin 6) : Fin 128 → EReal :=
  fun k => x (ix4 0 r h k) * g (ix1 k)
abbrev hdOf (k : Fin 768) : Fin 6 := ⟨k.val / 128, by omega⟩
abbrev laneOf (k : Fin 768) : Fin 128 := ⟨k.val % 128, Nat.mod_lt _ (by decide)⟩
abbrev col (h : Fin 6) (k : Fin 128) : Fin 768 := ⟨h.val * 128 + k.val, by omega⟩
theorem hd_col (h : Fin 6) (k : Fin 128) : hdOf (col h k) = h := Fin.ext (by show (h.val * 128 + k.val) / 128 = h.val; omega)
theorem lane_col (h : Fin 6) (k : Fin 128) : laneOf (col h k) = k := Fin.ext (by show (h.val * 128 + k.val) % 128 = k.val; omega)
abbrev resX (x d : FVec Ideal S1x2048x6x128 .f32) (g : FVec Ideal S128 .f32) : FVec Ideal S2048x768 .f32 :=
  fun y => normSlope mN eN (xr x (y 0) (hdOf (y 1))) (wr d g (y 0) (hdOf (y 1))) (laneOf (y 1))
abbrev tG (x d : FVec Ideal S1x2048x6x128 .f32) (h : Fin 6) (r : Fin 2048) (k : Fin 128) : EReal :=
  d (ix4 0 r h k) * (x (ix4 0 r h k) * rootInv mN eN (xr x r h))
abbrev resG (x d : FVec Ideal S1x2048x6x128 .f32) : FVec Ideal S1x128 .f32 := fun y => ∑ r, ∑ h, tG x d h r (y 1)

abbrev flat (x : FVec Ideal S1x2048x6x128 .f32) : FVec Ideal S2048x768 .f32 :=
  shapeCast S2048x768 (shapeCast S2048x6x128 x shapeCasts_S1x2048x6x128_S2048x6x128) shapeCasts_S2048x6x128_S2048x768
theorem flat_at (x : FVec Ideal S1x2048x6x128 .f32) (r : Fin 2048) (h : Fin 6) (k : Fin 128) : flat x (ix2 r (col h k)) = x (ix4 0 r h k) := by
  pointwise
  exact congrArg₂ (fun a b => x (ix4 0 r a b)) (hd_col h k) (lane_col h k)
theorem unflat_at (x : FVec Ideal S1x2048x6x128 .f32) (H : S1x2048x6x128.ShapeCasts S2048x768) (r : Fin 2048) (k : Fin 768) :
    shapeCast S2048x768 x H (ix2 r k) = x (ix4 0 r (hdOf k) (laneOf k)) := by
  pointwise

theorem V1 : V m c main_v1 = flat (A0 m c) := by
  dsimp only [V]; after_results; rfl
theorem V2 : V m c main_v2 = broadcastInDim S1x128 ![1] bcast_S128_S1x128_1 (A1 m c) := by
  dsimp only [V]; after_results
theorem V4 : V m c main_v4 = flat (A2 m c) := by
  dsimp only [V]; after_results; rfl

theorem idx : ∀ t : Fin cfg0.N, win0_0.index t = ![0, t.val] ∧ win0_1.index t = ![0, t.val] ∧ win0_2.index t = ![0, 0]
    ∧ win0_3.index t = ![0, t.val] ∧ win0_4.index t = ![0, 0] := by decide +kernel

variable (t : Fin cfg0.N)
theorem lt6 : t.val < 6 := lt_of_lt_of_eq t.isLt N_0
abbrev hd : Fin 6 := ⟨t.val, lt6 t⟩

abbrev x0 : Vec Ideal S2048x128 .f32 := iblk m c 0 t
abbrev x1 : Vec Ideal S2048x128 .f32 := iblk m c 1 t
abbrev x2 : Vec Ideal S1x128 .f32 := iblk m c 2 t

theorem b0 (i : Fin 2048) (k : Fin 128) : x0 m c t (ix2 i k) = A0 m c (ix4 0 i (hd t) k) := by
  refine Eq.trans ?_ (flat_at (A0 m c) i (hd t) k)
  unfold x0 iblk
  rw [show V m c (Pipeline.arrRef spec0 0) = _ from V1 m c]
  show flat (A0 m c) (((cfg0.win 0).blk t).view.emb (ix2 i k)) = _
  rw [show (((cfg0.win 0).blk t).view.emb (ix2 i k) : S2048x768.Idx) = ix2 i (col (hd t) k) from by blk_ext [idx t]]
theorem b1 (i : Fin 2048) (k : Fin 128) : x1 m c t (ix2 i k) = A2 m c (ix4 0 i (hd t) k) := by
  refine Eq.trans ?_ (flat_at (A2 m c) i (hd t) k)
  unfold x1 iblk
  rw [show V m c (Pipeline.arrRef spec0 1) = _ from V4 m c]
  show flat (A2 m c) (((cfg0.win 1).blk t).view.emb (ix2 i k)) = _
  rw [show (((cfg0.win 1).blk t).view.emb (ix2 i k) : S2048x768.Idx) = ix2 i (col (hd t) k) from by blk_ext [idx t]]
theorem b2 (k : Fin 128) : x2 m c t (ix2 0 k) = A1 m c (ix1 k) := by
  have e : x2 m c t (ix2 0 k) = broadcastInDim S1x128 ![1] bcast_S128_S1x128_1 (A1 m c) (ix2 0 k) := by
    unfold x2 iblk
    rw [show V m c (Pipeline.arrRef spec0 2) = _ from V2 m c]
    show broadcastInDim S1x128 ![1] bcast_S128_S1x128_1 (A1 m c) (((cfg0.win 2).blk t).view.emb (ix2 0 k)) = _
    rw [show (((cfg0.win 2).blk t).view.emb (ix2 0 k) : S1x128.Idx) = ix2 0 k from by blk_ext [idx t]]
  rw [e]; pointwise

variable (a b : Vec Ideal S2048x128 .f32) (g v : Vec Ideal S1x128 .f32) (i : Fin 2048) (k : Fin 128)
abbrev br (i : Fin 2048) : Fin 128 → EReal := fun k => a (ix2 i k)
theorem pay6_at : k0_pay6 a b g (ix2 i k) = normSlope mN eN (br a i) (fun k => b (ix2 i k) * g (ix2 0 k)) k := by
  pointwise [k0_pay6, k0_pay5, k0_pay4, k0_pay3, k0_pay2]
theorem pay7_at : k0_pay7 a b (ix2 0 k) = ∑ i : Fin 2048, b (ix2 i k) * (a (ix2 i k) * rootInv mN eN (br a i)) := by
  pointwise [k0_pay7, k0_pay5, k0_pay4, k0_pay3, k0_pay2]
theorem pay1_eq (u : FVec Ideal S1x128 .f32) : k0_pay1 u v = addf v u := by
  unfold k0_pay1; rw [shapeCast_self]

/-- What a head adds to the gain's gradient. -/
abbrev gB : FVec Ideal S1x128 .f32 := k0_pay7 (x0 m c t) (x1 m c t)
theorem outA (h : t.val % 6 = 0) : outsAt0 m c t.val t.isLt = (k0_pay6 (x0 m c t) (x1 m c t) (x2 m c t), gB m c t) := by
  have h' : ¬ 1 ≤ t.val := by have := lt6 t; omega
  rw [outsAt0_A m c t h h']
  frame_out
theorem outB (h : ¬ t.val % 6 = 0) (acc : _) (ha : outsAt0 m c (t.val - 1) (Nat.lt_of_le_of_lt (Nat.sub_le _ _) t.isLt) = acc) :
    outsAt0 m c t.val t.isLt = (k0_pay6 (x0 m c t) (x1 m c t) (x2 m c t), addf acc.2 (gB m c t)) := by
  have h' : 1 ≤ t.val := by omega
  rw [outsAt0_B m c t h h', ← pay1_eq, ← ha]
  frame_out

theorem out3 : (outsAt0 m c t.val t.isLt).1 = k0_pay6 (x0 m c t) (x1 m c t) (x2 m c t) := by
  by_cases h : t.val % 6 = 0
  · rw [outA m c t h]
  · rw [outB m c t h _ rfl]

theorem br_eq (i : Fin 2048) : br (x0 m c t) i = xr (A0 m c) i (hd t) := funext fun k => b0 m c t i k
theorem hd_eq : Fin.ofNat 6 t.val = hd t := Fin.ext (Nat.mod_eq_of_lt (lt6 t))
theorem gB_at : gB m c t (ix2 0 k) = ∑ i, tG (A0 m c) (A2 m c) (Fin.ofNat 6 t.val) i k := by
  rw [gB, pay7_at, hd_eq]; simp only [br_eq, b0, b1]

theorem acc (h : t.val % 6 = 5) : (outsAt0 m c t.val t.isLt).2 (ix2 0 k) = ∑ i, ∑ h, tG (A0 m c) (A2 m c) h i k := by
  have e := Pipeline.eq_sum_of_reset_step_apply_single_of_mod (M := EReal) (ι := Fin 128) (fun n h k => (outsAt0 m c n h).2 (ix2 0 k)) 6
    (fun _ => 0) (fun n k => ∑ i, tG (A0 m c) (A2 m c) (Fin.ofNat 6 n) i k)
    (fun t h k => by
      rw [outA m c t h]
      exact (gB_at m c t k).trans (zero_add _).symm)
    (fun t h k => by
      rw [outB m c t h _ rfl]
      exact congrArg ((outsAt0 m c (t.val - 1) (Nat.lt_of_le_of_lt (Nat.sub_le _ _) t.isLt)).2 (ix2 0 k) + ·) (gB_at m c t k))
    (le_of_eq N_0) t h k
  refine e.trans ?_
  rw [zero_add, Finset.sum_range, Finset.sum_comm]
  exact Finset.sum_congr rfl fun i _ => Finset.sum_congr rfl fun h _ =>
    congrArg (fun h => tG (A0 m c) (A2 m c) h i k) (Fin.ext (Nat.mod_eq_of_lt h.isLt))

theorem flushedX : (dats m 0 c).flushed 3 t = ((cfg0.win 3).blk t).view.read (Elt Ideal) (resX (A0 m c) (A2 m c) (A1 m c)) := by
  rw [Value.flushed3, out3]
  funext y
  obtain ⟨i, k, rfl⟩ : ∃ (i : Fin 2048) (k : Fin 128), y = ix2 i k := split2 y
  show k0_pay6 (x0 m c t) (x1 m c t) (x2 m c t) (ix2 i k) = resX (A0 m c) (A2 m c) (A1 m c) (((cfg0.win 3).blk t).view.emb (ix2 i k))
  rw [show (((cfg0.win 3).blk t).view.emb (ix2 i k) : S2048x768.Idx) = ix2 i (col (hd t) k) from by blk_ext [idx t], pay6_at]
  simp only [br_eq, b1, b2]
  show _ = normSlope mN eN (xr (A0 m c) i (hdOf (col (hd t) k))) (wr (A2 m c) (A1 m c) i (hdOf (col (hd t) k))) (laneOf (col (hd t) k))
  rw [hd_col, lane_col]

theorem flushedG (hf : (cfg0.win 4).flush t = true) :
    (dats m 0 c).flushed 4 t = ((cfg0.win 4).blk t).view.read (Elt Ideal) (resG (A0 m c) (A2 m c)) := by
  rw [Value.flushed4]
  funext y
  obtain ⟨i, k, rfl⟩ : ∃ (i : Fin 1) (k : Fin 128), y = ix2 i k := split2 y
  rw [Subsingleton.elim i 0]
  show (outsAt0 m c t.val t.isLt).2 (ix2 0 k) = resG (A0 m c) (A2 m c) (((cfg0.win 4).blk t).view.emb (ix2 0 k))
  rw [show (((cfg0.win 4).blk t).view.emb (ix2 0 k) : S1x128.Idx) = ix2 0 k from by blk_ext [idx t], acc m c t k ((flush0_4 t).mp hf)]
  rfl

theorem coverX (i : S2048x768.Idx) : ∃ t : Fin cfg0.N, (cfg0.win 3).flush t = true ∧ i ∈ ((cfg0.win 3).blk t).view.set := by
  obtain ⟨r, k, rfl⟩ := split2 i
  have hN : k.val / 128 < cfg0.N := lt_of_lt_of_eq (by omega) N_0.symm
  refine ⟨⟨k.val / 128, hN⟩, flush0_3 _, ?_⟩
  have e : (ix2 r k : S2048x768.Idx) = ((cfg0.win 3).blk ⟨k.val / 128, hN⟩).view.emb (ix2 r (laneOf k)) := by
    blk_ext [idx ⟨k.val / 128, hN⟩]
  rw [e]
  exact View.emb_mem_set _ _

theorem coverG (i : S1x128.Idx) : ∃ t : Fin cfg0.N, (cfg0.win 4).flush t = true ∧ i ∈ ((cfg0.win 4).blk t).view.set := by
  obtain ⟨r, k, rfl⟩ := split2 i
  obtain ⟨t, ht⟩ : ∃ t : Fin cfg0.N, t.val = 5 := ⟨⟨5, lt_of_lt_of_eq (by omega) N_0.symm⟩, rfl⟩
  refine ⟨t, (flush0_4 t).mpr (by rw [ht]), ?_⟩
  have e : (ix2 r k : S1x128.Idx) = ((cfg0.win 4).blk t).view.emb (ix2 r k) := by blk_ext [idx t]
  rw [e]
  exact View.emb_mem_set _ _

end Cert.RmsIdeal.Proof

namespace Cert.RmsRefIdeal.Proof

open Cert.Base Idealize.ShloMosaic Idealize.ShloMosaic.TcCoe Idealize.SL.Sem Cert.RmsIdeal.Proof

theorem lanes_f32 : Ideal.ofBits .f32 0x43000000#32 = ((128 : ℝ) : EReal) := by
  simp [Ideal.ofBits, Ideal.ieee, -EReal.coe_mul]; norm_num

theorem slope (x d : FVec Ideal Cert.RmsIdeal.S1x2048x6x128 .f32) (g : FVec Ideal Cert.RmsIdeal.S128 .f32)
    (hx : ∀ i, ∃ r : ℝ, x i = r) (hd : ∀ i, ∃ r : ℝ, d i = r) (hg : ∀ i, ∃ r : ℝ, g i = r) (r : Fin 2048) (h : Fin 6) (k : Fin 128) :
    normChain mN eN (xr x r h) (wr d g r h) k = normSlope mN eN (xr x r h) (wr d g r h) k := by
  obtain ⟨ε, hε, eε⟩ := eps_f32
  rw [show xr x r h = fun k => ((x (ix4 0 r h k)).toReal : EReal) from funext fun k => of_real (hx _),
    show wr d g r h = fun k => (((d (ix4 0 r h k)).toReal * (g (ix1 k)).toReal : ℝ) : EReal) from
      funext fun k => by rw [EReal.coe_mul, ← of_real (hd _), ← of_real (hg _)],
    mN, eN, lanes_f32, eε]
  exact norm_rule (by norm_num) hε _ _ k

theorem rms : Cert.algebraic_RmsIdeal_RmsRefIdeal_pre_rms_finite
    (hRmsIdeal := Cert.RmsIdeal.Gen.facts) (hRmsRefIdeal := Cert.RmsRefIdeal.Gen.facts)
    (hPre_rms_finite := Cert.Pre_rms_finite.Gen.facts) := by
  intro m g m' g' hpre hargs
  refine ⟨fun c => resX (A0 m c) (A2 m c) (A1 m c), fun c => resG (A0 m c) (A2 m c), ?_, ?_⟩
  · refine (θ_run Cert.RmsIdeal.defs _ _).mono (fun r h c => ?_) (Cert.RmsIdeal.Value.run_blocks m g)
    obtain ⟨h0, h1, ha⟩ := h c
    exact ⟨h0.trans ((Cert.RmsIdeal.Gen.dats m 0 c).arrAt_eq_of_cover 3 _ (fun t _ => flushedX m c t) coverX),
      h1.trans ((Cert.RmsIdeal.Gen.dats m 0 c).arrAt_eq_of_cover 4 _ (fun t h => flushedG m c t h) coverG), ha⟩
  · refine (θ_run Cert.RmsRefIdeal.defs _ _).mono (fun r h c => ?_) (Cert.RmsRefIdeal.Value.run m' g')
    obtain ⟨h0, h1, ha⟩ := h c
    obtain ⟨e0, e1, e2⟩ := hargs c
    obtain ⟨p0, p1, p2⟩ := hpre c
    refine ⟨h0.trans ?_, h1.trans ?_, ha⟩ <;> clear h0 h1 ha h
    · unfold Cert.RmsRefIdeal.Value.res_main_v37
      rw [e0, e1, e2]
      funext y
      obtain ⟨i, k, rfl⟩ : ∃ (i : Fin 2048) (k : Fin 768), y = ix2 i k := split2 y
      refine (unflat_at _ _ i k).trans (Eq.trans ?_ (slope (A0 m c) (A2 m c) (A1 m c) (real_of_abs_lt p0) (real_of_abs_lt p2) (real_of_abs_lt p1) i (hdOf k) (laneOf k)))
      generalize hdOf k = h
      generalize laneOf k = d
      pointwise
    · rw [e0, e2]
      funext y
      obtain ⟨i, k, rfl⟩ : ∃ (i : Fin 1) (k : Fin 128), y = ix2 i k := split2 y
      refine Eq.trans ?_ (Finset.sum_congr rfl fun r _ => Finset.sum_congr rfl fun h _ => mul_comm (A0 m c (ix4 0 r h k) * rootInv mN eN (xr (A0 m c) r h)) _)
      pointwise

/-- The reference ends with its arguments unchanged and no counter raised. -/
theorem frame : Cert.quiescent_RmsRefIdeal (hRmsRefIdeal := Cert.RmsRefIdeal.Gen.facts) := fun m ρ _ =>
  (θ_run Cert.RmsRefIdeal.defs _ _).mono
    (fun r h => ⟨fun c => (h c).2.2, sem_eq_zero_of_no_sems (by decide) r.2⟩)
    (Cert.RmsRefIdeal.Value.run (F := Ideal) m ρ)

end Cert.RmsRefIdeal.Proof

end
-- ==== Proof.Res.lean ====
/- The gradient of the gated residual: the gated cotangent, and the gate's gradient summed over the rows. -/
module

public import proofs.«01_k».proof.Proof.Rows
public import proofs.«01_k».proof.Proof.Gen.ResIdeal.Value
public import proofs.«01_k».proof.Proof.Gen.ResRefIdeal.Run

@[expose] public section

set_option maxRecDepth 16384

noncomputable section

namespace Cert.ResIdeal.Proof

open Cert.ResIdeal Cert.ResIdeal.Gen Idealize.ShloMosaic Idealize.ShloMosaic.TcCoe Idealize.SL.Sem Cert.Base

variable (m : (ℓ : Loc nD τ sig) → Buf (Elt Ideal) ℓ) (c : Dev nD)

abbrev A1 : FVec Ideal S1x2048x2048 .f32 := m ((c : Thread nD τ).loc main_arg1)
abbrev A2 : FVec Ideal S1x2048 .f32 := m ((c : Thread nD τ).loc main_arg2)
abbrev A3 : FVec Ideal S1x2048x2048 .f32 := m ((c : Thread nD τ).loc main_arg3)

abbrev resU (g : FVec Ideal S1x2048 .f32) (d : FVec Ideal S1x2048x2048 .f32) :
    FVec Ideal S2048x2048 .bf16 := fun y => g (ix2 0 (y 1)) * d (ix3 0 (y 0) (y 1))
abbrev resG (u d : FVec Ideal S1x2048x2048 .f32) : FVec Ideal S1x2048 .f32 := fun y => ∑ r, d (ix3 0 r (y 1)) * u (ix3 0 r (y 1))

theorem V0 : V m c main_v0 = shapeCast S2048x2048 (A3 m c) shapeCasts_S1x2048x2048_S2048x2048 := by
  dsimp only [V]; after_results; rfl
theorem V1 : V m c main_v1 = shapeCast S2048x2048 (A1 m c) shapeCasts_S1x2048x2048_S2048x2048 := by
  dsimp only [V]; after_results; rfl
theorem V2 : V m c main_arg2 = A2 m c := by
  dsimp only [V]; after_results

theorem idx : ∀ t : Fin cfg0.N, win0_0.index t = ![t.val, 0] ∧ win0_1.index t = ![t.val, 0] ∧ win0_2.index t = ![0, 0]
    ∧ win0_3.index t = ![t.val, 0] ∧ win0_4.index t = ![0, 0] := by decide +kernel

variable (t : Fin cfg0.N)
theorem lt8 : t.val < 8 := lt_of_lt_of_eq t.isLt N_0
abbrev row (i : Fin 256) : Fin 2048 := ⟨t.val * 256 + i.val, by have := lt8 t; omega⟩
theorem row_eq (i : Fin 256) : rowAt 2048 256 t.val i = row t i := rowAt_eq _ _ _

abbrev x0 : Vec Ideal S256x2048 .f32 := iblk m c 0 t
abbrev x1 : Vec Ideal S256x2048 .f32 := iblk m c 1 t
abbrev x2 : Vec Ideal S1x2048 .f32 := iblk m c 2 t

theorem b0 (i : Fin 256) (k : Fin 2048) : x0 m c t (ix2 i k) = A3 m c (ix3 0 (row t i) k) := by
  have e : x0 m c t (ix2 i k) = shapeCast S2048x2048 (A3 m c) shapeCasts_S1x2048x2048_S2048x2048 (ix2 (row t i) k) := by
    unfold x0 iblk
    rw [show V m c (Pipeline.arrRef spec0 0) = _ from V0 m c]
    exact congrArg (shapeCast S2048x2048 (A3 m c) shapeCasts_S1x2048x2048_S2048x2048) (by blk_ext [idx t])
  rw [e]; pointwise
theorem b1 (i : Fin 256) (k : Fin 2048) : x1 m c t (ix2 i k) = A1 m c (ix3 0 (row t i) k) := by
  have e : x1 m c t (ix2 i k) = shapeCast S2048x2048 (A1 m c) shapeCasts_S1x2048x2048_S2048x2048 (ix2 (row t i) k) := by
    unfold x1 iblk
    rw [show V m c (Pipeline.arrRef spec0 1) = _ from V1 m c]
    exact congrArg (shapeCast S2048x2048 (A1 m c) shapeCasts_S1x2048x2048_S2048x2048) (by blk_ext [idx t])
  rw [e]; pointwise
theorem b2 (k : Fin 2048) : x2 m c t (ix2 0 k) = A2 m c (ix2 0 k) := by
  unfold x2 iblk
  rw [show V m c (Pipeline.arrRef spec0 2) = _ from V2 m c]
  exact congrArg (A2 m c) (by blk_ext [idx t])

theorem pay2_at (a : Vec Ideal S256x2048 .f32) (g : Vec Ideal S1x2048 .f32) (i : Fin 256) (k : Fin 2048) :
    k0_pay2 a g (ix2 i k) = g (ix2 0 k) * a (ix2 i k) := by
  pointwise [k0_pay2, k0_pay1]
theorem pay3_at (a u : Vec Ideal S256x2048 .f32) (k : Fin 2048) : k0_pay3 a u (ix2 0 k) = ∑ i : Fin 256, a (ix2 i k) * u (ix2 i k) := by
  pointwise [k0_pay3, k0_pay1]
theorem pay4_at (a u : Vec Ideal S256x2048 .f32) (s : Vec Ideal S1x2048 .f32) (k : Fin 2048) :
    k0_pay4 a u s (ix2 0 k) = s (ix2 0 k) + ∑ i : Fin 256, a (ix2 i k) * u (ix2 i k) := by
  pointwise [k0_pay4, k0_pay3, k0_pay1]

theorem out3 : (outsAt0 m c t.val t.isLt).1 = k0_pay2 (x0 m c t) (x2 m c t) := by
  by_cases h : t.val % 8 = 0
  · rw [outsAt0_A m c t h (by have := lt8 t; omega)]; dsimp only; frame_out
  · rw [outsAt0_B m c t h (by omega)]; dsimp only; frame_out

/-- What a block of rows adds to the gate's gradient. -/
abbrev term (n : ℕ) (k : Fin 2048) : EReal := ∑ i : Fin 256, A3 m c (ix3 0 (rowAt 2048 256 n i) k) * A1 m c (ix3 0 (rowAt 2048 256 n i) k)

theorem acc (k : Fin 2048) (h : t.val % 8 = 7) : (outsAt0 m c t.val t.isLt).2 (ix2 0 k) = ∑ r, A3 m c (ix3 0 r k) * A1 m c (ix3 0 r k) := by
  have e := Pipeline.eq_sum_of_reset_step_apply_single_of_mod (M := EReal) (ι := Fin 2048) (fun n h k => (outsAt0 m c n h).2 (ix2 0 k)) 8
    (fun _ => 0) (term m c)
    (fun t h k => by
      rw [outsAt0_A m c t h (by have := lt8 t; omega)]
      frame_out
      refine (pay3_at (x0 m c t) (x1 m c t) k).trans ?_
      simp only [b0, b1, term, row_eq, zero_add])
    (fun t h k => by
      rw [outsAt0_B m c t h (by omega)]
      frame_out
      refine (pay4_at (x0 m c t) (x1 m c t) _ k).trans ?_
      simp only [b0, b1, term, row_eq])
    (le_of_eq N_0) t h k
  refine e.trans ?_
  rw [zero_add]
  exact sum_rowAt 8 256 2048 rfl fun r => A3 m c (ix3 0 r k) * A1 m c (ix3 0 r k)

theorem flushedU : (dats m 0 c).flushed 3 t = ((cfg0.win 3).blk t).view.read (Elt Ideal) (resU (A2 m c) (A3 m c)) := by
  rw [Value.flushed3, out3]
  funext y
  obtain ⟨i, k, rfl⟩ : ∃ (i : Fin 256) (k : Fin 2048), y = ix2 i k := split2 y
  show k0_pay2 (x0 m c t) (x2 m c t) (ix2 i k) = resU (A2 m c) (A3 m c) (((cfg0.win 3).blk t).view.emb (ix2 i k))
  rw [show (((cfg0.win 3).blk t).view.emb (ix2 i k) : S2048x2048.Idx) = ix2 (row t i) k from by blk_ext [idx t], pay2_at, b0, b2]
  rfl

theorem flushedG (hf : (cfg0.win 4).flush t = true) :
    (dats m 0 c).flushed 4 t = ((cfg0.win 4).blk t).view.read (Elt Ideal) (resG (A1 m c) (A3 m c)) := by
  rw [Value.flushed4]
  funext y
  obtain ⟨i, k, rfl⟩ : ∃ (i : Fin 1) (k : Fin 2048), y = ix2 i k := split2 y
  rw [Subsingleton.elim i 0]
  show (outsAt0 m c t.val t.isLt).2 (ix2 0 k) = resG (A1 m c) (A3 m c) (((cfg0.win 4).blk t).view.emb (ix2 0 k))
  rw [show (((cfg0.win 4).blk t).view.emb (ix2 0 k) : S1x2048.Idx) = ix2 0 k from by blk_ext [idx t], acc m c t k ((flush0_4 t).mp hf)]
  rfl

theorem coverU (i : S2048x2048.Idx) : ∃ t : Fin cfg0.N, (cfg0.win 3).flush t = true ∧ i ∈ ((cfg0.win 3).blk t).view.set := by
  obtain ⟨r, k, rfl⟩ := split2 i
  have hN : r.val / 256 < cfg0.N := lt_of_lt_of_eq (by omega) N_0.symm
  refine ⟨⟨r.val / 256, hN⟩, (by decide +kernel : ∀ t : Fin cfg0.N, (cfg0.win 3).flush t = true) _, ?_⟩
  have e : (ix2 r k : S2048x2048.Idx)
      = ((cfg0.win 3).blk ⟨r.val / 256, hN⟩).view.emb (ix2 ⟨r.val % 256, Nat.mod_lt _ (by decide)⟩ k) := by
    blk_ext [idx ⟨r.val / 256, hN⟩]
  rw [e]
  exact View.emb_mem_set _ _

theorem coverG (i : S1x2048.Idx) : ∃ t : Fin cfg0.N, (cfg0.win 4).flush t = true ∧ i ∈ ((cfg0.win 4).blk t).view.set := by
  obtain ⟨r, k, rfl⟩ := split2 i
  obtain ⟨t, ht⟩ : ∃ t : Fin cfg0.N, t.val = 7 := ⟨⟨7, lt_of_lt_of_eq (by omega) N_0.symm⟩, rfl⟩
  refine ⟨t, (flush0_4 t).mpr (by rw [ht]), ?_⟩
  have e : (ix2 r k : S1x2048.Idx) = ((cfg0.win 4).blk t).view.emb (ix2 r k) := by blk_ext [idx t]
  rw [e]
  exact View.emb_mem_set _ _

theorem finalU : (dats m 0 c).arrAt 3 cfg0.N = resU (A2 m c) (A3 m c) :=
  (dats m 0 c).arrAt_eq_of_cover 3 _ (fun t _ => flushedU m c t) coverU
theorem finalG : (dats m 0 c).arrAt 4 cfg0.N = resG (A1 m c) (A3 m c) :=
  (dats m 0 c).arrAt_eq_of_cover 4 _ (fun t h => flushedG m c t h) coverG

end Cert.ResIdeal.Proof

namespace Cert.ResRefIdeal.Proof

open Cert.Base Idealize.ShloMosaic Idealize.ShloMosaic.TcCoe Idealize.SL.Sem Cert.ResIdeal.Proof

theorem residual : Cert.algebraic_ResIdeal_ResRefIdeal
    (hResIdeal := Cert.ResIdeal.Gen.facts) (hResRefIdeal := Cert.ResRefIdeal.Gen.facts) := by
  intro m g m' g' _ hargs
  refine ⟨fun c => resU (A2 m c) (A3 m c), fun c => resG (A1 m c) (A3 m c), ?_, ?_⟩
  · refine (θ_run Cert.ResIdeal.defs _ _).mono (fun r h c => ?_) (Cert.ResIdeal.Value.run_blocks m g)
    obtain ⟨h3, h4, ha⟩ := h c
    exact ⟨h3.trans (finalU m c), h4.trans (finalG m c), ha⟩
  · refine (θ_run Cert.ResRefIdeal.defs _ _).mono (fun r h c => ?_) (Cert.ResRefIdeal.Value.run m' g')
    obtain ⟨h5, h6, ha⟩ := h c
    obtain ⟨e0, e1, e2, e3⟩ := hargs c
    refine ⟨h5.trans ?_, h6.trans ?_, ha⟩
    · rw [e2, e3]
      funext y
      obtain ⟨i, k, rfl⟩ : ∃ (i : Fin 2048) (k : Fin 2048), y = ix2 i k := split2 y
      pointwise
      rfl
    · rw [e1, e3]
      funext y
      obtain ⟨i, k, rfl⟩ : ∃ (i : Fin 1) (k : Fin 2048), y = ix2 i k := split2 y
      pointwise
      rfl

/-- The reference ends with its arguments unchanged and no counter raised. -/
theorem frame : Cert.quiescent_ResRefIdeal (hResRefIdeal := Cert.ResRefIdeal.Gen.facts) := fun m ρ _ =>
  (θ_run Cert.ResRefIdeal.defs _ _).mono
    (fun r h => ⟨fun c => (h c).2.2, sem_eq_zero_of_no_sems (by decide) r.2⟩)
    (Cert.ResRefIdeal.Value.run (F := Ideal) m ρ)

end Cert.ResRefIdeal.Proof

end
-- ==== Proof.GateAct.lean ====
/- The gradient of the gates' decay: through the logarithm of the logistic function, element by element, and the biases'
   gradients summed over the rows. -/
module

public import proofs.«01_k».proof.Proof.Rows
public import proofs.«01_k».proof.Proof.Gen.GateActIdeal.Value
public import proofs.«01_k».proof.Proof.Gen.GateActRefIdeal.Run
public import proofs.«01_k».proof.Proof.Gen.Pre_gateact_finite

@[expose] public section

set_option maxRecDepth 16384

noncomputable section

namespace Cert.GateActIdeal.Proof

open Cert.GateActIdeal Cert.GateActIdeal.Gen Idealize.ShloMosaic Idealize.ShloMosaic.TcCoe Idealize.SL.Sem Cert.Base

variable (m : (ℓ : Loc nD τ sig) → Buf (Elt Ideal) ℓ) (c : Dev nD)

abbrev A0 : FVec Ideal S2048x768 .f32 := m ((c : Thread nD τ).loc main_arg0)
abbrev A1 : FVec Ideal S384 .f32 := m ((c : Thread nD τ).loc main_arg1)
abbrev A2 : FVec Ideal S384 .f32 := m ((c : Thread nD τ).loc main_arg2)
abbrev A3 : FVec Ideal S2048x768 .f32 := m ((c : Thread nD τ).loc main_arg3)

abbrev tempC : EReal := Ideal.ofBits .f32 0x41800000#32
/-- The gradient at one element, from the cotangent and the gate's argument. -/
abbrev slope (d t : EReal) : EReal := Ideal.div (d * Ideal.div 1 (1 + Ideal.exp (0 - (0 - t)))) tempC
/-- The two directions' biases, side by side. -/
abbrev bias (f b : FVec Ideal S384 .f32) (k : Fin 768) : EReal :=
  if h : k.val < 384 then f (ix1 ⟨k.val, h⟩) else b (ix1 ⟨k.val - 384, by omega⟩)
abbrev dU (u : FVec Ideal S2048x768 .f32) (f b : FVec Ideal S384 .f32) (d : FVec Ideal S2048x768 .f32) (r : Fin 2048) (k : Fin 768) : EReal :=
  slope (d (ix2 r k)) (u (ix2 r k) + bias f b k)
abbrev resU (u : FVec Ideal S2048x768 .f32) (f b : FVec Ideal S384 .f32) (d : FVec Ideal S2048x768 .f32) : FVec Ideal S2048x768 .f32 :=
  fun y => dU u f b d (y 0) (y 1)
abbrev resB (u : FVec Ideal S2048x768 .f32) (f b : FVec Ideal S384 .f32) (d : FVec Ideal S2048x768 .f32) : FVec Ideal S1x768 .f32 :=
  fun y => ∑ r, dU u f b d r (y 1)

abbrev both : FVec Ideal S1x768 .f32 := broadcastInDim S1x768 ![1] bcast_S768_S1x768_1
  (concatenate S768 0 [⟨S384, A1 m c⟩, ⟨S384, A2 m c⟩] concatenates_S384_S384_S768_d0)
theorem both_at (k : Fin 768) : both m c (ix2 0 k) = bias (A1 m c) (A2 m c) k := by
  pointwise

theorem V0 : V m c main_arg0 = A0 m c := by
  dsimp only [V]; after_results
theorem V1 : V m c main_v1 = both m c := by
  dsimp only [V]; after_results
theorem V3 : V m c main_arg3 = A3 m c := by
  dsimp only [V]; after_results

theorem idx : ∀ t : Fin cfg0.N, win0_0.index t = ![t.val, 0] ∧ win0_1.index t = ![t.val, 0] ∧ win0_2.index t = ![0, 0]
    ∧ win0_3.index t = ![t.val, 0] ∧ win0_4.index t = ![0, 0] := by decide +kernel

variable (t : Fin cfg0.N)
theorem lt4 : t.val < 4 := lt_of_lt_of_eq t.isLt N_0
abbrev row (i : Fin 512) : Fin 2048 := ⟨t.val * 512 + i.val, by have := lt4 t; omega⟩
theorem row_eq (i : Fin 512) : rowAt 2048 512 t.val i = row t i := rowAt_eq _ _ _

abbrev x0 : Vec Ideal S512x768 .f32 := iblk m c 0 t
abbrev x1 : Vec Ideal S512x768 .f32 := iblk m c 1 t
abbrev x2 : Vec Ideal S1x768 .f32 := iblk m c 2 t

theorem b0 (i : Fin 512) (k : Fin 768) : x0 m c t (ix2 i k) = A0 m c (ix2 (row t i) k) := by
  unfold x0 iblk
  rw [show V m c (Pipeline.arrRef spec0 0) = _ from V0 m c]
  exact congrArg (A0 m c) (by blk_ext [idx t])
theorem b1 (i : Fin 512) (k : Fin 768) : x1 m c t (ix2 i k) = A3 m c (ix2 (row t i) k) := by
  unfold x1 iblk
  rw [show V m c (Pipeline.arrRef spec0 1) = _ from V3 m c]
  exact congrArg (A3 m c) (by blk_ext [idx t])
theorem b2 (k : Fin 768) : x2 m c t (ix2 0 k) = bias (A1 m c) (A2 m c) k := by
  refine Eq.trans ?_ (both_at m c k)
  unfold x2 iblk
  rw [show V m c (Pipeline.arrRef spec0 2) = _ from V1 m c]
  show both m c (((cfg0.win 2).blk t).view.emb (ix2 0 k)) = _
  rw [show (((cfg0.win 2).blk t).view.emb (ix2 0 k) : S1x768.Idx) = ix2 0 k from by blk_ext [idx t]]

theorem pay1_at (a b : Vec Ideal S512x768 .f32) (g : Vec Ideal S1x768 .f32) (i : Fin 512) (k : Fin 768) :
    k0_pay1 a g b (ix2 i k) = slope (b (ix2 i k)) (a (ix2 i k) + g (ix2 0 k)) := by
  pointwise [k0_pay1]
theorem pay2_at (a b : Vec Ideal S512x768 .f32) (g : Vec Ideal S1x768 .f32) (k : Fin 768) :
    k0_pay2 a g b (ix2 0 k) = ∑ i : Fin 512, slope (b (ix2 i k)) (a (ix2 i k) + g (ix2 0 k)) := by
  pointwise [k0_pay2, k0_pay1]
theorem pay3_at (a b : Vec Ideal S512x768 .f32) (g s : Vec Ideal S1x768 .f32) (k : Fin 768) :
    k0_pay3 a g b s (ix2 0 k) = s (ix2 0 k) + k0_pay2 a g b (ix2 0 k) := by
  unfold k0_pay3; rw [shapeCast_self]; rfl

theorem out3 : (outsAt0 m c t.val t.isLt).1 = k0_pay1 (x0 m c t) (x2 m c t) (x1 m c t) := by
  by_cases h : t.val % 4 = 0
  · rw [outsAt0_A m c t h (by have := lt4 t; omega)]; dsimp only; frame_out
  · rw [outsAt0_B m c t h (by omega)]; dsimp only; frame_out

theorem term_eq (k : Fin 768) : k0_pay2 (x0 m c t) (x2 m c t) (x1 m c t) (ix2 0 k)
    = ∑ i : Fin 512, dU (A0 m c) (A1 m c) (A2 m c) (A3 m c) (rowAt 2048 512 t.val i) k := by
  rw [pay2_at]
  simp only [b0, b1, b2, row_eq]

theorem acc (k : Fin 768) (h : t.val % 4 = 3) :
    (outsAt0 m c t.val t.isLt).2 (ix2 0 k) = ∑ r, dU (A0 m c) (A1 m c) (A2 m c) (A3 m c) r k := by
  have e := Pipeline.eq_sum_of_reset_step_apply_single_of_mod (M := EReal) (ι := Fin 768) (fun n h k => (outsAt0 m c n h).2 (ix2 0 k)) 4
    (fun _ => 0) (fun n k => ∑ i : Fin 512, dU (A0 m c) (A1 m c) (A2 m c) (A3 m c) (rowAt 2048 512 n i) k)
    (fun t h k => by
      rw [outsAt0_A m c t h (by have := lt4 t; omega)]
      frame_out
      exact (term_eq m c t k).trans (zero_add _).symm)
    (fun t h k => by
      rw [outsAt0_B m c t h (by omega)]
      frame_out
      exact (pay3_at (x0 m c t) (x1 m c t) (x2 m c t) _ k).trans (congrArg _ (term_eq m c t k)))
    (le_of_eq N_0) t h k
  refine e.trans ?_
  rw [zero_add]
  exact sum_rowAt 4 512 2048 rfl fun r => dU (A0 m c) (A1 m c) (A2 m c) (A3 m c) r k

theorem flushedU : (dats m 0 c).flushed 3 t = ((cfg0.win 3).blk t).view.read (Elt Ideal) (resU (A0 m c) (A1 m c) (A2 m c) (A3 m c)) := by
  rw [Value.flushed3, out3]
  funext y
  obtain ⟨i, k, rfl⟩ : ∃ (i : Fin 512) (k : Fin 768), y = ix2 i k := split2 y
  show k0_pay1 (x0 m c t) (x2 m c t) (x1 m c t) (ix2 i k)
    = resU (A0 m c) (A1 m c) (A2 m c) (A3 m c) (((cfg0.win 3).blk t).view.emb (ix2 i k))
  rw [show (((cfg0.win 3).blk t).view.emb (ix2 i k) : S2048x768.Idx) = ix2 (row t i) k from by blk_ext [idx t], pay1_at, b0, b1, b2]
  rfl

theorem flushedB (hf : (cfg0.win 4).flush t = true) :
    (dats m 0 c).flushed 4 t = ((cfg0.win 4).blk t).view.read (Elt Ideal) (resB (A0 m c) (A1 m c) (A2 m c) (A3 m c)) := by
  rw [Value.flushed4]
  funext y
  obtain ⟨i, k, rfl⟩ : ∃ (i : Fin 1) (k : Fin 768), y = ix2 i k := split2 y
  rw [Subsingleton.elim i 0]
  show (outsAt0 m c t.val t.isLt).2 (ix2 0 k) = resB (A0 m c) (A1 m c) (A2 m c) (A3 m c) (((cfg0.win 4).blk t).view.emb (ix2 0 k))
  rw [show (((cfg0.win 4).blk t).view.emb (ix2 0 k) : S1x768.Idx) = ix2 0 k from by blk_ext [idx t], acc m c t k ((flush0_4 t).mp hf)]
  rfl

theorem coverU (i : S2048x768.Idx) : ∃ t : Fin cfg0.N, (cfg0.win 3).flush t = true ∧ i ∈ ((cfg0.win 3).blk t).view.set := by
  obtain ⟨r, k, rfl⟩ := split2 i
  have hN : r.val / 512 < cfg0.N := lt_of_lt_of_eq (by omega) N_0.symm
  refine ⟨⟨r.val / 512, hN⟩, flush0_3 _, ?_⟩
  have e : (ix2 r k : S2048x768.Idx)
      = ((cfg0.win 3).blk ⟨r.val / 512, hN⟩).view.emb (ix2 ⟨r.val % 512, Nat.mod_lt _ (by decide)⟩ k) := by
    blk_ext [idx ⟨r.val / 512, hN⟩]
  rw [e]
  exact View.emb_mem_set _ _

theorem coverB (i : S1x768.Idx) : ∃ t : Fin cfg0.N, (cfg0.win 4).flush t = true ∧ i ∈ ((cfg0.win 4).blk t).view.set := by
  obtain ⟨r, k, rfl⟩ := split2 i
  obtain ⟨t, ht⟩ : ∃ t : Fin cfg0.N, t.val = 3 := ⟨⟨3, lt_of_lt_of_eq (by omega) N_0.symm⟩, rfl⟩
  refine ⟨t, (flush0_4 t).mpr (by rw [ht]), ?_⟩
  have e : (ix2 r k : S1x768.Idx) = ((cfg0.win 4).blk t).view.emb (ix2 r k) := by blk_ext [idx t]
  rw [e]
  exact View.emb_mem_set _ _

end Cert.GateActIdeal.Proof

namespace Cert.GateActRefIdeal.Proof

open Cert.Base Idealize.ShloMosaic Idealize.ShloMosaic.TcCoe Idealize.SL.Sem Cert.GateActIdeal.Proof

/-- The logarithm the chain rule exponentiates again, with its guards for infinite and undefined arguments. -/
abbrev soft (t : EReal) : EReal := if t ≠ t then t else max t 0 + Ideal.log1p (Ideal.exp (-FloatOps.absf (F := Ideal) (φ := .f32) t))
abbrev chain (d t : EReal) : EReal :=
  -(-Ideal.div d tempC * Ideal.exp ((if -t = Ideal.ofBits .f32 0x7F800000#32 then 0 else -t)
    - if soft (-t) = Ideal.ofBits .f32 0x7F800000#32 then 0 else soft (-t)))

theorem temp_f32 : tempC = ((16 : ℝ) : EReal) := by
  simp [tempC, Ideal.ofBits, Ideal.ieee, -EReal.coe_mul]; norm_num

theorem soft_coe (t : ℝ) : soft (t : EReal) = ((Real.log (1 + Real.exp t) : ℝ) : EReal) := by
  have ha : FloatOps.absf (F := Ideal) (φ := .f32) (t : EReal) = ((|t| : ℝ) : EReal) := by
    rw [abs_eq_max_neg, EReal.coe_strictMono.monotone.map_max]; rfl
  have hp : 0 < 1 + Real.exp (-|t|) := by positivity
  rw [soft, if_neg (not_not.mpr rfl), ha, ← EReal.coe_neg, Ideal.exp_coe, Ideal.log1p, ← EReal.coe_one, ← EReal.coe_add, Ideal.log_coe,
    if_neg (not_le.mpr hp), ← EReal.coe_zero, ← EReal.coe_strictMono.monotone.map_max, ← EReal.coe_add]
  congr 1
  rcases le_total t 0 with h | h
  · rw [max_eq_right h, abs_of_nonpos h, neg_neg, zero_add]
  · rw [max_eq_left h, abs_of_nonneg h, ← Real.log_exp t, ← Real.log_mul (by positivity) (by positivity), Real.log_exp]
    congr 1
    rw [mul_add, ← Real.exp_add]; simp [add_comm]

theorem act_rule (d t : ℝ) : chain (d : EReal) (t : EReal) = slope (d : EReal) (t : EReal) := by
  have hi : Ideal.ofBits .f32 0x7F800000#32 = ⊤ := by simp [Ideal.ofBits, Ideal.ieee]
  have hp : 0 < 1 + Real.exp (-t) := by positivity
  unfold chain GateActIdeal.Proof.slope
  rw [hi, ← EReal.coe_neg, soft_coe, if_neg (EReal.coe_ne_top _), if_neg (EReal.coe_ne_top _), temp_f32, ← EReal.coe_sub,
    Ideal.exp_coe, ← EReal.coe_zero, ← EReal.coe_sub, ← EReal.coe_sub, Ideal.exp_coe, ← EReal.coe_one, ← EReal.coe_add,
    Ideal.div_coe (by positivity), ← EReal.coe_mul, Ideal.div_coe (by positivity), Ideal.div_coe (by positivity), ← EReal.coe_neg, ← EReal.coe_mul,
    ← EReal.coe_neg]
  congr 1
  rw [Real.exp_sub, Real.exp_log hp, Real.exp_neg]
  simp only [zero_sub, neg_neg]
  have := Real.exp_pos t
  have hq : 1 + Real.exp t ≠ 0 := by positivity
  field_simp
  rw [add_comm]

theorem gateact : Cert.algebraic_GateActIdeal_GateActRefIdeal_pre_gateact_finite
    (hGateActIdeal := Cert.GateActIdeal.Gen.facts) (hGateActRefIdeal := Cert.GateActRefIdeal.Gen.facts)
    (hPre_gateact_finite := Cert.Pre_gateact_finite.Gen.facts) := by
  intro m g m' g' hpre hargs
  refine ⟨fun c => resU (A0 m c) (A1 m c) (A2 m c) (A3 m c), fun c => resB (A0 m c) (A1 m c) (A2 m c) (A3 m c), ?_, ?_⟩
  · refine (θ_run Cert.GateActIdeal.defs _ _).mono (fun r h c => ?_) (Cert.GateActIdeal.Value.run_blocks m g)
    obtain ⟨h0, h1, ha⟩ := h c
    exact ⟨h0.trans ((Cert.GateActIdeal.Gen.dats m 0 c).arrAt_eq_of_cover 3 _ (fun t _ => flushedU m c t) coverU),
      h1.trans ((Cert.GateActIdeal.Gen.dats m 0 c).arrAt_eq_of_cover 4 _ (fun t h => flushedB m c t h) coverB), ha⟩
  · refine (θ_run Cert.GateActRefIdeal.defs _ _).mono (fun r h c => ?_) (Cert.GateActRefIdeal.Value.run m' g')
    obtain ⟨h0, h1, ha⟩ := h c
    obtain ⟨e0, e1, e2, e3⟩ := hargs c
    obtain ⟨p0, p1, p2, p3⟩ := hpre c
    have key : ∀ r k, chain (A3 m c (ix2 r k)) (A0 m c (ix2 r k) + bias (A1 m c) (A2 m c) k) = dU (A0 m c) (A1 m c) (A2 m c) (A3 m c) r k := by
      intro r k
      obtain ⟨u, hu⟩ := real_of_abs_lt p0 (ix2 r k)
      obtain ⟨d, hd⟩ := real_of_abs_lt p3 (ix2 r k)
      obtain ⟨b, hb⟩ : ∃ b : ℝ, bias (A1 m c) (A2 m c) k = b := by
        unfold bias
        split
        · exact real_of_abs_lt p1 _
        · exact real_of_abs_lt p2 _
      show chain _ _ = slope _ _
      rw [show A0 m c (ix2 r k) = u from hu, show A3 m c (ix2 r k) = d from hd, hb, ← EReal.coe_add]
      exact act_rule d (u + b)
    have sum_eq : ∀ k, (∑ r, chain (A3 m c (ix2 r k)) (A0 m c (ix2 r k) + bias (A1 m c) (A2 m c) k) : EReal)
        = ∑ r, dU (A0 m c) (A1 m c) (A2 m c) (A3 m c) r k := fun k => Finset.sum_congr rfl fun r _ => key r k
    refine ⟨h0.trans ?_, h1.trans ?_, ha⟩ <;> clear h0 h1 ha h
    · unfold Cert.GateActRefIdeal.Value.res_main_v29
      rw [e0, e1, e2, e3]
      funext y
      obtain ⟨i, k, rfl⟩ : ∃ (i : Fin 2048) (k : Fin 768), y = ix2 i k := split2 y
      refine Eq.trans ?_ (key i k)
      pointwise
      unfold bias
      split
      · rfl
      · simp only [show 384 + (k.val - 384) = k.val from by omega]
    · unfold Cert.GateActRefIdeal.Value.res_main_v31
      rw [e0, e1, e2, e3]
      funext y
      obtain ⟨i, k, rfl⟩ : ∃ (i : Fin 1) (k : Fin 768), y = ix2 i k := split2 y
      refine Eq.trans ?_ (sum_eq k)
      pointwise
      unfold bias
      split
      · exact Fintype.sum_unique (M := EReal) _
      · refine (Fintype.sum_unique (M := EReal) _).trans ?_
        simp only [show 384 + (k.val - 384) = k.val from by omega]

/-- The reference ends with its arguments unchanged and no counter raised. -/
theorem frame : Cert.quiescent_GateActRefIdeal (hGateActRefIdeal := Cert.GateActRefIdeal.Gen.facts) := fun m ρ _ =>
  (θ_run Cert.GateActRefIdeal.defs _ _).mono
    (fun r h => ⟨fun c => (h c).2.2, sem_eq_zero_of_no_sems (by decide) r.2⟩)
    (Cert.GateActRefIdeal.Value.run (F := Ideal) m ρ)

end Cert.GateActRefIdeal.Proof

end
-- ==== Proof.Loss.lean ====
/- The squared error and its gradient: the error's share of every element, and the squares summed over rows and columns. -/
module

public import proofs.«01_k».proof.Proof.Rows
public import proofs.«01_k».proof.Proof.Gen.LossIdeal.Value
public import proofs.«01_k».proof.Proof.Gen.LossRefIdeal.Run

@[expose] public section

set_option maxRecDepth 16384

noncomputable section

namespace Cert.LossIdeal.Proof

open Cert.LossIdeal Cert.LossIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S1x2048x2048 .f32 := m ((c : Thread nD τ).loc main_arg1)

/-- The error at an element. -/
abbrev er (y t : FVec Ideal S1x2048x2048 .f32) (r k : Fin 2048) : EReal := y (ix3 0 r k) - t (ix3 0 r k)
abbrev resD (y t : FVec Ideal S1x2048x2048 .f32) : FVec Ideal S2048x2048 .f32 := fun i => er y t (i 0) (i 1) * ((1 / 2048 : ℝ) : EReal)
abbrev resL (y t : FVec Ideal S1x2048x2048 .f32) : FVec Ideal S1x1 .f32 := fun _ =>
  ∑ r, ∑ k, er y t r k * er y t r k * ((1 / 4096 : ℝ) : EReal)

theorem V0 : V m c main_v0 = shapeCast S2048x2048 (A0 m c) shapeCasts_S1x2048x2048_S2048x2048 := by
  dsimp only [V]; after_results; rfl
theorem V1 : V m c main_v1 = shapeCast S2048x2048 (A1 m c) shapeCasts_S1x2048x2048_S2048x2048 := by
  dsimp only [V]; after_results; rfl

theorem idx : ∀ t : Fin cfg0.N, win0_0.index t = ![t.val, 0] ∧ win0_1.index t = ![t.val, 0] ∧ win0_2.index t = ![t.val, 0]
    ∧ win0_3.index t = ![0, 0] := by decide +kernel

variable (t : Fin cfg0.N)
theorem lt8 : t.val < 8 := lt_of_lt_of_eq t.isLt N_0
abbrev row (i : Fin 256) : Fin 2048 := ⟨t.val * 256 + i.val, by have := lt8 t; omega⟩
theorem row_eq (i : Fin 256) : rowAt 2048 256 t.val i = row t i := rowAt_eq _ _ _

abbrev x0 : Vec Ideal S256x2048 .f32 := iblk m c 0 t
abbrev x1 : Vec Ideal S256x2048 .f32 := iblk m c 1 t

theorem b0 (i : Fin 256) (k : Fin 2048) : x0 m c t (ix2 i k) = A0 m c (ix3 0 (row t i) k) := by
  have e : x0 m c t (ix2 i k) = shapeCast S2048x2048 (A0 m c) shapeCasts_S1x2048x2048_S2048x2048 (ix2 (row t i) k) := by
    unfold x0 iblk
    rw [show V m c (Pipeline.arrRef spec0 0) = _ from V0 m c]
    exact congrArg (shapeCast S2048x2048 (A0 m c) shapeCasts_S1x2048x2048_S2048x2048) (by blk_ext [idx t])
  rw [e]; pointwise
theorem b1 (i : Fin 256) (k : Fin 2048) : x1 m c t (ix2 i k) = A1 m c (ix3 0 (row t i) k) := by
  have e : x1 m c t (ix2 i k) = shapeCast S2048x2048 (A1 m c) shapeCasts_S1x2048x2048_S2048x2048 (ix2 (row t i) k) := by
    unfold x1 iblk
    rw [show V m c (Pipeline.arrRef spec0 1) = _ from V1 m c]
    exact congrArg (shapeCast S2048x2048 (A1 m c) shapeCasts_S1x2048x2048_S2048x2048) (by blk_ext [idx t])
  rw [e]; pointwise

theorem pay2_at (a b : Vec Ideal S256x2048 .f32) (i : Fin 256) (k : Fin 2048) :
    k0_pay2 a b (ix2 i k) = (a (ix2 i k) - b (ix2 i k)) * ((1 / 2048 : ℝ) : EReal) := by
  rw [← part_f32]
  pointwise [k0_pay2, k0_pay1]
theorem pay3_at (a b : Vec Ideal S256x2048 .f32) : k0_pay3 a b (ix2 0 0)
    = ∑ i : Fin 256, ∑ k : Fin 2048, (a (ix2 i k) - b (ix2 i k)) * (a (ix2 i k) - b (ix2 i k)) * ((1 / 4096 : ℝ) : EReal) := by
  have e : k0_pay3 a b (ix2 0 0) = (∑ k : Fin 2048, ∑ i : Fin 256, (a (ix2 i k) - b (ix2 i k)) * (a (ix2 i k) - b (ix2 i k)))
      * Ideal.ofBits .f32 0x39800000#32 := by
    pointwise [k0_pay3, k0_pay1]
  rw [e, halfpart_f32, Finset.sum_comm, sum_mul_coe _ _ _ (by norm_num)]
  exact Finset.sum_congr rfl fun i _ => sum_mul_coe _ _ _ (by norm_num)
theorem pay4_at (a b : Vec Ideal S256x2048 .f32) (s : Vec Ideal S1x1 .f32) :
    k0_pay4 a b s (ix2 0 0) = s (ix2 0 0) + k0_pay3 a b (ix2 0 0) := by
  unfold k0_pay4
  rw [shapeCast_self]
  rfl

theorem out2 : (outsAt0 m c t.val t.isLt).1 = k0_pay2 (x0 m c t) (x1 m c t) := by
  by_cases h : t.val % 8 = 0
  · rw [outsAt0_A m c t h (by have := lt8 t; omega)]; dsimp only; frame_out
  · rw [outsAt0_B m c t h (by omega)]; dsimp only; frame_out

/-- What a row adds to the loss. -/
abbrev rowL (r : Fin 2048) : EReal := ∑ k, er (A0 m c) (A1 m c) r k * er (A0 m c) (A1 m c) r k * ((1 / 4096 : ℝ) : EReal)
theorem term_eq : k0_pay3 (x0 m c t) (x1 m c t) (ix2 0 0) = ∑ i : Fin 256, rowL m c (rowAt 2048 256 t.val i) := by
  rw [pay3_at]
  simp only [b0, b1, row_eq]

theorem acc (h : t.val % 8 = 7) : (outsAt0 m c t.val t.isLt).2 (ix2 0 0) = ∑ r, rowL m c r := by
  have e := Pipeline.eq_sum_of_reset_step_apply_single_of_mod (M := EReal) (ι := Unit) (fun n h _ => (outsAt0 m c n h).2 (ix2 0 0)) 8
    (fun _ => 0) (fun n _ => ∑ i : Fin 256, rowL m c (rowAt 2048 256 n i))
    (fun t h k => by
      rw [outsAt0_A m c t h (by have := lt8 t; omega)]
      frame_out
      exact (term_eq m c t).trans (zero_add _).symm)
    (fun t h k => by
      rw [outsAt0_B m c t h (by omega)]
      frame_out
      exact (pay4_at (x0 m c t) (x1 m c t) _).trans (congrArg _ (term_eq m c t)))
    (le_of_eq N_0) t h ()
  refine e.trans ?_
  rw [zero_add]
  exact sum_rowAt 8 256 2048 rfl (rowL m c)

theorem flushedD : (dats m 0 c).flushed 2 t = ((cfg0.win 2).blk t).view.read (Elt Ideal) (resD (A0 m c) (A1 m c)) := by
  rw [Value.flushed2, out2]
  funext y
  obtain ⟨i, k, rfl⟩ : ∃ (i : Fin 256) (k : Fin 2048), y = ix2 i k := split2 y
  show k0_pay2 (x0 m c t) (x1 m c t) (ix2 i k) = resD (A0 m c) (A1 m c) (((cfg0.win 2).blk t).view.emb (ix2 i k))
  rw [show (((cfg0.win 2).blk t).view.emb (ix2 i k) : S2048x2048.Idx) = ix2 (row t i) k from by blk_ext [idx t], pay2_at, b0, b1]
  rfl

theorem flushedL (hf : (cfg0.win 3).flush t = true) :
    (dats m 0 c).flushed 3 t = ((cfg0.win 3).blk t).view.read (Elt Ideal) (resL (A0 m c) (A1 m c)) := by
  rw [Value.flushed3]
  funext y
  obtain ⟨i, k, rfl⟩ : ∃ (i : Fin 1) (k : Fin 1), y = ix2 i k := split2 y
  rw [Subsingleton.elim i 0, Subsingleton.elim k 0]
  exact acc m c t ((flush0_3 t).mp hf)

theorem coverD (i : S2048x2048.Idx) : ∃ t : Fin cfg0.N, (cfg0.win 2).flush t = true ∧ i ∈ ((cfg0.win 2).blk t).view.set := by
  obtain ⟨r, k, rfl⟩ := split2 i
  have hN : r.val / 256 < cfg0.N := lt_of_lt_of_eq (by omega) N_0.symm
  refine ⟨⟨r.val / 256, hN⟩, flush0_2 _, ?_⟩
  have e : (ix2 r k : S2048x2048.Idx)
      = ((cfg0.win 2).blk ⟨r.val / 256, hN⟩).view.emb (ix2 ⟨r.val % 256, Nat.mod_lt _ (by decide)⟩ k) := by
    blk_ext [idx ⟨r.val / 256, hN⟩]
  rw [e]
  exact View.emb_mem_set _ _

theorem coverL (i : S1x1.Idx) : ∃ t : Fin cfg0.N, (cfg0.win 3).flush t = true ∧ i ∈ ((cfg0.win 3).blk t).view.set := by
  obtain ⟨r, k, rfl⟩ := split2 i
  obtain ⟨t, ht⟩ : ∃ t : Fin cfg0.N, t.val = 7 := ⟨⟨7, lt_of_lt_of_eq (by omega) N_0.symm⟩, rfl⟩
  refine ⟨t, (flush0_3 t).mpr (by rw [ht]), ?_⟩
  have e : (ix2 r k : S1x1.Idx) = ((cfg0.win 3).blk t).view.emb (ix2 r k) := by blk_ext [idx t]
  rw [e]
  exact View.emb_mem_set _ _

theorem finalD : (dats m 0 c).arrAt 2 cfg0.N = resD (A0 m c) (A1 m c) :=
  (dats m 0 c).arrAt_eq_of_cover 2 _ (fun t _ => flushedD m c t) coverD
theorem finalL : (dats m 0 c).arrAt 3 cfg0.N = resL (A0 m c) (A1 m c) :=
  (dats m 0 c).arrAt_eq_of_cover 3 _ (fun t h => flushedL m c t h) coverL

end Cert.LossIdeal.Proof

namespace Cert.LossRefIdeal.Proof

open Cert.Base Idealize.ShloMosaic Idealize.ShloMosaic.TcCoe Idealize.SL.Sem Cert.LossIdeal.Proof

theorem loss_rule (f : Fin 2048 → Fin 2048 → EReal) :
    ((1 / 2 : ℝ) : EReal) * ∑ r, Ideal.div (∑ k, f r k) ((2048 : ℝ) : EReal) = ∑ r, ∑ k, f r k * ((1 / 4096 : ℝ) : EReal) := by
  rw [mul_comm, sum_mul_coe _ _ _ (by norm_num)]
  refine Finset.sum_congr rfl fun r _ => ?_
  rw [Ideal.div_coe (by norm_num), mul_assoc, ← EReal.coe_mul, sum_mul_coe _ _ _ (by norm_num)]
  norm_num

theorem slope_rule (e : EReal) :
    Ideal.div (((1 / 2 : ℝ) : EReal) * 1) ((2048 : ℝ) : EReal) * (((2 : ℝ) : EReal) * e) = e * ((1 / 2048 : ℝ) : EReal) := by
  rw [Ideal.div_coe (by norm_num), mul_one, ← EReal.coe_mul, ← mul_assoc, ← EReal.coe_mul, mul_comm]
  norm_num

theorem loss : Cert.algebraic_LossIdeal_LossRefIdeal
    (hLossIdeal := Cert.LossIdeal.Gen.facts) (hLossRefIdeal := Cert.LossRefIdeal.Gen.facts) := by
  intro m g m' g' _ hargs
  refine ⟨fun c => resL (A0 m c) (A1 m c), fun c => resD (A0 m c) (A1 m c), ?_, ?_⟩
  · refine (θ_run Cert.LossIdeal.defs _ _).mono (fun r h c => ?_) (Cert.LossIdeal.Value.run_blocks m g)
    obtain ⟨h2, h3, ha⟩ := h c
    exact ⟨h3.trans (finalL m c), h2.trans (finalD m c), ha⟩
  · refine (θ_run Cert.LossRefIdeal.defs _ _).mono (fun r h c => ?_) (Cert.LossRefIdeal.Value.run m' g')
    obtain ⟨h5, h6, ha⟩ := h c
    obtain ⟨e0, e1⟩ := hargs c
    refine ⟨h5.trans ?_, h6.trans ?_, ha⟩
    · rw [e0, e1]
      funext y
      obtain ⟨i, k, rfl⟩ : ∃ (i : Fin 1) (k : Fin 1), y = ix2 i k := split2 y
      refine Eq.trans ?_ (loss_rule fun r k => er (A0 m c) (A1 m c) r k * er (A0 m c) (A1 m c) r k)
      rw [← half_f32, ← width_f32]
      pointwise
      rw [Fintype.sum_unique]
    · rw [e0, e1]
      funext y
      obtain ⟨i, k, rfl⟩ : ∃ (i : Fin 2048) (k : Fin 2048), y = ix2 i k := split2 y
      refine Eq.trans ?_ (slope_rule (er (A0 m c) (A1 m c) i k))
      rw [← half_f32, ← width_f32, ← two_f32, ← one_f32]
      pointwise

/-- The reference ends with its arguments unchanged and no counter raised. -/
theorem frame : Cert.quiescent_LossRefIdeal (hLossRefIdeal := Cert.LossRefIdeal.Gen.facts) := fun m ρ _ =>
  (θ_run Cert.LossRefIdeal.defs _ _).mono
    (fun r h => ⟨fun c => (h c).2.2, sem_eq_zero_of_no_sems (by decide) r.2⟩)
    (Cert.LossRefIdeal.Value.run (F := Ideal) m ρ)

end Cert.LossRefIdeal.Proof

end
-- ==== Proof.Conv.lean ====
/- The gradient of the gated three-tap convolution: the three gated inputs' gradients, and the taps' summed over the rows. -/
module

public import proofs.«01_k».proof.Proof.Rows
public import proofs.«01_k».proof.Proof.Gen.ConvIdeal.Value
public import proofs.«01_k».proof.Proof.Gen.ConvRefIdeal.Run

@[expose] public section

set_option maxRecDepth 16384

noncomputable section

namespace Cert.ConvIdeal.Proof

open Cert.ConvIdeal Cert.ConvIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x512 .f32 := m ((c : Thread nD τ).loc main_arg0)
abbrev A1 : FVec Ideal S1x2048x512 .f32 := m ((c : Thread nD τ).loc main_arg1)
abbrev A2 : FVec Ideal S1x2048x512 .f32 := m ((c : Thread nD τ).loc main_arg2)
abbrev A3 : FVec Ideal S3x512 .f32 := m ((c : Thread nD τ).loc main_arg3)
abbrev A4 : FVec Ideal S1x2048x512 .f32 := m ((c : Thread nD τ).loc main_arg4)

abbrev prev (i : Fin 2048) : Fin 2048 := ⟨(i.val + 2048 - 1) % 2048, Nat.mod_lt _ (by decide)⟩
abbrev next (i : Fin 2048) : Fin 2048 := ⟨(i.val + 2048 - 2047) % 2048, Nat.mod_lt _ (by decide)⟩
/-- The row before, zero before the first. -/
abbrev bef (f : Fin 2048 → EReal) (i : Fin 2048) : EReal := if i.val = 0 then 0 else f (prev i)
/-- The row after, zero after the last. -/
abbrev aft (f : Fin 2048 → EReal) (i : Fin 2048) : EReal := if i.val = 2047 then 0 else f (next i)

theorem sel_eq (i : Fin 2048) (n : Nat) (hn : n < 2048) (a b : EReal) :
    Scalar.select (IntOp.cmpi .eq (BitVec.ofNat 32 i.val) (BitVec.ofNat 32 n)) a b = if i.val = n then a else b := by
  have h : (BitVec.ofNat 32 i.val = BitVec.ofNat 32 n) ↔ i.val = n := by
    rw [← BitVec.toNat_inj, BitVec.toNat_ofNat, BitVec.toNat_ofNat]; omega
  by_cases e : i.val = n
  · rw [if_pos e, h.mpr e]; simp [Scalar.select, IntOp.cmpi]
  · have e' := mt h.mp e
    rw [if_neg e]
    show (if BitVec.ofBool (BitVec.ofNat 32 i.val == BitVec.ofNat 32 n) = 1#1 then a else b) = b
    rw [beq_eq_false_iff_ne.mpr e']
    rfl

/-- The convolution's input, and the cotangent gated. -/
abbrev inp (cc cx : FVec Ideal S1x2048x512 .f32) (k : Fin 512) (i : Fin 2048) : EReal := cc (ix3 0 i k) * cx (ix3 0 i k)
abbrev gat (cb d : FVec Ideal S1x2048x512 .f32) (k : Fin 512) (i : Fin 2048) : EReal := d (ix3 0 i k) * cb (ix3 0 i k)
/-- The convolution, and its transpose. -/
abbrev taps (u : Fin 2048 → EReal) (a b e : EReal) (i : Fin 2048) : EReal := bef (fun r => u r * a) i + u i * b + aft (fun r => u r * e) i
abbrev back (g : Fin 2048 → EReal) (a b e : EReal) (i : Fin 2048) : EReal := aft (fun r => a * g r) i + b * g i + bef (fun r => e * g r) i
/-- The taps' gradients. -/
abbrev tapGrad (u g : Fin 2048 → EReal) (n : Fin 8) : EReal :=
  if n.val = 0 then ∑ i, bef (fun r => g i * u r) i else if n.val = 1 then ∑ i, g i * u i else if n.val = 2 then ∑ i, aft (fun r => g i * u r) i else 0

theorem pay11_at (u x a : Vec Ideal S2048x128 .f32) (w0 w1 w2 : Vec Ideal S1x128 .f32) (i : Fin 2048) (k : Fin 128) :
    k0_pay11 u x w0 w1 w2 a (ix2 i k) = a (ix2 i k) * taps (fun r => u (ix2 r k) * x (ix2 r k)) (w0 (ix2 0 k)) (w1 (ix2 0 k)) (w2 (ix2 0 k)) i := by
  pointwise [k0_pay11, k0_pay2, k0_pay3, k0_pay4, k0_pay5, k0_pay6, k0_pay7, k0_pay8, k0_pay9, k0_pay10]
  rw [sel_eq i 0 (by decide), sel_eq i 2047 (by decide)]

theorem pay15_at (x y a b : Vec Ideal S2048x128 .f32) (w0 w1 w2 : Vec Ideal S1x128 .f32) (i : Fin 2048) (k : Fin 128) :
    k0_pay15 (iota .tc S2048x128 32 [0] iota_S2048x128_d0_w32) (k0_pay3 x) (k0_pay7 w0) (k0_pay8 w1) (k0_pay9 w2) (k0_pay10 a) (k0_pay12 b) (ix2 i k)
      = back (fun r => a (ix2 r k) * b (ix2 r k)) (w0 (ix2 0 k)) (w1 (ix2 0 k)) (w2 (ix2 0 k)) i * x (ix2 i k) := by
  pointwise [k0_pay15, k0_pay14, k0_pay13, k0_pay3, k0_pay7, k0_pay8, k0_pay9, k0_pay10, k0_pay12]
  rw [sel_eq i 0 (by decide), sel_eq i 2047 (by decide)]
theorem pay16_at (x a b : Vec Ideal S2048x128 .f32) (w0 w1 w2 : Vec Ideal S1x128 .f32) (i : Fin 2048) (k : Fin 128) :
    k0_pay16 (iota .tc S2048x128 32 [0] iota_S2048x128_d0_w32) (k0_pay2 x) (k0_pay7 w0) (k0_pay8 w1) (k0_pay9 w2) (k0_pay10 a) (k0_pay12 b) (ix2 i k)
      = back (fun r => a (ix2 r k) * b (ix2 r k)) (w0 (ix2 0 k)) (w1 (ix2 0 k)) (w2 (ix2 0 k)) i * x (ix2 i k) :=
  pay15_at x x a b w0 w1 w2 i k

theorem pay18_at (u x a b : Vec Ideal S2048x128 .f32) (k : Fin 128) :
    k0_pay18 (k0_pay5 u x) (k0_pay10 a) (k0_pay12 b) (ix2 0 k)
      = ∑ i, bef (fun r => a (ix2 i k) * b (ix2 i k) * (u (ix2 r k) * x (ix2 r k))) i := by
  pointwise [k0_pay18, k0_pay13, k0_pay5, k0_pay4, k0_pay3, k0_pay2, k0_pay10, k0_pay12]
  exact Finset.sum_congr rfl fun i _ => sel_eq i 0 (by decide) _ _
theorem pay19_at (u x a b : Vec Ideal S2048x128 .f32) (k : Fin 128) :
    k0_pay19 (k0_pay4 u x) (k0_pay10 a) (k0_pay12 b) (ix2 0 k) = ∑ i, a (ix2 i k) * b (ix2 i k) * (u (ix2 i k) * x (ix2 i k)) := by
  pointwise [k0_pay19, k0_pay13, k0_pay4, k0_pay3, k0_pay2, k0_pay10, k0_pay12]
theorem pay20_at (u x a b : Vec Ideal S2048x128 .f32) (k : Fin 128) :
    k0_pay1 (k0_pay20 (k0_pay6 u x) (k0_pay10 a) (k0_pay12 b)) (ix2 0 k)
      = ∑ i, aft (fun r => a (ix2 i k) * b (ix2 i k) * (u (ix2 r k) * x (ix2 r k))) i := by
  pointwise [k0_pay1, k0_pay20, k0_pay13, k0_pay6, k0_pay4, k0_pay3, k0_pay2, k0_pay10, k0_pay12]
  exact Finset.sum_congr rfl fun i _ => sel_eq i 2047 (by decide) _ _

abbrev rowRect (n : Nat) (inb : ∀ a, (![n, 0] : Fin 2 → Nat) a + (![1, 128] : Fin 2 → Nat) a ≤ S8x128.size a) : Rect S8x128 :=
  Rect.unit ![n, 0] ![1, 128] inb
/-- One row stored over what was stored before. -/
theorem row_store (n : Nat) (inb : ∀ a, (![n, 0] : Fin 2 → Nat) a + (![1, 128] : Fin 2 → Nat) a ≤ S8x128.size a) (p : Vec Ideal S1x128 .f32)
    (L : List (View.Piece (Elt Ideal) S8x128 .f32)) (i : Fin 8) (k : Fin 128) :
    View.canon ((⟨Rect.unit ![n, 0] ![1, 128] inb, p⟩ : View.Piece (Elt Ideal) S8x128 .f32) :: L) (ix2 i k)
      = if i.val = n then p (ix2 0 k) else View.canon L (ix2 i k) := by
  by_cases h : i.val = n
  · rw [if_pos h]
    refine Eq.trans (congrArg _ ?_) (View.canon_cons_emb (Val := Elt Ideal) (e := .f32) (rowRect n inb) p L (ix2 (0 : Fin 1) k))
    show (ix2 i k : S8x128.Idx) = (rowRect n inb).emb (ix2 (0 : Fin 1) k)
    blk_ext
  · rw [if_neg h]
    refine View.canon_cons_of_not_mem _ L ?_
    show (ix2 i k : S8x128.Idx) ∉ (Rect.unit ![n, 0] ![1, 128] inb).set
    mem_blk
    intro q
    have q0 := q 0
    have : n ≤ i.val ∧ i.val < n + 1 := by simpa using q0
    omega

theorem taps_out (u x a b : Vec Ideal S2048x128 .f32) (i : Fin 8) (k : Fin 128) :
    View.canon
      [(⟨Rect.unit ![2, 0] ![1, 128] inb_S8x128_S1x128_2_0, k0_pay1 (k0_pay20 (k0_pay6 u x) (k0_pay10 a) (k0_pay12 b))⟩ : View.Piece (Elt Ideal) S8x128 .f32),
        ⟨Rect.unit ![1, 0] ![1, 128] inb_S8x128_S1x128_1_0, k0_pay19 (k0_pay4 u x) (k0_pay10 a) (k0_pay12 b)⟩,
        ⟨Rect.unit ![0, 0] ![1, 128] inb_S8x128_S1x128_0_0, k0_pay18 (k0_pay5 u x) (k0_pay10 a) (k0_pay12 b)⟩,
        ⟨Rect.unit ![0, 0] ![8, 128] inb_S8x128_S8x128_0_0, k0_pay17 (F := Ideal)⟩] (ix2 i k)
      = tapGrad (fun r => u (ix2 r k) * x (ix2 r k)) (fun r => a (ix2 r k) * b (ix2 r k)) i := by
  have hz : (k0_pay17 (F := Ideal)) (ix2 i k) = (0 : EReal) := by pointwise [k0_pay17]
  refine (row_store 2 _ _ _ i k).trans ?_
  rw [row_store 1, row_store 0, View.canon_unit_zero (funext fun a => by fin_cases a <;> rfl), hz]
  have h2 := pay20_at u x a b k
  have h1 := pay19_at u x a b k
  have h0 := pay18_at u x a b k
  unfold tapGrad
  split_ifs with p q r p q r
  all_goals first | exact h2 | exact h1 | exact h0 | rfl | omega

abbrev flat (A : FVec Ideal S1x2048x512 .f32) : FVec Ideal S2048x512 .f32 := shapeCast S2048x512 A shapeCasts_S1x2048x512_S2048x512
theorem flat_at (A : FVec Ideal S1x2048x512 .f32) (i : Fin 2048) (k : Fin 512) : flat A (ix2 i k) = A (ix3 0 i k) := by
  pointwise
abbrev stack : FVec Ideal S8x512 .f32 := concatenate S8x512 0
  [⟨S3x512, A3 m c⟩, ⟨S5x512, (broadcastInDim S5x512 ![] bcast_S_S5x512 (constant S_ .f32 0x00000000#32) : FVec Ideal S5x512 .f32)⟩] concatenates_S3x512_S5x512_S8x512_d0
theorem stack_at (n : Fin 8) (h : n.val < 3) (k : Fin 512) : stack m c (ix2 n k) = A3 m c (ix2 ⟨n.val, h⟩ k) := by
  pointwise
  rw [dif_pos h]

theorem V0 : V m c main_v2 = flat (A0 m c) := by
  dsimp only [V]; after_results; rfl
theorem V1 : V m c main_v3 = flat (A1 m c) := by
  dsimp only [V]; after_results; rfl
theorem V2 : V m c main_v4 = flat (A2 m c) := by
  dsimp only [V]; after_results; rfl
theorem V3 : V m c main_v5 = flat (A4 m c) := by
  dsimp only [V]; after_results; rfl
theorem V4 : V m c main_v1 = stack m c := by
  dsimp only [V]; after_results

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] := by decide +kernel

variable (t : Fin cfg0.N)
theorem lt4 : t.val < 4 := lt_of_lt_of_eq t.isLt N_0
abbrev col (k : Fin 128) : Fin 512 := ⟨t.val * 128 + k.val, by have := lt4 t; omega⟩
abbrev pt (k : Fin 512) : Fin cfg0.N := ⟨k.val / 128, lt_of_lt_of_eq (by omega) N_0.symm⟩
abbrev lane (k : Fin 512) : Fin 128 := ⟨k.val % 128, Nat.mod_lt _ (by decide)⟩

abbrev x0 : Vec Ideal S2048x128 .f32 := iblk m c 0 t
abbrev x1 : Vec Ideal S2048x128 .f32 := iblk m c 1 t
abbrev x2 : Vec Ideal S2048x128 .f32 := iblk m c 2 t
abbrev x3 : Vec Ideal S2048x128 .f32 := iblk m c 3 t
abbrev x4 : Vec Ideal S8x128 .f32 := iblk m c 4 t
theorem b0 (i : Fin 2048) (k : Fin 128) : x0 m c t (ix2 i k) = A0 m c (ix3 0 i (col t k)) := by
  refine Eq.trans ?_ (flat_at (A0 m c) i (col t k))
  unfold x0 iblk
  rw [show V m c (Pipeline.arrRef spec0 0) = _ from V0 m c]
  exact congrArg (flat (A0 m c)) (by blk_ext [idx t])
theorem b1 (i : Fin 2048) (k : Fin 128) : x1 m c t (ix2 i k) = A1 m c (ix3 0 i (col t k)) := by
  refine Eq.trans ?_ (flat_at (A1 m c) i (col t k))
  unfold x1 iblk
  rw [show V m c (Pipeline.arrRef spec0 1) = _ from V1 m c]
  exact congrArg (flat (A1 m c)) (by blk_ext [idx t])
theorem b2 (i : Fin 2048) (k : Fin 128) : x2 m c t (ix2 i k) = A2 m c (ix3 0 i (col t k)) := by
  refine Eq.trans ?_ (flat_at (A2 m c) i (col t k))
  unfold x2 iblk
  rw [show V m c (Pipeline.arrRef spec0 2) = _ from V2 m c]
  exact congrArg (flat (A2 m c)) (by blk_ext [idx t])
theorem b3 (i : Fin 2048) (k : Fin 128) : x3 m c t (ix2 i k) = A4 m c (ix3 0 i (col t k)) := by
  refine Eq.trans ?_ (flat_at (A4 m c) i (col t k))
  unfold x3 iblk
  rw [show V m c (Pipeline.arrRef spec0 3) = _ from V3 m c]
  exact congrArg (flat (A4 m c)) (by blk_ext [idx t])
theorem b4 (n : Fin 8) (h : n.val < 3) (k : Fin 128) : x4 m c t (ix2 n k) = A3 m c (ix2 ⟨n.val, h⟩ (col t k)) := by
  refine Eq.trans ?_ (stack_at m c n h (col t k))
  unfold x4 iblk
  rw [show V m c (Pipeline.arrRef spec0 4) = _ from V4 m c]
  exact congrArg (stack m c) (by blk_ext [idx t])
theorem tap (n : Nat) (h : n < 3) (inb : ∀ a, (![n, 0] : Fin 2 → Nat) a + (![1, 128] : Fin 2 → Nat) a ≤ S8x128.size a) (k : Fin 128) :
    (View.ld (x4 m c t) (Rect.unit (s := S8x128) ![n, 0] ![1, 128] inb) : Vec Ideal S1x128 .f32) (ix2 0 k) = A3 m c (ix2 ⟨n, h⟩ (col t k)) := by
  refine Eq.trans ?_ (b4 m c t ⟨n, by omega⟩ h k)
  exact congrArg (x4 m c t) (funext fun a => Fin.ext (by
    match a with
    | 0 => exact Nat.add_zero n
    | 1 => exact (Nat.zero_add _).trans (Nat.one_mul _)))

abbrev resCb (cb cc cx : FVec Ideal S1x2048x512 .f32) (w : FVec Ideal S3x512 .f32) (d : FVec Ideal S1x2048x512 .f32) : FVec Ideal S2048x512 .f32 := fun y =>
  d (ix3 0 (y 0) (y 1)) * taps (inp cc cx (y 1)) (w (ix2 0 (y 1))) (w (ix2 1 (y 1))) (w (ix2 2 (y 1))) (y 0)
abbrev resCc (cb cc cx : FVec Ideal S1x2048x512 .f32) (w : FVec Ideal S3x512 .f32) (d : FVec Ideal S1x2048x512 .f32) : FVec Ideal S2048x512 .f32 := fun y =>
  back (gat cb d (y 1)) (w (ix2 0 (y 1))) (w (ix2 1 (y 1))) (w (ix2 2 (y 1))) (y 0) * cx (ix3 0 (y 0) (y 1))
abbrev resCx (cb cc cx : FVec Ideal S1x2048x512 .f32) (w : FVec Ideal S3x512 .f32) (d : FVec Ideal S1x2048x512 .f32) : FVec Ideal S2048x512 .f32 := fun y =>
  back (gat cb d (y 1)) (w (ix2 0 (y 1))) (w (ix2 1 (y 1))) (w (ix2 2 (y 1))) (y 0) * cc (ix3 0 (y 0) (y 1))
abbrev resW (cb cc cx : FVec Ideal S1x2048x512 .f32) (w : FVec Ideal S3x512 .f32) (d : FVec Ideal S1x2048x512 .f32) : FVec Ideal S8x512 .f32 := fun y => tapGrad (inp cc cx (y 1)) (gat cb d (y 1)) (y 0)

theorem outCb (i : Fin 2048) (k : Fin 128) : (outsAt0 m c t).1 (ix2 i k) = resCb (A0 m c) (A1 m c) (A2 m c) (A3 m c) (A4 m c) (ix2 i (col t k)) := by
  unfold outsAt0
  dsimp only
  frame_out
  refine (pay11_at (x1 m c t) (x2 m c t) (x3 m c t) _ _ _ i k).trans ?_
  rw [tap m c t 0 (by decide), tap m c t 1 (by decide), tap m c t 2 (by decide)]
  simp only [b1, b2, b3]
  rfl
theorem outCc (i : Fin 2048) (k : Fin 128) : (outsAt0 m c t).2.1 (ix2 i k) = resCc (A0 m c) (A1 m c) (A2 m c) (A3 m c) (A4 m c) (ix2 i (col t k)) := by
  unfold outsAt0
  dsimp only
  frame_out
  refine (pay15_at (x2 m c t) (x2 m c t) (x3 m c t) (x0 m c t) _ _ _ i k).trans ?_
  rw [tap m c t 0 (by decide), tap m c t 1 (by decide), tap m c t 2 (by decide)]
  simp only [b0, b2, b3]
  rfl
theorem outCx (i : Fin 2048) (k : Fin 128) : (outsAt0 m c t).2.2.1 (ix2 i k) = resCx (A0 m c) (A1 m c) (A2 m c) (A3 m c) (A4 m c) (ix2 i (col t k)) := by
  unfold outsAt0
  dsimp only
  frame_out
  refine (pay16_at (x1 m c t) (x3 m c t) (x0 m c t) _ _ _ i k).trans ?_
  rw [tap m c t 0 (by decide), tap m c t 1 (by decide), tap m c t 2 (by decide)]
  simp only [b0, b1, b3]
  rfl
theorem outW (i : Fin 8) (k : Fin 128) : (outsAt0 m c t).2.2.2 (ix2 i k) = resW (A0 m c) (A1 m c) (A2 m c) (A3 m c) (A4 m c) (ix2 i (col t k)) := by
  unfold outsAt0
  dsimp only
  frame_out
  refine (taps_out (x1 m c t) (x2 m c t) (x3 m c t) (x0 m c t) i k).trans ?_
  rw [show (fun r => x1 m c t (ix2 r k) * x2 m c t (ix2 r k)) = inp (A1 m c) (A2 m c) (col t k) from funext fun r => by rw [b1, b2],
    show (fun r => x3 m c t (ix2 r k) * x0 m c t (ix2 r k)) = gat (A0 m c) (A4 m c) (col t k) from funext fun r => by rw [b3, b0]]
  rfl

theorem flushedCb : (dats m 0 c).flushed 5 t = ((cfg0.win 5).blk t).view.read (Elt Ideal) (resCb (A0 m c) (A1 m c) (A2 m c) (A3 m c) (A4 m c)) := by
  rw [Value.flushed5]
  funext y
  obtain ⟨i, k, rfl⟩ : ∃ (i : Fin 2048) (k : Fin 128), y = ix2 i k := split2 y
  show (outsAt0 m c t).1 (ix2 i k) = resCb (A0 m c) (A1 m c) (A2 m c) (A3 m c) (A4 m c) (((cfg0.win 5).blk t).view.emb (ix2 i k))
  rw [show (((cfg0.win 5).blk t).view.emb (ix2 i k) : S2048x512.Idx) = ix2 i (col t k) from by blk_ext [idx t], outCb]

theorem coverCb (y : S2048x512.Idx) : ∃ t : Fin cfg0.N, (cfg0.win 5).flush t = true ∧ y ∈ ((cfg0.win 5).blk t).view.set := by
  obtain ⟨i, k, rfl⟩ := split2 y
  have e : (ix2 i k : S2048x512.Idx) = ((cfg0.win 5).blk (pt k)).view.emb (ix2 i (lane k)) := by blk_ext [idx (pt k)]
  refine ⟨pt k, flush0_5 _, ?_⟩
  rw [e]
  exact View.emb_mem_set _ _

theorem flushedCc : (dats m 0 c).flushed 6 t = ((cfg0.win 6).blk t).view.read (Elt Ideal) (resCc (A0 m c) (A1 m c) (A2 m c) (A3 m c) (A4 m c)) := by
  rw [Value.flushed6]
  funext y
  obtain ⟨i, k, rfl⟩ : ∃ (i : Fin 2048) (k : Fin 128), y = ix2 i k := split2 y
  show (outsAt0 m c t).2.1 (ix2 i k) = resCc (A0 m c) (A1 m c) (A2 m c) (A3 m c) (A4 m c) (((cfg0.win 6).blk t).view.emb (ix2 i k))
  rw [show (((cfg0.win 6).blk t).view.emb (ix2 i k) : S2048x512.Idx) = ix2 i (col t k) from by blk_ext [idx t], outCc]

theorem coverCc (y : S2048x512.Idx) : ∃ t : Fin cfg0.N, (cfg0.win 6).flush t = true ∧ y ∈ ((cfg0.win 6).blk t).view.set := by
  obtain ⟨i, k, rfl⟩ := split2 y
  have e : (ix2 i k : S2048x512.Idx) = ((cfg0.win 6).blk (pt k)).view.emb (ix2 i (lane k)) := by blk_ext [idx (pt k)]
  refine ⟨pt k, flush0_6 _, ?_⟩
  rw [e]
  exact View.emb_mem_set _ _

theorem flushedCx : (dats m 0 c).flushed 7 t = ((cfg0.win 7).blk t).view.read (Elt Ideal) (resCx (A0 m c) (A1 m c) (A2 m c) (A3 m c) (A4 m c)) := by
  rw [Value.flushed7]
  funext y
  obtain ⟨i, k, rfl⟩ : ∃ (i : Fin 2048) (k : Fin 128), y = ix2 i k := split2 y
  show (outsAt0 m c t).2.2.1 (ix2 i k) = resCx (A0 m c) (A1 m c) (A2 m c) (A3 m c) (A4 m c) (((cfg0.win 7).blk t).view.emb (ix2 i k))
  rw [show (((cfg0.win 7).blk t).view.emb (ix2 i k) : S2048x512.Idx) = ix2 i (col t k) from by blk_ext [idx t], outCx]

theorem coverCx (y : S2048x512.Idx) : ∃ t : Fin cfg0.N, (cfg0.win 7).flush t = true ∧ y ∈ ((cfg0.win 7).blk t).view.set := by
  obtain ⟨i, k, rfl⟩ := split2 y
  have e : (ix2 i k : S2048x512.Idx) = ((cfg0.win 7).blk (pt k)).view.emb (ix2 i (lane k)) := by blk_ext [idx (pt k)]
  refine ⟨pt k, flush0_7 _, ?_⟩
  rw [e]
  exact View.emb_mem_set _ _

theorem flushedW : (dats m 0 c).flushed 8 t = ((cfg0.win 8).blk t).view.read (Elt Ideal) (resW (A0 m c) (A1 m c) (A2 m c) (A3 m c) (A4 m c)) := by
  rw [Value.flushed8]
  funext y
  obtain ⟨i, k, rfl⟩ : ∃ (i : Fin 8) (k : Fin 128), y = ix2 i k := split2 y
  show (outsAt0 m c t).2.2.2 (ix2 i k) = resW (A0 m c) (A1 m c) (A2 m c) (A3 m c) (A4 m c) (((cfg0.win 8).blk t).view.emb (ix2 i k))
  rw [show (((cfg0.win 8).blk t).view.emb (ix2 i k) : S8x512.Idx) = ix2 i (col t k) from by blk_ext [idx t], outW]

theorem coverW (y : S8x512.Idx) : ∃ t : Fin cfg0.N, (cfg0.win 8).flush t = true ∧ y ∈ ((cfg0.win 8).blk t).view.set := by
  obtain ⟨i, k, rfl⟩ := split2 y
  have e : (ix2 i k : S8x512.Idx) = ((cfg0.win 8).blk (pt k)).view.emb (ix2 i (lane k)) := by blk_ext [idx (pt k)]
  refine ⟨pt k, flush0_8 _, ?_⟩
  rw [e]
  exact View.emb_mem_set _ _

end Cert.ConvIdeal.Proof

namespace Cert.ConvRefIdeal.Proof

open Cert.Base Idealize.ShloMosaic Idealize.ShloMosaic.TcCoe Idealize.SL.Sem Cert.ConvIdeal.Proof

section
open Cert.ConvRefIdeal Cert.ConvRefIdeal.Gen
abbrev zero : FVec Ideal S_ .f32 := constant S_ .f32 0x00000000#32
abbrev zrow : FVec Ideal S1x1x512 .f32 := broadcastInDim S1x1x512 ![] bcast_S_S1x1x512 zero

/-- The sum of three padded copies, without its first and last row. -/
theorem bef_mul (f : Fin 2048 → EReal) (a : EReal) (i : Fin 2048) : bef f i * a = bef (fun r => f r * a) i := by
  unfold bef; split_ifs
  · exact zero_mul a
  · rfl
theorem aft_mul (f : Fin 2048 → EReal) (a : EReal) (i : Fin 2048) : aft f i * a = aft (fun r => f r * a) i := by
  unfold aft; split_ifs
  · exact zero_mul a
  · rfl

theorem unpad (p q r : FVec Ideal S1x2048x512 .f32) (i : Fin 2048) (k : Fin 512) :
    extractStridedSlice S1x2048x512 ![0, 1, 0] (addf (addf
        (pad S1x2050x512 ![0, 2, 0] ![0, 0, 0] ![0, 0, 0] p zero pads_S1x2048x512_S1x2050x512_000_200_000 h_S_)
        (pad S1x2050x512 ![0, 1, 0] ![0, 1, 0] ![0, 0, 0] q zero pads_S1x2048x512_S1x2050x512_000_110_000 h_S_))
        (pad S1x2050x512 ![0, 0, 0] ![0, 2, 0] ![0, 0, 0] r zero pads_S1x2048x512_S1x2050x512_000_020_000 h_S_))
      slices_S1x2050x512_S1x2048x512_0_1_0 (ix3 0 i k)
      = bef (fun n => p (ix3 0 n k)) i + q (ix3 0 i k) + aft (fun n => r (ix3 0 n k)) i := by
  pointwise
  have hi := i.isLt
  refine congrArg₂ (· + ·) (congrArg (· + _) ?_) ?_
  · unfold bef
    split_ifs
    all_goals first | rfl | omega | exact congrArg (fun n => p (ix3 0 n k)) (Fin.ext (by show _ = (i.val + 2048 - 1) % 2048; dsimp only; omega))
  · unfold aft
    split_ifs
    all_goals first | rfl | omega | exact congrArg (fun n => r (ix3 0 n k)) (Fin.ext (by show _ = (i.val + 2048 - 2047) % 2048; dsimp only; omega))

abbrev tapRow (n : Nat) (h : S3x512.Slices ![n, 0] S1x512) (w : FVec Ideal S3x512 .f32) : FVec Ideal S1x2048x512 .f32 :=
  broadcastInDim S1x2048x512 ![0, 1, 2] bcast_S1x1x512_S1x2048x512_0_1_2 (broadcastInDim S1x1x512 ![2] bcast_S512_S1x1x512_2
    (shapeCast S512 (extractStridedSlice S1x512 ![n, 0] w h) shapeCasts_S1x512_S512))
theorem tap0 (w : FVec Ideal S3x512 .f32) (i : Fin 2048) (k : Fin 512) : tapRow 0 slices_S3x512_S1x512_0_0 w (ix3 0 i k) = w (ix2 0 k) := by pointwise
theorem tap1 (w : FVec Ideal S3x512 .f32) (i : Fin 2048) (k : Fin 512) : tapRow 1 slices_S3x512_S1x512_1_0 w (ix3 0 i k) = w (ix2 1 k) := by pointwise
theorem tap2 (w : FVec Ideal S3x512 .f32) (i : Fin 2048) (k : Fin 512) : tapRow 2 slices_S3x512_S1x512_2_0 w (ix3 0 i k) = w (ix2 2 k) := by pointwise
/-- The transposed convolution of the gated cotangent. -/
theorem unpad_gat (a : FVec Ideal S1x2048x512 .f32) (w : FVec Ideal S3x512 .f32) (b : FVec Ideal S1x2048x512 .f32) (i : Fin 2048) (k : Fin 512) :
    extractStridedSlice S1x2048x512 ![0, 1, 0] (addf (addf
        (pad S1x2050x512 ![0, 2, 0] ![0, 0, 0] ![0, 0, 0] (mulf (mulf a b) (tapRow 2 slices_S3x512_S1x512_2_0 w)) zero pads_S1x2048x512_S1x2050x512_000_200_000 h_S_)
        (pad S1x2050x512 ![0, 1, 0] ![0, 1, 0] ![0, 0, 0] (mulf (mulf a b) (tapRow 1 slices_S3x512_S1x512_1_0 w)) zero pads_S1x2048x512_S1x2050x512_000_110_000 h_S_))
        (pad S1x2050x512 ![0, 0, 0] ![0, 2, 0] ![0, 0, 0] (mulf (mulf a b) (tapRow 0 slices_S3x512_S1x512_0_0 w)) zero pads_S1x2048x512_S1x2050x512_000_020_000 h_S_))
      slices_S1x2050x512_S1x2048x512_0_1_0 (ix3 0 i k)
      = back (gat a b k) (w (ix2 0 k)) (w (ix2 1 k)) (w (ix2 2 k)) i := by
  have t0 : (fun r => mulf (mulf a b) (tapRow 0 slices_S3x512_S1x512_0_0 w) (ix3 0 r k)) = fun r => w (ix2 0 k) * gat a b k r := funext fun r =>
    (congrArg (a (ix3 0 r k) * b (ix3 0 r k) * ·) (tap0 w r k)).trans ((mul_comm _ _).trans (congrArg _ (mul_comm _ _)))
  have t1 : mulf (mulf a b) (tapRow 1 slices_S3x512_S1x512_1_0 w) (ix3 0 i k) = w (ix2 1 k) * gat a b k i :=
    (congrArg (a (ix3 0 i k) * b (ix3 0 i k) * ·) (tap1 w i k)).trans ((mul_comm _ _).trans (congrArg _ (mul_comm _ _)))
  have t2 : (fun r => mulf (mulf a b) (tapRow 2 slices_S3x512_S1x512_2_0 w) (ix3 0 r k)) = fun r => w (ix2 2 k) * gat a b k r := funext fun r =>
    (congrArg (a (ix3 0 r k) * b (ix3 0 r k) * ·) (tap2 w r k)).trans ((mul_comm _ _).trans (congrArg _ (mul_comm _ _)))
  refine (unpad _ _ _ i k).trans ?_
  rw [t0, t1, t2]
  exact (add_comm _ _).trans ((congrArg _ (add_comm _ _)).trans (add_assoc _ _ _).symm)

abbrev wide (u : FVec Ideal S1x2048x512 .f32) : FVec Ideal S1x2050x512 .f32 :=
  concatenate S1x2050x512 1 [⟨S1x1x512, zrow⟩, ⟨S1x2048x512, u⟩, ⟨S1x1x512, zrow⟩] concatenates_S1x1x512_S1x2048x512_S1x1x512_S1x2050x512_d1
theorem wide0 (u : FVec Ideal S1x2048x512 .f32) (i : Fin 2048) (k : Fin 512) :
    extractStridedSlice S1x2048x512 ![0, 0, 0] (wide u) slices_S1x2050x512_S1x2048x512_0_0_0 (ix3 0 i k) = bef (fun n => u (ix3 0 n k)) i := by
  pointwise
  have hi := i.isLt
  unfold bef
  split_ifs
  all_goals try omega
  all_goals try rfl
  all_goals refine Eq.trans ?_ (if_neg (by omega)).symm
  all_goals refine congrArg (fun n => u (ix3 0 n k)) (Fin.ext (by show _ = (i.val + 2048 - 1) % 2048; dsimp only; omega))
theorem wide1 (u : FVec Ideal S1x2048x512 .f32) (i : Fin 2048) (k : Fin 512) :
    extractStridedSlice S1x2048x512 ![0, 1, 0] (wide u) slices_S1x2050x512_S1x2048x512_0_1_0 (ix3 0 i k) = u (ix3 0 i k) := by
  pointwise
theorem wide2 (u : FVec Ideal S1x2048x512 .f32) (i : Fin 2048) (k : Fin 512) :
    extractStridedSlice S1x2048x512 ![0, 2, 0] (wide u) slices_S1x2050x512_S1x2048x512_0_2_0 (ix3 0 i k) = aft (fun n => u (ix3 0 n k)) i := by
  pointwise
  have hi := i.isLt
  unfold aft
  split_ifs
  all_goals try omega
  all_goals try rfl
  all_goals refine Eq.trans ?_ (if_neg (by omega)).symm
  all_goals refine congrArg (fun n => u (ix3 0 n k)) (Fin.ext (by show _ = (i.val + 2048 - 2047) % 2048; dsimp only; omega))

abbrev rowSum (x : FVec Ideal S1x2048x512 .f32) : FVec Ideal S1x512 .f32 := broadcastInDim S1x512 ![1] bcast_S512_S1x512_1
  (Host.reduceAdd (shapeCast S1x1x512 (Host.reduceAdd x zero reducesTo_S1x2048x512_S1x512_d1 h_S_) shapeCasts_S1x512_S1x1x512) zero
    reducesTo_S1x1x512_S512_d0_1 h_S_)
theorem rowSum_at (x : FVec Ideal S1x2048x512 .f32) (k : Fin 512) : rowSum x (ix2 0 k) = ∑ i, x (ix3 0 i k) := by
  pointwise

theorem rows (a b e : FVec Ideal S1x512 .f32) (n : Fin 8) (k : Fin 512) :
    pad S8x512 ![0, 0] ![5, 0] ![0, 0] (addf (addf
        (pad S3x512 ![2, 0] ![0, 0] ![0, 0] e zero pads_S1x512_S3x512_200_000 h_S_)
        (pad S3x512 ![1, 0] ![1, 0] ![0, 0] b zero pads_S1x512_S3x512_110_000 h_S_))
        (pad S3x512 ![0, 0] ![2, 0] ![0, 0] a zero pads_S1x512_S3x512_020_000 h_S_))
      (sitofp .f32 (constantI S_ 32 0#32)) pads_S3x512_S8x512_050_000 h_S_ (ix2 n k)
      = if n.val = 0 then a (ix2 0 k) else if n.val = 1 then b (ix2 0 k) else if n.val = 2 then e (ix2 0 k) else 0 := by
  pointwise
  have hz : FloatOps.sitofp (F := Ideal) .f32 0#32 = (0 : EReal) := by
    show (((0#32 : BitVec 32).toInt : ℝ) : EReal) = 0
    simp
  rw [hz]
  split_ifs
  all_goals first
    | omega | rfl
    | (rw [zero_add, zero_add]; exact congrArg (fun n => a (ix2 n k)) (Subsingleton.elim _ _))
    | (rw [zero_add, add_zero]; exact congrArg (fun n => b (ix2 n k)) (Subsingleton.elim _ _))
    | (rw [add_zero, add_zero]; exact congrArg (fun n => e (ix2 n k)) (Subsingleton.elim _ _))
abbrev slice0 (u : FVec Ideal S1x2048x512 .f32) : FVec Ideal S1x2048x512 .f32 :=
  extractStridedSlice S1x2048x512 ![0, 0, 0] (wide u) slices_S1x2050x512_S1x2048x512_0_0_0
abbrev slice1 (u : FVec Ideal S1x2048x512 .f32) : FVec Ideal S1x2048x512 .f32 :=
  extractStridedSlice S1x2048x512 ![0, 1, 0] (wide u) slices_S1x2050x512_S1x2048x512_0_1_0
abbrev slice2 (u : FVec Ideal S1x2048x512 .f32) : FVec Ideal S1x2048x512 .f32 :=
  extractStridedSlice S1x2048x512 ![0, 2, 0] (wide u) slices_S1x2050x512_S1x2048x512_0_2_0

/-- The convolution. -/
theorem taps_at (cc cx : FVec Ideal S1x2048x512 .f32) (w : FVec Ideal S3x512 .f32) (i : Fin 2048) (k : Fin 512) :
    addf (addf (mulf (slice0 (mulf cc cx)) (tapRow 0 slices_S3x512_S1x512_0_0 w)) (mulf (slice1 (mulf cc cx)) (tapRow 1 slices_S3x512_S1x512_1_0 w)))
      (mulf (slice2 (mulf cc cx)) (tapRow 2 slices_S3x512_S1x512_2_0 w)) (ix3 0 i k)
      = taps (inp cc cx k) (w (ix2 0 k)) (w (ix2 1 k)) (w (ix2 2 k)) i :=
  congrArg₂ (· + ·) (congrArg₂ (· + ·) ((congrArg₂ (· * ·) (wide0 (mulf cc cx) i k) (tap0 w i k)).trans (bef_mul (inp cc cx k) _ i))
    (congrArg₂ (· * ·) (wide1 (mulf cc cx) i k) (tap1 w i k)))
    ((congrArg₂ (· * ·) (wide2 (mulf cc cx) i k) (tap2 w i k)).trans (aft_mul (inp cc cx k) _ i))

/-- The taps' gradients. -/
theorem grads (cb cc cx d : FVec Ideal S1x2048x512 .f32) (n : Fin 8) (k : Fin 512) :
    pad S8x512 ![0, 0] ![5, 0] ![0, 0] (addf (addf
        (pad S3x512 ![2, 0] ![0, 0] ![0, 0] (rowSum (mulf (slice2 (mulf cc cx)) (mulf cb d))) zero pads_S1x512_S3x512_200_000 h_S_)
        (pad S3x512 ![1, 0] ![1, 0] ![0, 0] (rowSum (mulf (slice1 (mulf cc cx)) (mulf cb d))) zero pads_S1x512_S3x512_110_000 h_S_))
        (pad S3x512 ![0, 0] ![2, 0] ![0, 0] (rowSum (mulf (slice0 (mulf cc cx)) (mulf cb d))) zero pads_S1x512_S3x512_020_000 h_S_))
      (sitofp .f32 (constantI S_ 32 0#32)) pads_S3x512_S8x512_050_000 h_S_ (ix2 n k)
      = tapGrad (inp cc cx k) (gat cb d k) n := by
  refine (rows _ _ _ n k).trans ?_
  unfold tapGrad
  have c0 : ∀ i, slice0 (mulf cc cx) (ix3 0 i k) * (cb (ix3 0 i k) * d (ix3 0 i k)) = bef (fun r => gat cb d k i * inp cc cx k r) i := fun i =>
    (congrArg₂ (· * ·) (wide0 (mulf cc cx) i k) (mul_comm _ _)).trans
      ((bef_mul (inp cc cx k) (gat cb d k i) i).trans (congrArg (bef · i) (funext fun r => mul_comm _ _)))
  have c1 : ∀ i, slice1 (mulf cc cx) (ix3 0 i k) * (cb (ix3 0 i k) * d (ix3 0 i k)) = gat cb d k i * inp cc cx k i := fun i =>
    (congrArg₂ (· * ·) (wide1 (mulf cc cx) i k) (mul_comm _ _)).trans (mul_comm _ _)
  have c2 : ∀ i, slice2 (mulf cc cx) (ix3 0 i k) * (cb (ix3 0 i k) * d (ix3 0 i k)) = aft (fun r => gat cb d k i * inp cc cx k r) i := fun i =>
    (congrArg₂ (· * ·) (wide2 (mulf cc cx) i k) (mul_comm _ _)).trans
      ((aft_mul (inp cc cx k) (gat cb d k i) i).trans (congrArg (aft · i) (funext fun r => mul_comm _ _)))
  exact if_congr Iff.rfl ((rowSum_at _ k).trans (Finset.sum_congr rfl fun i _ => c0 i)) (if_congr Iff.rfl
    ((rowSum_at _ k).trans (Finset.sum_congr rfl fun i _ => c1 i)) (if_congr Iff.rfl ((rowSum_at _ k).trans (Finset.sum_congr rfl fun i _ => c2 i)) rfl))
end

theorem conv : Cert.algebraic_ConvIdeal_ConvRefIdeal
    (hConvIdeal := Cert.ConvIdeal.Gen.facts) (hConvRefIdeal := Cert.ConvRefIdeal.Gen.facts) := by
  intro m g m' g' _ hargs
  refine ⟨fun c => resCb (A0 m c) (A1 m c) (A2 m c) (A3 m c) (A4 m c), fun c => resCc (A0 m c) (A1 m c) (A2 m c) (A3 m c) (A4 m c), fun c => resCx (A0 m c) (A1 m c) (A2 m c) (A3 m c) (A4 m c), fun c => resW (A0 m c) (A1 m c) (A2 m c) (A3 m c) (A4 m c), ?_, ?_⟩
  · refine (θ_run Cert.ConvIdeal.defs _ _).mono (fun r h c => ?_) (Cert.ConvIdeal.Value.run_blocks m g)
    obtain ⟨h0, h1, h2, h3, ha⟩ := h c
    exact ⟨h0.trans ((Cert.ConvIdeal.Gen.dats m 0 c).arrAt_eq_of_cover 5 _ (fun t _ => flushedCb m c t) coverCb),
      h1.trans ((Cert.ConvIdeal.Gen.dats m 0 c).arrAt_eq_of_cover 6 _ (fun t _ => flushedCc m c t) coverCc),
      h2.trans ((Cert.ConvIdeal.Gen.dats m 0 c).arrAt_eq_of_cover 7 _ (fun t _ => flushedCx m c t) coverCx),
      h3.trans ((Cert.ConvIdeal.Gen.dats m 0 c).arrAt_eq_of_cover 8 _ (fun t _ => flushedW m c t) coverW), ha⟩
  · refine (θ_run Cert.ConvRefIdeal.defs _ _).mono (fun r h c => ?_) (Cert.ConvRefIdeal.Value.run m' g')
    obtain ⟨h0, h1, h2, h3, ha⟩ := h c
    obtain ⟨e0, e1, e2, e3, e4⟩ := hargs c
    refine ⟨h0.trans ?_, h1.trans ?_, h2.trans ?_, h3.trans ?_, ha⟩ <;> clear h0 h1 h2 h3 ha h
    · rw [e1, e2, e3, e4]
      funext y
      obtain ⟨i, k, rfl⟩ : ∃ (i : Fin 2048) (k : Fin 512), y = ix2 i k := split2 y
      exact (flat_at _ i k).trans (congrArg (A4 m c (ix3 0 i k) * ·) (taps_at (A1 m c) (A2 m c) (A3 m c) i k))
    · rw [e0, e2, e3, e4]
      funext y
      obtain ⟨i, k, rfl⟩ : ∃ (i : Fin 2048) (k : Fin 512), y = ix2 i k := split2 y
      exact (flat_at _ i k).trans (congrArg (· * A2 m c (ix3 0 i k)) (unpad_gat (A0 m c) (A3 m c) (A4 m c) i k))
    · rw [e0, e1, e3, e4]
      funext y
      obtain ⟨i, k, rfl⟩ : ∃ (i : Fin 2048) (k : Fin 512), y = ix2 i k := split2 y
      exact (flat_at _ i k).trans ((congrArg (A1 m c (ix3 0 i k) * ·) (unpad_gat (A0 m c) (A3 m c) (A4 m c) i k)).trans (mul_comm _ _))
    · rw [e0, e1, e2, e4]
      funext y
      obtain ⟨n, k, rfl⟩ : ∃ (n : Fin 8) (k : Fin 512), y = ix2 n k := split2 y
      exact grads (A0 m c) (A1 m c) (A2 m c) (A4 m c) n k

/-- The reference ends with its arguments unchanged and no counter raised. -/
theorem frame : Cert.quiescent_ConvRefIdeal (hConvRefIdeal := Cert.ConvRefIdeal.Gen.facts) := fun m ρ _ =>
  (θ_run Cert.ConvRefIdeal.defs _ _).mono
    (fun r h => ⟨fun c => (h c).2.2.2.2, sem_eq_zero_of_no_sems (by decide) r.2⟩)
    (Cert.ConvRefIdeal.Value.run (F := Ideal) m ρ)

end Cert.ConvRefIdeal.Proof

end
-- ==== Proof.Rope.lean ====
/- The gradient of the rotary embedding: every half of a head's lanes gets the cotangent of its own lane and of its partner's. -/
module

public import proofs.«01_k».proof.Proof.Rows
public import proofs.«01_k».proof.Proof.Gen.RopeIdeal.Frame
public import proofs.«01_k».proof.Proof.Gen.RopeRefIdeal.Run

@[expose] public section

set_option maxRecDepth 16384

noncomputable section

namespace Cert.RopeIdeal.Proof

open Cert.RopeIdeal Cert.RopeIdeal.Gen Idealize.ShloMosaic Idealize.ShloMosaic.TcCoe Idealize.SL.Sem Cert.Base

variable (m : (ℓ : Loc nD τ sig) → Buf (Elt Ideal) ℓ) (c : Dev nD)

abbrev A1 : FVec Ideal S1x2048x32 .f32 := m ((c : Thread nD τ).loc main_arg1)
abbrev A2 : FVec Ideal S1x2048x32 .f32 := m ((c : Thread nD τ).loc main_arg2)
abbrev A3 : FVec Ideal S1x2048x6x64 .f32 := m ((c : Thread nD τ).loc main_arg3)

/-- The cotangent with the heads side by side. -/
abbrev flatD (d : FVec Ideal S1x2048x6x64 .f32) : FVec Ideal S2048x384 .f32 :=
  shapeCast S2048x384 (shapeCast S2048x6x64 d shapeCasts_S1x2048x6x64_S2048x6x64) shapeCasts_S2048x6x64_S2048x384
/-- Two half-width tables side by side, repeated for every head. -/
abbrev table (a b : FVec Ideal S2048x32 .f32) : FVec Ideal S2048x384 .f32 :=
  shapeCast S2048x384 (broadcastInDim S1x2048x6x64 ![0, 1, 2, 3] bcast_S1x2048x1x64_S1x2048x6x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x6x64_S2048x384
abbrev rows32 (x : FVec Ideal S1x2048x32 .f32) : FVec Ideal S2048x32 .f32 := shapeCast S2048x32 x shapeCasts_S1x2048x32_S2048x32
abbrev cosT (x : FVec Ideal S1x2048x32 .f32) := table (rows32 x) (rows32 x)
abbrev sinT (x : FVec Ideal S1x2048x32 .f32) := table (Host.negf (rows32 x)) (rows32 x)

theorem V9 : V m c main_v9 = cosT (A1 m c) := by simp only [V, V0, hostOps0, List.flatten_cons, List.flatten_nil, List.append_nil]; after_results; rfl
theorem V12 : V m c main_v12 = sinT (A2 m c) := by simp only [V, V0, hostOps0, List.flatten_cons, List.flatten_nil, List.append_nil]; after_results; rfl
theorem V14 : V m c main_v14 = flatD (A3 m c) := by simp only [V, V0, hostOps0, List.flatten_cons, List.flatten_nil, List.append_nil]; after_results; rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := by decide +kernel

variable (t : Fin cfg0.N)

theorem pay2_eq (g b : Vec Ideal S1024x384 .f32) : k0_pay2 g b = mulf g b := by
  funext y; obtain ⟨i, k, rfl⟩ := split2 y; pointwise [k0_pay2, k0_pay1]
theorem pay3_eq (g b : Vec Ideal S1024x384 .f32) : k0_pay3 g b = mulf g b := by
  funext y; obtain ⟨i, k, rfl⟩ := split2 y; pointwise [k0_pay3, k0_pay1]
theorem out3_eq (x0 x1 x2 : Vec Ideal S1024x384 .f32) : out0_3 (F := Ideal) x0 x1 x2 = k0_pay2 x0 x1 := by
  unfold out0_3
  rw [View.canon_unit_zero zero2, View.ld_unit_zero zero2 _ x0, View.ld_unit_zero zero2 _ x1]
theorem out4_eq (x0 x1 x2 : Vec Ideal S1024x384 .f32) : out0_4 (F := Ideal) x0 x1 x2 = k0_pay3 x0 x2 := by
  unfold out0_4
  rw [View.canon_unit_zero zero2, View.ld_unit_zero zero2 _ x0, View.ld_unit_zero zero2 _ x2]

theorem flushed3 : (dats m 0 c).flushed 3 t = ((cfg0.win 3).blk t).view.read (Elt Ideal) (mulf (flatD (A3 m c)) (cosT (A1 m c))) := by
  show (dats m 0 c).after 3 t = _
  rw [after0_3, out3_eq, pay2_eq]
  unfold iblk
  rw [show V m c (Pipeline.arrRef spec0 0) = _ from V14 m c, show V m c (Pipeline.arrRef spec0 1) = _ from V9 m c]
  rfl
theorem flushed4 : (dats m 0 c).flushed 4 t = ((cfg0.win 4).blk t).view.read (Elt Ideal) (mulf (flatD (A3 m c)) (sinT (A2 m c))) := by
  show (dats m 0 c).after 4 t = _
  rw [after0_4, out4_eq, pay3_eq]
  unfold iblk
  rw [show V m c (Pipeline.arrRef spec0 0) = _ from V14 m c, show V m c (Pipeline.arrRef spec0 2) = _ from V12 m c]
  rfl

theorem cover3 (i : S2048x384.Idx) : ∃ t : Fin cfg0.N, (cfg0.win 3).flush t = true ∧ i ∈ ((cfg0.win 3).blk t).view.set := by
  obtain ⟨r, k, rfl⟩ := split2 i
  have hN : r.val / 1024 < cfg0.N := lt_of_lt_of_eq (by omega) N_0.symm
  refine ⟨⟨r.val / 1024, hN⟩, (by decide +kernel : ∀ t : Fin cfg0.N, (cfg0.win 3).flush t = true) _, ?_⟩
  have e : (ix2 r k : S2048x384.Idx)
      = ((cfg0.win 3).blk ⟨r.val / 1024, hN⟩).view.emb (ix2 ⟨r.val % 1024, Nat.mod_lt _ (by decide)⟩ k) := by
    blk_ext [idx ⟨r.val / 1024, hN⟩]
  rw [e]
  exact View.emb_mem_set _ _
theorem cover4 (i : S2048x384.Idx) : ∃ t : Fin cfg0.N, (cfg0.win 4).flush t = true ∧ i ∈ ((cfg0.win 4).blk t).view.set := cover3 i

theorem final3 : (dats m 0 c).arrAt 3 cfg0.N = mulf (flatD (A3 m c)) (cosT (A1 m c)) :=
  (dats m 0 c).arrAt_eq_of_cover 3 _ (fun t _ => flushed3 m c t) cover3
theorem final4 : (dats m 0 c).arrAt 4 cfg0.N = mulf (flatD (A3 m c)) (sinT (A2 m c)) :=
  (dats m 0 c).arrAt_eq_of_cover 4 _ (fun t _ => flushed4 m c t) cover4

/-- The two halves of every head exchanged. -/
abbrev swap (x : FVec Ideal S2048x384 .f32) : FVec Ideal S2048x384 .f32 :=
  shapeCast S2048x384 (concatenate S2048x6x2x32 2
    [⟨S2048x6x1x32, extractStridedSlice S2048x6x1x32 ![0, 0, 1, 0] (shapeCast S2048x6x2x32 x shapeCasts_S2048x384_S2048x6x2x32) slices_S2048x6x2x32_S2048x6x1x32_0_0_1_0⟩,
     ⟨S2048x6x1x32, extractStridedSlice S2048x6x1x32 ![0, 0, 0, 0] (shapeCast S2048x6x2x32 x shapeCasts_S2048x384_S2048x6x2x32) slices_S2048x6x2x32_S2048x6x1x32_0_0_0_0⟩]
    concatenates_S2048x6x1x32_S2048x6x1x32_S2048x6x2x32_d2) shapeCasts_S2048x6x2x32_S2048x384

theorem tail : Pipeline.afterTail₀ cfgs (dats m) 0 (V0 m) [hostOps1] c main_v23
    = addf (mulf (flatD (A3 m c)) (cosT (A1 m c))) (swap (mulf (flatD (A3 m c)) (sinT (A2 m c)))) := by
  have e3 : Pipeline.withArrays spec0 c (V0 m c) (fun w => (dats m 0 c).arrAt w cfg0.N) (Proc.devRef .tc main_v15_0) = _ :=
    (Pipeline.withArrays_arr spec0 launch0.win.arr_inj c (V0 m c) (fun w => (dats m 0 c).arrAt w cfg0.N) 3).trans (final3 m c)
  have e4 : Pipeline.withArrays spec0 c (V0 m c) (fun w => (dats m 0 c).arrAt w cfg0.N) (Proc.devRef .tc main_v15_1) = _ :=
    (Pipeline.withArrays_arr spec0 launch0.win.arr_inj c (V0 m c) (fun w => (dats m 0 c).arrAt w cfg0.N) 4).trans (final4 m c)
  unfold Pipeline.afterTail₀
  rw [← e3, ← e4]
  show StableHlo.after _ (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil]
  after_results
  rfl

/-- The program ends with the cotangent rotated back, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v23) = addf (mulf (flatD (A3 m c)) (cosT (A1 m c))) (swap (mulf (flatD (A3 m c)) (sinT (A2 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v23 (Pipeline.mem_restRefs_of main_v23 (by decide) (by decide))).trans (tail m c), h.2 c⟩)
    (θ_run_and (run_main m ρ) (unchanged m ρ))

end Cert.RopeIdeal.Proof

namespace Cert.RopeRefIdeal.Proof

open Cert.Base Idealize.ShloMosaic Idealize.ShloMosaic.TcCoe Idealize.SL.Sem Cert.RopeIdeal.Proof

theorem rope : Cert.algebraic_RopeIdeal_RopeRefIdeal
    (hRopeIdeal := Cert.RopeIdeal.Gen.facts) (hRopeRefIdeal := Cert.RopeRefIdeal.Gen.facts) := by
  intro m g m' g' _ hargs
  refine ⟨fun c => addf (mulf (flatD (A3 m c)) (cosT (A1 m c))) (swap (mulf (flatD (A3 m c)) (sinT (A2 m c)))), ?_, ?_⟩
  · exact Cert.RopeIdeal.Proof.run m g
  · refine (θ_run Cert.RopeRefIdeal.defs _ _).mono (fun r h c => ?_) (Cert.RopeRefIdeal.Value.run m' g')
    obtain ⟨h5, ha⟩ := h c
    obtain ⟨e0, e1, e2, e3⟩ := hargs c
    refine ⟨h5.trans ?_, ha⟩
    beta_reduce
    obtain ⟨a, ha⟩ : ∃ a, a = A1 m c := ⟨_, rfl⟩
    obtain ⟨b, hb⟩ : ∃ b, b = A2 m c := ⟨_, rfl⟩
    obtain ⟨d, hd⟩ : ∃ d, d = A3 m c := ⟨_, rfl⟩
    rw [e1.trans ha.symm, e2.trans hb.symm, e3.trans hd.symm, ← ha, ← hb, ← hd]
    funext y
    obtain ⟨i, k, rfl⟩ : ∃ (i : Fin 2048) (k : Fin 384), y = ix2 i k := split2 y
    pointwise
    by_cases hk : k.val % 64 < 32
    · have q1 : (k.val / 64 * 64 + (1 + k.val / 32 % 2) * 32 + k.val % 32) / 64 = k.val / 64 := by omega
      have q2 : (k.val / 64 * 64 + (1 + k.val / 32 % 2) * 32 + k.val % 32) % 64 = 32 + k.val % 64 := by omega
      have q3 : 32 + k.val % 64 - 32 = k.val % 64 := by omega
      have h2 : k.val / 32 % 2 < 1 := by omega
      have h3 : ¬ 32 + k.val % 64 < 32 := by omega
      simp only [q1, q2, hk, h2, h3, q3, ↓reduceDIte]
      exact add_comm _ _
    · have q1 : (k.val / 64 * 64 + (k.val / 32 % 2 - 1) * 32 + k.val % 32) / 64 = k.val / 64 := by omega
      have q2 : (k.val / 64 * 64 + (k.val / 32 % 2 - 1) * 32 + k.val % 32) % 64 = k.val % 64 - 32 := by omega
      have q3 : 32 + (k.val % 64 - 32) = k.val % 64 := by omega
      have h2 : ¬ k.val / 32 % 2 < 1 := by omega
      have h3 : k.val % 64 - 32 < 32 := by omega
      simp only [q1, q2, hk, h2, h3, q3, ↓reduceDIte, neg_mul, mul_neg]

/-- The reference ends with its arguments unchanged and no counter raised. -/
theorem frame : Cert.quiescent_RopeRefIdeal (hRopeRefIdeal := Cert.RopeRefIdeal.Gen.facts) := fun m ρ _ =>
  (θ_run Cert.RopeRefIdeal.defs _ _).mono
    (fun r h => ⟨fun c => (h c).2, sem_eq_zero_of_no_sems (by decide) r.2⟩)
    (Cert.RopeRefIdeal.Value.run (F := Ideal) m ρ)

end Cert.RopeRefIdeal.Proof

end
-- ==== Proof.AttnFwd.lean ====
/- Attention forward: per head and block of queries the kernel takes the scores of all keys, the row's greatest, the
   exponentials and their sum, and returns the weighted values and the logarithm of the sum. Over the real numbers both
   results lose the shift by the greatest score. -/
module

public import proofs.«01_k».proof.Proof.Attn
public import proofs.«01_k».proof.Proof.Gen.AttnFwdIdeal.Value
public import proofs.«01_k».proof.Proof.Gen.AttnFwdRefIdeal.Run
public import proofs.«01_k».proof.Proof.Gen.Pre_attnfwd_finite

@[expose] public section

set_option maxRecDepth 16384

noncomputable section

namespace Cert.AttnMath

open Idealize.ShloMosaic Cert.Base

/-- The logarithm of the sum of a row's exponentials. -/
def lse (A : Args) (h : Fin 6) (i : Fin 2048) : ℝ := Real.log (∑ k, Real.exp (x A h i k))

theorem lse_shift (A : Args) (h : Fin 6) (i : Fin 2048) (M : ℝ) :
    M + Real.log (∑ k, Real.exp (x A h i k - M)) = lse A h i := by
  simp only [Real.exp_sub]
  rw [← Finset.sum_div, Real.log_div (sum_exp_pos (by decide) (x A h i)).ne' (Real.exp_pos M).ne', Real.log_exp, lse]
  ring

theorem fold_max_real {n : ℕ} (k₀ : Fin n) (f : Fin n → EReal) (hf : ∀ k, ∃ r : ℝ, f k = r) :
    ∃ M : ℝ, Finset.univ.fold max (Ideal.ofBits .f32 0xFF800000#32) f = (M : EReal) := by
  rw [ofBits_inf_neg]
  have hsup : Finset.univ.fold max (⊥ : EReal) f = Finset.univ.sup f := rfl
  obtain ⟨k, _, he⟩ := Finset.exists_mem_eq_sup Finset.univ ⟨k₀, Finset.mem_univ _⟩ f
  obtain ⟨r, hr⟩ := hf k
  exact ⟨r, (hsup.trans he).trans hr⟩

end Cert.AttnMath

namespace Cert.AttnFwdIdeal.Proof

open Cert.AttnFwdIdeal Cert.AttnFwdIdeal.Gen Idealize.ShloMosaic Idealize.ShloMosaic.TcCoe Idealize.SL.Sem
open Idealize.ShloMosaic.StableHlo Cert.Base Cert.AttnMath
open Cert.AttnRefIdeal.Proof (Holds)
open Cert.AttnIdeal.Proof (kQn kQr kKv kKr kQn_at kQr_at kK_at kV_at kKr_at col col_eta split2 of_real)

/-- The five blocks a point reads hold the queries `row i` of head `h`, and the keys and values of that head. -/
structure Blk (A : Args) (h : Fin 6) (row : Fin 256 → Fin 2048) (x0 x1 : Vec Ideal S256x128 .bf16) (x2 x3 x4 : Vec Ideal S2048x128 .bf16) : Prop where
  q : ∀ i d, x0 (ix2 i d) = (A.qn (row i) h d : ℝ)
  r : ∀ i d, x1 (ix2 i d) = (pad64 (A.qr (row i) h) d : ℝ)
  k : ∀ j d, x2 (ix2 j d) = (A.kn j h d : ℝ)
  v : ∀ j d, x3 (ix2 j d) = (A.v j h d : ℝ)
  s : ∀ j d, x4 (ix2 j d) = (pad64 (A.kr j) d : ℝ)

section
variable {A : Args} {h : Fin 6} {row : Fin 256 → Fin 2048} {x0 x1 : Vec Ideal S256x128 .bf16} {x2 x3 x4 : Vec Ideal S2048x128 .bf16}

theorem pay1_at (B : Blk A h row x0 x1 x2 x3 x4) (i : Fin 256) (j : Fin 2048) : k0_pay1 x0 x1 x2 x4 (ix2 i j) = (x A h (row i) j : ℝ) := by
  pointwise [k0_pay1]
  simp only [B.q, B.k, B.r, B.s, kappa, ← EReal.coe_mul, coe_sum, ← EReal.coe_add]
  rw [sum_pad64]
  simp only [x, mul_comm (A.kr _ _)]

theorem pay2_real (B : Blk A h row x0 x1 x2 x3 x4) (i : Fin 256) : ∃ M : ℝ, k0_pay2 x0 x1 x2 x4 (ix2 i 0) = M := by
  have hs : ∀ j, ∃ r : ℝ, k0_pay1 x0 x1 x2 x4 (ix2 i j) = r := fun j => ⟨_, pay1_at B i j⟩
  unfold k0_pay2
  generalize k0_pay1 x0 x1 x2 x4 = s at hs
  pointwise
  exact fold_max_real 0 _ hs

theorem pay3_at (B : Blk A h row x0 x1 x2 x3 x4) {i : Fin 256} {M : ℝ} (hM : k0_pay2 x0 x1 x2 x4 (ix2 i 0) = M) (j : Fin 2048) :
    k0_pay3 x0 x1 x2 x4 (ix2 i j) = (Real.exp (x A h (row i) j - M) : ℝ) := by
  pointwise [k0_pay3]
  rw [pay1_at B, hM, ← EReal.coe_sub, exp_coe]

theorem pay4_at (B : Blk A h row x0 x1 x2 x3 x4) {i : Fin 256} {M : ℝ} (hM : k0_pay2 x0 x1 x2 x4 (ix2 i 0) = M) :
    k0_pay4 x0 x1 x2 x4 (ix2 i 0) = (∑ k, Real.exp (x A h (row i) k - M) : ℝ) := by
  pointwise [k0_pay4]
  simp only [pay3_at B hM, coe_sum]

theorem pay5_at (B : Blk A h row x0 x1 x2 x3 x4) (i : Fin 256) (d : Fin 128) :
    k0_pay5 x0 x1 x2 x4 x3 (ix2 i d) = (o A (row i) h d : ℝ) := by
  obtain ⟨M, hM⟩ := pay2_real B i
  have hS := (sum_exp_pos (by decide) fun k => x A h (row i) k - M).ne'
  pointwise [k0_pay5]
  simp only [pay3_at B hM, pay4_at B hM, B.v]
  rw [← EReal.coe_one, div_coe _ hS]
  simp only [← EReal.coe_mul, coe_sum]
  refine congrArg _ (Finset.sum_congr rfl fun j _ => ?_)
  rw [mul_one_div, softmax_shift, mul_comm]
  rfl

theorem pay6_at (B : Blk A h row x0 x1 x2 x3 x4) (i : Fin 256) : k0_pay6 x0 x1 x2 x4 (ix3 0 i 0) = (lse A h (row i) : ℝ) := by
  obtain ⟨M, hM⟩ := pay2_real B i
  pointwise [k0_pay6]
  rw [pay4_at B hM, hM, log_coe _ (sum_exp_pos (by decide) fun k => x A h (row i) k - M), ← EReal.coe_add, lse_shift]
end

theorem out5_eq (x0 x1 : Vec Ideal S256x128 .bf16) (x2 x3 x4 : Vec Ideal S2048x128 .bf16) :
    out0_5 x0 x1 x2 x3 x4 = k0_pay5 x0 x1 x2 x4 x3 := by
  unfold out0_5
  rw [View.canon_unit_zero zero2, View.ld_unit_zero zero2 _ x0, View.ld_unit_zero zero2 _ x1, View.ld_unit_zero zero2 _ x2,
    View.ld_unit_zero zero2 _ x3, View.ld_unit_zero zero2 _ x4]
theorem out6_eq (x0 x1 : Vec Ideal S256x128 .bf16) (x2 x3 x4 : Vec Ideal S2048x128 .bf16) :
    out0_6 x0 x1 x2 x3 x4 = k0_pay6 x0 x1 x2 x4 := by
  unfold out0_6
  rw [View.canon_unit_zero zero3, View.ld_unit_zero zero2 _ x0, View.ld_unit_zero zero2 _ x1, View.ld_unit_zero zero2 _ x2,
    View.ld_unit_zero zero2 _ x4]

variable (m : (ℓ : Loc nD τ sig) → Buf (Elt Ideal) ℓ)

abbrev A0 (c : Dev nD) : FVec Ideal S1x2048x6x128 .f32 := m ((c : Thread nD τ).loc main_arg0)
abbrev A1 (c : Dev nD) : FVec Ideal S1x2048x6x64 .f32 := m ((c : Thread nD τ).loc main_arg1)
abbrev A2 (c : Dev nD) : FVec Ideal S1x2048x6x128 .f32 := m ((c : Thread nD τ).loc main_arg2)
abbrev A3 (c : Dev nD) : FVec Ideal S1x2048x64 .f32 := m ((c : Thread nD τ).loc main_arg3)
abbrev A4 (c : Dev nD) : FVec Ideal S1x2048x6x128 .f32 := m ((c : Thread nD τ).loc main_arg4)

theorem V0 (c : Dev nD) : V m c main_v1 = kQn (A0 m c) := by
  simp only [V, List.flatten_cons, List.flatten_nil, List.cons_append, List.nil_append, List.append_nil, TRef.binary, TRef.unary,
    TRef.toBuf, TRef.ofBuf, cast_eq]
  after_results
  rfl
theorem V1 (c : Dev nD) : V m c main_v6 = kQr (A1 m c) := by
  simp only [V, List.flatten_cons, List.flatten_nil, List.cons_append, List.nil_append, List.append_nil, TRef.binary, TRef.unary,
    TRef.toBuf, TRef.ofBuf, cast_eq]
  after_results
  rfl
theorem V2 (c : Dev nD) : V m c main_v9 = kKv (A2 m c) (A4 m c) := by
  simp only [V, List.flatten_cons, List.flatten_nil, List.cons_append, List.nil_append, List.append_nil, TRef.binary, TRef.unary,
    TRef.toBuf, TRef.ofBuf, cast_eq]
  after_results
  rfl
theorem V4 (c : Dev nD) : V m c main_v14 = kKr (A3 m c) := by
  simp only [V, List.flatten_cons, List.flatten_nil, List.cons_append, List.nil_append, List.append_nil, TRef.binary, TRef.unary,
    TRef.toBuf, TRef.ofBuf, cast_eq]
  after_results
  rfl

/-- The point `t` serves head `t / 8` and query block `t % 8`. -/
theorem idx : ∀ t : Fin cfg0.N, win0_0.index t = ![t.val % 8, t.val / 8] ∧ win0_1.index t = ![t.val % 8, t.val / 8]
    ∧ win0_2.index t = ![0, 2 * (t.val / 8)] ∧ win0_3.index t = ![0, 2 * (t.val / 8) + 1] ∧ win0_4.index t = ![0, 0]
    ∧ win0_5.index t = ![t.val % 8, t.val / 8] ∧ win0_6.index t = ![t.val / 8, t.val % 8, 0] := by decide +kernel

theorem lt48 (t : Fin cfg0.N) : t.val < 48 := lt_of_lt_of_eq t.isLt N_0

abbrev hd (t : Fin cfg0.N) : Fin 6 := ⟨t.val / 8, by have := lt48 t; omega⟩
abbrev qrow (t : Fin cfg0.N) (i : Fin 256) : Fin 2048 := ⟨t.val % 8 * 256 + i.val, by omega⟩

section
variable (c : Dev nD) (t : Fin cfg0.N)

abbrev y0 : Vec Ideal S256x128 .bf16 := iblk m c 0 t
abbrev y1 : Vec Ideal S256x128 .bf16 := iblk m c 1 t
abbrev y2 : Vec Ideal S2048x128 .bf16 := iblk m c 2 t
abbrev y3 : Vec Ideal S2048x128 .bf16 := iblk m c 3 t
abbrev y4 : Vec Ideal S2048x128 .bf16 := iblk m c 4 t

variable {m c}

theorem b0 {X : FVec Ideal S2048x768 .bf16} (hX : V m c main_v1 = X) (i : Fin 256) (d : Fin 128) :
    iblk m c 0 t (ix2 i d) = X (ix2 (qrow t i) ⟨(hd t).val * 128 + d.val, by omega⟩) := by
  unfold iblk
  rw [show V m c (Pipeline.arrRef spec0 0) = X from hX]
  exact congrArg X (by blk_ext [idx t])
theorem b1 {X : FVec Ideal S2048x768 .bf16} (hX : V m c main_v6 = X) (i : Fin 256) (d : Fin 128) :
    iblk m c 1 t (ix2 i d) = X (ix2 (qrow t i) ⟨(hd t).val * 128 + d.val, by omega⟩) := by
  unfold iblk
  rw [show V m c (Pipeline.arrRef spec0 1) = X from hX]
  exact congrArg X (by blk_ext [idx t])
theorem b2 {X : FVec Ideal S2048x1536 .bf16} (hX : V m c main_v9 = X) (j : Fin 2048) (d : Fin 128) :
    iblk m c 2 t (ix2 j d) = X (ix2 j ⟨(hd t).val * 256 + d.val, by omega⟩) := by
  unfold iblk
  rw [show V m c (Pipeline.arrRef spec0 2) = X from hX]
  exact congrArg X (by blk_ext [idx t])
theorem b3 {X : FVec Ideal S2048x1536 .bf16} (hX : V m c main_v9 = X) (j : Fin 2048) (d : Fin 128) :
    iblk m c 3 t (ix2 j d) = X (ix2 j ⟨(hd t).val * 256 + (128 + d.val), by omega⟩) := by
  unfold iblk
  rw [show V m c (Pipeline.arrRef spec0 3) = X from hX]
  exact congrArg X (by blk_ext [idx t])
theorem b4 {X : FVec Ideal S2048x128 .bf16} (hX : V m c main_v14 = X) (j : Fin 2048) (d : Fin 128) :
    iblk m c 4 t (ix2 j d) = X (ix2 j d) := by
  unfold iblk
  rw [show V m c (Pipeline.arrRef spec0 4) = X from hX]
  exact congrArg X (by blk_ext [idx t])

variable {A : Args} (H : Holds (A0 m c) (A1 m c) (A2 m c) (A3 m c) (A4 m c) (A4 m c) A)
include H

theorem blk : Blk A (hd t) (qrow t) (y0 m c t) (y1 m c t) (y2 m c t) (y3 m c t) (y4 m c t) where
  q i d := (b0 t (V0 m c) i d).trans ((kQn_at _ _ _ _).trans (H.h0 _ _ _))
  r i d := (b1 t (V1 m c) i d).trans (kQr_at _ _ _ _ _ fun r => H.h1 _ _ r)
  k j d := (b2 t (V2 m c) j d).trans ((kK_at _ _ _ _ _).trans (H.h2 _ _ _))
  v j d := (b3 t (V2 m c) j d).trans ((kV_at _ _ _ _ _).trans (H.h4 _ _ _))
  s j d := (b4 t (V4 m c) j d).trans (kKr_at _ _ _ _ fun r => H.h3 _ r)

omit H
abbrev resO (A : Args) : FVec Ideal S2048x768 .f32 := fun y =>
  (o A (y 0) ⟨(y 1).val / 128, by have : (y 1).val < 768 := (y 1).isLt; omega⟩ ⟨(y 1).val % 128, Nat.mod_lt _ (by decide)⟩ : ℝ)
abbrev resL (A : Args) : FVec Ideal S6x2048x1 .f32 := fun y => (lse A (y 0) (y 1) : ℝ)

theorem resO_at (A : Args) (i : Fin 2048) (h : Fin 6) (d : Fin 128) : resO A (ix2 i (col h d)) = (o A i h d : ℝ) := by
  have e1 : (⟨(h.val * 128 + d.val) / 128, by omega⟩ : Fin 6) = h := Fin.ext (by show (h.val * 128 + d.val) / 128 = h.val; omega)
  have e2 : (⟨(h.val * 128 + d.val) % 128, Nat.mod_lt _ (by decide)⟩ : Fin 128) = d := Fin.ext (by show (h.val * 128 + d.val) % 128 = d.val; omega)
  show ((o A i ⟨(h.val * 128 + d.val) / 128, _⟩ ⟨(h.val * 128 + d.val) % 128, _⟩ : ℝ) : EReal) = _
  rw [e1, e2]

include H
theorem flushedO : (dats m 0 c).flushed 5 t = ((cfg0.win 5).blk t).view.read (Elt Ideal) (resO A) := by
  rw [Value.flushed5, out5_eq]
  funext y
  obtain ⟨i, d, rfl⟩ : ∃ (i : Fin 256) (d : Fin 128), y = ix2 i d := split2 y
  show k0_pay5 (y0 m c t) (y1 m c t) (y2 m c t) (y4 m c t) (y3 m c t) (ix2 i d) = resO A (((cfg0.win 5).blk t).view.emb (ix2 i d))
  rw [show (((cfg0.win 5).blk t).view.emb (ix2 i d) : S2048x768.Idx) = ix2 (qrow t i) (col (hd t) d) from by blk_ext [idx t], resO_at]
  exact pay5_at (blk t H) i d

theorem flushedL : (dats m 0 c).flushed 6 t = ((cfg0.win 6).blk t).view.read (Elt Ideal) (resL A) := by
  rw [Value.flushed6, out6_eq]
  funext y
  obtain ⟨i, rfl⟩ : ∃ (i : Fin 256), y = ix3 0 i 0 := ⟨y 1, funext fun a => match a with
    | ⟨0, _⟩ => Subsingleton.elim (α := Fin 1) _ _ | ⟨1, _⟩ => rfl | ⟨2, _⟩ => Subsingleton.elim (α := Fin 1) _ _⟩
  show k0_pay6 (y0 m c t) (y1 m c t) (y2 m c t) (y4 m c t) (ix3 0 i 0) = resL A (((cfg0.win 6).blk t).view.emb (ix3 0 i 0))
  rw [show (((cfg0.win 6).blk t).view.emb (ix3 0 i 0) : S6x2048x1.Idx) = ix3 (hd t) (qrow t i) 0 from by blk_ext [idx t]]
  exact pay6_at (blk t H) i
end

theorem pt {h r : ℕ} (hh : h < 6) (hr : r < 2048) : ∃ t : Fin cfg0.N, t.val = 8 * h + r / 256 :=
  ⟨⟨8 * h + r / 256, lt_of_lt_of_eq (by omega) N_0.symm⟩, rfl⟩

theorem coverO (y : S2048x768.Idx) : ∃ t : Fin cfg0.N, (cfg0.win 5).flush t = true ∧ y ∈ ((cfg0.win 5).blk t).view.set := by
  obtain ⟨r, h, d, rfl⟩ := col_eta y
  obtain ⟨t, ht⟩ := pt h.isLt r.isLt
  refine ⟨t, flush0_5 t, ?_⟩
  have e : (ix2 r (col h d) : S2048x768.Idx) = ((cfg0.win 5).blk t).view.emb (ix2 ⟨r.val % 256, Nat.mod_lt _ (by decide)⟩ d) := by
    blk_ext [idx t]
  rw [e]
  exact View.emb_mem_set _ _

theorem coverL (y : S6x2048x1.Idx) : ∃ t : Fin cfg0.N, (cfg0.win 6).flush t = true ∧ y ∈ ((cfg0.win 6).blk t).view.set := by
  obtain ⟨h, r, rfl⟩ : ∃ (h : Fin 6) (r : Fin 2048), y = ix3 h r 0 := ⟨y 0, y 1, funext fun a => match a with
    | ⟨0, _⟩ => rfl | ⟨1, _⟩ => rfl | ⟨2, _⟩ => Subsingleton.elim (α := Fin 1) _ _⟩
  obtain ⟨t, ht⟩ := pt h.isLt r.isLt
  refine ⟨t, flush0_6 t, ?_⟩
  have e : (ix3 h r 0 : S6x2048x1.Idx) = ((cfg0.win 6).blk t).view.emb (ix3 0 ⟨r.val % 256, Nat.mod_lt _ (by decide)⟩ 0) := by
    blk_ext [idx t]
  rw [e]
  exact View.emb_mem_set _ _

/-- The real arrays finite arguments hold; the forward pass has no cotangent, and its place holds the values. -/
abbrev args (c : Dev nD) : Args where
  qn i h d := EReal.toReal (A0 m c (ix4 0 i h d))
  qr i h d := EReal.toReal (A1 m c (ix4 0 i h d))
  kn i h d := EReal.toReal (A2 m c (ix4 0 i h d))
  kr i d := EReal.toReal (A3 m c (ix3 0 i d))
  v i h d := EReal.toReal (A4 m c (ix4 0 i h d))
  g i h d := EReal.toReal (A4 m c (ix4 0 i h d))

end Cert.AttnFwdIdeal.Proof

namespace Cert.AttnFwdRefIdeal.Proof

open Cert.Base Cert.AttnMath Idealize.ShloMosaic Idealize.ShloMosaic.TcCoe Idealize.SL.Sem Cert.AttnFwdIdeal.Proof
open Cert.AttnRefIdeal.Proof (Holds sc sc_at mx top ex su prb row row_of top_real prb_at)
open Cert.AttnIdeal.Proof (kO kL sums o_at l_at col col_eta of_real)

/-- The claim: from arguments that agree and are finite, both programs end with the attention output and with the logarithm of
    every row's sum. -/
theorem attn_fwd : Cert.algebraic_AttnFwdIdeal_AttnFwdRefIdeal_pre_attnfwd_finite
    (hAttnFwdIdeal := Cert.AttnFwdIdeal.Gen.facts) (hAttnFwdRefIdeal := Cert.AttnFwdRefIdeal.Gen.facts)
    (hPre_attnfwd_finite := Cert.Pre_attnfwd_finite.Gen.facts) := by
  intro m g m' g' hpre hargs
  have H : ∀ c, Holds (A0 m c) (A1 m c) (A2 m c) (A3 m c) (A4 m c) (A4 m c) (args m c) := fun c => by
    obtain ⟨p0, p1, p2, p3, p4⟩ := hpre c
    exact ⟨fun i h d => of_real (real_of_abs_lt p0 _), fun i h d => of_real (real_of_abs_lt p1 _),
      fun i h d => of_real (real_of_abs_lt p2 _), fun i d => of_real (real_of_abs_lt p3 _),
      fun i h d => of_real (real_of_abs_lt p4 _), fun i h d => of_real (real_of_abs_lt p4 _)⟩
  refine ⟨fun c => resO (args m c), fun c => resL (args m c), ?_, ?_⟩
  · refine (θ_run Cert.AttnFwdIdeal.defs _ _).mono (fun r h c => ?_) (Cert.AttnFwdIdeal.Value.run_blocks m g)
    obtain ⟨h0, h1, ha⟩ := h c
    exact ⟨h0.trans ((Cert.AttnFwdIdeal.Gen.dats m 0 c).arrAt_eq_of_cover 5 _ (fun t _ => flushedO t (H c)) coverO),
      h1.trans ((Cert.AttnFwdIdeal.Gen.dats m 0 c).arrAt_eq_of_cover 6 _ (fun t _ => flushedL t (H c)) coverL), ha⟩
  · refine (θ_run Cert.AttnFwdRefIdeal.defs _ _).mono (fun r h c => ?_) (Cert.AttnFwdRefIdeal.Value.run m' g')
    obtain ⟨h0, h1, ha⟩ := h c
    obtain ⟨e0, e1, e2, e3, e4⟩ := hargs c
    rw [e0, e1, e2, e3, e4] at h0
    rw [e0, e1, e2, e3] at h1
    have hs := sc_at (H c)
    refine ⟨h0.trans ?_, h1.trans ?_, ha⟩ <;> clear h0 h1 ha h
    · show kO (A4 m c) (prb (ex (sc (A0 m c) (A1 m c) (A2 m c) (A3 m c)) (mx (sc (A0 m c) (A1 m c) (A2 m c) (A3 m c))))
        (su (ex (sc (A0 m c) (A1 m c) (A2 m c) (A3 m c)) (mx (sc (A0 m c) (A1 m c) (A2 m c) (A3 m c)))))) = _
      generalize sc (A0 m c) (A1 m c) (A2 m c) (A3 m c) = s at hs
      funext y
      obtain ⟨i, h, d, rfl⟩ := col_eta y
      obtain ⟨M, R⟩ := row hs h i
      exact (o_at (H c).h4 (prb_at R) d).trans (resO_at _ i h d).symm
    · show kL (top (sc (A0 m c) (A1 m c) (A2 m c) (A3 m c)))
        (sums (ex (sc (A0 m c) (A1 m c) (A2 m c) (A3 m c)) (top (sc (A0 m c) (A1 m c) (A2 m c) (A3 m c))))) = _
      generalize sc (A0 m c) (A1 m c) (A2 m c) (A3 m c) = s at hs
      funext y
      obtain ⟨h, i, rfl⟩ : ∃ (h : Fin 6) (i : Fin 2048), y = ix3 h i 0 := ⟨y 0, y 1, funext fun a => match a with
        | ⟨0, _⟩ => rfl | ⟨1, _⟩ => rfl | ⟨2, _⟩ => Subsingleton.elim (α := Fin 1) _ _⟩
      obtain ⟨M, hM⟩ := top_real (fun h i j => ⟨_, hs h i j⟩) h i
      exact (l_at hM (row_of hs hM).e).trans (congrArg _ (lse_shift (args m c) h i M))

/-- The reference ends with its arguments unchanged and no counter raised. -/
theorem frame : Cert.quiescent_AttnFwdRefIdeal (hAttnFwdRefIdeal := Cert.AttnFwdRefIdeal.Gen.facts) := fun m ρ _ =>
  (θ_run Cert.AttnFwdRefIdeal.defs _ _).mono
    (fun r h => ⟨fun c => (h c).2.2, sem_eq_zero_of_no_sems (by decide) r.2⟩)
    (Cert.AttnFwdRefIdeal.Value.run (F := Ideal) m ρ)

end Cert.AttnFwdRefIdeal.Proof

end
-- ==== Proof.ModFwd.lean ====
/- The modulated norm: every row normed by its mean square, then scaled and shifted lane by lane. -/
module

public import proofs.«01_k».proof.Proof.Norm
public import proofs.«01_k».proof.Proof.Gen.ModFwdIdeal.Value
public import proofs.«01_k».proof.Proof.Gen.ModFwdRefIdeal.Run

@[expose] public section

set_option maxRecDepth 16384

noncomputable section

namespace Cert.ModFwdIdeal.Proof

open Cert.ModFwdIdeal Cert.ModFwdIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S2048 .f32 := m ((c : Thread nD τ).loc main_arg1)
abbrev A2 : FVec Ideal S1x2048 .f32 := m ((c : Thread nD τ).loc main_arg2)
abbrev A3 : FVec Ideal S1x2048 .f32 := m ((c : Thread nD τ).loc main_arg3)
abbrev flat (x : FVec Ideal S1x2048x2048 .f32) : FVec Ideal S2048x2048 .f32 := shapeCast S2048x2048 x shapeCasts_S1x2048x2048_S2048x2048
theorem flat_at (x : FVec Ideal S1x2048x2048 .f32) (i k : Fin 2048) : flat x (ix2 i k) = x (ix3 0 i k) := by
  pointwise
abbrev gain (g : FVec Ideal S2048 .f32) : FVec Ideal S1x2048 .f32 := broadcastInDim S1x2048 ![1] bcast_S2048_S1x2048_1 g
theorem gain_at (g : FVec Ideal S2048 .f32) (k : Fin 2048) : gain g (ix2 0 k) = g (ix1 k) := by
  pointwise

/-- One row normed, at one lane. -/
abbrev normed (x : Fin 2048 → EReal) (k : Fin 2048) : EReal := x k * rootInv (Ideal.ofBits .f32 0x45000000#32) (Ideal.ofBits .f32 0x358637BD#32) x
abbrev res (x : FVec Ideal S1x2048x2048 .f32) (g : FVec Ideal S2048 .f32) (s d : FVec Ideal S1x2048 .f32) : FVec Ideal S2048x2048 .bf16 :=
  fun y => normed (fun k => x (ix3 0 (y 0) k)) (y 1) * g (ix1 (y 1)) * (1 + s (ix2 0 (y 1))) + d (ix2 0 (y 1))

theorem V0 : V m c main_v0 = flat (A0 m c) := by
  dsimp only [V]; after_results; rfl
theorem V1 : V m c main_v1 = gain (A1 m c) := by
  dsimp only [V]; after_results
theorem V2 : V m c main_arg2 = A2 m c := by
  dsimp only [V]; after_results
theorem V3 : V m c main_arg3 = A3 m c := by
  dsimp only [V]; after_results
theorem idx : ∀ t : Fin cfg0.N, win0_0.index t = ![t.val, 0] ∧ win0_1.index t = ![0, 0] ∧ win0_2.index t = ![0, 0]
    ∧ win0_3.index t = ![0, 0] ∧ win0_4.index t = ![t.val, 0] := by decide +kernel

variable (t : Fin cfg0.N)
abbrev row (i : Fin 256) : Fin 2048 := ⟨t.val * 256 + i.val, by have := lt_of_lt_of_eq t.isLt N_0; omega⟩
abbrev x0 : Vec Ideal S256x2048 .f32 := iblk m c 0 t
abbrev x1 : Vec Ideal S1x2048 .f32 := iblk m c 1 t
abbrev x2 : Vec Ideal S1x2048 .f32 := iblk m c 2 t
abbrev x3 : Vec Ideal S1x2048 .f32 := iblk m c 3 t
theorem b0 (i : Fin 256) (k : Fin 2048) : x0 m c t (ix2 i k) = A0 m c (ix3 0 (row t i) k) := by
  refine Eq.trans ?_ (flat_at (A0 m c) (row t i) k)
  unfold x0 iblk
  rw [show V m c (Pipeline.arrRef spec0 0) = _ from V0 m c]
  exact congrArg (flat (A0 m c)) (by blk_ext [idx t])
theorem b1 (k : Fin 2048) : x1 m c t (ix2 0 k) = A1 m c (ix1 k) := by
  refine Eq.trans ?_ (gain_at (A1 m c) k)
  unfold x1 iblk
  rw [show V m c (Pipeline.arrRef spec0 1) = _ from V1 m c]
  show gain (A1 m c) (((cfg0.win 1).blk t).view.emb (ix2 0 k)) = _
  rw [show (((cfg0.win 1).blk t).view.emb (ix2 0 k) : S1x2048.Idx) = ix2 0 k from by blk_ext [idx t]]
theorem b2 (k : Fin 2048) : x2 m c t (ix2 0 k) = A2 m c (ix2 0 k) := by
  unfold x2 iblk
  rw [show V m c (Pipeline.arrRef spec0 2) = _ from V2 m c]
  exact congrArg (A2 m c) (by blk_ext [idx t])
theorem b3 (k : Fin 2048) : x3 m c t (ix2 0 k) = A3 m c (ix2 0 k) := by
  unfold x3 iblk
  rw [show V m c (Pipeline.arrRef spec0 3) = _ from V3 m c]
  exact congrArg (A3 m c) (by blk_ext [idx t])

theorem pay1_at (a : Vec Ideal S256x2048 .f32) (g s d : Vec Ideal S1x2048 .f32) (i : Fin 256) (k : Fin 2048) :
    k0_pay1 a g s d (ix2 i k) = normed (fun k => a (ix2 i k)) k * g (ix2 0 k) * (1 + s (ix2 0 k)) + d (ix2 0 k) := by
  pointwise [k0_pay1]
theorem out_eq (a : Vec Ideal S256x2048 .f32) (g s d : Vec Ideal S1x2048 .f32) : out0_4 (F := Ideal) a g s d = k0_pay1 a g s d := by
  unfold out0_4
  rw [View.canon_unit_zero zero2, View.ld_unit_zero zero2 _ a, View.ld_unit_zero zero2 _ g, View.ld_unit_zero zero2 _ s, View.ld_unit_zero zero2 _ d]
theorem flushed : (dats m 0 c).flushed 4 t = ((cfg0.win 4).blk t).view.read (Elt Ideal) (res (A0 m c) (A1 m c) (A2 m c) (A3 m c)) := by
  rw [Value.flushed4, out_eq]
  funext y
  obtain ⟨i, k, rfl⟩ : ∃ (i : Fin 256) (k : Fin 2048), y = ix2 i k := split2 y
  show k0_pay1 (x0 m c t) (x1 m c t) (x2 m c t) (x3 m c t) (ix2 i k)
    = res (A0 m c) (A1 m c) (A2 m c) (A3 m c) (((cfg0.win 4).blk t).view.emb (ix2 i k))
  rw [show (((cfg0.win 4).blk t).view.emb (ix2 i k) : S2048x2048.Idx) = ix2 (row t i) k from by blk_ext [idx t], pay1_at]
  simp only [b0, b1, b2, b3]
  rfl
theorem cover (i : S2048x2048.Idx) : ∃ t : Fin cfg0.N, (cfg0.win 4).flush t = true ∧ i ∈ ((cfg0.win 4).blk t).view.set := by
  obtain ⟨r, k, rfl⟩ := split2 i
  have hN : r.val / 256 < cfg0.N := lt_of_lt_of_eq (by omega) N_0.symm
  refine ⟨⟨r.val / 256, hN⟩, flush0_4 _, ?_⟩
  have e : (ix2 r k : S2048x2048.Idx)
      = ((cfg0.win 4).blk ⟨r.val / 256, hN⟩).view.emb (ix2 ⟨r.val % 256, Nat.mod_lt _ (by decide)⟩ k) := by
    blk_ext [idx ⟨r.val / 256, hN⟩]
  rw [e]
  exact View.emb_mem_set _ _
theorem final : (dats m 0 c).arrAt 4 cfg0.N = res (A0 m c) (A1 m c) (A2 m c) (A3 m c) :=
  (dats m 0 c).arrAt_eq_of_cover 4 _ (fun t _ => flushed m c t) cover

end Cert.ModFwdIdeal.Proof

namespace Cert.ModFwdRefIdeal.Proof

open Cert.Base Idealize.ShloMosaic Idealize.ShloMosaic.TcCoe Idealize.SL.Sem Cert.ModFwdIdeal.Proof

section
open Cert.ModFwdRefIdeal Cert.ModFwdRefIdeal.Gen
/-- The reciprocal root of a row's mean square, and a lane's factor, both read at one element. -/
theorem root_at (x : FVec Ideal S1x2048x2048 .f32) (i k : Fin 2048) :
    (broadcastInDim S1x2048x2048 ![0, 1, 2] bcast_S1x2048x1_S1x2048x2048_0_1_2 (Host.rsqrt (addf (Host.divf
      (broadcastInDim S1x2048x1 ![0, 1] bcast_S1x2048_S1x2048x1_0_1 (Host.reduceAdd (mulf x x) (constant S_ .f32 0x00000000#32) reducesTo_S1x2048x2048_S1x2048_d2 h_S_))
      (broadcastInDim S1x2048x1 ![] bcast_S_S1x2048x1 (constant S_ .f32 0x45000000#32))) (broadcastInDim S1x2048x1 ![] bcast_S_S1x2048x1 (constant S_ .f32 0x358637BD#32))))
      : FVec Ideal S1x2048x2048 .f32) (ix3 0 i k)
      = rootInv (Ideal.ofBits .f32 0x45000000#32) (Ideal.ofBits .f32 0x358637BD#32) (fun k => x (ix3 0 i k)) := by
  pointwise
theorem trunc_at (a : FVec Ideal S1x2048x2048 .f32) (i k : Fin 2048) :
    (truncf .bf16 (shapeCast S2048x2048 a shapeCasts_S1x2048x2048_S2048x2048) bitsLt_bf16_f32 : FVec Ideal S2048x2048 .bf16) (ix2 i k) = a (ix3 0 i k) := flat_at a i k
abbrev wide (v : FVec Ideal S1x1x2048 .f32) : FVec Ideal S1x2048x2048 .f32 := broadcastInDim S1x2048x2048 ![0, 1, 2] bcast_S1x1x2048_S1x2048x2048_0_1_2 v
theorem gain_wide (g : FVec Ideal S2048 .f32) (i k : Fin 2048) : wide (broadcastInDim S1x1x2048 ![2] bcast_S2048_S1x1x2048_2 g) (ix3 0 i k) = g (ix1 k) := by
  pointwise
theorem scale_wide (s : FVec Ideal S1x2048 .f32) (i k : Fin 2048) :
    wide (addf (broadcastInDim S1x1x2048 ![] bcast_S_S1x1x2048 (constant S_ .f32 0x3F800000#32)) (broadcastInDim S1x1x2048 ![0, 2] bcast_S1x2048_S1x1x2048_0_2 s)) (ix3 0 i k)
      = 1 + s (ix2 0 k) := by
  pointwise
theorem shift_wide (d : FVec Ideal S1x2048 .f32) (i k : Fin 2048) :
    wide (broadcastInDim S1x1x2048 ![0, 2] bcast_S1x2048_S1x1x2048_0_2 d) (ix3 0 i k) = d (ix2 0 k) := by
  pointwise
end

theorem modulate : Cert.algebraic_ModFwdIdeal_ModFwdRefIdeal
    (hModFwdIdeal := Cert.ModFwdIdeal.Gen.facts) (hModFwdRefIdeal := Cert.ModFwdRefIdeal.Gen.facts) := by
  intro m g m' g' _ hargs
  refine ⟨fun c => res (A0 m c) (A1 m c) (A2 m c) (A3 m c), ?_, ?_⟩
  · refine (θ_run Cert.ModFwdIdeal.defs _ _).mono (fun r h c => ?_) (Cert.ModFwdIdeal.Value.run_blocks m g)
    exact ⟨(h c).1.trans (final m c), (h c).2⟩
  · refine (θ_run Cert.ModFwdRefIdeal.defs _ _).mono (fun r h c => ?_) (Cert.ModFwdRefIdeal.Value.run m' g')
    refine ⟨(h c).1.trans ?_, (h c).2⟩
    obtain ⟨e0, e1, e2, e3⟩ := hargs c
    beta_reduce
    obtain ⟨x, hx⟩ : ∃ x, x = A0 m c := ⟨_, rfl⟩
    obtain ⟨n, hn⟩ : ∃ n, n = A1 m c := ⟨_, rfl⟩
    obtain ⟨s, hs⟩ : ∃ s, s = A2 m c := ⟨_, rfl⟩
    obtain ⟨d, hd⟩ : ∃ d, d = A3 m c := ⟨_, rfl⟩
    rw [e0.trans hx.symm, e1.trans hn.symm, e2.trans hs.symm, e3.trans hd.symm, ← hx, ← hn, ← hs, ← hd]
    funext y
    obtain ⟨i, k, rfl⟩ : ∃ (i : Fin 2048) (k : Fin 2048), y = ix2 i k := split2 y
    exact (trunc_at _ i k).trans (congrArg₂ (· + ·) (congrArg₂ (· * ·) (congrArg₂ (· * ·) (congrArg (x (ix3 0 i k) * ·) (root_at x i k)) (gain_wide n i k)) (scale_wide s i k)) (shift_wide d i k))

/-- The reference ends with its arguments unchanged and no counter raised. -/
theorem frame : Cert.quiescent_ModFwdRefIdeal (hModFwdRefIdeal := Cert.ModFwdRefIdeal.Gen.facts) := fun m ρ _ =>
  (θ_run Cert.ModFwdRefIdeal.defs _ _).mono
    (fun r h => ⟨fun c => (h c).2, sem_eq_zero_of_no_sems (by decide) r.2⟩)
    (Cert.ModFwdRefIdeal.Value.run (F := Ideal) m ρ)

end Cert.ModFwdRefIdeal.Proof

end
-- ==== Proof.RmsFwd.lean ====
/- The norm over a head: every head of every row normed by its mean square and scaled lane by lane. -/
module

public import proofs.«01_k».proof.Proof.Norm
public import proofs.«01_k».proof.Proof.Gen.RmsFwdIdeal.Value
public import proofs.«01_k».proof.Proof.Gen.RmsFwdRefIdeal.Run

@[expose] public section

set_option maxRecDepth 16384

noncomputable section

namespace Cert.RmsFwdIdeal.Proof

open Cert.RmsFwdIdeal Cert.RmsFwdIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x6x128 .f32 := m ((c : Thread nD τ).loc main_arg0)
abbrev A1 : FVec Ideal S128 .f32 := m ((c : Thread nD τ).loc main_arg1)
abbrev hdOf (k : Fin 768) : Fin 6 := ⟨k.val / 128, by omega⟩
abbrev laneOf (k : Fin 768) : Fin 128 := ⟨k.val % 128, Nat.mod_lt _ (by decide)⟩
abbrev col (h : Fin 6) (k : Fin 128) : Fin 768 := ⟨h.val * 128 + k.val, by omega⟩
theorem hd_col (h : Fin 6) (k : Fin 128) : hdOf (col h k) = h := Fin.ext (by show (h.val * 128 + k.val) / 128 = h.val; omega)
theorem lane_col (h : Fin 6) (k : Fin 128) : laneOf (col h k) = k := Fin.ext (by show (h.val * 128 + k.val) % 128 = k.val; omega)
abbrev flat (x : FVec Ideal S1x2048x6x128 .f32) : FVec Ideal S2048x768 .f32 :=
  shapeCast S2048x768 (shapeCast S2048x6x128 x shapeCasts_S1x2048x6x128_S2048x6x128) shapeCasts_S2048x6x128_S2048x768
theorem flat_at (x : FVec Ideal S1x2048x6x128 .f32) (r : Fin 2048) (h : Fin 6) (k : Fin 128) : flat x (ix2 r (col h k)) = x (ix4 0 r h k) := by
  pointwise
  exact congrArg₂ (fun a b => x (ix4 0 r a b)) (hd_col h k) (lane_col h k)
theorem unflat_at (x : FVec Ideal S1x2048x6x128 .f32) (H : S1x2048x6x128.ShapeCasts S2048x768) (r : Fin 2048) (k : Fin 768) :
    shapeCast S2048x768 x H (ix2 r k) = x (ix4 0 r (hdOf k) (laneOf k)) := by
  pointwise
abbrev gain (g : FVec Ideal S128 .f32) : FVec Ideal S1x128 .f32 := broadcastInDim S1x128 ![1] bcast_S128_S1x128_1 g
theorem gain_at (g : FVec Ideal S128 .f32) (k : Fin 128) : gain g (ix2 0 k) = g (ix1 k) := by
  pointwise

/-- One head normed and scaled, at one lane. -/
abbrev normed (x g : Fin 128 → EReal) (k : Fin 128) : EReal :=
  x k * rootInv (Ideal.ofBits .f32 0x43000000#32) (Ideal.ofBits .f32 0x358637BD#32) x * g k
abbrev res (x : FVec Ideal S1x2048x6x128 .f32) (g : FVec Ideal S128 .f32) : FVec Ideal S2048x768 .f32 :=
  fun y => normed (fun k => x (ix4 0 (y 0) (hdOf (y 1)) k)) (fun k => g (ix1 k)) (laneOf (y 1))

theorem V1 : V m c main_v1 = flat (A0 m c) := by
  dsimp only [V]; after_results; rfl
theorem V2 : V m c main_v2 = gain (A1 m c) := by
  dsimp only [V]; after_results
theorem idx : ∀ t : Fin cfg0.N, win0_0.index t = ![0, t.val] ∧ win0_1.index t = ![0, 0] ∧ win0_2.index t = ![0, t.val] := by decide +kernel

variable (t : Fin cfg0.N)
abbrev hd : Fin 6 := ⟨t.val, lt_of_lt_of_eq t.isLt N_0⟩
abbrev x0 : Vec Ideal S2048x128 .f32 := iblk m c 0 t
abbrev x1 : Vec Ideal S1x128 .f32 := iblk m c 1 t
theorem b0 (i : Fin 2048) (k : Fin 128) : x0 m c t (ix2 i k) = A0 m c (ix4 0 i (hd t) k) := by
  refine Eq.trans ?_ (flat_at (A0 m c) i (hd t) k)
  unfold x0 iblk
  rw [show V m c (Pipeline.arrRef spec0 0) = _ from V1 m c]
  show flat (A0 m c) (((cfg0.win 0).blk t).view.emb (ix2 i k)) = _
  rw [show (((cfg0.win 0).blk t).view.emb (ix2 i k) : S2048x768.Idx) = ix2 i (col (hd t) k) from by blk_ext [idx t]]
theorem b1 (k : Fin 128) : x1 m c t (ix2 0 k) = A1 m c (ix1 k) := by
  refine Eq.trans ?_ (gain_at (A1 m c) k)
  unfold x1 iblk
  rw [show V m c (Pipeline.arrRef spec0 1) = _ from V2 m c]
  show gain (A1 m c) (((cfg0.win 1).blk t).view.emb (ix2 0 k)) = _
  rw [show (((cfg0.win 1).blk t).view.emb (ix2 0 k) : S1x128.Idx) = ix2 0 k from by blk_ext [idx t]]

theorem pay1_at (a : Vec Ideal S2048x128 .f32) (g : Vec Ideal S1x128 .f32) (i : Fin 2048) (k : Fin 128) :
    k0_pay1 a g (ix2 i k) = normed (fun k => a (ix2 i k)) (fun k => g (ix2 0 k)) k := by
  pointwise [k0_pay1]
theorem out_eq (a : Vec Ideal S2048x128 .f32) (g : Vec Ideal S1x128 .f32) : out0_2 (F := Ideal) a g = k0_pay1 a g := by
  unfold out0_2
  rw [View.canon_unit_zero zero2, View.ld_unit_zero zero2 _ a, View.ld_unit_zero zero2 _ g]
theorem flushed : (dats m 0 c).flushed 2 t = ((cfg0.win 2).blk t).view.read (Elt Ideal) (res (A0 m c) (A1 m c)) := by
  rw [Value.flushed2, out_eq]
  funext y
  obtain ⟨i, k, rfl⟩ : ∃ (i : Fin 2048) (k : Fin 128), y = ix2 i k := split2 y
  show k0_pay1 (x0 m c t) (x1 m c t) (ix2 i k) = res (A0 m c) (A1 m c) (((cfg0.win 2).blk t).view.emb (ix2 i k))
  rw [show (((cfg0.win 2).blk t).view.emb (ix2 i k) : S2048x768.Idx) = ix2 i (col (hd t) k) from by blk_ext [idx t], pay1_at]
  simp only [b0, b1]
  show _ = normed (fun j => A0 m c (ix4 0 i (hdOf (col (hd t) k)) j)) _ (laneOf (col (hd t) k))
  rw [hd_col, lane_col]
theorem cover (i : S2048x768.Idx) : ∃ t : Fin cfg0.N, (cfg0.win 2).flush t = true ∧ i ∈ ((cfg0.win 2).blk t).view.set := by
  obtain ⟨r, k, rfl⟩ := split2 i
  have hN : k.val / 128 < cfg0.N := lt_of_lt_of_eq (by omega) N_0.symm
  refine ⟨⟨k.val / 128, hN⟩, flush0_2 _, ?_⟩
  have e : (ix2 r k : S2048x768.Idx)
      = ((cfg0.win 2).blk ⟨k.val / 128, hN⟩).view.emb (ix2 r ⟨k.val % 128, Nat.mod_lt _ (by decide)⟩) := by
    blk_ext [idx ⟨k.val / 128, hN⟩]
  rw [e]
  exact View.emb_mem_set _ _
theorem final : (dats m 0 c).arrAt 2 cfg0.N = res (A0 m c) (A1 m c) :=
  (dats m 0 c).arrAt_eq_of_cover 2 _ (fun t _ => flushed m c t) cover

end Cert.RmsFwdIdeal.Proof

namespace Cert.RmsFwdRefIdeal.Proof

open Cert.Base Idealize.ShloMosaic Idealize.ShloMosaic.TcCoe Idealize.SL.Sem Cert.RmsFwdIdeal.Proof

theorem rms : Cert.algebraic_RmsFwdIdeal_RmsFwdRefIdeal
    (hRmsFwdIdeal := Cert.RmsFwdIdeal.Gen.facts) (hRmsFwdRefIdeal := Cert.RmsFwdRefIdeal.Gen.facts) := by
  intro m g m' g' _ hargs
  refine ⟨fun c => res (A0 m c) (A1 m c), ?_, ?_⟩
  · refine (θ_run Cert.RmsFwdIdeal.defs _ _).mono (fun r h c => ?_) (Cert.RmsFwdIdeal.Value.run_blocks m g)
    exact ⟨(h c).1.trans (final m c), (h c).2⟩
  · refine (θ_run Cert.RmsFwdRefIdeal.defs _ _).mono (fun r h c => ?_) (Cert.RmsFwdRefIdeal.Value.run m' g')
    refine ⟨(h c).1.trans ?_, (h c).2⟩
    obtain ⟨e0, e1⟩ := hargs c
    rw [e0, e1]
    funext y
    obtain ⟨i, k, rfl⟩ : ∃ (i : Fin 2048) (k : Fin 768), y = ix2 i k := split2 y
    refine (unflat_at _ _ i k).trans ?_
    show _ = normed (fun j => A0 m c (ix4 0 i (hdOf k) j)) (fun j => A1 m c (ix1 j)) (laneOf k)
    generalize hdOf k = h
    generalize laneOf k = d
    pointwise

/-- The reference ends with its arguments unchanged and no counter raised. -/
theorem frame : Cert.quiescent_RmsFwdRefIdeal (hRmsFwdRefIdeal := Cert.RmsFwdRefIdeal.Gen.facts) := fun m ρ _ =>
  (θ_run Cert.RmsFwdRefIdeal.defs _ _).mono
    (fun r h => ⟨fun c => (h c).2, sem_eq_zero_of_no_sems (by decide) r.2⟩)
    (Cert.RmsFwdRefIdeal.Value.run (F := Ideal) m ρ)

end Cert.RmsFwdRefIdeal.Proof

end
-- ==== Proof.GateMulFwd.lean ====
/- The SiLU gate `o * silu(z)`, element by element. -/
module

public import proofs.«01_k».proof.Proof.Rows
public import proofs.«01_k».proof.Proof.Gen.GateMulFwdIdeal.Value
public import proofs.«01_k».proof.Proof.Gen.GateMulFwdRefIdeal.Run

@[expose] public section

set_option maxRecDepth 16384

noncomputable section

namespace Cert.GateMulFwdIdeal.Proof

open Cert.GateMulFwdIdeal Cert.GateMulFwdIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S1x2048x2048 .f32 := m ((c : Thread nD τ).loc main_arg1)
abbrev flat (x : FVec Ideal S1x2048x2048 .f32) : FVec Ideal S2048x2048 .f32 := shapeCast S2048x2048 x shapeCasts_S1x2048x2048_S2048x2048
/-- The gated value at one element. -/
abbrev gate (o z : EReal) : EReal := o * (z * sgm z)
abbrev res (o z : FVec Ideal S2048x2048 .f32) : FVec Ideal S2048x2048 .bf16 := fun y => gate (o y) (z y)

theorem pay1_eq (z o : Vec Ideal S256x2048 .f32) : k0_pay1 z o = fun y => gate (o y) (z y) := by
  funext y
  simp only [k0_pay1, shapeCast_self]
  show _ * (_ * Ideal.div (Ideal.ofBits .f32 0x3F800000#32) (Ideal.ofBits .f32 0x3F800000#32 + Ideal.exp (Ideal.ofBits .f32 0x00000000#32 - _))) = _
  rw [one_f32, zero_f32, zero_sub]
theorem out_eq (o z : Vec Ideal S256x2048 .f32) : out0_2 (F := Ideal) o z = fun y => gate (o y) (z y) := by
  unfold out0_2
  rw [View.canon_unit_zero zero2, View.ld_unit_zero zero2 _ o, View.ld_unit_zero zero2 _ z, pay1_eq]

theorem V0 : V m c main_v0 = flat (A0 m c) := by
  dsimp only [V]; after_results; rfl
theorem V1 : V m c main_v1 = flat (A1 m c) := by
  dsimp only [V]; after_results; rfl
theorem idx : ∀ t : Fin cfg0.N, win0_0.index t = ![t.val, 0] ∧ win0_1.index t = ![t.val, 0] ∧ win0_2.index t = ![t.val, 0] := by decide +kernel
theorem flushed (t : Fin cfg0.N) : (dats m 0 c).flushed 2 t = ((cfg0.win 2).blk t).view.read (Elt Ideal) (res (flat (A0 m c)) (flat (A1 m c))) := by
  rw [Value.flushed2, out_eq]
  unfold iblk
  rw [show V m c (Pipeline.arrRef spec0 0) = _ from V0 m c, show V m c (Pipeline.arrRef spec0 1) = _ from V1 m c]
  rfl
theorem cover (i : S2048x2048.Idx) : ∃ t : Fin cfg0.N, (cfg0.win 2).flush t = true ∧ i ∈ ((cfg0.win 2).blk t).view.set := by
  obtain ⟨r, k, rfl⟩ := split2 i
  have hN : r.val / 256 < cfg0.N := lt_of_lt_of_eq (by omega) N_0.symm
  refine ⟨⟨r.val / 256, hN⟩, flush0_2 _, ?_⟩
  have e : (ix2 r k : S2048x2048.Idx)
      = ((cfg0.win 2).blk ⟨r.val / 256, hN⟩).view.emb (ix2 ⟨r.val % 256, Nat.mod_lt _ (by decide)⟩ k) := by
    blk_ext [idx ⟨r.val / 256, hN⟩]
  rw [e]
  exact View.emb_mem_set _ _
theorem final : (dats m 0 c).arrAt 2 cfg0.N = res (flat (A0 m c)) (flat (A1 m c)) :=
  (dats m 0 c).arrAt_eq_of_cover 2 _ (fun t _ => flushed m c t) cover

end Cert.GateMulFwdIdeal.Proof

namespace Cert.GateMulFwdRefIdeal.Proof

open Cert.Base Idealize.ShloMosaic Idealize.ShloMosaic.TcCoe Idealize.SL.Sem Cert.GateMulFwdIdeal.Proof

theorem gate_mul : Cert.algebraic_GateMulFwdIdeal_GateMulFwdRefIdeal
    (hGateMulFwdIdeal := Cert.GateMulFwdIdeal.Gen.facts) (hGateMulFwdRefIdeal := Cert.GateMulFwdRefIdeal.Gen.facts) := by
  intro m g m' g' _ hargs
  refine ⟨fun c => res (flat (A0 m c)) (flat (A1 m c)), ?_, ?_⟩
  · refine (θ_run Cert.GateMulFwdIdeal.defs _ _).mono (fun r h c => ?_) (Cert.GateMulFwdIdeal.Value.run_blocks m g)
    exact ⟨(h c).1.trans (final m c), (h c).2⟩
  · refine (θ_run Cert.GateMulFwdRefIdeal.defs _ _).mono (fun r h c => ?_) (Cert.GateMulFwdRefIdeal.Value.run m' g')
    refine ⟨(h c).1.trans ?_, (h c).2⟩
    obtain ⟨e0, e1⟩ := hargs c
    rw [e0, e1]
    funext y
    show _ * (_ * Ideal.div (Ideal.ofBits .f32 0x3F800000#32) (Ideal.ofBits .f32 0x3F800000#32 + Ideal.exp (-_))) = _
    rw [one_f32]
    rfl

/-- The reference ends with its arguments unchanged and no counter raised. -/
theorem frame : Cert.quiescent_GateMulFwdRefIdeal (hGateMulFwdRefIdeal := Cert.GateMulFwdRefIdeal.Gen.facts) := fun m ρ _ =>
  (θ_run Cert.GateMulFwdRefIdeal.defs _ _).mono
    (fun r h => ⟨fun c => (h c).2, sem_eq_zero_of_no_sems (by decide) r.2⟩)
    (Cert.GateMulFwdRefIdeal.Value.run (F := Ideal) m ρ)

end Cert.GateMulFwdRefIdeal.Proof

end
-- ==== Proof.GateActFwd.lean ====
/- The gates' decay: the logarithm of the logistic function over the temperature, element by element. -/
module

public import proofs.«01_k».proof.Proof.Rows
public import proofs.«01_k».proof.Proof.Gen.GateActFwdIdeal.Value
public import proofs.«01_k».proof.Proof.Gen.GateActFwdRefIdeal.Run

@[expose] public section

set_option maxRecDepth 16384

noncomputable section

namespace Cert.GateActFwdIdeal.Proof

open Cert.GateActFwdIdeal Cert.GateActFwdIdeal.Gen Idealize.ShloMosaic Idealize.ShloMosaic.TcCoe Idealize.SL.Sem Cert.Base

variable (m : (ℓ : Loc nD τ sig) → Buf (Elt Ideal) ℓ) (c : Dev nD)

abbrev A0 : FVec Ideal S2048x768 .f32 := m ((c : Thread nD τ).loc main_arg0)
abbrev A1 : FVec Ideal S384 .f32 := m ((c : Thread nD τ).loc main_arg1)
abbrev A2 : FVec Ideal S384 .f32 := m ((c : Thread nD τ).loc main_arg2)
/-- The logarithm of the logistic function over the temperature. -/
abbrev decay (t : EReal) : EReal :=
  Ideal.div (min t 0 - Ideal.log (1 + Ideal.exp (0 - FloatOps.absf (F := Ideal) (φ := .f32) t))) (Ideal.ofBits .f32 0x41800000#32)
/-- The two directions' biases, side by side. -/
abbrev bias (f b : FVec Ideal S384 .f32) (k : Fin 768) : EReal :=
  if h : k.val < 384 then f (ix1 ⟨k.val, h⟩) else b (ix1 ⟨k.val - 384, by omega⟩)
abbrev res (u : FVec Ideal S2048x768 .f32) (f b : FVec Ideal S384 .f32) : FVec Ideal S2048x768 .f32 :=
  fun y => decay (u (ix2 (y 0) (y 1)) + bias f b (y 1))

abbrev both : FVec Ideal S1x768 .f32 := broadcastInDim S1x768 ![1] bcast_S768_S1x768_1
  (concatenate S768 0 [⟨S384, A1 m c⟩, ⟨S384, A2 m c⟩] concatenates_S384_S384_S768_d0)
theorem both_at (k : Fin 768) : both m c (ix2 0 k) = bias (A1 m c) (A2 m c) k := by
  pointwise

theorem V0 : V m c main_arg0 = A0 m c := by
  dsimp only [V]; after_results
theorem V1 : V m c main_v1 = both m c := by
  dsimp only [V]; after_results
theorem idx : ∀ t : Fin cfg0.N, win0_0.index t = ![t.val, 0] ∧ win0_1.index t = ![0, 0] ∧ win0_2.index t = ![t.val, 0] := by decide +kernel

variable (t : Fin cfg0.N)
abbrev row (i : Fin 512) : Fin 2048 := ⟨t.val * 512 + i.val, by have := lt_of_lt_of_eq t.isLt N_0; omega⟩
abbrev x0 : Vec Ideal S512x768 .f32 := iblk m c 0 t
abbrev x1 : Vec Ideal S1x768 .f32 := iblk m c 1 t
theorem b0 (i : Fin 512) (k : Fin 768) : x0 m c t (ix2 i k) = A0 m c (ix2 (row t i) k) := by
  unfold x0 iblk
  rw [show V m c (Pipeline.arrRef spec0 0) = _ from V0 m c]
  exact congrArg (A0 m c) (by blk_ext [idx t])
theorem b1 (k : Fin 768) : x1 m c t (ix2 0 k) = bias (A1 m c) (A2 m c) k := by
  refine Eq.trans ?_ (both_at m c k)
  unfold x1 iblk
  rw [show V m c (Pipeline.arrRef spec0 1) = _ from V1 m c]
  show both m c (((cfg0.win 1).blk t).view.emb (ix2 0 k)) = _
  rw [show (((cfg0.win 1).blk t).view.emb (ix2 0 k) : S1x768.Idx) = ix2 0 k from by blk_ext [idx t]]

theorem pay1_at (a : Vec Ideal S512x768 .f32) (g : Vec Ideal S1x768 .f32) (i : Fin 512) (k : Fin 768) :
    k0_pay1 a g (ix2 i k) = decay (a (ix2 i k) + g (ix2 0 k)) := by
  pointwise [k0_pay1]
theorem out_eq (a : Vec Ideal S512x768 .f32) (g : Vec Ideal S1x768 .f32) : out0_2 (F := Ideal) a g = k0_pay1 a g := by
  unfold out0_2
  rw [View.canon_unit_zero zero2, View.ld_unit_zero zero2 _ a, View.ld_unit_zero zero2 _ g]
theorem flushed : (dats m 0 c).flushed 2 t = ((cfg0.win 2).blk t).view.read (Elt Ideal) (res (A0 m c) (A1 m c) (A2 m c)) := by
  rw [Value.flushed2, out_eq]
  funext y
  obtain ⟨i, k, rfl⟩ : ∃ (i : Fin 512) (k : Fin 768), y = ix2 i k := split2 y
  show k0_pay1 (x0 m c t) (x1 m c t) (ix2 i k) = res (A0 m c) (A1 m c) (A2 m c) (((cfg0.win 2).blk t).view.emb (ix2 i k))
  rw [show (((cfg0.win 2).blk t).view.emb (ix2 i k) : S2048x768.Idx) = ix2 (row t i) k from by blk_ext [idx t], pay1_at, b0, b1]
  rfl
theorem cover (i : S2048x768.Idx) : ∃ t : Fin cfg0.N, (cfg0.win 2).flush t = true ∧ i ∈ ((cfg0.win 2).blk t).view.set := by
  obtain ⟨r, k, rfl⟩ := split2 i
  have hN : r.val / 512 < cfg0.N := lt_of_lt_of_eq (by omega) N_0.symm
  refine ⟨⟨r.val / 512, hN⟩, flush0_2 _, ?_⟩
  have e : (ix2 r k : S2048x768.Idx)
      = ((cfg0.win 2).blk ⟨r.val / 512, hN⟩).view.emb (ix2 ⟨r.val % 512, Nat.mod_lt _ (by decide)⟩ k) := by
    blk_ext [idx ⟨r.val / 512, hN⟩]
  rw [e]
  exact View.emb_mem_set _ _
theorem final : (dats m 0 c).arrAt 2 cfg0.N = res (A0 m c) (A1 m c) (A2 m c) :=
  (dats m 0 c).arrAt_eq_of_cover 2 _ (fun t _ => flushed m c t) cover

end Cert.GateActFwdIdeal.Proof

namespace Cert.GateActFwdRefIdeal.Proof

open Cert.Base Idealize.ShloMosaic Idealize.ShloMosaic.TcCoe Idealize.SL.Sem Cert.GateActFwdIdeal.Proof

/-- The logarithm of the logistic function as the negated softplus of the negated argument, with its guard for an undefined argument. -/
abbrev soft (t : EReal) : EReal := if t ≠ t then t else max t 0 + Ideal.log1p (Ideal.exp (-FloatOps.absf (F := Ideal) (φ := .f32) t))
abbrev chain (t : EReal) : EReal := Ideal.div (-soft (-t)) (Ideal.ofBits .f32 0x41800000#32)

theorem log_ne_bot (e : EReal) : Ideal.log (1 + Ideal.exp e) ≠ ⊥ := by
  induction e using EReal.rec with
  | bot =>
    show Ideal.log (1 + 0) ≠ ⊥
    rw [add_zero, ← EReal.coe_one, Ideal.log_coe, if_neg (by norm_num)]
    exact EReal.coe_ne_bot _
  | top => exact top_ne_bot
  | coe x =>
    rw [Ideal.exp_coe, ← EReal.coe_one, ← EReal.coe_add, Ideal.log_coe, if_neg (not_le.mpr (by positivity))]
    exact EReal.coe_ne_bot _

theorem soft_rule (t : EReal) : chain t = decay t := by
  have ha : FloatOps.absf (F := Ideal) (φ := .f32) (-t) = FloatOps.absf (F := Ideal) (φ := .f32) t := by
    show max (-t) (- -t) = max t (-t)
    rw [neg_neg, max_comm]
  have hm : min t 0 = -max (-t) 0 := by
    rcases le_total t 0 with h | h
    · rw [min_eq_left h, max_eq_left (EReal.neg_nonneg.mpr h), neg_neg]
    · rw [min_eq_right h, max_eq_right (by simpa using EReal.neg_le_neg_iff.mpr h), neg_zero]
  unfold chain decay soft
  rw [if_neg (not_not.mpr rfl), ha, hm, zero_sub, Ideal.log1p]
  congr 1
  exact (EReal.neg_add (.inl (ne_bot_of_le_ne_bot EReal.zero_ne_bot (le_max_right _ _))) (.inr (log_ne_bot _)))

theorem gateact : Cert.algebraic_GateActFwdIdeal_GateActFwdRefIdeal
    (hGateActFwdIdeal := Cert.GateActFwdIdeal.Gen.facts) (hGateActFwdRefIdeal := Cert.GateActFwdRefIdeal.Gen.facts) := by
  intro m g m' g' _ hargs
  refine ⟨fun c => res (A0 m c) (A1 m c) (A2 m c), ?_, ?_⟩
  · refine (θ_run Cert.GateActFwdIdeal.defs _ _).mono (fun r h c => ?_) (Cert.GateActFwdIdeal.Value.run_blocks m g)
    exact ⟨(h c).1.trans (final m c), (h c).2⟩
  · refine (θ_run Cert.GateActFwdRefIdeal.defs _ _).mono (fun r h c => ?_) (Cert.GateActFwdRefIdeal.Value.run m' g')
    refine ⟨(h c).1.trans ?_, (h c).2⟩
    obtain ⟨e0, e1, e2⟩ := hargs c
    unfold Cert.GateActFwdRefIdeal.Value.res_main_v14
    rw [e0, e1, e2]
    funext y
    obtain ⟨i, k, rfl⟩ : ∃ (i : Fin 2048) (k : Fin 768), y = ix2 i k := split2 y
    refine Eq.trans ?_ (soft_rule (A0 m c (ix2 i k) + bias (A1 m c) (A2 m c) k))
    pointwise
    unfold bias
    split
    · rfl
    · simp only [show 384 + (k.val - 384) = k.val from by omega]

/-- The reference ends with its arguments unchanged and no counter raised. -/
theorem frame : Cert.quiescent_GateActFwdRefIdeal (hGateActFwdRefIdeal := Cert.GateActFwdRefIdeal.Gen.facts) := fun m ρ _ =>
  (θ_run Cert.GateActFwdRefIdeal.defs _ _).mono
    (fun r h => ⟨fun c => (h c).2, sem_eq_zero_of_no_sems (by decide) r.2⟩)
    (Cert.GateActFwdRefIdeal.Value.run (F := Ideal) m ρ)

end Cert.GateActFwdRefIdeal.Proof

end
-- ==== Proof.ResFwd.lean ====
/- The gated residual: the stream plus the gated branch. -/
module

public import proofs.«01_k».proof.Proof.Rows
public import proofs.«01_k».proof.Proof.Gen.ResFwdIdeal.Value
public import proofs.«01_k».proof.Proof.Gen.ResFwdRefIdeal.Run

@[expose] public section

set_option maxRecDepth 16384

noncomputable section

namespace Cert.ResFwdIdeal.Proof

open Cert.ResFwdIdeal Cert.ResFwdIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S1x2048x2048 .f32 := m ((c : Thread nD τ).loc main_arg1)
abbrev A2 : FVec Ideal S1x2048 .f32 := m ((c : Thread nD τ).loc main_arg2)
abbrev flat (x : FVec Ideal S1x2048x2048 .f32) : FVec Ideal S2048x2048 .f32 := shapeCast S2048x2048 x shapeCasts_S1x2048x2048_S2048x2048
theorem flat_at (x : FVec Ideal S1x2048x2048 .f32) (i k : Fin 2048) : flat x (ix2 i k) = x (ix3 0 i k) := by
  pointwise
abbrev res (x u : FVec Ideal S1x2048x2048 .f32) (g : FVec Ideal S1x2048 .f32) : FVec Ideal S2048x2048 .f32 :=
  fun y => x (ix3 0 (y 0) (y 1)) + g (ix2 0 (y 1)) * u (ix3 0 (y 0) (y 1))

theorem V0 : V m c main_v0 = flat (A0 m c) := by
  dsimp only [V]; after_results; rfl
theorem V1 : V m c main_v1 = flat (A1 m c) := by
  dsimp only [V]; after_results; rfl
theorem V2 : V m c main_arg2 = A2 m c := by
  dsimp only [V]; after_results
theorem idx : ∀ t : Fin cfg0.N, win0_0.index t = ![t.val, 0] ∧ win0_1.index t = ![t.val, 0] ∧ win0_2.index t = ![0, 0]
    ∧ win0_3.index t = ![t.val, 0] := by decide +kernel

variable (t : Fin cfg0.N)
abbrev row (i : Fin 256) : Fin 2048 := ⟨t.val * 256 + i.val, by have := lt_of_lt_of_eq t.isLt N_0; omega⟩
abbrev x0 : Vec Ideal S256x2048 .f32 := iblk m c 0 t
abbrev x1 : Vec Ideal S256x2048 .f32 := iblk m c 1 t
abbrev x2 : Vec Ideal S1x2048 .f32 := iblk m c 2 t
theorem b0 (i : Fin 256) (k : Fin 2048) : x0 m c t (ix2 i k) = A0 m c (ix3 0 (row t i) k) := by
  refine Eq.trans ?_ (flat_at (A0 m c) (row t i) k)
  unfold x0 iblk
  rw [show V m c (Pipeline.arrRef spec0 0) = _ from V0 m c]
  exact congrArg (flat (A0 m c)) (by blk_ext [idx t])
theorem b1 (i : Fin 256) (k : Fin 2048) : x1 m c t (ix2 i k) = A1 m c (ix3 0 (row t i) k) := by
  refine Eq.trans ?_ (flat_at (A1 m c) (row t i) k)
  unfold x1 iblk
  rw [show V m c (Pipeline.arrRef spec0 1) = _ from V1 m c]
  exact congrArg (flat (A1 m c)) (by blk_ext [idx t])
theorem b2 (k : Fin 2048) : x2 m c t (ix2 0 k) = A2 m c (ix2 0 k) := by
  unfold x2 iblk
  rw [show V m c (Pipeline.arrRef spec0 2) = _ from V2 m c]
  exact congrArg (A2 m c) (by blk_ext [idx t])

theorem pay1_at (a u : Vec Ideal S256x2048 .f32) (g : Vec Ideal S1x2048 .f32) (i : Fin 256) (k : Fin 2048) :
    k0_pay1 a g u (ix2 i k) = a (ix2 i k) + g (ix2 0 k) * u (ix2 i k) := by
  pointwise [k0_pay1]
theorem out_eq (a u : Vec Ideal S256x2048 .f32) (g : Vec Ideal S1x2048 .f32) : out0_3 (F := Ideal) a u g = k0_pay1 a g u := by
  unfold out0_3
  rw [View.canon_unit_zero zero2, View.ld_unit_zero zero2 _ a, View.ld_unit_zero zero2 _ u, View.ld_unit_zero zero2 _ g]
theorem flushed : (dats m 0 c).flushed 3 t = ((cfg0.win 3).blk t).view.read (Elt Ideal) (res (A0 m c) (A1 m c) (A2 m c)) := by
  rw [Value.flushed3, out_eq]
  funext y
  obtain ⟨i, k, rfl⟩ : ∃ (i : Fin 256) (k : Fin 2048), y = ix2 i k := split2 y
  show k0_pay1 (x0 m c t) (x2 m c t) (x1 m c t) (ix2 i k) = res (A0 m c) (A1 m c) (A2 m c) (((cfg0.win 3).blk t).view.emb (ix2 i k))
  rw [show (((cfg0.win 3).blk t).view.emb (ix2 i k) : S2048x2048.Idx) = ix2 (row t i) k from by blk_ext [idx t], pay1_at, b0, b1, b2]
  rfl
theorem cover (i : S2048x2048.Idx) : ∃ t : Fin cfg0.N, (cfg0.win 3).flush t = true ∧ i ∈ ((cfg0.win 3).blk t).view.set := by
  obtain ⟨r, k, rfl⟩ := split2 i
  have hN : r.val / 256 < cfg0.N := lt_of_lt_of_eq (by omega) N_0.symm
  refine ⟨⟨r.val / 256, hN⟩, flush0_3 _, ?_⟩
  have e : (ix2 r k : S2048x2048.Idx)
      = ((cfg0.win 3).blk ⟨r.val / 256, hN⟩).view.emb (ix2 ⟨r.val % 256, Nat.mod_lt _ (by decide)⟩ k) := by
    blk_ext [idx ⟨r.val / 256, hN⟩]
  rw [e]
  exact View.emb_mem_set _ _
theorem final : (dats m 0 c).arrAt 3 cfg0.N = res (A0 m c) (A1 m c) (A2 m c) :=
  (dats m 0 c).arrAt_eq_of_cover 3 _ (fun t _ => flushed m c t) cover

end Cert.ResFwdIdeal.Proof

namespace Cert.ResFwdRefIdeal.Proof

open Cert.Base Idealize.ShloMosaic Idealize.ShloMosaic.TcCoe Idealize.SL.Sem Cert.ResFwdIdeal.Proof

theorem residual : Cert.algebraic_ResFwdIdeal_ResFwdRefIdeal
    (hResFwdIdeal := Cert.ResFwdIdeal.Gen.facts) (hResFwdRefIdeal := Cert.ResFwdRefIdeal.Gen.facts) := by
  intro m g m' g' _ hargs
  refine ⟨fun c => res (A0 m c) (A1 m c) (A2 m c), ?_, ?_⟩
  · refine (θ_run Cert.ResFwdIdeal.defs _ _).mono (fun r h c => ?_) (Cert.ResFwdIdeal.Value.run_blocks m g)
    exact ⟨(h c).1.trans (final m c), (h c).2⟩
  · refine (θ_run Cert.ResFwdRefIdeal.defs _ _).mono (fun r h c => ?_) (Cert.ResFwdRefIdeal.Value.run m' g')
    refine ⟨(h c).1.trans ?_, (h c).2⟩
    obtain ⟨e0, e1, e2⟩ := hargs c
    beta_reduce
    obtain ⟨x, hx⟩ : ∃ x, x = A0 m c := ⟨_, rfl⟩
    obtain ⟨u, hu⟩ : ∃ u, u = A1 m c := ⟨_, rfl⟩
    obtain ⟨s, hs⟩ : ∃ s, s = A2 m c := ⟨_, rfl⟩
    rw [e0.trans hx.symm, e1.trans hu.symm, e2.trans hs.symm, ← hx, ← hu, ← hs]
    funext y
    obtain ⟨i, k, rfl⟩ : ∃ (i : Fin 2048) (k : Fin 2048), y = ix2 i k := split2 y
    refine (flat_at _ i k).trans ?_
    pointwise
    rfl

/-- The reference ends with its arguments unchanged and no counter raised. -/
theorem frame : Cert.quiescent_ResFwdRefIdeal (hResFwdRefIdeal := Cert.ResFwdRefIdeal.Gen.facts) := fun m ρ _ =>
  (θ_run Cert.ResFwdRefIdeal.defs _ _).mono
    (fun r h => ⟨fun c => (h c).2, sem_eq_zero_of_no_sems (by decide) r.2⟩)
    (Cert.ResFwdRefIdeal.Value.run (F := Ideal) m ρ)

end Cert.ResFwdRefIdeal.Proof

end
-- ==== Proof.ConvFwd.lean ====
/- The gated three-tap convolution: every row from the row before, itself and the row after. -/
module

public import proofs.«01_k».proof.Proof.Conv
public import proofs.«01_k».proof.Proof.Gen.ConvFwdIdeal.Value
public import proofs.«01_k».proof.Proof.Gen.ConvFwdRefIdeal.Run

@[expose] public section

set_option maxRecDepth 16384

noncomputable section

namespace Cert.ConvFwdIdeal.Proof

open Cert.ConvFwdIdeal Cert.ConvFwdIdeal.Gen Idealize.ShloMosaic Idealize.ShloMosaic.TcCoe Idealize.SL.Sem Cert.Base
open Cert.ConvIdeal.Proof (taps inp sel_eq flat flat_at)

variable (m : (ℓ : Loc nD τ sig) → Buf (Elt Ideal) ℓ) (c : Dev nD)

abbrev A0 : FVec Ideal S1x2048x512 .f32 := m ((c : Thread nD τ).loc main_arg0)
abbrev A1 : FVec Ideal S1x2048x512 .f32 := m ((c : Thread nD τ).loc main_arg1)
abbrev A2 : FVec Ideal S1x2048x512 .f32 := m ((c : Thread nD τ).loc main_arg2)
abbrev A3 : FVec Ideal S3x512 .f32 := m ((c : Thread nD τ).loc main_arg3)
abbrev res (cb cc cx : FVec Ideal S1x2048x512 .f32) (w : FVec Ideal S3x512 .f32) : FVec Ideal S2048x512 .f32 := fun y =>
  cb (ix3 0 (y 0) (y 1)) * taps (inp cc cx (y 1)) (w (ix2 0 (y 1))) (w (ix2 1 (y 1))) (w (ix2 2 (y 1))) (y 0)

abbrev stack : FVec Ideal S8x512 .f32 := concatenate S8x512 0
  [⟨S3x512, A3 m c⟩, ⟨S5x512, (broadcastInDim S5x512 ![] bcast_S_S5x512 (constant S_ .f32 0x00000000#32) : FVec Ideal S5x512 .f32)⟩] concatenates_S3x512_S5x512_S8x512_d0
theorem stack_at (n : Fin 8) (h : n.val < 3) (k : Fin 512) : stack m c (ix2 n k) = A3 m c (ix2 ⟨n.val, h⟩ k) := by
  pointwise
  rw [dif_pos h]

theorem V0 : V m c main_v2 = flat (A0 m c) := by
  dsimp only [V]; after_results; rfl
theorem V1 : V m c main_v3 = flat (A1 m c) := by
  dsimp only [V]; after_results; rfl
theorem V2 : V m c main_v4 = flat (A2 m c) := by
  dsimp only [V]; after_results; rfl
theorem V3 : V m c main_v1 = stack m c := by
  dsimp only [V]; after_results
theorem idx : ∀ t : Fin cfg0.N, win0_0.index t = ![0, t.val] ∧ win0_1.index t = ![0, t.val] ∧ win0_2.index t = ![0, t.val]
    ∧ win0_3.index t = ![0, t.val] ∧ win0_4.index t = ![0, t.val] := by decide +kernel

variable (t : Fin cfg0.N)
abbrev col (k : Fin 128) : Fin 512 := ⟨t.val * 128 + k.val, by have := lt_of_lt_of_eq t.isLt N_0; omega⟩
abbrev x0 : Vec Ideal S2048x128 .f32 := iblk m c 0 t
abbrev x1 : Vec Ideal S2048x128 .f32 := iblk m c 1 t
abbrev x2 : Vec Ideal S2048x128 .f32 := iblk m c 2 t
abbrev x3 : Vec Ideal S8x128 .f32 := iblk m c 3 t
theorem b0 (i : Fin 2048) (k : Fin 128) : x0 m c t (ix2 i k) = A0 m c (ix3 0 i (col t k)) := by
  refine Eq.trans ?_ (flat_at (A0 m c) i (col t k))
  unfold x0 iblk
  rw [show V m c (Pipeline.arrRef spec0 0) = _ from V0 m c]
  exact congrArg (flat (A0 m c)) (by blk_ext [idx t])
theorem b1 (i : Fin 2048) (k : Fin 128) : x1 m c t (ix2 i k) = A1 m c (ix3 0 i (col t k)) := by
  refine Eq.trans ?_ (flat_at (A1 m c) i (col t k))
  unfold x1 iblk
  rw [show V m c (Pipeline.arrRef spec0 1) = _ from V1 m c]
  exact congrArg (flat (A1 m c)) (by blk_ext [idx t])
theorem b2 (i : Fin 2048) (k : Fin 128) : x2 m c t (ix2 i k) = A2 m c (ix3 0 i (col t k)) := by
  refine Eq.trans ?_ (flat_at (A2 m c) i (col t k))
  unfold x2 iblk
  rw [show V m c (Pipeline.arrRef spec0 2) = _ from V2 m c]
  exact congrArg (flat (A2 m c)) (by blk_ext [idx t])
theorem b3 (n : Fin 8) (h : n.val < 3) (k : Fin 128) : x3 m c t (ix2 n k) = A3 m c (ix2 ⟨n.val, h⟩ (col t k)) := by
  refine Eq.trans ?_ (stack_at m c n h (col t k))
  unfold x3 iblk
  rw [show V m c (Pipeline.arrRef spec0 3) = _ from V3 m c]
  exact congrArg (stack m c) (by blk_ext [idx t])
theorem tap (n : Nat) (h : n < 3) (inb : ∀ a, (![n, 0] : Fin 2 → Nat) a + (![1, 128] : Fin 2 → Nat) a ≤ S8x128.size a) (k : Fin 128) :
    (View.ld (x3 m c t) (Rect.unit (s := S8x128) ![n, 0] ![1, 128] inb) : Vec Ideal S1x128 .f32) (ix2 0 k) = A3 m c (ix2 ⟨n, h⟩ (col t k)) := by
  refine Eq.trans ?_ (b3 m c t ⟨n, by omega⟩ h k)
  exact congrArg (x3 m c t) (funext fun a => Fin.ext (by
    match a with
    | 0 => exact Nat.add_zero n
    | 1 => exact (Nat.zero_add _).trans (Nat.one_mul _)))

theorem pay1_at (u x : Vec Ideal S2048x128 .f32) (w0 w1 w2 : Vec Ideal S1x128 .f32) (a : Vec Ideal S2048x128 .f32) (i : Fin 2048) (k : Fin 128) :
    k0_pay1 u x w0 w1 w2 a (ix2 i k) = a (ix2 i k) * taps (fun r => u (ix2 r k) * x (ix2 r k)) (w0 (ix2 0 k)) (w1 (ix2 0 k)) (w2 (ix2 0 k)) i := by
  pointwise [k0_pay1]
  rw [sel_eq i 0 (by decide), sel_eq i 2047 (by decide)]

theorem out_at (i : Fin 2048) (k : Fin 128) :
    out0_4 (F := Ideal) (x0 m c t) (x1 m c t) (x2 m c t) (x3 m c t) (ix2 i k) = res (A0 m c) (A1 m c) (A2 m c) (A3 m c) (ix2 i (col t k)) := by
  unfold out0_4
  rw [View.canon_unit_zero zero2, View.ld_unit_zero zero2 _ (x0 m c t), View.ld_unit_zero zero2 _ (x1 m c t), View.ld_unit_zero zero2 _ (x2 m c t)]
  refine (pay1_at (x1 m c t) (x2 m c t) _ _ _ (x0 m c t) i k).trans ?_
  rw [tap m c t 0 (by decide), tap m c t 1 (by decide), tap m c t 2 (by decide)]
  simp only [b0, b1, b2]
  rfl

theorem flushed : (dats m 0 c).flushed 4 t = ((cfg0.win 4).blk t).view.read (Elt Ideal) (res (A0 m c) (A1 m c) (A2 m c) (A3 m c)) := by
  rw [Value.flushed4]
  funext y
  obtain ⟨i, k, rfl⟩ : ∃ (i : Fin 2048) (k : Fin 128), y = ix2 i k := split2 y
  show out0_4 (F := Ideal) (x0 m c t) (x1 m c t) (x2 m c t) (x3 m c t) (ix2 i k)
    = res (A0 m c) (A1 m c) (A2 m c) (A3 m c) (((cfg0.win 4).blk t).view.emb (ix2 i k))
  rw [show (((cfg0.win 4).blk t).view.emb (ix2 i k) : S2048x512.Idx) = ix2 i (col t k) from by blk_ext [idx t], out_at]
theorem cover (i : S2048x512.Idx) : ∃ t : Fin cfg0.N, (cfg0.win 4).flush t = true ∧ i ∈ ((cfg0.win 4).blk t).view.set := by
  obtain ⟨r, k, rfl⟩ := split2 i
  have hN : k.val / 128 < cfg0.N := lt_of_lt_of_eq (by omega) N_0.symm
  refine ⟨⟨k.val / 128, hN⟩, flush0_4 _, ?_⟩
  have e : (ix2 r k : S2048x512.Idx)
      = ((cfg0.win 4).blk ⟨k.val / 128, hN⟩).view.emb (ix2 r ⟨k.val % 128, Nat.mod_lt _ (by decide)⟩) := by
    blk_ext [idx ⟨k.val / 128, hN⟩]
  rw [e]
  exact View.emb_mem_set _ _
theorem final : (dats m 0 c).arrAt 4 cfg0.N = res (A0 m c) (A1 m c) (A2 m c) (A3 m c) :=
  (dats m 0 c).arrAt_eq_of_cover 4 _ (fun t _ => flushed m c t) cover

end Cert.ConvFwdIdeal.Proof

namespace Cert.ConvFwdRefIdeal.Proof

open Cert.Base Idealize.ShloMosaic Idealize.ShloMosaic.TcCoe Idealize.SL.Sem Cert.ConvFwdIdeal.Proof
open Cert.ConvIdeal.Proof (flat_at)
open Cert.ConvRefIdeal.Proof (taps_at)

theorem conv : Cert.algebraic_ConvFwdIdeal_ConvFwdRefIdeal
    (hConvFwdIdeal := Cert.ConvFwdIdeal.Gen.facts) (hConvFwdRefIdeal := Cert.ConvFwdRefIdeal.Gen.facts) := by
  intro m g m' g' _ hargs
  refine ⟨fun c => res (A0 m c) (A1 m c) (A2 m c) (A3 m c), ?_, ?_⟩
  · refine (θ_run Cert.ConvFwdIdeal.defs _ _).mono (fun r h c => ?_) (Cert.ConvFwdIdeal.Value.run_blocks m g)
    exact ⟨(h c).1.trans (final m c), (h c).2⟩
  · refine (θ_run Cert.ConvFwdRefIdeal.defs _ _).mono (fun r h c => ?_) (Cert.ConvFwdRefIdeal.Value.run m' g')
    refine ⟨(h c).1.trans ?_, (h c).2⟩
    obtain ⟨e0, e1, e2, e3⟩ := hargs c
    beta_reduce
    obtain ⟨cb, h0⟩ : ∃ x, x = A0 m c := ⟨_, rfl⟩
    obtain ⟨cc, h1⟩ : ∃ x, x = A1 m c := ⟨_, rfl⟩
    obtain ⟨cx, h2⟩ : ∃ x, x = A2 m c := ⟨_, rfl⟩
    obtain ⟨w, h3⟩ : ∃ x, x = A3 m c := ⟨_, rfl⟩
    rw [e0.trans h0.symm, e1.trans h1.symm, e2.trans h2.symm, e3.trans h3.symm, ← h0, ← h1, ← h2, ← h3]
    funext y
    obtain ⟨i, k, rfl⟩ : ∃ (i : Fin 2048) (k : Fin 512), y = ix2 i k := split2 y
    exact (flat_at _ i k).trans (congrArg (cb (ix3 0 i k) * ·) (taps_at cc cx w i k))

/-- The reference ends with its arguments unchanged and no counter raised. -/
theorem frame : Cert.quiescent_ConvFwdRefIdeal (hConvFwdRefIdeal := Cert.ConvFwdRefIdeal.Gen.facts) := fun m ρ _ =>
  (θ_run Cert.ConvFwdRefIdeal.defs _ _).mono
    (fun r h => ⟨fun c => (h c).2, sem_eq_zero_of_no_sems (by decide) r.2⟩)
    (Cert.ConvFwdRefIdeal.Value.run (F := Ideal) m ρ)

end Cert.ConvFwdRefIdeal.Proof

end
-- ==== Proof.RopeFwd.lean ====
/- The rotary embedding: every half of a head's lanes from its own lane and its partner's. -/
module

public import proofs.«01_k».proof.Proof.Rope
public import proofs.«01_k».proof.Proof.Gen.RopeFwdIdeal.Value
public import proofs.«01_k».proof.Proof.Gen.RopeFwdRefIdeal.Run

@[expose] public section

set_option maxRecDepth 16384

noncomputable section

namespace Cert.RopeFwdIdeal.Proof

open Cert.RopeFwdIdeal Cert.RopeFwdIdeal.Gen Idealize.ShloMosaic Idealize.ShloMosaic.TcCoe Idealize.SL.Sem Cert.Base
open Cert.RopeIdeal.Proof (cosT sinT swap)

variable (m : (ℓ : Loc nD τ sig) → Buf (Elt Ideal) ℓ) (c : Dev nD)

abbrev A0 : FVec Ideal S1x2048x6x64 .f32 := m ((c : Thread nD τ).loc main_arg0)
abbrev A1 : FVec Ideal S1x2048x32 .f32 := m ((c : Thread nD τ).loc main_arg1)
abbrev A2 : FVec Ideal S1x2048x32 .f32 := m ((c : Thread nD τ).loc main_arg2)
/-- The heads side by side. -/
abbrev flat (x : FVec Ideal S1x2048x6x64 .f32) : FVec Ideal S2048x384 .f32 := shapeCast S2048x384 x shapeCasts_S1x2048x6x64_S2048x384
abbrev res (x : FVec Ideal S1x2048x6x64 .f32) (a b : FVec Ideal S1x2048x32 .f32) : FVec Ideal S2048x384 .f32 :=
  addf (mulf (flat x) (cosT a)) (mulf (swap (flat x)) (sinT b))

theorem V13 : V m c main_v13 = flat (A0 m c) := by
  dsimp only [V]; after_results; rfl
theorem V9 : V m c main_v9 = cosT (A1 m c) := by
  dsimp only [V]; after_results; rfl
theorem V18 : V m c main_v18 = swap (flat (A0 m c)) := by
  dsimp only [V]; after_results; rfl
theorem V12 : V m c main_v12 = sinT (A2 m c) := by
  dsimp only [V]; after_results; rfl
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := by decide +kernel

theorem pay1_eq (a b d e : Vec Ideal S1024x384 .f32) : k0_pay1 a b d e = addf (mulf a b) (mulf d e) := by
  funext y; obtain ⟨i, k, rfl⟩ := split2 y; pointwise [k0_pay1]
theorem out_eq (a b d e : Vec Ideal S1024x384 .f32) : out0_4 (F := Ideal) a b d e = k0_pay1 a b d e := by
  unfold out0_4
  rw [View.canon_unit_zero zero2, View.ld_unit_zero zero2 _ a, View.ld_unit_zero zero2 _ b, View.ld_unit_zero zero2 _ d, View.ld_unit_zero zero2 _ e]
theorem flushed (t : Fin cfg0.N) : (dats m 0 c).flushed 4 t = ((cfg0.win 4).blk t).view.read (Elt Ideal) (res (A0 m c) (A1 m c) (A2 m c)) := by
  rw [Value.flushed4, out_eq, pay1_eq]
  unfold iblk
  rw [show V m c (Pipeline.arrRef spec0 0) = _ from V13 m c, show V m c (Pipeline.arrRef spec0 1) = _ from V9 m c,
    show V m c (Pipeline.arrRef spec0 2) = _ from V18 m c, show V m c (Pipeline.arrRef spec0 3) = _ from V12 m c]
  rfl
theorem cover (i : S2048x384.Idx) : ∃ t : Fin cfg0.N, (cfg0.win 4).flush t = true ∧ i ∈ ((cfg0.win 4).blk t).view.set := by
  obtain ⟨r, k, rfl⟩ := split2 i
  have hN : r.val / 1024 < cfg0.N := lt_of_lt_of_eq (by omega) N_0.symm
  refine ⟨⟨r.val / 1024, hN⟩, flush0_4 _, ?_⟩
  have e : (ix2 r k : S2048x384.Idx)
      = ((cfg0.win 4).blk ⟨r.val / 1024, hN⟩).view.emb (ix2 ⟨r.val % 1024, Nat.mod_lt _ (by decide)⟩ k) := by
    blk_ext [idx ⟨r.val / 1024, hN⟩]
  rw [e]
  exact View.emb_mem_set _ _
theorem final : (dats m 0 c).arrAt 4 cfg0.N = res (A0 m c) (A1 m c) (A2 m c) :=
  (dats m 0 c).arrAt_eq_of_cover 4 _ (fun t _ => flushed m c t) cover

end Cert.RopeFwdIdeal.Proof

namespace Cert.RopeFwdRefIdeal.Proof

open Cert.Base Idealize.ShloMosaic Idealize.ShloMosaic.TcCoe Idealize.SL.Sem Cert.RopeFwdIdeal.Proof
open Cert.RopeIdeal.Proof (cosT sinT swap)

theorem rope : Cert.algebraic_RopeFwdIdeal_RopeFwdRefIdeal
    (hRopeFwdIdeal := Cert.RopeFwdIdeal.Gen.facts) (hRopeFwdRefIdeal := Cert.RopeFwdRefIdeal.Gen.facts) := by
  intro m g m' g' _ hargs
  refine ⟨fun c => res (A0 m c) (A1 m c) (A2 m c), ?_, ?_⟩
  · refine (θ_run Cert.RopeFwdIdeal.defs _ _).mono (fun r h c => ?_) (Cert.RopeFwdIdeal.Value.run_blocks m g)
    exact ⟨(h c).1.trans (final m c), (h c).2⟩
  · refine (θ_run Cert.RopeFwdRefIdeal.defs _ _).mono (fun r h c => ?_) (Cert.RopeFwdRefIdeal.Value.run m' g')
    refine ⟨(h c).1.trans ?_, (h c).2⟩
    obtain ⟨e0, e1, e2⟩ := hargs c
    beta_reduce
    obtain ⟨x, hx⟩ : ∃ x, x = A0 m c := ⟨_, rfl⟩
    obtain ⟨a, ha⟩ : ∃ a, a = A1 m c := ⟨_, rfl⟩
    obtain ⟨b, hb⟩ : ∃ b, b = A2 m c := ⟨_, rfl⟩
    rw [e0.trans hx.symm, e1.trans ha.symm, e2.trans hb.symm, ← hx, ← ha, ← hb]
    funext y
    obtain ⟨i, k, rfl⟩ : ∃ (i : Fin 2048) (k : Fin 384), y = ix2 i k := split2 y
    pointwise
    by_cases hk : k.val % 64 < 32
    · have q1 : (k.val / 64 * 64 + (1 + k.val / 32 % 2) * 32 + k.val % 32) / 64 = k.val / 64 := by omega
      have q2 : (k.val / 64 * 64 + (1 + k.val / 32 % 2) * 32 + k.val % 32) % 64 = 32 + k.val % 64 := by omega
      have q3 : (1 + k.val / 32 % 2) * 32 + k.val % 32 = 32 + k.val % 64 := by omega
      have h2 : k.val / 32 % 2 < 1 := by omega
      simp only [q1, q2, q3, hk, h2, ↓reduceDIte, mul_neg, sub_eq_add_neg]
    · have q1 : (k.val / 64 * 64 + (k.val / 32 % 2 - 1) * 32 + k.val % 32) / 64 = k.val / 64 := by omega
      have q2 : (k.val / 64 * 64 + (k.val / 32 % 2 - 1) * 32 + k.val % 32) % 64 = k.val % 64 - 32 := by omega
      have q3 : 32 + (k.val % 64 - 32) = k.val % 64 := by omega
      have q4 : (k.val / 32 % 2 - 1) * 32 + k.val % 32 = k.val % 64 - 32 := by omega
      have h2 : ¬ k.val / 32 % 2 < 1 := by omega
      simp only [q1, q2, q3, q4, hk, h2, ↓reduceDIte]

/-- The reference ends with its arguments unchanged and no counter raised. -/
theorem frame : Cert.quiescent_RopeFwdRefIdeal (hRopeFwdRefIdeal := Cert.RopeFwdRefIdeal.Gen.facts) := fun m ρ _ =>
  (θ_run Cert.RopeFwdRefIdeal.defs _ _).mono
    (fun r h => ⟨fun c => (h c).2, sem_eq_zero_of_no_sems (by decide) r.2⟩)
    (Cert.RopeFwdRefIdeal.Value.run (F := Ideal) m ρ)

end Cert.RopeFwdRefIdeal.Proof

end
-- ==== Proof.Silu.lean ====
/- The SiLU of the conditioning, element by element. -/
module

public import proofs.«01_k».proof.Proof.Rows
public import proofs.«01_k».proof.Proof.Gen.SiluIdeal.Value
public import proofs.«01_k».proof.Proof.Gen.SiluRefIdeal.Run

@[expose] public section

set_option maxRecDepth 16384

noncomputable section

namespace Cert.SiluIdeal.Proof

open Cert.SiluIdeal Cert.SiluIdeal.Gen Idealize.ShloMosaic Idealize.ShloMosaic.TcCoe Idealize.SL.Sem Cert.Base

variable (m : (ℓ : Loc nD τ sig) → Buf (Elt Ideal) ℓ) (c : Dev nD)

abbrev A0 : FVec Ideal S8x2048 .f32 := m ((c : Thread nD τ).loc main_arg0)
abbrev res (x : FVec Ideal S8x2048 .f32) : FVec Ideal S8x2048 .f32 := fun y => x y * sgm (x y)

theorem pay1_eq (v : Vec Ideal S8x2048 .f32) : k0_pay1 v = res v := by
  funext y
  show v y * Ideal.div (Ideal.ofBits .f32 0x3F800000#32) (Ideal.ofBits .f32 0x3F800000#32 + Ideal.exp (Ideal.ofBits .f32 0x00000000#32 - v y)) = _
  rw [one_f32, zero_f32, zero_sub]
theorem out_eq (x : Vec Ideal S8x2048 .f32) : out0_1 (F := Ideal) x = res x := by
  unfold out0_1
  rw [View.canon_unit_zero zero2, View.ld_unit_zero zero2 _ x, pay1_eq]

theorem V0 : V m c main_arg0 = A0 m c := rfl
theorem idx : ∀ t : Fin cfg0.N, win0_0.index t = ![0, 0] ∧ win0_1.index t = ![0, 0] := by decide +kernel
theorem flushed (t : Fin cfg0.N) : (dats m 0 c).flushed 1 t = ((cfg0.win 1).blk t).view.read (Elt Ideal) (res (A0 m c)) := by
  rw [Value.flushed1, out_eq]
  unfold iblk
  rw [show V m c (Pipeline.arrRef spec0 0) = _ from V0 m c]
  rfl
theorem cover (i : S8x2048.Idx) : ∃ t : Fin cfg0.N, (cfg0.win 1).flush t = true ∧ i ∈ ((cfg0.win 1).blk t).view.set := by
  obtain ⟨r, k, rfl⟩ := split2 i
  obtain ⟨t, ht⟩ : ∃ t : Fin cfg0.N, t.val = 0 := ⟨⟨0, lt_of_lt_of_eq (by omega) N_0.symm⟩, rfl⟩
  refine ⟨t, flush0_1 t, ?_⟩
  have e : (ix2 r k : S8x2048.Idx) = ((cfg0.win 1).blk t).view.emb (ix2 r k) := by blk_ext [idx t]
  rw [e]
  exact View.emb_mem_set _ _
theorem final : (dats m 0 c).arrAt 1 cfg0.N = res (A0 m c) :=
  (dats m 0 c).arrAt_eq_of_cover 1 _ (fun t _ => flushed m c t) cover

end Cert.SiluIdeal.Proof

namespace Cert.SiluRefIdeal.Proof

open Cert.Base Idealize.ShloMosaic Idealize.ShloMosaic.TcCoe Idealize.SL.Sem Cert.SiluIdeal.Proof

theorem silu : Cert.algebraic_SiluIdeal_SiluRefIdeal
    (hSiluIdeal := Cert.SiluIdeal.Gen.facts) (hSiluRefIdeal := Cert.SiluRefIdeal.Gen.facts) := by
  intro m g m' g' _ hargs
  refine ⟨fun c => res (A0 m c), ?_, ?_⟩
  · refine (θ_run Cert.SiluIdeal.defs _ _).mono (fun r h c => ?_) (Cert.SiluIdeal.Value.run_blocks m g)
    exact ⟨(h c).1.trans (final m c), (h c).2⟩
  · refine (θ_run Cert.SiluRefIdeal.defs _ _).mono (fun r h c => ?_) (Cert.SiluRefIdeal.Value.run m' g')
    refine ⟨(h c).1.trans ?_, (h c).2⟩
    rw [show m' _ = A0 m c from hargs c]
    funext y
    show _ * Ideal.div (Ideal.ofBits .f32 0x3F800000#32) (Ideal.ofBits .f32 0x3F800000#32 + Ideal.exp (-_)) = _
    rw [one_f32]

/-- The reference ends with its arguments unchanged and no counter raised. -/
theorem frame : Cert.quiescent_SiluRefIdeal (hSiluRefIdeal := Cert.SiluRefIdeal.Gen.facts) := fun m ρ _ =>
  (θ_run Cert.SiluRefIdeal.defs _ _).mono
    (fun r h => ⟨fun c => (h c).2, sem_eq_zero_of_no_sems (by decide) r.2⟩)
    (Cert.SiluRefIdeal.Value.run (F := Ideal) m ρ)

end Cert.SiluRefIdeal.Proof

end
-- ==== Proof.Mm.lean ====
/- The input projection: 512 columns of the product at a time, each one sum over the whole contracted axis. -/
module

public import proofs.«01_k».proof.Proof.Rows
public import proofs.«01_k».proof.Proof.Gen.MmIdeal.Value
public import proofs.«01_k».proof.Proof.Gen.MmRefIdeal.Run

@[expose] public section

set_option maxRecDepth 16384

noncomputable section

namespace Cert.MmIdeal.Proof

open Cert.MmIdeal Cert.MmIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S2048x6144 .f32 := m ((c : Thread nD τ).loc main_arg1)
abbrev res (x : FVec Ideal S1x2048x2048 .f32) (w : FVec Ideal S2048x6144 .f32) : FVec Ideal S2048x6144 .f32 :=
  fun y => ∑ l : Fin 2048, x (ix3 0 (y 0) l) * w (ix2 l (y 1))

abbrev rows (x : FVec Ideal S1x2048x2048 .f32) : FVec Ideal S2048x2048 .bf16 :=
  truncf .bf16 (shapeCast S2048x2048 x shapeCasts_S1x2048x2048_S2048x2048) bitsLt_bf16_f32
abbrev turned (w : FVec Ideal S2048x6144 .f32) : FVec Ideal S6144x2048 .bf16 :=
  truncf .bf16 (transpose S6144x2048 [1, 0] w transposes_S2048x6144_S6144x2048_1_0) bitsLt_bf16_f32
theorem rows_at (x : FVec Ideal S1x2048x2048 .f32) (i l : Fin 2048) : rows x (ix2 i l) = x (ix3 0 i l) := by
  pointwise
theorem turned_at (w : FVec Ideal S2048x6144 .f32) (j : Fin 6144) (l : Fin 2048) : turned w (ix2 j l) = w (ix2 l j) := by
  pointwise

theorem V1 : V m c main_v1 = rows (A0 m c) := by dsimp only [V]; after_results; rfl
theorem V3 : V m c main_v3 = turned (A1 m c) := by dsimp only [V]; after_results
theorem idx : ∀ t : Fin cfg0.N, win0_0.index t = ![0, 0] ∧ win0_1.index t = ![t.val, 0] ∧ win0_2.index t = ![0, t.val] := by decide +kernel

variable (t : Fin cfg0.N)
abbrev col (j : Fin 512) : Fin 6144 := ⟨t.val * 512 + j.val, by have := lt_of_lt_of_eq t.isLt N_0; omega⟩
abbrev x0 : Vec Ideal S2048x2048 .bf16 := iblk m c 0 t
abbrev x1 : Vec Ideal S512x2048 .bf16 := iblk m c 1 t
theorem b0 (i l : Fin 2048) : x0 m c t (ix2 i l) = A0 m c (ix3 0 i l) := by
  refine Eq.trans ?_ (rows_at (A0 m c) i l)
  unfold x0 iblk
  rw [show V m c (Pipeline.arrRef spec0 0) = _ from V1 m c]
  exact congrArg (rows (A0 m c)) (by blk_ext [idx t])
theorem b1 (j : Fin 512) (l : Fin 2048) : x1 m c t (ix2 j l) = A1 m c (ix2 l (col t j)) := by
  refine Eq.trans ?_ (turned_at (A1 m c) (col t j) l)
  unfold x1 iblk
  rw [show V m c (Pipeline.arrRef spec0 1) = _ from V3 m c]
  exact congrArg (turned (A1 m c)) (by blk_ext [idx t])

/-- One element of the body's product, over the contracted axis. -/
theorem pay1_at (a : Vec Ideal S2048x2048 .bf16) (b : Vec Ideal S512x2048 .bf16) (i : Fin 2048) (j : Fin 512) :
    k0_pay1 a b (ix2 i j) = ∑ l : Fin 2048, a (ix2 i l) * b (ix2 j l) := by
  pointwise [k0_pay1]
theorem out_eq (a : Vec Ideal S2048x2048 .bf16) (b : Vec Ideal S512x2048 .bf16) : out0_2 (F := Ideal) a b = k0_pay1 a b := by
  unfold out0_2
  rw [View.canon_unit_zero zero2, View.ld_unit_zero zero2 _ a, View.ld_unit_zero zero2 _ b]

theorem emb (i : Fin 2048) (j : Fin 512) : (((cfg0.win 2).blk t).view.emb (ix2 i j) : S2048x6144.Idx) = ix2 i (col t j) := by
  blk_ext [idx t]
theorem flushed : (dats m 0 c).flushed 2 t = ((cfg0.win 2).blk t).view.read (Elt Ideal) (res (A0 m c) (A1 m c)) := by
  rw [Value.flushed2, out_eq]
  funext y
  obtain ⟨i, j, rfl⟩ := split2 (r := 2048) (n := 512) y
  show k0_pay1 (x0 m c t) (x1 m c t) (ix2 i j) = res (A0 m c) (A1 m c) (((cfg0.win 2).blk t).view.emb (ix2 i j))
  rw [emb, pay1_at]
  exact Finset.sum_congr rfl fun l _ => congrArg₂ (· * ·) (b0 m c t i l) (b1 m c t j l)
omit t in
theorem cover (y : S2048x6144.Idx) : ∃ t : Fin cfg0.N, (cfg0.win 2).flush t = true ∧ y ∈ ((cfg0.win 2).blk t).view.set := by
  obtain ⟨i, k, rfl⟩ := split2 y
  obtain ⟨t, ht⟩ : ∃ t : Fin cfg0.N, t.val = k.val / 512 := ⟨⟨k.val / 512, lt_of_lt_of_eq (by omega) N_0.symm⟩, rfl⟩
  refine ⟨t, flush0_2 t, ?_⟩
  have e : (ix2 i k : S2048x6144.Idx) = ((cfg0.win 2).blk t).view.emb (ix2 i ⟨k.val % 512, by omega⟩) := by
    rw [emb]
    exact congrArg (ix2 i) (Fin.ext (by show k.val = t.val * 512 + k.val % 512; omega))
  rw [e]
  exact View.emb_mem_set _ _
omit t in
theorem final : (dats m 0 c).arrAt 2 cfg0.N = res (A0 m c) (A1 m c) :=
  (dats m 0 c).arrAt_eq_of_cover 2 _ (fun t _ => flushed m c t) cover

end Cert.MmIdeal.Proof

namespace Cert.MmRefIdeal.Proof

open Cert.Base Idealize.ShloMosaic Idealize.ShloMosaic.TcCoe Idealize.SL.Sem Cert.MmIdeal.Proof

open Cert.MmRefIdeal Cert.MmRefIdeal.Gen in
theorem product_at (x : FVec Ideal S1x2048x2048 .f32) (w : FVec Ideal S2048x6144 .f32) (i : Fin 2048) (j : Fin 6144) :
    (shapeCast S2048x6144 (Host.dotGeneral dot_S1x2048x2048_S2048x6144_S1x2048x6144_2_0_01_1_n_n none x w) shapeCasts_S1x2048x6144_S2048x6144
      : FVec Ideal S2048x6144 .f32) (ix2 i j) = ∑ l : Fin 2048, x (ix3 0 i l) * w (ix2 l j) := by
  pointwise

theorem mm : Cert.algebraic_MmIdeal_MmRefIdeal
    (hMmIdeal := Cert.MmIdeal.Gen.facts) (hMmRefIdeal := Cert.MmRefIdeal.Gen.facts) := by
  intro m g m' g' _ hargs
  refine ⟨fun c => res (A0 m c) (A1 m c), ?_, ?_⟩
  · refine (θ_run Cert.MmIdeal.defs _ _).mono (fun r h c => ?_) (Cert.MmIdeal.Value.run_blocks m g)
    exact ⟨(h c).1.trans (final m c), (h c).2⟩
  · refine (θ_run Cert.MmRefIdeal.defs _ _).mono (fun r h c => ?_) (Cert.MmRefIdeal.Value.run m' g')
    refine ⟨(h c).1.trans ?_, (h c).2⟩
    obtain ⟨e0, e1⟩ := hargs c
    rw [show m' _ = A0 m c from e0, show m' _ = A1 m c from e1]
    funext y
    obtain ⟨i, j, rfl⟩ := split2 (r := 2048) (n := 6144) y
    exact product_at _ _ i j

/-- The reference ends with its arguments unchanged and no counter raised. -/
theorem frame : Cert.quiescent_MmRefIdeal (hMmRefIdeal := Cert.MmRefIdeal.Gen.facts) := fun m ρ _ =>
  (θ_run Cert.MmRefIdeal.defs _ _).mono
    (fun r h => ⟨fun c => (h c).2, sem_eq_zero_of_no_sems (by decide) r.2⟩)
    (Cert.MmRefIdeal.Value.run (F := Ideal) m ρ)

end Cert.MmRefIdeal.Proof

end
-- ==== Proof.Adamw.lean ====
/- The optimiser: both sides are the same tree of operations at every element. -/
module

public import proofs.«01_k».proof.Proof.Rows
public import proofs.«01_k».proof.Proof.Gen.AdamwIdeal.Value
public import proofs.«01_k».proof.Proof.Gen.AdamwRefIdeal.Run

@[expose] public section

set_option maxRecDepth 16384

noncomputable section

namespace Cert.AdamwRefIdeal.Proof

open Cert.Base Idealize.ShloMosaic Idealize.ShloMosaic.TcCoe Idealize.SL.Sem
open Cert.AdamwIdeal.Value (G4 G5 G6)

theorem adamw : Cert.algebraic_AdamwIdeal_AdamwRefIdeal
    (hAdamwIdeal := Cert.AdamwIdeal.Gen.facts) (hAdamwRefIdeal := Cert.AdamwRefIdeal.Gen.facts) := by
  intro m g m' g' _ hargs
  refine ⟨_, _, _, Cert.AdamwIdeal.Value.run m g, ?_⟩
  refine (θ_run Cert.AdamwRefIdeal.defs _ _).mono (fun r h c => ?_) (Cert.AdamwRefIdeal.Value.run m' g')
  obtain ⟨h0, h1, h2, h3⟩ := h c
  obtain ⟨e0, e1, e2, e3⟩ := hargs c
  rw [← e0, ← e1, ← e2, ← e3]
  exact ⟨h0.trans rfl, h1.trans rfl, h2.trans rfl, h3⟩

/-- The reference ends with its arguments unchanged and no counter raised. -/
theorem frame : Cert.quiescent_AdamwRefIdeal (hAdamwRefIdeal := Cert.AdamwRefIdeal.Gen.facts) := fun m ρ _ =>
  (θ_run Cert.AdamwRefIdeal.defs _ _).mono
    (fun r h => ⟨fun c => (h c).2.2.2, sem_eq_zero_of_no_sems (by decide) r.2⟩)
    (Cert.AdamwRefIdeal.Value.run (F := Ideal) m ρ)

end Cert.AdamwRefIdeal.Proof

end
-- ==== Proof.SumDev.lean ====
/- The sum over the devices: the eight gathered rows, added one after another. -/
module

public import proofs.«01_k».proof.Proof.Rows
public import proofs.«01_k».proof.Proof.Gen.SumDevIdeal.Value
public import proofs.«01_k».proof.Proof.Gen.SumDevRefIdeal.Run

@[expose] public section

set_option maxRecDepth 16384

noncomputable section

namespace Cert.SumDevIdeal.Proof

open Cert.SumDevIdeal Cert.SumDevIdeal.Gen Idealize.ShloMosaic Idealize.ShloMosaic.TcCoe Idealize.SL.Sem Cert.Base

abbrev A0 (m : (ℓ : Loc nD τ sig) → Buf (Elt Ideal) ℓ) (c : Dev nD) : FVec Ideal S8x1x32768 .f32 := m ((c : Thread nD τ).loc main_arg0)

theorem slice_at (x : Vec Ideal S8x1x32768 .f32) (n : Nat) (h : n < 8)
    (inb : ∀ a, (![n, 0, 0] : Fin 3 → Nat) a + S1x1x32768.size a ≤ S8x1x32768.size a) (k : Fin 32768) :
    (View.ld x (Rect.unit (s := S8x1x32768) ![n, 0, 0] S1x1x32768.size inb) : Vec Ideal S1x1x32768 .f32) (ix3 0 0 k) = x (ix3 ⟨n, h⟩ 0 k) :=
  congrArg x (funext fun a => Fin.ext (by
    match a with
    | 0 => exact Nat.add_zero n
    | 1 => rfl
    | 2 => exact (Nat.zero_add _).trans (Nat.one_mul _)))
theorem pay1_at (v0 v1 v2 v3 v4 v5 v6 v7 : Vec Ideal S1x1x32768 .f32) (k : Fin 32768) :
    k0_pay1 v0 v1 v2 v3 v4 v5 v6 v7 (ix2 0 k) = v0 (ix3 0 0 k) + v1 (ix3 0 0 k) + v2 (ix3 0 0 k) + v3 (ix3 0 0 k)
      + v4 (ix3 0 0 k) + v5 (ix3 0 0 k) + v6 (ix3 0 0 k) + v7 (ix3 0 0 k) := by
  pointwise [k0_pay1]
theorem sum_at (x : Vec Ideal S8x1x32768 .f32) (k : Fin 32768) : Value.G1 x (ix2 0 k) = ∑ d : Fin 8, x (ix3 d 0 k) := by
  refine (pay1_at _ _ _ _ _ _ _ _ k).trans ?_
  rw [Fin.sum_univ_eight]
  unfold r0_0 r0_1 r0_2 r0_3 r0_4 r0_5 r0_6 r0_7
  rw [slice_at x 0 (by decide), slice_at x 1 (by decide), slice_at x 2 (by decide), slice_at x 3 (by decide),
    slice_at x 4 (by decide), slice_at x 5 (by decide), slice_at x 6 (by decide), slice_at x 7 (by decide)]
  rfl

end Cert.SumDevIdeal.Proof

namespace Cert.SumDevRefIdeal.Proof

open Cert.Base Idealize.ShloMosaic Idealize.ShloMosaic.TcCoe Idealize.SL.Sem Cert.SumDevIdeal.Proof

open Cert.SumDevRefIdeal Cert.SumDevRefIdeal.Gen in
theorem host_at (x : FVec Ideal S8x1x32768 .f32) (k : Fin 32768) :
    (Host.reduceAdd x (constant S_ .f32 0x00000000#32) reducesTo_S8x1x32768_S1x32768_d0 h_S_ : FVec Ideal S1x32768 .f32) (ix2 0 k)
      = ∑ d : Fin 8, x (ix3 d 0 k) := by
  pointwise

theorem sumdev : Cert.algebraic_SumDevIdeal_SumDevRefIdeal
    (hSumDevIdeal := Cert.SumDevIdeal.Gen.facts) (hSumDevRefIdeal := Cert.SumDevRefIdeal.Gen.facts) := by
  intro m g m' g' _ hargs
  refine ⟨fun c => Cert.SumDevIdeal.Value.G1 (A0 m c), ?_, ?_⟩
  · exact (θ_run Cert.SumDevIdeal.defs _ _).mono (fun r h c => ⟨(h c).1, (h c).2.2⟩) (Cert.SumDevIdeal.Value.run m g)
  · refine (θ_run Cert.SumDevRefIdeal.defs _ _).mono (fun r h c => ?_) (Cert.SumDevRefIdeal.Value.run m' g')
    refine ⟨(h c).1.trans ?_, (h c).2⟩
    rw [show m' _ = A0 m c from hargs c]
    funext y
    obtain ⟨i, k, rfl⟩ := split2 (r := 1) (n := 32768) y
    obtain rfl : i = 0 := Subsingleton.elim _ _
    exact (host_at _ k).trans (sum_at _ k).symm

/-- The reference ends with its arguments unchanged and no counter raised. -/
theorem frame : Cert.quiescent_SumDevRefIdeal (hSumDevRefIdeal := Cert.SumDevRefIdeal.Gen.facts) := fun m ρ _ =>
  (θ_run Cert.SumDevRefIdeal.defs _ _).mono
    (fun r h => ⟨fun c => (h c).2, sem_eq_zero_of_no_sems (by decide) r.2⟩)
    (Cert.SumDevRefIdeal.Value.run (F := Ideal) m ρ)

end Cert.SumDevRefIdeal.Proof

end
-- ==== Proof.MmDw.lean ====
/- The output projection's weight gradient: 512 columns at a time, each element one sum over the positions. -/
module

public import proofs.«01_k».proof.Proof.Rows
public import proofs.«01_k».proof.Proof.Gen.MmDwIdeal.Value
public import proofs.«01_k».proof.Proof.Gen.MmDwRefIdeal.Run

@[expose] public section

set_option maxRecDepth 16384

noncomputable section

namespace Cert.MmDwIdeal.Proof

open Cert.MmDwIdeal Cert.MmDwIdeal.Gen Idealize.ShloMosaic Idealize.ShloMosaic.TcCoe Idealize.SL.Sem Cert.Base

variable (m : (ℓ : Loc nD τ sig) → Buf (Elt Ideal) ℓ) (c : Dev nD)

abbrev A0 : FVec Ideal S1x2048x2048 .f32 := m ((c : Thread nD τ).loc main_arg0)
abbrev A1 : FVec Ideal S1x2048x2048 .f32 := m ((c : Thread nD τ).loc main_arg1)
abbrev res (y d : FVec Ideal S1x2048x2048 .f32) : FVec Ideal S2048x2048 .bf16 :=
  fun i => ∑ l : Fin 2048, y (ix3 0 l (i 0)) * d (ix3 0 l (i 1))

abbrev rows (x : FVec Ideal S1x2048x2048 .f32) : FVec Ideal S2048x2048 .bf16 :=
  truncf .bf16 (shapeCast S2048x2048 x shapeCasts_S1x2048x2048_S2048x2048) bitsLt_bf16_f32
theorem rows_at (x : FVec Ideal S1x2048x2048 .f32) (i l : Fin 2048) : rows x (ix2 i l) = x (ix3 0 i l) := by
  pointwise

theorem V1 : V m c main_v1 = rows (A0 m c) := by dsimp only [V]; after_results; rfl
theorem V3 : V m c main_v3 = rows (A1 m c) := by dsimp only [V]; after_results; rfl
theorem idx : ∀ t : Fin cfg0.N, win0_0.index t = ![0, 0] ∧ win0_1.index t = ![0, t.val] ∧ win0_2.index t = ![0, t.val] := by decide +kernel

variable (t : Fin cfg0.N)
abbrev col (j : Fin 512) : Fin 2048 := ⟨t.val * 512 + j.val, by have := lt_of_lt_of_eq t.isLt N_0; omega⟩
abbrev x0 : Vec Ideal S2048x2048 .bf16 := iblk m c 0 t
abbrev x1 : Vec Ideal S2048x512 .bf16 := iblk m c 1 t
theorem b0 (l i : Fin 2048) : x0 m c t (ix2 l i) = A0 m c (ix3 0 l i) := by
  refine Eq.trans ?_ (rows_at (A0 m c) l i)
  unfold x0 iblk
  rw [show V m c (Pipeline.arrRef spec0 0) = _ from V1 m c]
  exact congrArg (rows (A0 m c)) (by blk_ext [idx t])
theorem b1 (l : Fin 2048) (j : Fin 512) : x1 m c t (ix2 l j) = A1 m c (ix3 0 l (col t j)) := by
  refine Eq.trans ?_ (rows_at (A1 m c) l (col t j))
  unfold x1 iblk
  rw [show V m c (Pipeline.arrRef spec0 1) = _ from V3 m c]
  exact congrArg (rows (A1 m c)) (by blk_ext [idx t])

/-- One element of the body's product, both operands taken down the contracted rows. -/
theorem pay1_at (a : Vec Ideal S2048x2048 .bf16) (b : Vec Ideal S2048x512 .bf16) (i : Fin 2048) (j : Fin 512) :
    k0_pay1 a b (ix2 i j) = ∑ l : Fin 2048, a (ix2 l i) * b (ix2 l j) := by
  pointwise [k0_pay1]
theorem out_eq (a : Vec Ideal S2048x2048 .bf16) (b : Vec Ideal S2048x512 .bf16) : out0_2 (F := Ideal) a b = k0_pay1 a b := by
  unfold out0_2
  rw [View.canon_unit_zero zero2, View.ld_unit_zero zero2 _ a, View.ld_unit_zero zero2 _ b]

theorem emb (i : Fin 2048) (j : Fin 512) : (((cfg0.win 2).blk t).view.emb (ix2 i j) : S2048x2048.Idx) = ix2 i (col t j) := by
  blk_ext [idx t]
theorem flushed : (dats m 0 c).flushed 2 t = ((cfg0.win 2).blk t).view.read (Elt Ideal) (res (A0 m c) (A1 m c)) := by
  rw [Value.flushed2, out_eq]
  funext y
  obtain ⟨i, j, rfl⟩ := split2 (r := 2048) (n := 512) y
  show k0_pay1 (x0 m c t) (x1 m c t) (ix2 i j) = res (A0 m c) (A1 m c) (((cfg0.win 2).blk t).view.emb (ix2 i j))
  rw [emb, pay1_at]
  exact Finset.sum_congr rfl fun l _ => congrArg₂ (· * ·) (b0 m c t l i) (b1 m c t l j)
omit t in
theorem cover (y : S2048x2048.Idx) : ∃ t : Fin cfg0.N, (cfg0.win 2).flush t = true ∧ y ∈ ((cfg0.win 2).blk t).view.set := by
  obtain ⟨i, k, rfl⟩ := split2 y
  obtain ⟨t, ht⟩ : ∃ t : Fin cfg0.N, t.val = k.val / 512 := ⟨⟨k.val / 512, lt_of_lt_of_eq (by omega) N_0.symm⟩, rfl⟩
  refine ⟨t, flush0_2 t, ?_⟩
  have e : (ix2 i k : S2048x2048.Idx) = ((cfg0.win 2).blk t).view.emb (ix2 i ⟨k.val % 512, by omega⟩) := by
    rw [emb]
    exact congrArg (ix2 i) (Fin.ext (by show k.val = t.val * 512 + k.val % 512; omega))
  rw [e]
  exact View.emb_mem_set _ _
omit t in
theorem final : (dats m 0 c).arrAt 2 cfg0.N = res (A0 m c) (A1 m c) :=
  (dats m 0 c).arrAt_eq_of_cover 2 _ (fun t _ => flushed m c t) cover

end Cert.MmDwIdeal.Proof

namespace Cert.MmDwRefIdeal.Proof

open Cert.Base Idealize.ShloMosaic Idealize.ShloMosaic.TcCoe Idealize.SL.Sem Cert.MmDwIdeal.Proof

open Cert.MmDwRefIdeal Cert.MmDwRefIdeal.Gen in
theorem product_at (y d : FVec Ideal S1x2048x2048 .f32) (i j : Fin 2048) :
    (truncf .bf16 (transpose S2048x2048 [1, 0] (Host.dotGeneral dot_S1x2048x2048_S1x2048x2048_S2048x2048_01_01_2_2_n_n none d y)
      transposes_S2048x2048_S2048x2048_1_0) bitsLt_bf16_f32 : FVec Ideal S2048x2048 .bf16) (ix2 i j)
      = ∑ l : Fin 2048, y (ix3 0 l i) * d (ix3 0 l j) := by
  pointwise
  simp only [Fin.sum_univ_one, mul_comm]

theorem mmdw : Cert.algebraic_MmDwIdeal_MmDwRefIdeal
    (hMmDwIdeal := Cert.MmDwIdeal.Gen.facts) (hMmDwRefIdeal := Cert.MmDwRefIdeal.Gen.facts) := by
  intro m g m' g' _ hargs
  refine ⟨fun c => res (A0 m c) (A1 m c), ?_, ?_⟩
  · refine (θ_run Cert.MmDwIdeal.defs _ _).mono (fun r h c => ?_) (Cert.MmDwIdeal.Value.run_blocks m g)
    exact ⟨(h c).1.trans (final m c), (h c).2⟩
  · refine (θ_run Cert.MmDwRefIdeal.defs _ _).mono (fun r h c => ?_) (Cert.MmDwRefIdeal.Value.run m' g')
    refine ⟨(h c).1.trans ?_, (h c).2⟩
    obtain ⟨e0, e1⟩ := hargs c
    rw [show m' _ = A1 m c from e1, show m' _ = A0 m c from e0]
    funext y
    obtain ⟨i, j, rfl⟩ := split2 (r := 2048) (n := 2048) y
    exact product_at _ _ i j

/-- The reference ends with its arguments unchanged and no counter raised. -/
theorem frame : Cert.quiescent_MmDwRefIdeal (hMmDwRefIdeal := Cert.MmDwRefIdeal.Gen.facts) := fun m ρ _ =>
  (θ_run Cert.MmDwRefIdeal.defs _ _).mono
    (fun r h => ⟨fun c => (h c).2, sem_eq_zero_of_no_sems (by decide) r.2⟩)
    (Cert.MmDwRefIdeal.Value.run (F := Ideal) m ρ)

end Cert.MmDwRefIdeal.Proof

end
-- ==== Proof.Ada.lean ====
/- The modulation's projection: 512 columns of the product at a time, the bias added to each. -/
module

public import proofs.«01_k».proof.Proof.Rows
public import proofs.«01_k».proof.Proof.Gen.AdaIdeal.Value
public import proofs.«01_k».proof.Proof.Gen.AdaRefIdeal.Run

@[expose] public section

set_option maxRecDepth 16384

noncomputable section

namespace Cert.AdaIdeal.Proof

open Cert.AdaIdeal Cert.AdaIdeal.Gen Idealize.ShloMosaic Idealize.ShloMosaic.TcCoe Idealize.SL.Sem Cert.Base

variable (m : (ℓ : Loc nD τ sig) → Buf (Elt Ideal) ℓ) (c : Dev nD)

abbrev A0 : FVec Ideal S16x2048 .f32 := m ((c : Thread nD τ).loc main_arg0)
abbrev A1 : FVec Ideal S2048x1536 .f32 := m ((c : Thread nD τ).loc main_arg1)
abbrev A2 : FVec Ideal S1536 .f32 := m ((c : Thread nD τ).loc main_arg2)
abbrev res (x : FVec Ideal S16x2048 .f32) (w : FVec Ideal S2048x1536 .f32) (b : FVec Ideal S1536 .f32) : FVec Ideal S16x1536 .f32 :=
  fun y => (∑ l : Fin 2048, x (ix2 (y 0) l) * w (ix2 l (y 1))) + b (ix1 (y 1))

abbrev row (b : FVec Ideal S1536 .f32) : FVec Ideal S1x1536 .f32 := broadcastInDim S1x1536 ![1] bcast_S1536_S1x1536_1 b
theorem row_at (b : FVec Ideal S1536 .f32) (j : Fin 1536) : row b (ix2 0 j) = b (ix1 j) := by
  pointwise

theorem V0 : V m c main_arg0 = A0 m c := V_main_arg0 m c
theorem V1 : V m c main_arg1 = A1 m c := V_main_arg1 m c
theorem V2 : V m c main_v0 = row (A2 m c) := by dsimp only [V]; after_results
theorem idx : ∀ t : Fin cfg0.N, win0_0.index t = ![0, 0] ∧ win0_1.index t = ![0, t.val] ∧ win0_2.index t = ![0, t.val]
    ∧ win0_3.index t = ![0, t.val] := by decide +kernel

variable (t : Fin cfg0.N)
abbrev col (j : Fin 512) : Fin 1536 := ⟨t.val * 512 + j.val, by have := lt_of_lt_of_eq t.isLt N_0; omega⟩
abbrev x0 : Vec Ideal S16x2048 .f32 := iblk m c 0 t
abbrev x1 : Vec Ideal S2048x512 .f32 := iblk m c 1 t
abbrev x2 : Vec Ideal S1x512 .f32 := iblk m c 2 t
theorem b0 (i : Fin 16) (l : Fin 2048) : x0 m c t (ix2 i l) = A0 m c (ix2 i l) := by
  unfold x0 iblk
  rw [show V m c (Pipeline.arrRef spec0 0) = _ from V0 m c]
  exact congrArg (A0 m c) (by blk_ext [idx t])
theorem b1 (l : Fin 2048) (j : Fin 512) : x1 m c t (ix2 l j) = A1 m c (ix2 l (col t j)) := by
  unfold x1 iblk
  rw [show V m c (Pipeline.arrRef spec0 1) = _ from V1 m c]
  exact congrArg (A1 m c) (by blk_ext [idx t])
theorem b2 (j : Fin 512) : x2 m c t (ix2 0 j) = A2 m c (ix1 (col t j)) := by
  refine Eq.trans ?_ (row_at (A2 m c) (col t j))
  unfold x2 iblk
  rw [show V m c (Pipeline.arrRef spec0 2) = _ from V2 m c]
  exact congrArg (row (A2 m c)) (by blk_ext [idx t])

/-- One element of the body's product with its column's bias. -/
theorem pay1_at (a : Vec Ideal S16x2048 .f32) (w : Vec Ideal S2048x512 .f32) (b : Vec Ideal S1x512 .f32) (i : Fin 16) (j : Fin 512) :
    k0_pay1 a w b (ix2 i j) = (∑ l : Fin 2048, a (ix2 i l) * w (ix2 l j)) + b (ix2 0 j) := by
  pointwise [k0_pay1]
theorem out_eq (a : Vec Ideal S16x2048 .f32) (w : Vec Ideal S2048x512 .f32) (b : Vec Ideal S1x512 .f32) :
    out0_3 (F := Ideal) a w b = k0_pay1 a w b := by
  unfold out0_3
  rw [View.canon_unit_zero zero2, View.ld_unit_zero zero2 _ a, View.ld_unit_zero zero2 _ w, View.ld_unit_zero zero2 _ b]

theorem emb (i : Fin 16) (j : Fin 512) : (((cfg0.win 3).blk t).view.emb (ix2 i j) : S16x1536.Idx) = ix2 i (col t j) := by
  blk_ext [idx t]
theorem flushed : (dats m 0 c).flushed 3 t = ((cfg0.win 3).blk t).view.read (Elt Ideal) (res (A0 m c) (A1 m c) (A2 m c)) := by
  rw [Value.flushed3, out_eq]
  funext y
  obtain ⟨i, j, rfl⟩ := split2 (r := 16) (n := 512) y
  show k0_pay1 (x0 m c t) (x1 m c t) (x2 m c t) (ix2 i j) = res (A0 m c) (A1 m c) (A2 m c) (((cfg0.win 3).blk t).view.emb (ix2 i j))
  rw [emb, pay1_at]
  exact congrArg₂ (· + ·) (Finset.sum_congr rfl fun l _ => congrArg₂ (· * ·) (b0 m c t i l) (b1 m c t l j)) (b2 m c t j)
omit t in
theorem cover (y : S16x1536.Idx) : ∃ t : Fin cfg0.N, (cfg0.win 3).flush t = true ∧ y ∈ ((cfg0.win 3).blk t).view.set := by
  obtain ⟨i, k, rfl⟩ := split2 y
  obtain ⟨t, ht⟩ : ∃ t : Fin cfg0.N, t.val = k.val / 512 := ⟨⟨k.val / 512, lt_of_lt_of_eq (by omega) N_0.symm⟩, rfl⟩
  refine ⟨t, flush0_3 t, ?_⟩
  have e : (ix2 i k : S16x1536.Idx) = ((cfg0.win 3).blk t).view.emb (ix2 i ⟨k.val % 512, by omega⟩) := by
    rw [emb]
    exact congrArg (ix2 i) (Fin.ext (by show k.val = t.val * 512 + k.val % 512; omega))
  rw [e]
  exact View.emb_mem_set _ _
omit t in
theorem final : (dats m 0 c).arrAt 3 cfg0.N = res (A0 m c) (A1 m c) (A2 m c) :=
  (dats m 0 c).arrAt_eq_of_cover 3 _ (fun t _ => flushed m c t) cover

end Cert.AdaIdeal.Proof

namespace Cert.AdaRefIdeal.Proof

open Cert.Base Idealize.ShloMosaic Idealize.ShloMosaic.TcCoe Idealize.SL.Sem Cert.AdaIdeal.Proof

open Cert.AdaRefIdeal Cert.AdaRefIdeal.Gen in
theorem product_at (x : FVec Ideal S16x2048 .f32) (w : FVec Ideal S2048x1536 .f32) (b : FVec Ideal S1536 .f32) (i : Fin 16) (j : Fin 1536) :
    (addf (Host.dotGeneral dot_S16x2048_S2048x1536_S16x1536_1_0_0_1_n_n none x w)
      (broadcastInDim S16x1536 ![0, 1] bcast_S1x1536_S16x1536_0_1 (broadcastInDim S1x1536 ![1] bcast_S1536_S1x1536_1 b))
      : FVec Ideal S16x1536 .f32) (ix2 i j) = (∑ l : Fin 2048, x (ix2 i l) * w (ix2 l j)) + b (ix1 j) := by
  pointwise

theorem ada : Cert.algebraic_AdaIdeal_AdaRefIdeal
    (hAdaIdeal := Cert.AdaIdeal.Gen.facts) (hAdaRefIdeal := Cert.AdaRefIdeal.Gen.facts) := by
  intro m g m' g' _ hargs
  refine ⟨fun c => res (A0 m c) (A1 m c) (A2 m c), ?_, ?_⟩
  · refine (θ_run Cert.AdaIdeal.defs _ _).mono (fun r h c => ?_) (Cert.AdaIdeal.Value.run_blocks m g)
    exact ⟨(h c).1.trans (final m c), (h c).2⟩
  · refine (θ_run Cert.AdaRefIdeal.defs _ _).mono (fun r h c => ?_) (Cert.AdaRefIdeal.Value.run m' g')
    refine ⟨(h c).1.trans ?_, (h c).2⟩
    obtain ⟨e0, e1, e2⟩ := hargs c
    rw [show m' _ = A0 m c from e0, show m' _ = A1 m c from e1, show m' _ = A2 m c from e2]
    funext y
    obtain ⟨i, j, rfl⟩ := split2 (r := 16) (n := 1536) y
    exact product_at _ _ _ i j

/-- The reference ends with its arguments unchanged and no counter raised. -/
theorem frame : Cert.quiescent_AdaRefIdeal (hAdaRefIdeal := Cert.AdaRefIdeal.Gen.facts) := fun m ρ _ =>
  (θ_run Cert.AdaRefIdeal.defs _ _).mono
    (fun r h => ⟨fun c => (h c).2, sem_eq_zero_of_no_sems (by decide) r.2⟩)
    (Cert.AdaRefIdeal.Value.run (F := Ideal) m ρ)

end Cert.AdaRefIdeal.Proof

end
-- ==== Proof.MmDh.lean ====
/- The gradient of the input projection in its rows: the contracted axis of 6144 comes in three blocks, whose products are
   added in a scratch array; the last block's point writes the sum out. -/
module

public import proofs.«01_k».proof.Proof.Rows
public import proofs.«01_k».proof.Proof.Gen.MmDhIdeal.Value
public import proofs.«01_k».proof.Proof.Gen.MmDhRefIdeal.Run
public import Idealize.ShloMosaic.Lib.Pipeline.ValueKit
public import Idealize.ShloMosaic.Lib.Pipeline.ReadBack

@[expose] public section

set_option maxRecDepth 16384

noncomputable section

namespace Cert.MmDhIdeal.Proof

open Cert.MmDhIdeal Cert.MmDhIdeal.Gen Cert.MmDhIdeal.Value Idealize.ShloMosaic Idealize.ShloMosaic.TcCoe Idealize.SL.Sem Cert.Base

variable (m : (ℓ : Loc nD τ sig) → Buf (Elt Ideal) ℓ) (c : Dev nD)

abbrev A0 : FVec Ideal S1x2048x6144 .f32 := m ((c : Thread nD τ).loc main_arg0)
abbrev A1 : FVec Ideal S2048x6144 .f32 := m ((c : Thread nD τ).loc main_arg1)
abbrev res (x : FVec Ideal S1x2048x6144 .f32) (w : FVec Ideal S2048x6144 .f32) : FVec Ideal S2048x2048 .f32 :=
  fun y => ∑ l : Fin 6144, x (ix3 0 (y 0) l) * w (ix2 (y 1) l)

abbrev rows (x : FVec Ideal S1x2048x6144 .f32) : FVec Ideal S2048x6144 .bf16 :=
  truncf .bf16 (shapeCast S2048x6144 x shapeCasts_S1x2048x6144_S2048x6144) bitsLt_bf16_f32
abbrev turned (w : FVec Ideal S2048x6144 .f32) : FVec Ideal S6144x2048 .bf16 :=
  truncf .bf16 (transpose S6144x2048 [1, 0] w transposes_S2048x6144_S6144x2048_1_0) bitsLt_bf16_f32
theorem rows_at (x : FVec Ideal S1x2048x6144 .f32) (i : Fin 2048) (l : Fin 6144) : rows x (ix2 i l) = x (ix3 0 i l) := by
  pointwise
theorem turned_at (w : FVec Ideal S2048x6144 .f32) (l : Fin 6144) (j : Fin 2048) : turned w (ix2 l j) = w (ix2 j l) := by
  pointwise

theorem V1 : V m c main_v1 = rows (A0 m c) := by dsimp only [V]; after_results; rfl
theorem V3 : V m c main_v3 = turned (A1 m c) := by dsimp only [V]; after_results
theorem idx : ∀ t : Fin cfg0.N, win0_0.index t = ![0, t.val % 3] ∧ win0_1.index t = ![t.val % 3, t.val / 3]
    ∧ win0_2.index t = ![0, t.val / 3] := by decide +kernel

section
variable (t : Fin cfg0.N)
abbrev col (j : Fin 512) : Fin 2048 := ⟨t.val / 3 * 512 + j.val, by have := lt_of_lt_of_eq t.isLt N_0; omega⟩
abbrev lane (l : Fin 2048) : Fin 6144 := ⟨t.val % 3 * 2048 + l.val, by omega⟩
abbrev x0 : Vec Ideal S2048x2048 .bf16 := iblk m c 0 t
abbrev x1 : Vec Ideal S2048x512 .bf16 := iblk m c 1 t
theorem b0 (i l : Fin 2048) : x0 m c t (ix2 i l) = A0 m c (ix3 0 i (lane t l)) := by
  refine Eq.trans ?_ (rows_at (A0 m c) i (lane t l))
  unfold x0 iblk
  rw [show V m c (Pipeline.arrRef spec0 0) = _ from V1 m c]
  exact congrArg (rows (A0 m c)) (by blk_ext [idx t])
theorem b1 (l : Fin 2048) (j : Fin 512) : x1 m c t (ix2 l j) = A1 m c (ix2 (col t j) (lane t l)) := by
  refine Eq.trans ?_ (turned_at (A1 m c) (lane t l) (col t j))
  unfold x1 iblk
  rw [show V m c (Pipeline.arrRef spec0 1) = _ from V3 m c]
  exact congrArg (turned (A1 m c)) (by blk_ext [idx t])

/-- One element of a block's product. -/
theorem pay1_at (a : Vec Ideal S2048x2048 .bf16) (b : Vec Ideal S2048x512 .bf16) (i : Fin 2048) (j : Fin 512) :
    k0_pay1 a b (ix2 i j) = ∑ l : Fin 2048, a (ix2 i l) * b (ix2 l j) := by
  pointwise [k0_pay1]
theorem pay2_eq (a : Vec Ideal S2048x2048 .bf16) (b : Vec Ideal S2048x512 .bf16) : k0_pay2 a b = k0_pay1 a b := by
  unfold k0_pay2; exact shapeCast_self ..
theorem pay3_eq (a : Vec Ideal S2048x2048 .bf16) (b : Vec Ideal S2048x512 .bf16) (s : Vec Ideal S2048x512 .f32) :
    k0_pay3 a b s = addf s (k0_pay1 a b) := by
  unfold k0_pay3; exact shapeCast_self ..

/-- The block's part of the whole sum, at one element. -/
abbrev part (f : Fin 6144 → EReal) (k : ℕ) : EReal := ∑ l : Fin 2048, f (rowAt 6144 2048 k l)
abbrev term (i j : Fin 2048) : Fin 6144 → EReal := fun l => A0 m c (ix3 0 i l) * A1 m c (ix2 j l)

theorem block (i : Fin 2048) (j : Fin 512) :
    k0_pay1 (x0 m c t) (x1 m c t) (ix2 i j) = part (term m c i (col t j)) (t.val % 3) := by
  rw [pay1_at]
  refine Finset.sum_congr rfl fun l _ => ?_
  have e : lane t l = rowAt 6144 2048 (t.val % 3) l :=
    Fin.ext (Nat.mod_eq_of_lt (show t.val % 3 * 2048 + l.val < 6144 by omega)).symm
  rw [← e]
  exact congrArg₂ (· * ·) (b0 m c t i l) (b1 m c t l j)

abbrev St := Vec Ideal S2048x512 .f32 × Vec Ideal S2048x512 .f32

theorem stepA (acc : St) (h : t.val % 3 = 0) : (stAt0 m c t.val t.isLt acc).2 = k0_pay2 (x0 m c t) (x1 m c t) := by
  rw [stAt0_A m c t acc (by omega) (by omega) (by omega)]
  dsimp only; frame_out
theorem stepB (acc : St) (h : t.val % 3 = 1) : (stAt0 m c t.val t.isLt acc).2 = k0_pay3 (x0 m c t) (x1 m c t) acc.2 := by
  rw [stAt0_B m c t acc (by omega) (by omega) (by omega)]
  dsimp only; frame_out; simp only [read_unread_whole]
theorem stepC (acc : St) (h : t.val % 3 = 2) : (stAt0 m c t.val t.isLt acc).1 = k0_pay3 (x0 m c t) (x1 m c t) acc.2 := by
  rw [stAt0_C m c t acc (by omega) (by omega) (by omega)]
  dsimp only; frame_out; simp only [read_unread_whole]
end

theorem first (n : ℕ) (hn : n < cfg0.N) (h : n % 3 = 0) :
    (outsAt0 m c n hn).2 = k0_pay1 (x0 m c ⟨n, hn⟩) (x1 m c ⟨n, hn⟩) := by
  cases n with
  | zero => rw [outsAt0_zero]; exact (stepA m c ⟨0, hn⟩ _ h).trans (pay2_eq _ _)
  | succ n => rw [outsAt0_succ]; exact (stepA m c ⟨n + 1, hn⟩ _ h).trans (pay2_eq _ _)

theorem second (n : ℕ) (hn : n + 1 < cfg0.N) (h : (n + 1) % 3 = 1) :
    (outsAt0 m c (n + 1) hn).2 = addf (outsAt0 m c n (Nat.lt_of_succ_lt hn)).2 (k0_pay1 (x0 m c ⟨n + 1, hn⟩) (x1 m c ⟨n + 1, hn⟩)) := by
  rw [outsAt0_succ]
  exact (stepB m c ⟨n + 1, hn⟩ _ h).trans (pay3_eq _ _ _)

theorem third (n : ℕ) (hn : n + 1 < cfg0.N) (h : (n + 1) % 3 = 2) :
    (outsAt0 m c (n + 1) hn).1 = addf (outsAt0 m c n (Nat.lt_of_succ_lt hn)).2 (k0_pay1 (x0 m c ⟨n + 1, hn⟩) (x1 m c ⟨n + 1, hn⟩)) := by
  rw [outsAt0_succ]
  exact (stepC m c ⟨n + 1, hn⟩ _ h).trans (pay3_eq _ _ _)

/-- After the third point of a column block, the output block is the whole sum. -/
theorem whole (q : ℕ) (hn : 3 * q + 1 + 1 < cfg0.N) (i : Fin 2048) (j : Fin 512) :
    (outsAt0 m c (3 * q + 1 + 1) hn).1 (ix2 i j) = ∑ l, term m c i (col ⟨3 * q + 1 + 1, hn⟩ j) l := by
  have h1 : 3 * q + 1 < cfg0.N := Nat.lt_of_succ_lt hn
  have h0 : 3 * q < cfg0.N := Nat.lt_of_succ_lt h1
  rw [third m c (3 * q + 1) hn (by omega), second m c (3 * q) h1 (by omega), first m c (3 * q) h0 (by omega)]
  show (k0_pay1 (x0 m c ⟨3 * q, h0⟩) (x1 m c ⟨3 * q, h0⟩) (ix2 i j)
    + k0_pay1 (x0 m c ⟨3 * q + 1, h1⟩) (x1 m c ⟨3 * q + 1, h1⟩) (ix2 i j) : EReal)
    + k0_pay1 (x0 m c ⟨3 * q + 1 + 1, hn⟩) (x1 m c ⟨3 * q + 1 + 1, hn⟩) (ix2 i j) = _
  rw [block, block, block]
  have c0 : col ⟨3 * q, h0⟩ j = col ⟨3 * q + 1 + 1, hn⟩ j := Fin.ext (by show 3 * q / 3 * 512 + j.val = (3 * q + 1 + 1) / 3 * 512 + j.val; omega)
  have c1 : col ⟨3 * q + 1, h1⟩ j = col ⟨3 * q + 1 + 1, hn⟩ j := Fin.ext (by show (3 * q + 1) / 3 * 512 + j.val = (3 * q + 1 + 1) / 3 * 512 + j.val; omega)
  rw [c0, c1, ← sum_rowAt 3 2048 6144 rfl (term m c i (col ⟨3 * q + 1 + 1, hn⟩ j)), Finset.sum_range_succ, Finset.sum_range_succ, Finset.sum_range_one]
  have e0 : 3 * q % 3 = 0 := by omega
  have e1 : (3 * q + 1) % 3 = 1 := by omega
  have e2 : (3 * q + 1 + 1) % 3 = 2 := by omega
  show part _ (3 * q % 3) + part _ ((3 * q + 1) % 3) + part _ ((3 * q + 1 + 1) % 3) = _
  rw [e0, e1, e2]

theorem emb (t : Fin cfg0.N) (i : Fin 2048) (j : Fin 512) : (((cfg0.win 2).blk t).view.emb (ix2 i j) : S2048x2048.Idx) = ix2 i (col t j) := by
  blk_ext [idx t]
theorem flushed (t : Fin cfg0.N) (h : t.val % 3 = 2) :
    (dats m 0 c).flushed 2 t = ((cfg0.win 2).blk t).view.read (Elt Ideal) (res (A0 m c) (A1 m c)) := by
  obtain ⟨n, hn⟩ := t
  obtain ⟨q, rfl⟩ : ∃ q, n = 3 * q + 1 + 1 := ⟨n / 3, by have : n % 3 = 2 := h; omega⟩
  rw [Value.flushed2]
  funext y
  obtain ⟨i, j, rfl⟩ := split2 (r := 2048) (n := 512) y
  show (outsAt0 m c (3 * q + 1 + 1) hn).1 (ix2 i j) = res (A0 m c) (A1 m c) (((cfg0.win 2).blk ⟨3 * q + 1 + 1, hn⟩).view.emb (ix2 i j))
  rw [emb]
  exact whole m c q hn i j
theorem cover (y : S2048x2048.Idx) : ∃ t : Fin cfg0.N, (cfg0.win 2).flush t = true ∧ y ∈ ((cfg0.win 2).blk t).view.set := by
  obtain ⟨i, k, rfl⟩ := split2 y
  obtain ⟨t, ht⟩ : ∃ t : Fin cfg0.N, t.val = 3 * (k.val / 512) + 2 := ⟨⟨3 * (k.val / 512) + 2, lt_of_lt_of_eq (by omega) N_0.symm⟩, rfl⟩
  refine ⟨t, (flush0_2 t).mpr (by omega), ?_⟩
  have e : (ix2 i k : S2048x2048.Idx) = ((cfg0.win 2).blk t).view.emb (ix2 i ⟨k.val % 512, by omega⟩) := by
    rw [emb]
    exact congrArg (ix2 i) (Fin.ext (by show k.val = t.val / 3 * 512 + k.val % 512; omega))
  rw [e]
  exact View.emb_mem_set _ _
theorem final : (dats m 0 c).arrAt 2 cfg0.N = res (A0 m c) (A1 m c) :=
  (dats m 0 c).arrAt_eq_of_cover 2 _ (fun t ht => flushed m c t ((flush0_2 t).mp ht)) cover

end Cert.MmDhIdeal.Proof

namespace Cert.MmDhRefIdeal.Proof

open Cert.Base Idealize.ShloMosaic Idealize.ShloMosaic.TcCoe Idealize.SL.Sem Cert.MmDhIdeal.Proof

open Cert.MmDhRefIdeal Cert.MmDhRefIdeal.Gen in
theorem product_at (x : FVec Ideal S1x2048x6144 .f32) (w : FVec Ideal S2048x6144 .f32) (i j : Fin 2048) :
    (shapeCast S2048x2048 (Host.dotGeneral dot_S1x2048x6144_S2048x6144_S1x2048x2048_2_1_01_0_n_n none x w) shapeCasts_S1x2048x2048_S2048x2048
      : FVec Ideal S2048x2048 .f32) (ix2 i j) = ∑ l : Fin 6144, x (ix3 0 i l) * w (ix2 j l) := by
  pointwise

theorem mmdh : Cert.algebraic_MmDhIdeal_MmDhRefIdeal
    (hMmDhIdeal := Cert.MmDhIdeal.Gen.facts) (hMmDhRefIdeal := Cert.MmDhRefIdeal.Gen.facts) := by
  intro m g m' g' _ hargs
  refine ⟨fun c => res (A0 m c) (A1 m c), ?_, ?_⟩
  · refine (θ_run Cert.MmDhIdeal.defs _ _).mono (fun r h c => ?_) (Cert.MmDhIdeal.Value.run_blocks m g)
    exact ⟨(h c).1.trans (final m c), (h c).2⟩
  · refine (θ_run Cert.MmDhRefIdeal.defs _ _).mono (fun r h c => ?_) (Cert.MmDhRefIdeal.Value.run m' g')
    refine ⟨(h c).1.trans ?_, (h c).2⟩
    obtain ⟨e0, e1⟩ := hargs c
    rw [show m' _ = A0 m c from e0, show m' _ = A1 m c from e1]
    funext y
    obtain ⟨i, j, rfl⟩ := split2 (r := 2048) (n := 2048) y
    exact product_at _ _ i j

/-- The reference ends with its arguments unchanged and no counter raised. -/
theorem frame : Cert.quiescent_MmDhRefIdeal (hMmDhRefIdeal := Cert.MmDhRefIdeal.Gen.facts) := fun m ρ _ =>
  (θ_run Cert.MmDhRefIdeal.defs _ _).mono
    (fun r h => ⟨fun c => (h c).2, sem_eq_zero_of_no_sems (by decide) r.2⟩)
    (Cert.MmDhRefIdeal.Value.run (F := Ideal) m ρ)

end Cert.MmDhRefIdeal.Proof

end
-- ==== Proof.AddPair.lean ====
/- The sum of a gradient's halves over a chip's two cores: the core's own half is read at an index given with the arguments,
   kept between nought and one. -/
module

public import proofs.«01_k».proof.Proof.Rows
public import proofs.«01_k».proof.Proof.Gen.AddPair.Frame
public import proofs.«01_k».proof.Proof.Gen.AddPairIdeal.Frame
public import proofs.«01_k».proof.Proof.Gen.AddPairRefIdeal.Run
public import Idealize.ShloMosaic.Lib.Pipeline.ValueKit
public import Idealize.ShloMosaic.Lib.Pipeline.ReadBack

@[expose] public section

set_option maxRecDepth 16384

noncomputable section

namespace Cert.AddPairMath

open Idealize.ShloMosaic

/-- The index kept between nought and one. -/
abbrev kept (b : BitVec 32) : BitVec 32 := IntOp.minsi 1#32 (IntOp.maxsi 0#32 b)
/-- Which of the two halves the index names. -/
abbrev half (b : BitVec 32) : Fin 2 := if (0#32).slt b then 1 else 0

theorem kept_eq (b : BitVec 32) : kept b = if (0#32).slt b then 1#32 else 0#32 := by
  have h0 : (0#32 : BitVec 32).toInt = 0 := by decide
  have h1 : (1#32 : BitVec 32).toInt = 1 := by decide
  by_cases h : (0#32).slt b
  · have h' := h
    rw [BitVec.slt_iff_toInt_lt, h0] at h'
    have e : ¬ b.slt 0#32 := by rw [BitVec.slt_iff_toInt_lt, h0]; omega
    rw [kept, IntOp.maxsi, if_neg e, if_pos h, IntOp.minsi]
    by_cases k : (1#32).slt b
    · rw [if_pos k]
    · rw [if_neg k]
      rw [BitVec.slt_iff_toInt_lt, h1] at k
      exact BitVec.eq_of_toInt_eq (by omega)
  · have h' := h
    rw [BitVec.slt_iff_toInt_lt, h0] at h'
    have e : IntOp.maxsi 0#32 b = 0#32 := by
      rw [IntOp.maxsi]
      by_cases k : b.slt 0#32
      · rw [if_pos k]
      · rw [if_neg k]
        rw [BitVec.slt_iff_toInt_lt, h0] at k
        exact BitVec.eq_of_toInt_eq (by omega)
    rw [kept, e, if_neg h]
    decide

theorem kept_nat (b : BitVec 32) : (kept b).toNat = (half b).val := by
  rw [kept_eq, half]
  by_cases h : (0#32).slt b
  · rw [if_pos h, if_pos h]; rfl
  · rw [if_neg h, if_neg h]; rfl

end Cert.AddPairMath

namespace Cert.AddPair.Proof

open Cert.AddPair Cert.AddPair.Gen Cert.AddPairMath Idealize.ShloMosaic Idealize.ShloMosaic.TcCoe Idealize.SL.Sem Cert.Base

variable {F : FTy → Type} [FloatOps F] (m : (ℓ : Loc nD τ sig) → Buf (Elt F) ℓ)

abbrev clip (x : IVec S1 32) : IVec S1 32 :=
  minsi (broadcastInDim S1 ![] bcast_S_S1 (constantI S_ 32 1#32)) (maxsi (broadcastInDim S1 ![] bcast_S_S1 (constantI S_ 32 0#32)) x)
abbrev core : IVec S1 32 := m (((0 : Dev nD) : Thread nD τ).loc main_arg2)

theorem table : tbl m 0 = clip (core m) := by
  show V m (0 : Dev nD) main_v0 = _
  simp only [V, hostOps0, hostOps0_1, List.flatten_cons, List.flatten_nil, List.append_nil, List.cons_append, List.nil_append]
  after_results
  rfl

theorem index (i : grid0.Coords) : cc0_transform_0 inb_S1_S1_0 numel1_S1 (tbl m) i
    = ![(half (core m (ix1 0))).val, (BitVec.ofNat 32 (i 0).val).toNat, (BitVec.ofNat 32 (i 1).val).toNat, (BitVec.ofNat 32 (i 2).val).toNat] := by
  have e : (tbl m).at 0 (Rect.unit (s := S1) ![0] S1.size inb_S1_S1_0) numel1_S1 = kept (core m (ix1 0)) := by
    show tbl m 0 _ = _
    rw [table]
    exact congrArg (fun i => clip (core m) i) (funext fun a => match a with | ⟨0, _⟩ => Subsingleton.elim (α := Fin 1) _ _)
  unfold cc0_transform_0
  dsimp only
  rw [e, kept_nat]

/-- The index is inside the array, whatever the argument. -/
theorem ok : Ok m := fun i => by
  have h : ∀ a, (cc0_transform_0 inb_S1_S1_0 numel1_S1 (tbl m) i a + 1) * S1x1x512x1024.size a ≤ S2x4x512x1024.size a := by
    rw [index]
    generalize half (core m (ix1 0)) = b
    revert i b
    decide +kernel
  exact ⟨h, .inr (Affine.block_words_dvd (of_decide_eq_true rfl) (by decide))⟩

end Cert.AddPair.Proof

namespace Cert.AddPairIdeal.Proof

open Cert.AddPairIdeal Cert.AddPairIdeal.Gen Cert.AddPairMath Idealize.ShloMosaic Idealize.ShloMosaic.TcCoe Idealize.SL.Sem Cert.Base

variable (m : (ℓ : Loc nD τ sig) → Buf (Elt Ideal) ℓ) (c : Dev nD)

abbrev clip (x : IVec S1 32) : IVec S1 32 :=
  minsi (broadcastInDim S1 ![] bcast_S_S1 (constantI S_ 32 1#32)) (maxsi (broadcastInDim S1 ![] bcast_S_S1 (constantI S_ 32 0#32)) x)
abbrev core : IVec S1 32 := m (((0 : Dev nD) : Thread nD τ).loc main_arg2)

theorem table : tbl m 0 = clip (core m) := by
  show V m (0 : Dev nD) main_v0 = _
  simp only [V, hostOps0, hostOps0_1, List.flatten_cons, List.flatten_nil, List.append_nil, List.cons_append, List.nil_append]
  after_results
  rfl

theorem index (i : grid0.Coords) : cc0_transform_0 inb_S1_S1_0 numel1_S1 (tbl m) i
    = ![(half (core m (ix1 0))).val, (BitVec.ofNat 32 (i 0).val).toNat, (BitVec.ofNat 32 (i 1).val).toNat, (BitVec.ofNat 32 (i 2).val).toNat] := by
  have e : (tbl m).at 0 (Rect.unit (s := S1) ![0] S1.size inb_S1_S1_0) numel1_S1 = kept (core m (ix1 0)) := by
    show tbl m 0 _ = _
    rw [table]
    exact congrArg (fun i => clip (core m) i) (funext fun a => match a with | ⟨0, _⟩ => Subsingleton.elim (α := Fin 1) _ _)
  unfold cc0_transform_0
  dsimp only
  rw [e, kept_nat]

/-- The index is inside the array, whatever the argument. -/
theorem ok : Ok m := fun i => by
  have h : ∀ a, (cc0_transform_0 inb_S1_S1_0 numel1_S1 (tbl m) i a + 1) * S1x1x512x1024.size a ≤ S2x4x512x1024.size a := by
    rw [index]
    generalize half (core m (ix1 0)) = b
    revert i b
    decide +kernel
  exact ⟨h, .inr (Affine.block_words_dvd (of_decide_eq_true rfl) (by decide))⟩

abbrev A0 : FVec Ideal S2x4x512x1024 .bf16 := m ((c : Thread nD τ).loc main_arg0)
abbrev A1 : FVec Ideal S4x512x1024 .bf16 := m ((c : Thread nD τ).loc main_arg1)
abbrev A2 : IVec S1 32 := m ((c : Thread nD τ).loc main_arg2)
abbrev res (x : FVec Ideal S2x4x512x1024 .bf16) (y : FVec Ideal S4x512x1024 .bf16) (n : IVec S1 32) : FVec Ideal S4x512x1024 .bf16 :=
  fun z => x (ix4 (half (n (ix1 0))) (z 0) (z 1) (z 2)) + y z

theorem split3 {q r n : ℕ} (y : (⟨3, ![q, r, n]⟩ : Shape).Idx) : ∃ (k : Fin q) (i : Fin r) (j : Fin n), y = ix3 k i j :=
  ⟨y 0, y 1, y 2, funext fun a => match a with | ⟨0, _⟩ => rfl | ⟨1, _⟩ => rfl | ⟨2, _⟩ => rfl⟩

theorem point : ∀ t : Fin grid0.N, (BitVec.ofNat 32 (grid0.coords t 0).val).toNat = t.val ∧ (BitVec.ofNat 32 (grid0.coords t 1).val).toNat = 0
    ∧ (BitVec.ofNat 32 (grid0.coords t 2).val).toNat = 0 := by decide +kernel

abbrev M : Pipeline.Cfg sig Λ₀ := cfgM m (ok m)
section
variable (t : Fin (M m).N)
abbrev slab : Fin 4 := ⟨t.val, lt_of_lt_of_eq t.isLt N_0⟩
theorem i0 : ((M m).win 0).index t = ![(half (core m (ix1 0))).val, t.val, 0, 0] := by
  obtain ⟨e0, e1, e2⟩ := point t
  exact (index m (grid0.coords t)).trans (by rw [e0, e1, e2])
theorem i1 : ((M m).win 1).index t = ![t.val, 0, 0] := by
  obtain ⟨e0, e1, e2⟩ := point t
  show ![(BitVec.ofNat 32 (grid0.coords t 0).val).toNat, (BitVec.ofNat 32 (grid0.coords t 1).val).toNat, (BitVec.ofNat 32 (grid0.coords t 2).val).toNat] = _
  rw [e0, e1, e2]
theorem i2 : ((M m).win 2).index t = ![t.val, 0, 0] := by
  obtain ⟨e0, e1, e2⟩ := point t
  show ![(BitVec.ofNat 32 (grid0.coords t 0).val).toNat, (BitVec.ofNat 32 (grid0.coords t 1).val).toNat, (BitVec.ofNat 32 (grid0.coords t 2).val).toNat] = _
  rw [e0, e1, e2]

abbrev x0 : Vec Ideal S1x1x512x1024 .bf16 := iblk m (ok m) c 0 t
abbrev x1 : Vec Ideal S1x512x1024 .bf16 := iblk m (ok m) c 1 t
theorem e0 (i : Fin 512) (j : Fin 1024) : ((((M m).win 0).blk t).view.emb (ix4 0 0 i j) : S2x4x512x1024.Idx)
    = ix4 (half (core m (ix1 0))) (slab m t) i j := by
  blk_ext [i0 m t]
theorem e1 (i : Fin 512) (j : Fin 1024) : ((((M m).win 1).blk t).view.emb (ix3 0 i j) : S4x512x1024.Idx) = ix3 (slab m t) i j := by
  blk_ext [i1 m t]
theorem e2 (i : Fin 512) (j : Fin 1024) : ((((M m).win 2).blk t).view.emb (ix3 0 i j) : S4x512x1024.Idx) = ix3 (slab m t) i j := by
  blk_ext [i2 m t]
theorem b0 (i : Fin 512) (j : Fin 1024) : x0 m c t (ix4 0 0 i j) = A0 m c (ix4 (half (core m (ix1 0))) (slab m t) i j) := by
  exact (congrArg (V m c main_arg0) (e0 m t i j)).trans (congrFun (V_main_arg0 m c) _)
theorem b1 (i : Fin 512) (j : Fin 1024) : x1 m c t (ix3 0 i j) = A1 m c (ix3 (slab m t) i j) := by
  exact (congrArg (V m c main_arg1) (e1 m t i j)).trans (congrFun (V_main_arg1 m c) _)

theorem pay1_at (a : Vec Ideal S1x1x512x1024 .bf16) (b : Vec Ideal S1x512x1024 .bf16) (i : Fin 512) (j : Fin 1024) :
    k0_pay1 a b (ix3 0 i j) = a (ix4 0 0 i j) + b (ix3 0 i j) := by
  pointwise [k0_pay1]
theorem out_eq : outsAt0 m (ok m) c t = k0_pay1 (x0 m c t) (x1 m c t) := by
  unfold outsAt0
  frame_out
  exact congrArg₂ k0_pay1 (Memref.IsWhole.read_unread _ _) (Memref.IsWhole.read_unread _ _)

theorem flushed : (dats m (ok m) 0 c).flushed 2 t = (((M m).win 2).blk t).view.read (Elt Ideal) (res (A0 m c) (A1 m c) (A2 m c)) := by
  show ((M m).win 2).cut (grid0.coords t) ((dats m (ok m) 0 c).after 2 t) = _
  rw [after0_2, out_eq]
  funext y
  obtain ⟨k, i, j, rfl⟩ := split3 (q := 1) (r := 512) (n := 1024) y
  obtain rfl : k = 0 := Subsingleton.elim _ _
  show k0_pay1 (x0 m c t) (x1 m c t) (ix3 0 i j) = res (A0 m c) (A1 m c) (A2 m c) ((((M m).win 2).blk t).view.emb (ix3 0 i j))
  rw [e2, pay1_at, b0, b1]
  obtain rfl : c = 0 := Subsingleton.elim _ _
  rfl
end
theorem cover (y : S4x512x1024.Idx) : ∃ t : Fin (M m).N, ((M m).win 2).flush t = true ∧ y ∈ (((M m).win 2).blk t).view.set := by
  obtain ⟨k, i, j, rfl⟩ := split3 y
  refine ⟨⟨k.val, lt_of_lt_of_eq k.isLt N_0.symm⟩, flush0_2 _ _, ?_⟩
  have e := e2 m ⟨k.val, lt_of_lt_of_eq k.isLt N_0.symm⟩ i j
  rw [show (ix3 k i j : S4x512x1024.Idx) = _ from e.symm]
  exact View.emb_mem_set _ _
theorem final : (dats m (ok m) 0 c).arrAt 2 (M m).N = res (A0 m c) (A1 m c) (A2 m c) :=
  (dats m (ok m) 0 c).arrAt_eq_of_cover 2 _ (fun t _ => flushed m c t) (cover m)

omit c in
theorem run (ρ : Dev nD → PrngReg) : θ_run defs (onTc (τ := τ) (main (F := Ideal))) ⟨m, fun _ => 0, ρ⟩ fun r => ∀ c : Dev nD,
      r.2.mem ((c : Thread nD τ).loc main_v1) = res (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 2).trans (final m c), h.2 c⟩)
    (θ_run_and (run_main m ρ (ok m)) (unchanged m ρ (ok m)))

end Cert.AddPairIdeal.Proof

namespace Cert.AddPairRefIdeal.Proof

open Cert.Base Cert.AddPairMath Idealize.ShloMosaic Idealize.ShloMosaic.TcCoe Idealize.SL.Sem Cert.AddPairIdeal.Proof

open Cert.AddPairRefIdeal Cert.AddPairRefIdeal.Gen in
theorem sum_at (x : FVec Ideal S2x4x512x1024 .bf16) (y : FVec Ideal S4x512x1024 .bf16) (n : IVec S1 32) (k : Fin 4) (i : Fin 512) (j : Fin 1024) :
    (truncf .bf16 (addf (extf .f32 (select (broadcastInDim S4x512x1024 ![] bcast_S_S4x512x1024 (cmpi .sgt (shapeCast _ n shapeCasts_S1_S_) (constantI S_ 32 0#32))) (shapeCast _ (extractStridedSlice S1x4x512x1024 ![1, 0, 0, 0] x slices_S2x4x512x1024_S1x4x512x1024_1_0_0_0) shapeCasts_S1x4x512x1024_S4x512x1024) (shapeCast _ (extractStridedSlice S1x4x512x1024 ![0, 0, 0, 0] x slices_S2x4x512x1024_S1x4x512x1024_0_0_0_0) shapeCasts_S1x4x512x1024_S4x512x1024)) bitsLt_bf16_f32) (extf .f32 y bitsLt_bf16_f32)) bitsLt_bf16_f32
      : FVec Ideal S4x512x1024 .bf16) (ix3 k i j) = x (ix4 (half (n (ix1 0))) k i j) + y (ix3 k i j) := by
  pointwise
  refine congrArg (· + y (ix3 k i j)) ?_
  have e : IntOp.cmpi .sgt (n (ix1 0)) 0#32 = BitVec.ofBool ((0#32).slt (n (ix1 0))) := rfl
  rw [e, half]
  cases (0#32).slt (n (ix1 0)) <;> rfl

theorem addpair : Cert.algebraic_AddPairIdeal_AddPairRefIdeal
    (hAddPairIdeal := Cert.AddPairIdeal.Gen.facts) (hAddPairRefIdeal := Cert.AddPairRefIdeal.Gen.facts) := by
  intro m g m' g' _ hargs
  refine ⟨fun c => res (A0 m c) (A1 m c) (A2 m c), ?_, ?_⟩
  · exact Cert.AddPairIdeal.Proof.run m g
  · refine (θ_run Cert.AddPairRefIdeal.defs _ _).mono (fun r h c => ?_) (Cert.AddPairRefIdeal.Value.run m' g')
    refine ⟨(h c).1.trans ?_, (h c).2⟩
    obtain ⟨e0, e1, e2⟩ := hargs c
    rw [show m' _ = A2 m c from e2, show m' _ = A0 m c from e0, show m' _ = A1 m c from e1]
    funext y
    obtain ⟨k, i, j, rfl⟩ := split3 (q := 4) (r := 512) (n := 1024) y
    exact sum_at _ _ _ k i j

/-- The reference ends with its arguments unchanged and no counter raised. -/
theorem frame : Cert.quiescent_AddPairRefIdeal (hAddPairRefIdeal := Cert.AddPairRefIdeal.Gen.facts) := fun m ρ _ =>
  (θ_run Cert.AddPairRefIdeal.defs _ _).mono
    (fun r h => ⟨fun c => (h c).2, sem_eq_zero_of_no_sems (by decide) r.2⟩)
    (Cert.AddPairRefIdeal.Value.run (F := Ideal) m ρ)

end Cert.AddPairRefIdeal.Proof

end
-- ==== Proof.AddChips.lean ====
/- The sum of a gradient's block over the four chips: the chip's own block is read at an index given with the arguments,
   kept between nought and three, and the three landed blocks are added one after another. -/
module

public import proofs.«01_k».proof.Proof.Rows
public import proofs.«01_k».proof.Proof.Gen.AddChips.Frame
public import proofs.«01_k».proof.Proof.Gen.AddChipsIdeal.Frame
public import proofs.«01_k».proof.Proof.Gen.AddChipsRefIdeal.Run
public import Idealize.ShloMosaic.Lib.Pipeline.ValueKit
public import Idealize.ShloMosaic.Lib.Pipeline.ReadBack

@[expose] public section

set_option maxRecDepth 16384

noncomputable section

namespace Cert.AddChipsMath

open Idealize.ShloMosaic

/-- The index kept between nought and three. -/
abbrev kept (b : BitVec 32) : BitVec 32 := IntOp.minsi 3#32 (IntOp.maxsi 0#32 b)
/-- Which of the four blocks the index names. -/
abbrev quarter (b : BitVec 32) : Fin 4 := if b.slt 1#32 then 0 else if b.slt 2#32 then 1 else if b.slt 3#32 then 2 else 3

theorem int0 : (0#32 : BitVec 32).toInt = 0 := by decide
theorem int1 : (1#32 : BitVec 32).toInt = 1 := by decide
theorem int2 : (2#32 : BitVec 32).toInt = 2 := by decide
theorem int3 : (3#32 : BitVec 32).toInt = 3 := by decide

theorem kept_int (b : BitVec 32) : (kept b).toInt = min 3 (max 0 b.toInt) := by
  have e : (IntOp.maxsi 0#32 b).toInt = max 0 b.toInt := by
    rw [IntOp.maxsi]
    by_cases k : b.slt 0#32
    · rw [if_pos k]
      rw [BitVec.slt_iff_toInt_lt, int0] at k
      rw [int0]; omega
    · rw [if_neg k]
      rw [BitVec.slt_iff_toInt_lt, int0] at k
      omega
  rw [kept, ← e, IntOp.minsi]
  by_cases k : (3#32).slt (IntOp.maxsi 0#32 b)
  · rw [if_pos k]
    rw [BitVec.slt_iff_toInt_lt, int3] at k
    rw [int3]; omega
  · rw [if_neg k]
    rw [BitVec.slt_iff_toInt_lt, int3] at k
    omega

theorem kept_nat (b : BitVec 32) : (kept b).toNat = (quarter b).val := by
  have e := kept_int b
  have of (n : BitVec 32) (h : n.toInt = min 3 (max 0 b.toInt)) : kept b = n := BitVec.eq_of_toInt_eq (e.trans h.symm)
  rw [quarter]
  by_cases h1 : b.slt 1#32
  · rw [if_pos h1]
    rw [BitVec.slt_iff_toInt_lt, int1] at h1
    rw [of 0#32 (by rw [int0]; omega)]; rfl
  rw [if_neg h1]
  rw [BitVec.slt_iff_toInt_lt, int1] at h1
  by_cases h2 : b.slt 2#32
  · rw [if_pos h2]
    rw [BitVec.slt_iff_toInt_lt, int2] at h2
    rw [of 1#32 (by rw [int1]; omega)]; rfl
  rw [if_neg h2]
  rw [BitVec.slt_iff_toInt_lt, int2] at h2
  by_cases h3 : b.slt 3#32
  · rw [if_pos h3]
    rw [BitVec.slt_iff_toInt_lt, int3] at h3
    rw [of 2#32 (by rw [int2]; omega)]; rfl
  rw [if_neg h3]
  rw [BitVec.slt_iff_toInt_lt, int3] at h3
  rw [of 3#32 (by rw [int3]; omega)]; rfl

end Cert.AddChipsMath

namespace Cert.AddChips.Proof

open Cert.AddChips Cert.AddChips.Gen Cert.AddChipsMath Idealize.ShloMosaic Idealize.ShloMosaic.TcCoe Idealize.SL.Sem Cert.Base

variable {F : FTy → Type} [FloatOps F] (m : (ℓ : Loc nD τ sig) → Buf (Elt F) ℓ)

abbrev clip (x : IVec S1 32) : IVec S1 32 :=
  minsi (broadcastInDim S1 ![] bcast_S_S1 (constantI S_ 32 3#32)) (maxsi (broadcastInDim S1 ![] bcast_S_S1 (constantI S_ 32 0#32)) x)
abbrev chip : IVec S1 32 := m (((0 : Dev nD) : Thread nD τ).loc main_arg2)

theorem table : tbl m 0 = clip (chip m) := by
  show V m (0 : Dev nD) main_v0 = _
  simp only [V, hostOps0, hostOps0_1, List.flatten_cons, List.flatten_nil, List.append_nil, List.cons_append, List.nil_append]
  after_results
  rfl

theorem index (i : grid0.Coords) : cc0_transform_0 inb_S1_S1_0 numel1_S1 (tbl m) i
    = ![(quarter (chip m (ix1 0))).val, (BitVec.ofNat 32 (i 0).val).toNat, (BitVec.ofNat 32 (i 1).val).toNat] := by
  have e : (tbl m).at 0 (Rect.unit (s := S1) ![0] S1.size inb_S1_S1_0) numel1_S1 = kept (chip m (ix1 0)) := by
    show tbl m 0 _ = _
    rw [table]
    exact congrArg (fun i => clip (chip m) i) (funext fun a => match a with | ⟨0, _⟩ => Subsingleton.elim (α := Fin 1) _ _)
  unfold cc0_transform_0
  dsimp only
  rw [e, kept_nat]

/-- The index is inside the array, whatever the argument. -/
theorem ok : Ok m := fun i => by
  have h : ∀ a, (cc0_transform_0 inb_S1_S1_0 numel1_S1 (tbl m) i a + 1) * S1x512x1024.size a ≤ S4x512x1024.size a := by
    rw [index]
    generalize quarter (chip m (ix1 0)) = b
    revert i b
    decide +kernel
  exact ⟨h, .inr (Affine.block_words_dvd (of_decide_eq_true rfl) (by decide))⟩

end Cert.AddChips.Proof

namespace Cert.AddChipsIdeal.Proof

open Cert.AddChipsIdeal Cert.AddChipsIdeal.Gen Cert.AddChipsMath Idealize.ShloMosaic Idealize.ShloMosaic.TcCoe Idealize.SL.Sem Cert.Base

variable (m : (ℓ : Loc nD τ sig) → Buf (Elt Ideal) ℓ) (c : Dev nD)

abbrev clip (x : IVec S1 32) : IVec S1 32 :=
  minsi (broadcastInDim S1 ![] bcast_S_S1 (constantI S_ 32 3#32)) (maxsi (broadcastInDim S1 ![] bcast_S_S1 (constantI S_ 32 0#32)) x)
abbrev chip : IVec S1 32 := m (((0 : Dev nD) : Thread nD τ).loc main_arg2)

theorem table : tbl m 0 = clip (chip m) := by
  show V m (0 : Dev nD) main_v0 = _
  simp only [V, hostOps0, hostOps0_1, List.flatten_cons, List.flatten_nil, List.append_nil, List.cons_append, List.nil_append]
  after_results
  rfl

theorem index (i : grid0.Coords) : cc0_transform_0 inb_S1_S1_0 numel1_S1 (tbl m) i
    = ![(quarter (chip m (ix1 0))).val, (BitVec.ofNat 32 (i 0).val).toNat, (BitVec.ofNat 32 (i 1).val).toNat] := by
  have e : (tbl m).at 0 (Rect.unit (s := S1) ![0] S1.size inb_S1_S1_0) numel1_S1 = kept (chip m (ix1 0)) := by
    show tbl m 0 _ = _
    rw [table]
    exact congrArg (fun i => clip (chip m) i) (funext fun a => match a with | ⟨0, _⟩ => Subsingleton.elim (α := Fin 1) _ _)
  unfold cc0_transform_0
  dsimp only
  rw [e, kept_nat]

/-- The index is inside the array, whatever the argument. -/
theorem ok : Ok m := fun i => by
  have h : ∀ a, (cc0_transform_0 inb_S1_S1_0 numel1_S1 (tbl m) i a + 1) * S1x512x1024.size a ≤ S4x512x1024.size a := by
    rw [index]
    generalize quarter (chip m (ix1 0)) = b
    revert i b
    decide +kernel
  exact ⟨h, .inr (Affine.block_words_dvd (of_decide_eq_true rfl) (by decide))⟩

abbrev A0 : FVec Ideal S4x512x1024 .bf16 := m ((c : Thread nD τ).loc main_arg0)
abbrev A1 : FVec Ideal S3x512x1024 .bf16 := m ((c : Thread nD τ).loc main_arg1)
abbrev A2 : IVec S1 32 := m ((c : Thread nD τ).loc main_arg2)
abbrev res (x : FVec Ideal S4x512x1024 .bf16) (y : FVec Ideal S3x512x1024 .bf16) (n : IVec S1 32) : FVec Ideal S512x1024 .f32 :=
  fun z => x (ix3 (quarter (n (ix1 0))) (z 0) (z 1)) + ∑ d : Fin 3, y (ix3 d (z 0) (z 1))

theorem point : ∀ t : Fin grid0.N, (BitVec.ofNat 32 (grid0.coords t 0).val).toNat = 0
    ∧ (BitVec.ofNat 32 (grid0.coords t 1).val).toNat = 0 := by decide +kernel

abbrev M : Pipeline.Cfg sig Λ₀ := cfgM m (ok m)
section
variable (t : Fin (M m).N)
theorem i0 : ((M m).win 0).index t = ![(quarter (chip m (ix1 0))).val, 0, 0] := by
  obtain ⟨e0, e1⟩ := point t
  exact (index m (grid0.coords t)).trans (by rw [e0, e1])
theorem i1 : ((M m).win 1).index t = ![0, 0, 0] := by
  obtain ⟨e0, e1⟩ := point t
  show ![(0#32 : BitVec 32).toNat, (BitVec.ofNat 32 (grid0.coords t 0).val).toNat, (BitVec.ofNat 32 (grid0.coords t 1).val).toNat] = _
  rw [e0, e1]
  rfl
theorem i2 : ((M m).win 2).index t = ![1, 0, 0] := by
  obtain ⟨e0, e1⟩ := point t
  show ![(1#32 : BitVec 32).toNat, (BitVec.ofNat 32 (grid0.coords t 0).val).toNat, (BitVec.ofNat 32 (grid0.coords t 1).val).toNat] = _
  rw [e0, e1]
  rfl
theorem i3 : ((M m).win 3).index t = ![2, 0, 0] := by
  obtain ⟨e0, e1⟩ := point t
  show ![(2#32 : BitVec 32).toNat, (BitVec.ofNat 32 (grid0.coords t 0).val).toNat, (BitVec.ofNat 32 (grid0.coords t 1).val).toNat] = _
  rw [e0, e1]
  rfl
theorem i4 : ((M m).win 4).index t = ![0, 0] := by
  obtain ⟨e0, e1⟩ := point t
  show ![(BitVec.ofNat 32 (grid0.coords t 0).val).toNat, (BitVec.ofNat 32 (grid0.coords t 1).val).toNat] = _
  rw [e0, e1]

abbrev x0 : Vec Ideal S1x512x1024 .bf16 := iblk m (ok m) c 0 t
abbrev x1 : Vec Ideal S1x512x1024 .bf16 := iblk m (ok m) c 1 t
abbrev x2 : Vec Ideal S1x512x1024 .bf16 := iblk m (ok m) c 2 t
abbrev x3 : Vec Ideal S1x512x1024 .bf16 := iblk m (ok m) c 3 t
theorem e0 (i : Fin 512) (j : Fin 1024) : ((((M m).win 0).blk t).view.emb (ix3 0 i j) : S4x512x1024.Idx)
    = ix3 (quarter (chip m (ix1 0))) i j := by
  blk_ext [i0 m t]
theorem e1 (i : Fin 512) (j : Fin 1024) : ((((M m).win 1).blk t).view.emb (ix3 0 i j) : S3x512x1024.Idx) = ix3 0 i j := by
  blk_ext [i1 m t]
theorem e2 (i : Fin 512) (j : Fin 1024) : ((((M m).win 2).blk t).view.emb (ix3 0 i j) : S3x512x1024.Idx) = ix3 1 i j := by
  blk_ext [i2 m t]
theorem e3 (i : Fin 512) (j : Fin 1024) : ((((M m).win 3).blk t).view.emb (ix3 0 i j) : S3x512x1024.Idx) = ix3 2 i j := by
  blk_ext [i3 m t]
theorem e4 (i : Fin 512) (j : Fin 1024) : ((((M m).win 4).blk t).view.emb (ix2 i j) : S512x1024.Idx) = ix2 i j := by
  blk_ext [i4 m t]
theorem b0 (i : Fin 512) (j : Fin 1024) : x0 m c t (ix3 0 i j) = A0 m c (ix3 (quarter (chip m (ix1 0))) i j) := by
  exact (congrArg (V m c main_arg0) (e0 m t i j)).trans (congrFun (V_main_arg0 m c) _)
theorem b1 (i : Fin 512) (j : Fin 1024) : x1 m c t (ix3 0 i j) = A1 m c (ix3 0 i j) := by
  exact (congrArg (V m c main_arg1) (e1 m t i j)).trans (congrFun (V_main_arg1 m c) _)
theorem b2 (i : Fin 512) (j : Fin 1024) : x2 m c t (ix3 0 i j) = A1 m c (ix3 1 i j) := by
  exact (congrArg (V m c main_arg1) (e2 m t i j)).trans (congrFun (V_main_arg1 m c) _)
theorem b3 (i : Fin 512) (j : Fin 1024) : x3 m c t (ix3 0 i j) = A1 m c (ix3 2 i j) := by
  exact (congrArg (V m c main_arg1) (e3 m t i j)).trans (congrFun (V_main_arg1 m c) _)

theorem pay1_at (a b₀ b₁ b₂ : Vec Ideal S1x512x1024 .bf16) (i : Fin 512) (j : Fin 1024) :
    k0_pay1 a b₀ b₁ b₂ (ix2 i j) = a (ix3 0 i j) + b₀ (ix3 0 i j) + b₁ (ix3 0 i j) + b₂ (ix3 0 i j) := by
  pointwise [k0_pay1]
theorem out_eq : outsAt0 m (ok m) c t = k0_pay1 (x0 m c t) (x1 m c t) (x2 m c t) (x3 m c t) := by
  unfold outsAt0
  frame_out
  exact congr (congr (congrArg₂ k0_pay1 (Memref.IsWhole.read_unread _ _) (Memref.IsWhole.read_unread _ _))
    (Memref.IsWhole.read_unread _ _)) (Memref.IsWhole.read_unread _ _)

theorem flushed : (dats m (ok m) 0 c).flushed 4 t = (((M m).win 4).blk t).view.read (Elt Ideal) (res (A0 m c) (A1 m c) (A2 m c)) := by
  show ((M m).win 4).cut (grid0.coords t) ((dats m (ok m) 0 c).after 4 t) = _
  rw [after0_4, out_eq]
  funext y
  obtain ⟨i, j, rfl⟩ := split2 (r := 512) (n := 1024) y
  show k0_pay1 (x0 m c t) (x1 m c t) (x2 m c t) (x3 m c t) (ix2 i j) = res (A0 m c) (A1 m c) (A2 m c) ((((M m).win 4).blk t).view.emb (ix2 i j))
  rw [e4, pay1_at, b0, b1, b2, b3]
  obtain rfl : c = 0 := Subsingleton.elim _ _
  show _ = A0 m 0 (ix3 (quarter (chip m (ix1 0))) i j) + ∑ d : Fin 3, A1 m 0 (ix3 d i j)
  rw [Fin.sum_univ_three, ← add_assoc, ← add_assoc]
end
theorem cover (y : S512x1024.Idx) : ∃ t : Fin (M m).N, ((M m).win 4).flush t = true ∧ y ∈ (((M m).win 4).blk t).view.set := by
  obtain ⟨i, j, rfl⟩ := split2 y
  refine ⟨⟨0, lt_of_lt_of_eq Nat.zero_lt_one N_0.symm⟩, flush0_4 _ _, ?_⟩
  have e := e4 m ⟨0, lt_of_lt_of_eq Nat.zero_lt_one N_0.symm⟩ i j
  rw [show (ix2 i j : S512x1024.Idx) = _ from e.symm]
  exact View.emb_mem_set _ _
theorem final : (dats m (ok m) 0 c).arrAt 4 (M m).N = res (A0 m c) (A1 m c) (A2 m c) :=
  (dats m (ok m) 0 c).arrAt_eq_of_cover 4 _ (fun t _ => flushed m c t) (cover m)

omit c in
theorem run (ρ : Dev nD → PrngReg) : θ_run defs (onTc (τ := τ) (main (F := Ideal))) ⟨m, fun _ => 0, ρ⟩ fun r => ∀ c : Dev nD,
      r.2.mem ((c : Thread nD τ).loc main_v1) = res (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final m c), h.2 c⟩)
    (θ_run_and (run_main m ρ (ok m)) (unchanged m ρ (ok m)))

end Cert.AddChipsIdeal.Proof

namespace Cert.AddChipsRefIdeal.Proof

open Cert.Base Cert.AddChipsMath Idealize.ShloMosaic Idealize.ShloMosaic.TcCoe Idealize.SL.Sem Cert.AddChipsIdeal.Proof

open Cert.AddChipsRefIdeal Cert.AddChipsRefIdeal.Gen in
theorem sum_at (x : FVec Ideal S4x512x1024 .bf16) (y : FVec Ideal S3x512x1024 .bf16) (n : IVec S1 32) (i : Fin 512) (j : Fin 1024) :
    (addf (extf .f32 (select (broadcastInDim S512x1024 ![] bcast_S_S512x1024 (cmpi .slt (shapeCast _ n shapeCasts_S1_S_) (constantI S_ 32 1#32))) (shapeCast _ (extractStridedSlice S1x512x1024 ![0, 0, 0] x slices_S4x512x1024_S1x512x1024_0_0_0) shapeCasts_S1x512x1024_S512x1024) (select (broadcastInDim S512x1024 ![] bcast_S_S512x1024 (cmpi .slt (shapeCast _ n shapeCasts_S1_S_) (constantI S_ 32 2#32))) (shapeCast _ (extractStridedSlice S1x512x1024 ![1, 0, 0] x slices_S4x512x1024_S1x512x1024_1_0_0) shapeCasts_S1x512x1024_S512x1024) (select (broadcastInDim S512x1024 ![] bcast_S_S512x1024 (cmpi .slt (shapeCast _ n shapeCasts_S1_S_) (constantI S_ 32 3#32))) (shapeCast _ (extractStridedSlice S1x512x1024 ![2, 0, 0] x slices_S4x512x1024_S1x512x1024_2_0_0) shapeCasts_S1x512x1024_S512x1024) (shapeCast _ (extractStridedSlice S1x512x1024 ![3, 0, 0] x slices_S4x512x1024_S1x512x1024_3_0_0) shapeCasts_S1x512x1024_S512x1024)))) bitsLt_bf16_f32) (Host.reduceAdd (extf .f32 y bitsLt_bf16_f32) (constant S_ .f32 0x00000000#32) reducesTo_S3x512x1024_S512x1024_d0 h_S_)
      : FVec Ideal S512x1024 .f32) (ix2 i j) = x (ix3 (quarter (n (ix1 0))) i j) + ∑ d : Fin 3, y (ix3 d i j) := by
  pointwise
  refine congrArg (· + ∑ d : Fin 3, y (ix3 d i j)) ?_
  have e (k : BitVec 32) : IntOp.cmpi .slt (n (ix1 0)) k = BitVec.ofBool ((n (ix1 0)).slt k) := rfl
  rw [e, e, e, quarter]
  cases (n (ix1 0)).slt 1#32 <;> cases (n (ix1 0)).slt 2#32 <;> cases (n (ix1 0)).slt 3#32 <;> rfl

theorem addchips : Cert.algebraic_AddChipsIdeal_AddChipsRefIdeal
    (hAddChipsIdeal := Cert.AddChipsIdeal.Gen.facts) (hAddChipsRefIdeal := Cert.AddChipsRefIdeal.Gen.facts) := by
  intro m g m' g' _ hargs
  refine ⟨fun c => res (A0 m c) (A1 m c) (A2 m c), ?_, ?_⟩
  · exact Cert.AddChipsIdeal.Proof.run m g
  · refine (θ_run Cert.AddChipsRefIdeal.defs _ _).mono (fun r h c => ?_) (Cert.AddChipsRefIdeal.Value.run m' g')
    refine ⟨(h c).1.trans ?_, (h c).2⟩
    obtain ⟨e0, e1, e2⟩ := hargs c
    rw [show m' _ = A2 m c from e2, show m' _ = A0 m c from e0, show m' _ = A1 m c from e1]
    funext y
    obtain ⟨i, j, rfl⟩ := split2 (r := 512) (n := 1024) y
    exact sum_at _ _ _ i j

/-- The reference ends with its arguments unchanged and no counter raised. -/
theorem frame : Cert.quiescent_AddChipsRefIdeal (hAddChipsRefIdeal := Cert.AddChipsRefIdeal.Gen.facts) := fun m ρ _ =>
  (θ_run Cert.AddChipsRefIdeal.defs _ _).mono
    (fun r h => ⟨fun c => (h c).2, sem_eq_zero_of_no_sems (by decide) r.2⟩)
    (Cert.AddChipsRefIdeal.Value.run (F := Ideal) m ρ)

end Cert.AddChipsRefIdeal.Proof

end
-- ==== Proof.lean ====
module

public import proofs.«01_k».proof.Defs
public import proofs.«01_k».proof.Proof.Gen.GateMul
public import proofs.«01_k».proof.Proof.Gen.GateMul.Skeleton
public import proofs.«01_k».proof.Proof.Gen.GateMul.Launch
public import proofs.«01_k».proof.Proof.Gen.GateMul.Points
public import proofs.«01_k».proof.Proof.Gen.GateMul.Frame
public import proofs.«01_k».proof.Proof.Gen.GateMulIdeal
public import proofs.«01_k».proof.Proof.Gen.GateMulIdeal.Skeleton
public import proofs.«01_k».proof.Proof.Gen.GateMulIdeal.Launch
public import proofs.«01_k».proof.Proof.Gen.GateMulIdeal.Points
public import proofs.«01_k».proof.Proof.Gen.GateMulIdeal.Frame
public import proofs.«01_k».proof.Proof.Gen.GateMulIdeal.Value
public import proofs.«01_k».proof.Proof.Gen.GateMulRefIdeal.Run
public import proofs.«01_k».proof.Proof.Gen.GateMulRefIdeal
public import proofs.«01_k».proof.Proof.Gen.Pre_gate_mul_finite
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal
public import proofs.«01_k».proof.Proof.Gen.Pre_attn_finite
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal
public import proofs.«01_k».proof.Proof.Gen.Pre_modulate_finite
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.RmsRefIdeal
public import proofs.«01_k».proof.Proof.Gen.Pre_rms_finite
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.ResIdeal.Value
public import proofs.«01_k».proof.Proof.Gen.ResRefIdeal.Run
public import proofs.«01_k».proof.Proof.Gen.ResRefIdeal
public import proofs.«01_k».proof.Proof.Gen.GateAct
public import proofs.«01_k».proof.Proof.Gen.GateAct.Skeleton
public import proofs.«01_k».proof.Proof.Gen.GateAct.Launch
public import proofs.«01_k».proof.Proof.Gen.GateAct.Points
public import proofs.«01_k».proof.Proof.Gen.GateAct.Frame
public import proofs.«01_k».proof.Proof.Gen.GateActIdeal
public import proofs.«01_k».proof.Proof.Gen.GateActIdeal.Skeleton
public import proofs.«01_k».proof.Proof.Gen.GateActIdeal.Launch
public import proofs.«01_k».proof.Proof.Gen.GateActIdeal.Points
public import proofs.«01_k».proof.Proof.Gen.GateActIdeal.Frame
public import proofs.«01_k».proof.Proof.Gen.GateActIdeal.Value
public import proofs.«01_k».proof.Proof.Gen.GateActRefIdeal.Run
public import proofs.«01_k».proof.Proof.Gen.GateActRefIdeal
public import proofs.«01_k».proof.Proof.Gen.Pre_gateact_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal.Run
public import proofs.«01_k».proof.Proof.Gen.RopeRefIdeal
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal
public import proofs.«01_k».proof.Proof.Gen.Pre_attnfwd_finite
public import proofs.«01_k».proof.Proof.Gen.ModFwd
public import proofs.«01_k».proof.Proof.Gen.ModFwd.Skeleton
public import proofs.«01_k».proof.Proof.Gen.ModFwd.Launch
public import proofs.«01_k».proof.Proof.Gen.ModFwd.Points
public import proofs.«01_k».proof.Proof.Gen.ModFwd.Frame
public import proofs.«01_k».proof.Proof.Gen.ModFwdIdeal
public import proofs.«01_k».proof.Proof.Gen.ModFwdIdeal.Skeleton
public import proofs.«01_k».proof.Proof.Gen.ModFwdIdeal.Launch
public import proofs.«01_k».proof.Proof.Gen.ModFwdIdeal.Points
public import proofs.«01_k».proof.Proof.Gen.ModFwdIdeal.Frame
public import proofs.«01_k».proof.Proof.Gen.ModFwdIdeal.Value
public import proofs.«01_k».proof.Proof.Gen.ModFwdRefIdeal.Run
public import proofs.«01_k».proof.Proof.Gen.ModFwdRefIdeal
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal
public import proofs.«01_k».proof.Proof.Gen.GateMulFwd
public import proofs.«01_k».proof.Proof.Gen.GateMulFwd.Skeleton
public import proofs.«01_k».proof.Proof.Gen.GateMulFwd.Launch
public import proofs.«01_k».proof.Proof.Gen.GateMulFwd.Points
public import proofs.«01_k».proof.Proof.Gen.GateMulFwd.Frame
public import proofs.«01_k».proof.Proof.Gen.GateMulFwdIdeal
public import proofs.«01_k».proof.Proof.Gen.GateMulFwdIdeal.Skeleton
public import proofs.«01_k».proof.Proof.Gen.GateMulFwdIdeal.Launch
public import proofs.«01_k».proof.Proof.Gen.GateMulFwdIdeal.Points
public import proofs.«01_k».proof.Proof.Gen.GateMulFwdIdeal.Frame
public import proofs.«01_k».proof.Proof.Gen.GateMulFwdIdeal.Value
public import proofs.«01_k».proof.Proof.Gen.GateMulFwdRefIdeal.Run
public import proofs.«01_k».proof.Proof.Gen.GateMulFwdRefIdeal
public import proofs.«01_k».proof.Proof.Gen.GateActFwd
public import proofs.«01_k».proof.Proof.Gen.GateActFwd.Skeleton
public import proofs.«01_k».proof.Proof.Gen.GateActFwd.Launch
public import proofs.«01_k».proof.Proof.Gen.GateActFwd.Points
public import proofs.«01_k».proof.Proof.Gen.GateActFwd.Frame
public import proofs.«01_k».proof.Proof.Gen.GateActFwdIdeal
public import proofs.«01_k».proof.Proof.Gen.GateActFwdIdeal.Skeleton
public import proofs.«01_k».proof.Proof.Gen.GateActFwdIdeal.Launch
public import proofs.«01_k».proof.Proof.Gen.GateActFwdIdeal.Points
public import proofs.«01_k».proof.Proof.Gen.GateActFwdIdeal.Frame
public import proofs.«01_k».proof.Proof.Gen.GateActFwdIdeal.Value
public import proofs.«01_k».proof.Proof.Gen.GateActFwdRefIdeal.Run
public import proofs.«01_k».proof.Proof.Gen.GateActFwdRefIdeal
public import proofs.«01_k».proof.Proof.Gen.ResFwd
public import proofs.«01_k».proof.Proof.Gen.ResFwd.Skeleton
public import proofs.«01_k».proof.Proof.Gen.ResFwd.Launch
public import proofs.«01_k».proof.Proof.Gen.ResFwd.Points
public import proofs.«01_k».proof.Proof.Gen.ResFwd.Frame
public import proofs.«01_k».proof.Proof.Gen.ResFwdIdeal
public import proofs.«01_k».proof.Proof.Gen.ResFwdIdeal.Skeleton
public import proofs.«01_k».proof.Proof.Gen.ResFwdIdeal.Launch
public import proofs.«01_k».proof.Proof.Gen.ResFwdIdeal.Points
public import proofs.«01_k».proof.Proof.Gen.ResFwdIdeal.Frame
public import proofs.«01_k».proof.Proof.Gen.ResFwdIdeal.Value
public import proofs.«01_k».proof.Proof.Gen.ResFwdRefIdeal.Run
public import proofs.«01_k».proof.Proof.Gen.ResFwdRefIdeal
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal
public import proofs.«01_k».proof.Proof.Gen.RopeFwd
public import proofs.«01_k».proof.Proof.Gen.RopeFwd.Skeleton
public import proofs.«01_k».proof.Proof.Gen.RopeFwd.Launch
public import proofs.«01_k».proof.Proof.Gen.RopeFwd.Points
public import proofs.«01_k».proof.Proof.Gen.RopeFwd.Frame
public import proofs.«01_k».proof.Proof.Gen.RopeFwdIdeal
public import proofs.«01_k».proof.Proof.Gen.RopeFwdIdeal.Skeleton
public import proofs.«01_k».proof.Proof.Gen.RopeFwdIdeal.Launch
public import proofs.«01_k».proof.Proof.Gen.RopeFwdIdeal.Points
public import proofs.«01_k».proof.Proof.Gen.RopeFwdIdeal.Frame
public import proofs.«01_k».proof.Proof.Gen.RopeFwdIdeal.Value
public import proofs.«01_k».proof.Proof.Gen.RopeFwdRefIdeal.Run
public import proofs.«01_k».proof.Proof.Gen.RopeFwdRefIdeal
public import proofs.«01_k».proof.Proof.Gen.Silu
public import proofs.«01_k».proof.Proof.Gen.Silu.Skeleton
public import proofs.«01_k».proof.Proof.Gen.Silu.Launch
public import proofs.«01_k».proof.Proof.Gen.Silu.Points
public import proofs.«01_k».proof.Proof.Gen.Silu.Frame
public import proofs.«01_k».proof.Proof.Gen.SiluIdeal
public import proofs.«01_k».proof.Proof.Gen.SiluIdeal.Skeleton
public import proofs.«01_k».proof.Proof.Gen.SiluIdeal.Launch
public import proofs.«01_k».proof.Proof.Gen.SiluIdeal.Points
public import proofs.«01_k».proof.Proof.Gen.SiluIdeal.Frame
public import proofs.«01_k».proof.Proof.Gen.SiluIdeal.Value
public import proofs.«01_k».proof.Proof.Gen.SiluRefIdeal.Run
public import proofs.«01_k».proof.Proof.Gen.SiluRefIdeal
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmIdeal.Value
public import proofs.«01_k».proof.Proof.Gen.MmRefIdeal.Run
public import proofs.«01_k».proof.Proof.Gen.MmRefIdeal
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.SumDevIdeal.Value
public import proofs.«01_k».proof.Proof.Gen.SumDevRefIdeal.Run
public import proofs.«01_k».proof.Proof.Gen.SumDevRefIdeal
public import proofs.«01_k».proof.Proof.Gen.MmDw
public import proofs.«01_k».proof.Proof.Gen.MmDw.Skeleton
public import proofs.«01_k».proof.Proof.Gen.MmDw.Launch
public import proofs.«01_k».proof.Proof.Gen.MmDw.Points
public import proofs.«01_k».proof.Proof.Gen.MmDw.Frame
public import proofs.«01_k».proof.Proof.Gen.MmDwIdeal
public import proofs.«01_k».proof.Proof.Gen.MmDwIdeal.Skeleton
public import proofs.«01_k».proof.Proof.Gen.MmDwIdeal.Launch
public import proofs.«01_k».proof.Proof.Gen.MmDwIdeal.Points
public import proofs.«01_k».proof.Proof.Gen.MmDwIdeal.Frame
public import proofs.«01_k».proof.Proof.Gen.MmDwIdeal.Value
public import proofs.«01_k».proof.Proof.Gen.MmDwRefIdeal.Run
public import proofs.«01_k».proof.Proof.Gen.MmDwRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal
public import proofs.«01_k».proof.Proof.Gen.MmDh
public import proofs.«01_k».proof.Proof.Gen.MmDh.Skeleton
public import proofs.«01_k».proof.Proof.Gen.MmDh.Launch
public import proofs.«01_k».proof.Proof.Gen.MmDh.Points
public import proofs.«01_k».proof.Proof.Gen.MmDh.Frame
public import proofs.«01_k».proof.Proof.Gen.MmDhIdeal
public import proofs.«01_k».proof.Proof.Gen.MmDhIdeal.Skeleton
public import proofs.«01_k».proof.Proof.Gen.MmDhIdeal.Launch
public import proofs.«01_k».proof.Proof.Gen.MmDhIdeal.Points
public import proofs.«01_k».proof.Proof.Gen.MmDhIdeal.Frame
public import proofs.«01_k».proof.Proof.Gen.MmDhIdeal.Value
public import proofs.«01_k».proof.Proof.Gen.MmDhRefIdeal.Run
public import proofs.«01_k».proof.Proof.Gen.MmDhRefIdeal
public import proofs.«01_k».proof.Proof.Gen.AddPair
public import proofs.«01_k».proof.Proof.Gen.AddPair.Skeleton
public import proofs.«01_k».proof.Proof.Gen.AddPair.Launch
public import proofs.«01_k».proof.Proof.Gen.AddPair.Points
public import proofs.«01_k».proof.Proof.Gen.AddPair.Frame
public import proofs.«01_k».proof.Proof.Gen.AddPairIdeal
public import proofs.«01_k».proof.Proof.Gen.AddPairIdeal.Skeleton
public import proofs.«01_k».proof.Proof.Gen.AddPairIdeal.Launch
public import proofs.«01_k».proof.Proof.Gen.AddPairIdeal.Points
public import proofs.«01_k».proof.Proof.Gen.AddPairIdeal.Frame
public import proofs.«01_k».proof.Proof.Gen.AddPairRefIdeal.Run
public import proofs.«01_k».proof.Proof.Gen.AddPairRefIdeal
public import proofs.«01_k».proof.Proof.Gen.AddChips
public import proofs.«01_k».proof.Proof.Gen.AddChips.Skeleton
public import proofs.«01_k».proof.Proof.Gen.AddChips.Launch
public import proofs.«01_k».proof.Proof.Gen.AddChips.Points
public import proofs.«01_k».proof.Proof.Gen.AddChips.Frame
public import proofs.«01_k».proof.Proof.Gen.AddChipsIdeal
public import proofs.«01_k».proof.Proof.Gen.AddChipsIdeal.Skeleton
public import proofs.«01_k».proof.Proof.Gen.AddChipsIdeal.Launch
public import proofs.«01_k».proof.Proof.Gen.AddChipsIdeal.Points
public import proofs.«01_k».proof.Proof.Gen.AddChipsIdeal.Frame
public import proofs.«01_k».proof.Proof.Gen.AddChipsRefIdeal.Run
public import proofs.«01_k».proof.Proof.Gen.AddChipsRefIdeal
public import proofs.«01_k».proof.Proof.GateMul
public import proofs.«01_k».proof.Proof.Attn
public import proofs.«01_k».proof.Proof.Mod
public import proofs.«01_k».proof.Proof.Rms
public import proofs.«01_k».proof.Proof.Res
public import proofs.«01_k».proof.Proof.GateAct
public import proofs.«01_k».proof.Proof.Loss
public import proofs.«01_k».proof.Proof.Conv
public import proofs.«01_k».proof.Proof.Rope
public import proofs.«01_k».proof.Proof.AttnFwd
public import proofs.«01_k».proof.Proof.ModFwd
public import proofs.«01_k».proof.Proof.RmsFwd
public import proofs.«01_k».proof.Proof.GateMulFwd
public import proofs.«01_k».proof.Proof.GateActFwd
public import proofs.«01_k».proof.Proof.ResFwd
public import proofs.«01_k».proof.Proof.ConvFwd
public import proofs.«01_k».proof.Proof.RopeFwd
public import proofs.«01_k».proof.Proof.Silu
public import proofs.«01_k».proof.Proof.Mm
public import proofs.«01_k».proof.Proof.Adamw
public import proofs.«01_k».proof.Proof.SumDev
public import proofs.«01_k».proof.Proof.MmDw
public import proofs.«01_k».proof.Proof.Ada
public import proofs.«01_k».proof.Proof.MmDh
public import proofs.«01_k».proof.Proof.AddPair
public import proofs.«01_k».proof.Proof.AddChips
public import Idealize.ShloMosaic.Adequacy
public import Idealize.ShloMosaic.Init

@[expose] public section

noncomputable section

namespace Cert.Proof

open Idealize.ShloMosaic Idealize.SL.Sem Cert.GateMul

theorem claim : Cert.Claim := ⟨Cert.GateMul.Gen.facts, Cert.GateMulIdeal.Gen.facts, Cert.GateMulRefIdeal.Gen.facts,
  Cert.Attn.Gen.facts, Cert.AttnIdeal.Gen.facts, Cert.AttnRefIdeal.Gen.facts,
  Cert.Mod.Gen.facts, Cert.ModIdeal.Gen.facts, Cert.ModRefIdeal.Gen.facts,
  Cert.Rms.Gen.facts, Cert.RmsIdeal.Gen.facts, Cert.RmsRefIdeal.Gen.facts,
  Cert.Res.Gen.facts, Cert.ResIdeal.Gen.facts, Cert.ResRefIdeal.Gen.facts,
  Cert.GateAct.Gen.facts, Cert.GateActIdeal.Gen.facts, Cert.GateActRefIdeal.Gen.facts,
  Cert.Loss.Gen.facts, Cert.LossIdeal.Gen.facts, Cert.LossRefIdeal.Gen.facts,
  Cert.Conv.Gen.facts, Cert.ConvIdeal.Gen.facts, Cert.ConvRefIdeal.Gen.facts,
  Cert.Rope.Gen.facts, Cert.RopeIdeal.Gen.facts, Cert.RopeRefIdeal.Gen.facts,
  Cert.AttnFwd.Gen.facts, Cert.AttnFwdIdeal.Gen.facts, Cert.AttnFwdRefIdeal.Gen.facts,
  Cert.ModFwd.Gen.facts, Cert.ModFwdIdeal.Gen.facts, Cert.ModFwdRefIdeal.Gen.facts,
  Cert.RmsFwd.Gen.facts, Cert.RmsFwdIdeal.Gen.facts, Cert.RmsFwdRefIdeal.Gen.facts,
  Cert.GateMulFwd.Gen.facts, Cert.GateMulFwdIdeal.Gen.facts, Cert.GateMulFwdRefIdeal.Gen.facts,
  Cert.GateActFwd.Gen.facts, Cert.GateActFwdIdeal.Gen.facts, Cert.GateActFwdRefIdeal.Gen.facts,
  Cert.ResFwd.Gen.facts, Cert.ResFwdIdeal.Gen.facts, Cert.ResFwdRefIdeal.Gen.facts,
  Cert.ConvFwd.Gen.facts, Cert.ConvFwdIdeal.Gen.facts, Cert.ConvFwdRefIdeal.Gen.facts,
  Cert.RopeFwd.Gen.facts, Cert.RopeFwdIdeal.Gen.facts, Cert.RopeFwdRefIdeal.Gen.facts,
  Cert.Silu.Gen.facts, Cert.SiluIdeal.Gen.facts, Cert.SiluRefIdeal.Gen.facts,
  Cert.Mm.Gen.facts, Cert.MmIdeal.Gen.facts, Cert.MmRefIdeal.Gen.facts,
  Cert.Adamw.Gen.facts, Cert.AdamwIdeal.Gen.facts, Cert.AdamwRefIdeal.Gen.facts,
  Cert.SumDev.Gen.facts, Cert.SumDevIdeal.Gen.facts, Cert.SumDevRefIdeal.Gen.facts,
  Cert.MmDw.Gen.facts, Cert.MmDwIdeal.Gen.facts, Cert.MmDwRefIdeal.Gen.facts,
  Cert.Ada.Gen.facts, Cert.AdaIdeal.Gen.facts, Cert.AdaRefIdeal.Gen.facts,
  Cert.MmDh.Gen.facts, Cert.MmDhIdeal.Gen.facts, Cert.MmDhRefIdeal.Gen.facts,
  Cert.AddPair.Gen.facts, Cert.AddPairIdeal.Gen.facts, Cert.AddPairRefIdeal.Gen.facts,
  Cert.AddChips.Gen.facts, Cert.AddChipsIdeal.Gen.facts, Cert.AddChipsRefIdeal.Gen.facts,
  Cert.Pre_gate_mul_finite.Gen.facts, Cert.Pre_attn_finite.Gen.facts, Cert.Pre_modulate_finite.Gen.facts, Cert.Pre_rms_finite.Gen.facts, Cert.Pre_gateact_finite.Gen.facts, Cert.Pre_attnfwd_finite.Gen.facts,
  fun m ρ _ => Cert.GateMul.Gen.frame m ρ, fun m ρ _ => Cert.GateMulIdeal.Gen.frame m ρ, fun m ρ _ => Cert.GateMulIdeal.Gen.frame m ρ, Cert.GateMulRefIdeal.Proof.frame, fun m ρ _ => Cert.GateMulRefIdeal.Proof.frame m ρ trivial,
  fun m ρ _ => Cert.Attn.Gen.frame m ρ, fun m ρ _ => Cert.AttnIdeal.Gen.frame m ρ, fun m ρ _ => Cert.AttnIdeal.Gen.frame m ρ, Cert.AttnRefIdeal.Proof.frame, fun m ρ _ => Cert.AttnRefIdeal.Proof.frame m ρ trivial,
  fun m ρ _ => Cert.Mod.Gen.frame m ρ, fun m ρ _ => Cert.ModIdeal.Gen.frame m ρ, fun m ρ _ => Cert.ModIdeal.Gen.frame m ρ, Cert.ModRefIdeal.Proof.frame, fun m ρ _ => Cert.ModRefIdeal.Proof.frame m ρ trivial,
  fun m ρ _ => Cert.Rms.Gen.frame m ρ, fun m ρ _ => Cert.RmsIdeal.Gen.frame m ρ, fun m ρ _ => Cert.RmsIdeal.Gen.frame m ρ, Cert.RmsRefIdeal.Proof.frame, fun m ρ _ => Cert.RmsRefIdeal.Proof.frame m ρ trivial,
  fun m ρ _ => Cert.Res.Gen.frame m ρ, fun m ρ _ => Cert.ResIdeal.Gen.frame m ρ, Cert.ResRefIdeal.Proof.frame,
  fun m ρ _ => Cert.GateAct.Gen.frame m ρ, fun m ρ _ => Cert.GateActIdeal.Gen.frame m ρ, fun m ρ _ => Cert.GateActIdeal.Gen.frame m ρ, Cert.GateActRefIdeal.Proof.frame, fun m ρ _ => Cert.GateActRefIdeal.Proof.frame m ρ trivial,
  fun m ρ _ => Cert.Loss.Gen.frame m ρ, fun m ρ _ => Cert.LossIdeal.Gen.frame m ρ, Cert.LossRefIdeal.Proof.frame,
  fun m ρ _ => Cert.Conv.Gen.frame m ρ, fun m ρ _ => Cert.ConvIdeal.Gen.frame m ρ, Cert.ConvRefIdeal.Proof.frame,
  fun m ρ _ => Cert.Rope.Gen.frame m ρ, fun m ρ _ => Cert.RopeIdeal.Gen.frame m ρ, Cert.RopeRefIdeal.Proof.frame,
  fun m ρ _ => Cert.AttnFwd.Gen.frame m ρ, fun m ρ _ => Cert.AttnFwdIdeal.Gen.frame m ρ, fun m ρ _ => Cert.AttnFwdIdeal.Gen.frame m ρ, Cert.AttnFwdRefIdeal.Proof.frame, fun m ρ _ => Cert.AttnFwdRefIdeal.Proof.frame m ρ trivial,
  fun m ρ _ => Cert.ModFwd.Gen.frame m ρ, fun m ρ _ => Cert.ModFwdIdeal.Gen.frame m ρ, Cert.ModFwdRefIdeal.Proof.frame,
  fun m ρ _ => Cert.RmsFwd.Gen.frame m ρ, fun m ρ _ => Cert.RmsFwdIdeal.Gen.frame m ρ, Cert.RmsFwdRefIdeal.Proof.frame,
  fun m ρ _ => Cert.GateMulFwd.Gen.frame m ρ, fun m ρ _ => Cert.GateMulFwdIdeal.Gen.frame m ρ, Cert.GateMulFwdRefIdeal.Proof.frame,
  fun m ρ _ => Cert.GateActFwd.Gen.frame m ρ, fun m ρ _ => Cert.GateActFwdIdeal.Gen.frame m ρ, Cert.GateActFwdRefIdeal.Proof.frame,
  fun m ρ _ => Cert.ResFwd.Gen.frame m ρ, fun m ρ _ => Cert.ResFwdIdeal.Gen.frame m ρ, Cert.ResFwdRefIdeal.Proof.frame,
  fun m ρ _ => Cert.ConvFwd.Gen.frame m ρ, fun m ρ _ => Cert.ConvFwdIdeal.Gen.frame m ρ, Cert.ConvFwdRefIdeal.Proof.frame,
  fun m ρ _ => Cert.RopeFwd.Gen.frame m ρ, fun m ρ _ => Cert.RopeFwdIdeal.Gen.frame m ρ, Cert.RopeFwdRefIdeal.Proof.frame,
  fun m ρ _ => Cert.Silu.Gen.frame m ρ, fun m ρ _ => Cert.SiluIdeal.Gen.frame m ρ, Cert.SiluRefIdeal.Proof.frame,
  fun m ρ _ => Cert.Mm.Gen.frame m ρ, fun m ρ _ => Cert.MmIdeal.Gen.frame m ρ, Cert.MmRefIdeal.Proof.frame,
  fun m ρ _ => Cert.Adamw.Gen.frame m ρ, fun m ρ _ => Cert.AdamwIdeal.Gen.frame m ρ, Cert.AdamwRefIdeal.Proof.frame,
  fun m ρ _ => Cert.SumDev.Gen.frame m ρ, fun m ρ _ => Cert.SumDevIdeal.Gen.frame m ρ, Cert.SumDevRefIdeal.Proof.frame,
  fun m ρ _ => Cert.MmDw.Gen.frame m ρ, fun m ρ _ => Cert.MmDwIdeal.Gen.frame m ρ, Cert.MmDwRefIdeal.Proof.frame,
  fun m ρ _ => Cert.Ada.Gen.frame m ρ, fun m ρ _ => Cert.AdaIdeal.Gen.frame m ρ, Cert.AdaRefIdeal.Proof.frame,
  fun m ρ _ => Cert.MmDh.Gen.frame m ρ, fun m ρ _ => Cert.MmDhIdeal.Gen.frame m ρ, Cert.MmDhRefIdeal.Proof.frame,
  fun m ρ _ => Cert.AddPair.Gen.frame m ρ (Cert.AddPair.Proof.ok m), fun m ρ _ => Cert.AddPairIdeal.Gen.frame m ρ (Cert.AddPairIdeal.Proof.ok m), Cert.AddPairRefIdeal.Proof.frame,
  fun m ρ _ => Cert.AddChips.Gen.frame m ρ (Cert.AddChips.Proof.ok m), fun m ρ _ => Cert.AddChipsIdeal.Gen.frame m ρ (Cert.AddChipsIdeal.Proof.ok m), Cert.AddChipsRefIdeal.Proof.frame,
  trivial, Cert.GateMulRefIdeal.Proof.gate_mul, trivial, Cert.AttnRefIdeal.Proof.attn, trivial, Cert.ModRefIdeal.Proof.modulate, trivial, Cert.RmsRefIdeal.Proof.rms, trivial, Cert.ResRefIdeal.Proof.residual, trivial, Cert.GateActRefIdeal.Proof.gateact, trivial, Cert.LossRefIdeal.Proof.loss, trivial, Cert.ConvRefIdeal.Proof.conv, trivial, Cert.RopeRefIdeal.Proof.rope, trivial, Cert.AttnFwdRefIdeal.Proof.attn_fwd, trivial, Cert.ModFwdRefIdeal.Proof.modulate, trivial, Cert.RmsFwdRefIdeal.Proof.rms, trivial, Cert.GateMulFwdRefIdeal.Proof.gate_mul, trivial, Cert.GateActFwdRefIdeal.Proof.gateact, trivial, Cert.ResFwdRefIdeal.Proof.residual, trivial, Cert.ConvFwdRefIdeal.Proof.conv, trivial, Cert.RopeFwdRefIdeal.Proof.rope, trivial, Cert.SiluRefIdeal.Proof.silu, trivial, Cert.MmRefIdeal.Proof.mm, trivial, Cert.AdamwRefIdeal.Proof.adamw, trivial, Cert.SumDevRefIdeal.Proof.sumdev, trivial, Cert.MmDwRefIdeal.Proof.mmdw, trivial, Cert.AdaRefIdeal.Proof.ada, trivial, Cert.MmDhRefIdeal.Proof.mmdh, trivial, Cert.AddPairRefIdeal.Proof.addpair, trivial, Cert.AddChipsRefIdeal.Proof.addchips⟩

end Cert.Proof

end
